-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v4_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_2)) (v2 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_2) = v1 c
          ∧ r.2.mem ((c.tc : Thread Cert.Kernel3Ideal.nD Cert.Kernel3Ideal.τ).loc Cert.Kernel3Ideal.main_v0_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v129) = v0 c
          ∧ r.2.mem ((c.tc : Thread Cert.Reference3Ideal.nD Cert.Reference3Ideal.τ).loc Cert.Reference3Ideal.main_v130) = v1 c
          ∧ r.2.mem ((c.tc : Thread Cert.Reference3Ideal.nD Cert.Reference3Ideal.τ).loc Cert.Reference3Ideal.main_v132) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_in_range.lean ====
abbrev S221 : Shape := ⟨1, ![221]⟩
abbrev S7072 : Shape := ⟨1, ![7072]⟩
abbrev S6144x16x1024 : Shape := ⟨3, ![6144, 16, 1024]⟩
abbrev S64x1024x256 : Shape := ⟨3, ![64, 1024, 256]⟩
abbrev S64x256x1024 : Shape := ⟨3, ![64, 256, 1024]⟩
abbrev S_ : Shape := ⟨0, ![]⟩
abbrev S220 : Shape := ⟨1, ![220]⟩

class Facts : Prop where
  bcast_S_S221 : S_.BroadcastsInDim S221 (![] : Fin 0 → Fin S221.rank)
  slices_S221_S220_1 : S221.Slices ![1] S220
  slices_S221_S220_0 : S221.Slices ![0] S220
  bcast_S_S7072 : S_.BroadcastsInDim S7072 (![] : Fin 0 → Fin S7072.rank)

variable [Facts]

def fn {F : FTy → Type} [FloatOps F] (main_arg0 : IVec S221 32) (main_arg1 : IVec S221 32) (main_arg2 : IVec S7072 32) (main_arg3 : FVec F S6144x16x1024 .bf16) (main_arg4 : FVec F S64x1024x256 .f32) (main_arg5 : FVec F S64x1024x256 .f32) (main_arg6 : FVec F S64x256x1024 .f32) : IVec S221 1 × IVec S221 1 × IVec S220 1 × IVec S7072 1 :=
  let main_c : IVec S_ 32 := constantI S_ 32 0#32
  let main_v0 : IVec S221 32 := broadcastInDim S221 ![] bcast_S_S221 main_c
  let main_v1 : IVec S221 1 := cmpi .sge main_arg0 main_v0
  let main_c_0 : IVec S_ 32 := constantI S_ 32 64#32
  let main_v2 : IVec S221 32 := broadcastInDim S221 ![] bcast_S_S221 main_c_0
  let main_v3 : IVec S221 1 := cmpi .slt main_arg0 main_v2
  let main_v4 : IVec S221 1 := andi main_v1 main_v3
  let main_c_1 : IVec S_ 32 := constantI S_ 32 0#32
  let main_v5 : IVec S221 32 := broadcastInDim S221 ![] bcast_S_S221 main_c_1
  let main_v6 : IVec S221 1 := cmpi .sge main_arg1 main_v5
  let main_c_2 : IVec S_ 32 := constantI S_ 32 1#32
  let main_v7 : IVec S221 32 := broadcastInDim S221 ![] bcast_S_S221 main_c_2
  let main_v8 : IVec S221 1 := cmpi .sle main_arg1 main_v7
  let main_v9 : IVec S221 1 := andi main_v6 main_v8
  let main_v10 : IVec S220 32 := (extractStridedSlice S220 ![1] · slices_S221_S220_1) main_arg1
  let main_v11 : IVec S220 32 := (extractStridedSlice S220 ![0] · slices_S221_S220_0) main_arg1
  let main_v12 : IVec S220 1 := cmpi .sle main_v10 main_v11
  let main_c_3 : IVec S_ 32 := constantI S_ 32 0#32
  let main_v13 : IVec S7072 32 := broadcastInDim S7072 ![] bcast_S_S7072 main_c_3
  let main_v14 : IVec S7072 1 := cmpi .sge main_arg2 main_v13
  let main_c_4 : IVec S_ 32 := constantI S_ 32 6144#32
  let main_v15 : IVec S7072 32 := broadcastInDim S7072 ![] bcast_S_S7072 main_c_4
  let main_v16 : IVec S7072 1 := cmpi .slt main_arg2 main_v15
  let main_v17 : IVec S7072 1 := andi main_v14 main_v16
  (main_v4, main_v9, main_v12, main_v17)
-- ==== Kernel.lean ====
abbrev S221 : Shape := ⟨1, ![221]⟩
abbrev S7072 : Shape := ⟨1, ![7072]⟩
abbrev S6144x16x1024 : Shape := ⟨3, ![6144, 16, 1024]⟩
abbrev S64x1024x256 : Shape := ⟨3, ![64, 1024, 256]⟩
abbrev S64x256x1024 : Shape := ⟨3, ![64, 256, 1024]⟩
abbrev S113152x1024 : Shape := ⟨2, ![113152, 1024]⟩
abbrev S1x1024x256 : Shape := ⟨3, ![1, 1024, 256]⟩
abbrev S1 : Shape := ⟨1, ![1]⟩
abbrev S1x256x1024 : Shape := ⟨3, ![1, 256, 1024]⟩
abbrev S512x1024 : Shape := ⟨2, ![512, 1024]⟩
abbrev S2x32x16x1024 : Shape := ⟨4, ![2, 32, 16, 1024]⟩
abbrev S2 : Shape := ⟨1, ![2]⟩
abbrev S1024x256 : Shape := ⟨2, ![1024, 256]⟩
abbrev S256x1024 : Shape := ⟨2, ![256, 1024]⟩
abbrev S_ : Shape := ⟨0, ![]⟩
abbrev S1x32x16x1024 : Shape := ⟨4, ![1, 32, 16, 1024]⟩
abbrev S32x16x1024 : Shape := ⟨3, ![32, 16, 1024]⟩
abbrev S1x16x1024 : Shape := ⟨3, ![1, 16, 1024]⟩
abbrev S16x1024 : Shape := ⟨2, ![16, 1024]⟩
abbrev S1x1x16x1024 : Shape := ⟨4, ![1, 1, 16, 1024]⟩
abbrev S1x16x16x1024 : Shape := ⟨4, ![1, 16, 16, 1024]⟩
abbrev S16x16x1024 : Shape := ⟨3, ![16, 16, 1024]⟩
abbrev S256x256 : Shape := ⟨2, ![256, 256]⟩

abbrev nBuf : Space → Nat
  | .hbm => 5
  | .vmem => 12
  | .smem => 3
  | _ => 0

abbrev bufTy : (tb : Table) → Fin (tcTables nBuf tb) → BufTy
  | .hbm, ⟨0, _⟩ => ⟨S6144x16x1024, .bf16⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S113152x1024, .bf16⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x256x1024, .f32⟩
  | .local _ .vmem, ⟨5, _⟩ => ⟨S1x256x1024, .f32⟩
  | .local _ .vmem, ⟨6, _⟩ => ⟨S512x1024, .bf16⟩
  | .local _ .vmem, ⟨7, _⟩ => ⟨S512x1024, .bf16⟩
  | .local _ .vmem, ⟨8, _⟩ => ⟨S2x32x16x1024, .bf16⟩
  | .local _ .vmem, ⟨9, _⟩ => ⟨S1024x256, .bf16⟩
  | .local _ .vmem, ⟨10, _⟩ => ⟨S1024x256, .bf16⟩
  | .local _ .vmem, ⟨11, _⟩ => ⟨S256x1024, .bf16⟩
  | .local _ .smem, ⟨0, _⟩ => ⟨S221, .i32⟩
  | .local _ .smem, ⟨1, _⟩ => ⟨S221, .i32⟩
  | .local _ .smem, ⟨2, _⟩ => ⟨S7072, .i32⟩
  | _, _ => ⟨S6144x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![221], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v37 : BitVec 32) : Fin 3 → Nat :=
  let c0_i32_23 : BitVec 32 := 0#32
  let c0_i32_24 : BitVec 32 := 0#32
  ![v37.toNat, 0, 0]
def k0_cond1 (i : grid0.Coords) (v11 : BitVec 32) : BitVec 1 :=
  let arg0 : BitVec 32 := BitVec.ofNat 32 (i 0).val
  let c0_i32_3 : BitVec 32 := 0#32
  let v10 : BitVec 1 := Scalar.cmpi .eq arg0 c0_i32_3
  let c1_i32_4 : BitVec 32 := 1#32
  let v12 : BitVec 1 := Scalar.cmpi .eq v11 c1_i32_4
  let v13 : BitVec 1 := Scalar.andi v10 v12
  let v14 : BitVec 32 := Scalar.extui v13
  let c0_i32_5 : BitVec 32 := 0#32
  let v15 : BitVec 1 := Scalar.cmpi .ne v14 c0_i32_5
  v15

def k0_chk1 (i : grid0.Coords) (v11 : BitVec 32) (v37 : BitVec 32) : Prop :=
  (∀ (k0_h1 : k0_cond1 i v11 = 1#1), ∀ a, (k0_off2 v37) a + S1x16x1024.size a ≤ S6144x16x1024.size a) ∧
  (∀ (k0_h1 : k0_cond1 i v11 = 1#1), ∀ (hinb : ∀ a, (k0_off2 v37) a + S1x16x1024.size a ≤ S6144x16x1024.size a), (Rect.unit (s := S6144x16x1024) (k0_off2 v37) S1x16x1024.size hinb).WholeWords (EltTy.packing .bf16))
theorem k0_off2_inb : ∀ (i : grid0.Coords) (v11 : BitVec 32) (v37 : BitVec 32) (k0_hw1 : k0_chk1 i v11 v37), ∀ (k0_h1 : k0_cond1 i v11 = 1#1), ∀ a, (k0_off2 v37) a + S1x16x1024.size a ≤ S6144x16x1024.size a := fun i v11 v37 k0_hw1 k0_h1 => k0_hw1.1 k0_h1
theorem k0_off2_wordsbf16 : ∀ (i : grid0.Coords) (v11 : BitVec 32) (v37 : BitVec 32) (k0_hw1 : k0_chk1 i v11 v37), ∀ (k0_h1 : k0_cond1 i v11 = 1#1), (Rect.unit (s := S6144x16x1024) (k0_off2 v37) S1x16x1024.size (k0_off2_inb i v11 v37 k0_hw1 k0_h1)).WholeWords (EltTy.packing .bf16) := fun i v11 v37 k0_hw1 k0_h1 => k0_hw1.2 k0_h1 (k0_off2_inb i v11 v37 k0_hw1 k0_h1)

def k0_off3 (v46 : BitVec 32) : Fin 3 → Nat :=
  let c0_i32_33 : BitVec 32 := 0#32
  let c0_i32_34 : BitVec 32 := 0#32
  ![v46.toNat, 0, 0]

def k0_chk2 (i : grid0.Coords) (v11 : BitVec 32) (v46 : BitVec 32) : Prop :=
  (∀ (k0_h1 : k0_cond1 i v11 = 1#1), ∀ a, (k0_off3 v46) a + S1x16x1024.size a ≤ S6144x16x1024.size a) ∧
  (∀ (k0_h1 : k0_cond1 i v11 = 1#1), ∀ (hinb : ∀ a, (k0_off3 v46) a + S1x16x1024.size a ≤ S6144x16x1024.size a), (Rect.unit (s := S6144x16x1024) (k0_off3 v46) S1x16x1024.size hinb).WholeWords (EltTy.packing .bf16))
theorem k0_off3_inb : ∀ (i : grid0.Coords) (v11 : BitVec 32) (v46 : BitVec 32) (k0_hw2 : k0_chk2 i v11 v46), ∀ (k0_h1 : k0_cond1 i v11 = 1#1), ∀ a, (k0_off3 v46) a + S1x16x1024.size a ≤ S6144x16x1024.size a := fun i v11 v46 k0_hw2 k0_h1 => k0_hw2.1 k0_h1
theorem k0_off3_wordsbf16 : ∀ (i : grid0.Coords) (v11 : BitVec 32) (v46 : BitVec 32) (k0_hw2 : k0_chk2 i v11 v46), ∀ (k0_h1 : k0_cond1 i v11 = 1#1), (Rect.unit (s := S6144x16x1024) (k0_off3 v46) S1x16x1024.size (k0_off3_inb i v11 v46 k0_hw2 k0_h1)).WholeWords (EltTy.packing .bf16) := fun i v11 v46 k0_hw2 k0_h1 => k0_hw2.2 k0_h1 (k0_off3_inb i v11 v46 k0_hw2 k0_h1)

def k0_off4 (v55 : BitVec 32) : Fin 3 → Nat :=
  let c0_i32_43 : BitVec 32 := 0#32
  let c0_i32_44 : BitVec 32 := 0#32
  ![v55.toNat, 0, 0]

def k0_chk3 (i : grid0.Coords) (v11 : BitVec 32) (v55 : BitVec 32) : Prop :=
  (∀ (k0_h1 : k0_cond1 i v11 = 1#1), ∀ a, (k0_off4 v55) a + S1x16x1024.size a ≤ S6144x16x1024.size a) ∧
  (∀ (k0_h1 : k0_cond1 i v11 = 1#1), ∀ (hinb : ∀ a, (k0_off4 v55) a + S1x16x1024.size a ≤ S6144x16x1024.size a), (Rect.unit (s := S6144x16x1024) (k0_off4 v55) S1x16x1024.size hinb).WholeWords (EltTy.packing .bf16))
theorem k0_off4_inb : ∀ (i : grid0.Coords) (v11 : BitVec 32) (v55 : BitVec 32) (k0_hw3 : k0_chk3 i v11 v55), ∀ (k0_h1 : k0_cond1 i v11 = 1#1), ∀ a, (k0_off4 v55) a + S1x16x1024.size a ≤ S6144x16x1024.size a := fun i v11 v55 k0_hw3 k0_h1 => k0_hw3.1 k0_h1
theorem k0_off4_wordsbf16 : ∀ (i : grid0.Coords) (v11 : BitVec 32) (v55 : BitVec 32) (k0_hw3 : k0_chk3 i v11 v55), ∀ (k0_h1 : k0_cond1 i v11 = 1#1), (Rect.unit (s := S6144x16x1024) (k0_off4 v55) S1x16x1024.size (k0_off4_inb i v11 v55 k0_hw3 k0_h1)).WholeWords (EltTy.packing .bf16) := fun i v11 v55 k0_hw3 k0_h1 => k0_hw3.2 k0_h1 (k0_off4_inb i v11 v55 k0_hw3 k0_h1)

def k0_off5 (v64 : BitVec 32) : Fin 3 → Nat :=
  let c0_i32_52 : BitVec 32 := 0#32
  let c0_i32_53 : BitVec 32 := 0#32
  ![v64.toNat, 0, 0]

def k0_chk4 (i : grid0.Coords) (v11 : BitVec 32) (v64 : BitVec 32) : Prop :=
  (∀ (k0_h1 : k0_cond1 i v11 = 1#1), ∀ a, (k0_off5 v64) a + S1x16x1024.size a ≤ S6144x16x1024.size a) ∧
  (∀ (k0_h1 : k0_cond1 i v11 = 1#1), ∀ (hinb : ∀ a, (k0_off5 v64) a + S1x16x1024.size a ≤ S6144x16x1024.size a), (Rect.unit (s := S6144x16x1024) (k0_off5 v64) S1x16x1024.size hinb).WholeWords (EltTy.packing .bf16))
theorem k0_off5_inb : ∀ (i : grid0.Coords) (v11 : BitVec 32) (v64 : BitVec 32) (k0_hw4 : k0_chk4 i v11 v64), ∀ (k0_h1 : k0_cond1 i v11 = 1#1), ∀ a, (k0_off5 v64) a + S1x16x1024.size a ≤ S6144x16x1024.size a := fun i v11 v64 k0_hw4 k0_h1 => k0_hw4.1 k0_h1
theorem k0_off5_wordsbf16 : ∀ (i : grid0.Coords) (v11 : BitVec 32) (v64 : BitVec 32) (k0_hw4 : k0_chk4 i v11 v64), ∀ (k0_h1 : k0_cond1 i v11 = 1#1), (Rect.unit (s := S6144x16x1024) (k0_off5 v64) S1x16x1024.size (k0_off5_inb i v11 v64 k0_hw4 k0_h1)).WholeWords (EltTy.packing .bf16) := fun i v11 v64 k0_hw4 k0_h1 => k0_hw4.2 k0_h1 (k0_off5_inb i v11 v64 k0_hw4 k0_h1)

def k0_off6 (v73 : BitVec 32) : Fin 3 → Nat :=
  let c0_i32_61 : BitVec 32 := 0#32
  let c0_i32_62 : BitVec 32 := 0#32
  ![v73.toNat, 0, 0]

def k0_chk5 (i : grid0.Coords) (v11 : BitVec 32) (v73 : BitVec 32) : Prop :=
  (∀ (k0_h1 : k0_cond1 i v11 = 1#1), ∀ a, (k0_off6 v73) a + S1x16x1024.size a ≤ S6144x16x1024.size a) ∧
  (∀ (k0_h1 : k0_cond1 i v11 = 1#1), ∀ (hinb : ∀ a, (k0_off6 v73) a + S1x16x1024.size a ≤ S6144x16x1024.size a), (Rect.unit (s := S6144x16x1024) (k0_off6 v73) S1x16x1024.size hinb).WholeWords (EltTy.packing .bf16))
theorem k0_off6_inb : ∀ (i : grid0.Coords) (v11 : BitVec 32) (v73 : BitVec 32) (k0_hw5 : k0_chk5 i v11 v73), ∀ (k0_h1 : k0_cond1 i v11 = 1#1), ∀ a, (k0_off6 v73) a + S1x16x1024.size a ≤ S6144x16x1024.size a := fun i v11 v73 k0_hw5 k0_h1 => k0_hw5.1 k0_h1
theorem k0_off6_wordsbf16 : ∀ (i : grid0.Coords) (v11 : BitVec 32) (v73 : BitVec 32) (k0_hw5 : k0_chk5 i v11 v73), ∀ (k0_h1 : k0_cond1 i v11 = 1#1), (Rect.unit (s := S6144x16x1024) (k0_off6 v73) S1x16x1024.size (k0_off6_inb i v11 v73 k0_hw5 k0_h1)).WholeWords (EltTy.packing .bf16) := fun i v11 v73 k0_hw5 k0_h1 => k0_hw5.2 k0_h1 (k0_off6_inb i v11 v73 k0_hw5 k0_h1)

def k0_off7 (v82 : BitVec 32) : Fin 3 → Nat :=
  let c0_i32_70 : BitVec 32 := 0#32
  let c0_i32_71 : BitVec 32 := 0#32
  ![v82.toNat, 0, 0]

def k0_chk6 (i : grid0.Coords) (v11 : BitVec 32) (v82 : BitVec 32) : Prop :=
  (∀ (k0_h1 : k0_cond1 i v11 = 1#1), ∀ a, (k0_off7 v82) a + S1x16x1024.size a ≤ S6144x16x1024.size a) ∧
  (∀ (k0_h1 : k0_cond1 i v11 = 1#1), ∀ (hinb : ∀ a, (k0_off7 v82) a + S1x16x1024.size a ≤ S6144x16x1024.size a), (Rect.unit (s := S6144x16x1024) (k0_off7 v82) S1x16x1024.size hinb).WholeWords (EltTy.packing .bf16))
theorem k0_off7_inb : ∀ (i : grid0.Coords) (v11 : BitVec 32) (v82 : BitVec 32) (k0_hw6 : k0_chk6 i v11 v82), ∀ (k0_h1 : k0_cond1 i v11 = 1#1), ∀ a, (k0_off7 v82) a + S1x16x1024.size a ≤ S6144x16x1024.size a := fun i v11 v82 k0_hw6 k0_h1 => k0_hw6.1 k0_h1
theorem k0_off7_wordsbf16 : ∀ (i : grid0.Coords) (v11 : BitVec 32) (v82 : BitVec 32) (k0_hw6 : k0_chk6 i v11 v82), ∀ (k0_h1 : k0_cond1 i v11 = 1#1), (Rect.unit (s := S6144x16x1024) (k0_off7 v82) S1x16x1024.size (k0_off7_inb i v11 v82 k0_hw6 k0_h1)).WholeWords (EltTy.packing .bf16) := fun i v11 v82 k0_hw6 k0_h1 => k0_hw6.2 k0_h1 (k0_off7_inb i v11 v82 k0_hw6 k0_h1)

def k0_off8 (v91 : BitVec 32) : Fin 3 → Nat :=
  let c0_i32_79 : BitVec 32 := 0#32
  let c0_i32_80 : BitVec 32 := 0#32
  ![v91.toNat, 0, 0]

def k0_chk7 (i : grid0.Coords) (v11 : BitVec 32) (v91 : BitVec 32) : Prop :=
  (∀ (k0_h1 : k0_cond1 i v11 = 1#1), ∀ a, (k0_off8 v91) a + S1x16x1024.size a ≤ S6144x16x1024.size a) ∧
  (∀ (k0_h1 : k0_cond1 i v11 = 1#1), ∀ (hinb : ∀ a, (k0_off8 v91) a + S1x16x1024.size a ≤ S6144x16x1024.size a), (Rect.unit (s := S6144x16x1024) (k0_off8 v91) S1x16x1024.size hinb).WholeWords (EltTy.packing .bf16))
theorem k0_off8_inb : ∀ (i : grid0.Coords) (v11 : BitVec 32) (v91 : BitVec 32) (k0_hw7 : k0_chk7 i v11 v91), ∀ (k0_h1 : k0_cond1 i v11 = 1#1), ∀ a, (k0_off8 v91) a + S1x16x1024.size a ≤ S6144x16x1024.size a := fun i v11 v91 k0_hw7 k0_h1 => k0_hw7.1 k0_h1
theorem k0_off8_wordsbf16 : ∀ (i : grid0.Coords) (v11 : BitVec 32) (v91 : BitVec 32) (k0_hw7 : k0_chk7 i v11 v91), ∀ (k0_h1 : k0_cond1 i v11 = 1#1), (Rect.unit (s := S6144x16x1024) (k0_off8 v91) S1x16x1024.size (k0_off8_inb i v11 v91 k0_hw7 k0_h1)).WholeWords (EltTy.packing .bf16) := fun i v11 v91 k0_hw7 k0_h1 => k0_hw7.2 k0_h1 (k0_off8_inb i v11 v91 k0_hw7 k0_h1)

def k0_off9 (v100 : BitVec 32) : Fin 3 → Nat :=
  let c0_i32_88 : BitVec 32 := 0#32
  let c0_i32_89 : BitVec 32 := 0#32
  ![v100.toNat, 0, 0]

def k0_chk8 (i : grid0.Coords) (v11 : BitVec 32) (v100 : BitVec 32) : Prop :=
  (∀ (k0_h1 : k0_cond1 i v11 = 1#1), ∀ a, (k0_off9 v100) a + S1x16x1024.size a ≤ S6144x16x1024.size a) ∧
  (∀ (k0_h1 : k0_cond1 i v11 = 1#1), ∀ (hinb : ∀ a, (k0_off9 v100) a + S1x16x1024.size a ≤ S6144x16x1024.size a), (Rect.unit (s := S6144x16x1024) (k0_off9 v100) S1x16x1024.size hinb).WholeWords (EltTy.packing .bf16))
theorem k0_off9_inb : ∀ (i : grid0.Coords) (v11 : BitVec 32) (v100 : BitVec 32) (k0_hw8 : k0_chk8 i v11 v100), ∀ (k0_h1 : k0_cond1 i v11 = 1#1), ∀ a, (k0_off9 v100) a + S1x16x1024.size a ≤ S6144x16x1024.size a := fun i v11 v100 k0_hw8 k0_h1 => k0_hw8.1 k0_h1
theorem k0_off9_wordsbf16 : ∀ (i : grid0.Coords) (v11 : BitVec 32) (v100 : BitVec 32) (k0_hw8 : k0_chk8 i v11 v100), ∀ (k0_h1 : k0_cond1 i v11 = 1#1), (Rect.unit (s := S6144x16x1024) (k0_off9 v100) S1x16x1024.size (k0_off9_inb i v11 v100 k0_hw8 k0_h1)).WholeWords (EltTy.packing .bf16) := fun i v11 v100 k0_hw8 k0_h1 => k0_hw8.2 k0_h1 (k0_off9_inb i v11 v100 k0_hw8 k0_h1)

def k0_off10 (v109 : BitVec 32) : Fin 3 → Nat :=
  let c0_i32_97 : BitVec 32 := 0#32
  let c0_i32_98 : BitVec 32 := 0#32
  ![v109.toNat, 0, 0]

def k0_chk9 (i : grid0.Coords) (v11 : BitVec 32) (v109 : BitVec 32) : Prop :=
  (∀ (k0_h1 : k0_cond1 i v11 = 1#1), ∀ a, (k0_off10 v109) a + S1x16x1024.size a ≤ S6144x16x1024.size a) ∧
  (∀ (k0_h1 : k0_cond1 i v11 = 1#1), ∀ (hinb : ∀ a, (k0_off10 v109) a + S1x16x1024.size a ≤ S6144x16x1024.size a), (Rect.unit (s := S6144x16x1024) (k0_off10 v109) S1x16x1024.size hinb).WholeWords (EltTy.packing .bf16))
theorem k0_off10_inb : ∀ (i : grid0.Coords) (v11 : BitVec 32) (v109 : BitVec 32) (k0_hw9 : k0_chk9 i v11 v109), ∀ (k0_h1 : k0_cond1 i v11 = 1#1), ∀ a, (k0_off10 v109) a + S1x16x1024.size a ≤ S6144x16x1024.size a := fun i v11 v109 k0_hw9 k0_h1 => k0_hw9.1 k0_h1
theorem k0_off10_wordsbf16 : ∀ (i : grid0.Coords) (v11 : BitVec 32) (v109 : BitVec 32) (k0_hw9 : k0_chk9 i v11 v109), ∀ (k0_h1 : k0_cond1 i v11 = 1#1), (Rect.unit (s := S6144x16x1024) (k0_off10 v109) S1x16x1024.size (k0_off10_inb i v11 v109 k0_hw9 k0_h1)).WholeWords (EltTy.packing .bf16) := fun i v11 v109 k0_hw9 k0_h1 => k0_hw9.2 k0_h1 (k0_off10_inb i v11 v109 k0_hw9 k0_h1)

def k0_off11 (v118 : BitVec 32) : Fin 3 → Nat :=
  let c0_i32_106 : BitVec 32 := 0#32
  let c0_i32_107 : BitVec 32 := 0#32
  ![v118.toNat, 0, 0]

def k0_chk10 (i : grid0.Coords) (v11 : BitVec 32) (v118 : BitVec 32) : Prop :=
  (∀ (k0_h1 : k0_cond1 i v11 = 1#1), ∀ a, (k0_off11 v118) a + S1x16x1024.size a ≤ S6144x16x1024.size a) ∧
  (∀ (k0_h1 : k0_cond1 i v11 = 1#1), ∀ (hinb : ∀ a, (k0_off11 v118) a + S1x16x1024.size a ≤ S6144x16x1024.size a), (Rect.unit (s := S6144x16x1024) (k0_off11 v118) S1x16x1024.size hinb).WholeWords (EltTy.packing .bf16))
theorem k0_off11_inb : ∀ (i : grid0.Coords) (v11 : BitVec 32) (v118 : BitVec 32) (k0_hw10 : k0_chk10 i v11 v118), ∀ (k0_h1 : k0_cond1 i v11 = 1#1), ∀ a, (k0_off11 v118) a + S1x16x1024.size a ≤ S6144x16x1024.size a := fun i v11 v118 k0_hw10 k0_h1 => k0_hw10.1 k0_h1
theorem k0_off11_wordsbf16 : ∀ (i : grid0.Coords) (v11 : BitVec 32) (v118 : BitVec 32) (k0_hw10 : k0_chk10 i v11 v118), ∀ (k0_h1 : k0_cond1 i v11 = 1#1), (Rect.unit (s := S6144x16x1024) (k0_off11 v118) S1x16x1024.size (k0_off11_inb i v11 v118 k0_hw10 k0_h1)).WholeWords (EltTy.packing .bf16) := fun i v11 v118 k0_hw10 k0_h1 => k0_hw10.2 k0_h1 (k0_off11_inb i v11 v118 k0_hw10 k0_h1)

def k0_off12 (v127 : BitVec 32) : Fin 3 → Nat :=
  let c0_i32_115 : BitVec 32 := 0#32
  let c0_i32_116 : BitVec 32 := 0#32
  ![v127.toNat, 0, 0]

def k0_chk11 (i : grid0.Coords) (v11 : BitVec 32) (v127 : BitVec 32) : Prop :=
  (∀ (k0_h1 : k0_cond1 i v11 = 1#1), ∀ a, (k0_off12 v127) a + S1x16x1024.size a ≤ S6144x16x1024.size a) ∧
  (∀ (k0_h1 : k0_cond1 i v11 = 1#1), ∀ (hinb : ∀ a, (k0_off12 v127) a + S1x16x1024.size a ≤ S6144x16x1024.size a), (Rect.unit (s := S6144x16x1024) (k0_off12 v127) S1x16x1024.size hinb).WholeWords (EltTy.packing .bf16))
theorem k0_off12_inb : ∀ (i : grid0.Coords) (v11 : BitVec 32) (v127 : BitVec 32) (k0_hw11 : k0_chk11 i v11 v127), ∀ (k0_h1 : k0_cond1 i v11 = 1#1), ∀ a, (k0_off12 v127) a + S1x16x1024.size a ≤ S6144x16x1024.size a := fun i v11 v127 k0_hw11 k0_h1 => k0_hw11.1 k0_h1
theorem k0_off12_wordsbf16 : ∀ (i : grid0.Coords) (v11 : BitVec 32) (v127 : BitVec 32) (k0_hw11 : k0_chk11 i v11 v127), ∀ (k0_h1 : k0_cond1 i v11 = 1#1), (Rect.unit (s := S6144x16x1024) (k0_off12 v127) S1x16x1024.size (k0_off12_inb i v11 v127 k0_hw11 k0_h1)).WholeWords (EltTy.packing .bf16) := fun i v11 v127 k0_hw11 k0_h1 => k0_hw11.2 k0_h1 (k0_off12_inb i v11 v127 k0_hw11 k0_h1)

def k0_off13 (v136 : BitVec 32) : Fin 3 → Nat :=
  let c0_i32_124 : BitVec 32 := 0#32
  let c0_i32_125 : BitVec 32 := 0#32
  ![v136.toNat, 0, 0]

def k0_chk12 (i : grid0.Coords) (v11 : BitVec 32) (v136 : BitVec 32) : Prop :=
  (∀ (k0_h1 : k0_cond1 i v11 = 1#1), ∀ a, (k0_off13 v136) a + S1x16x1024.size a ≤ S6144x16x1024.size a) ∧
  (∀ (k0_h1 : k0_cond1 i v11 = 1#1), ∀ (hinb : ∀ a, (k0_off13 v136) a + S1x16x1024.size a ≤ S6144x16x1024.size a), (Rect.unit (s := S6144x16x1024) (k0_off13 v136) S1x16x1024.size hinb).WholeWords (EltTy.packing .bf16))
theorem k0_off13_inb : ∀ (i : grid0.Coords) (v11 : BitVec 32) (v136 : BitVec 32) (k0_hw12 : k0_chk12 i v11 v136), ∀ (k0_h1 : k0_cond1 i v11 = 1#1), ∀ a, (k0_off13 v136) a + S1x16x1024.size a ≤ S6144x16x1024.size a := fun i v11 v136 k0_hw12 k0_h1 => k0_hw12.1 k0_h1
theorem k0_off13_wordsbf16 : ∀ (i : grid0.Coords) (v11 : BitVec 32) (v136 : BitVec 32) (k0_hw12 : k0_chk12 i v11 v136), ∀ (k0_h1 : k0_cond1 i v11 = 1#1), (Rect.unit (s := S6144x16x1024) (k0_off13 v136) S1x16x1024.size (k0_off13_inb i v11 v136 k0_hw12 k0_h1)).WholeWords (EltTy.packing .bf16) := fun i v11 v136 k0_hw12 k0_h1 => k0_hw12.2 k0_h1 (k0_off13_inb i v11 v136 k0_hw12 k0_h1)

def k0_off14 (v145 : BitVec 32) : Fin 3 → Nat :=
  let c0_i32_133 : BitVec 32 := 0#32
  let c0_i32_134 : BitVec 32 := 0#32
  ![v145.toNat, 0, 0]

def k0_chk13 (i : grid0.Coords) (v11 : BitVec 32) (v145 : BitVec 32) : Prop :=
  (∀ (k0_h1 : k0_cond1 i v11 = 1#1), ∀ a, (k0_off14 v145) a + S1x16x1024.size a ≤ S6144x16x1024.size a) ∧
  (∀ (k0_h1 : k0_cond1 i v11 = 1#1), ∀ (hinb : ∀ a, (k0_off14 v145) a + S1x16x1024.size a ≤ S6144x16x1024.size a), (Rect.unit (s := S6144x16x1024) (k0_off14 v145) S1x16x1024.size hinb).WholeWords (EltTy.packing .bf16))
theorem k0_off14_inb : ∀ (i : grid0.Coords) (v11 : BitVec 32) (v145 : BitVec 32) (k0_hw13 : k0_chk13 i v11 v145), ∀ (k0_h1 : k0_cond1 i v11 = 1#1), ∀ a, (k0_off14 v145) a + S1x16x1024.size a ≤ S6144x16x1024.size a := fun i v11 v145 k0_hw13 k0_h1 => k0_hw13.1 k0_h1
theorem k0_off14_wordsbf16 : ∀ (i : grid0.Coords) (v11 : BitVec 32) (v145 : BitVec 32) (k0_hw13 : k0_chk13 i v11 v145), ∀ (k0_h1 : k0_cond1 i v11 = 1#1), (Rect.unit (s := S6144x16x1024) (k0_off14 v145) S1x16x1024.size (k0_off14_inb i v11 v145 k0_hw13 k0_h1)).WholeWords (EltTy.packing .bf16) := fun i v11 v145 k0_hw13 k0_h1 => k0_hw13.2 k0_h1 (k0_off14_inb i v11 v145 k0_hw13 k0_h1)

def k0_off15 (v154 : BitVec 32) : Fin 3 → Nat :=
  let c0_i32_142 : BitVec 32 := 0#32
  let c0_i32_143 : BitVec 32 := 0#32
  ![v154.toNat, 0, 0]

def k0_chk14 (i : grid0.Coords) (v11 : BitVec 32) (v154 : BitVec 32) : Prop :=
  (∀ (k0_h1 : k0_cond1 i v11 = 1#1), ∀ a, (k0_off15 v154) a + S1x16x1024.size a ≤ S6144x16x1024.size a) ∧
  (∀ (k0_h1 : k0_cond1 i v11 = 1#1), ∀ (hinb : ∀ a, (k0_off15 v154) a + S1x16x1024.size a ≤ S6144x16x1024.size a), (Rect.unit (s := S6144x16x1024) (k0_off15 v154) S1x16x1024.size hinb).WholeWords (EltTy.packing .bf16))
theorem k0_off15_inb : ∀ (i : grid0.Coords) (v11 : BitVec 32) (v154 : BitVec 32) (k0_hw14 : k0_chk14 i v11 v154), ∀ (k0_h1 : k0_cond1 i v11 = 1#1), ∀ a, (k0_off15 v154) a + S1x16x1024.size a ≤ S6144x16x1024.size a := fun i v11 v154 k0_hw14 k0_h1 => k0_hw14.1 k0_h1
theorem k0_off15_wordsbf16 : ∀ (i : grid0.Coords) (v11 : BitVec 32) (v154 : BitVec 32) (k0_hw14 : k0_chk14 i v11 v154), ∀ (k0_h1 : k0_cond1 i v11 = 1#1), (Rect.unit (s := S6144x16x1024) (k0_off15 v154) S1x16x1024.size (k0_off15_inb i v11 v154 k0_hw14 k0_h1)).WholeWords (EltTy.packing .bf16) := fun i v11 v154 k0_hw14 k0_h1 => k0_hw14.2 k0_h1 (k0_off15_inb i v11 v154 k0_hw14 k0_h1)

def k0_off16 (v163 : BitVec 32) : Fin 3 → Nat :=
  let c0_i32_151 : BitVec 32 := 0#32
  let c0_i32_152 : BitVec 32 := 0#32
  ![v163.toNat, 0, 0]

def k0_chk15 (i : grid0.Coords) (v11 : BitVec 32) (v163 : BitVec 32) : Prop :=
  (∀ (k0_h1 : k0_cond1 i v11 = 1#1), ∀ a, (k0_off16 v163) a + S1x16x1024.size a ≤ S6144x16x1024.size a) ∧
  (∀ (k0_h1 : k0_cond1 i v11 = 1#1), ∀ (hinb : ∀ a, (k0_off16 v163) a + S1x16x1024.size a ≤ S6144x16x1024.size a), (Rect.unit (s := S6144x16x1024) (k0_off16 v163) S1x16x1024.size hinb).WholeWords (EltTy.packing .bf16))
theorem k0_off16_inb : ∀ (i : grid0.Coords) (v11 : BitVec 32) (v163 : BitVec 32) (k0_hw15 : k0_chk15 i v11 v163), ∀ (k0_h1 : k0_cond1 i v11 = 1#1), ∀ a, (k0_off16 v163) a + S1x16x1024.size a ≤ S6144x16x1024.size a := fun i v11 v163 k0_hw15 k0_h1 => k0_hw15.1 k0_h1
theorem k0_off16_wordsbf16 : ∀ (i : grid0.Coords) (v11 : BitVec 32) (v163 : BitVec 32) (k0_hw15 : k0_chk15 i v11 v163), ∀ (k0_h1 : k0_cond1 i v11 = 1#1), (Rect.unit (s := S6144x16x1024) (k0_off16 v163) S1x16x1024.size (k0_off16_inb i v11 v163 k0_hw15 k0_h1)).WholeWords (EltTy.packing .bf16) := fun i v11 v163 k0_hw15 k0_h1 => k0_hw15.2 k0_h1 (k0_off16_inb i v11 v163 k0_hw15 k0_h1)

def k0_off17 (v172 : BitVec 32) : Fin 3 → Nat :=
  let c0_i32_160 : BitVec 32 := 0#32
  let c0_i32_161 : BitVec 32 := 0#32
  ![v172.toNat, 0, 0]

def k0_chk16 (i : grid0.Coords) (v11 : BitVec 32) (v172 : BitVec 32) : Prop :=
  (∀ (k0_h1 : k0_cond1 i v11 = 1#1), ∀ a, (k0_off17 v172) a + S1x16x1024.size a ≤ S6144x16x1024.size a) ∧
  (∀ (k0_h1 : k0_cond1 i v11 = 1#1), ∀ (hinb : ∀ a, (k0_off17 v172) a + S1x16x1024.size a ≤ S6144x16x1024.size a), (Rect.unit (s := S6144x16x1024) (k0_off17 v172) S1x16x1024.size hinb).WholeWords (EltTy.packing .bf16))
theorem k0_off17_inb : ∀ (i : grid0.Coords) (v11 : BitVec 32) (v172 : BitVec 32) (k0_hw16 : k0_chk16 i v11 v172), ∀ (k0_h1 : k0_cond1 i v11 = 1#1), ∀ a, (k0_off17 v172) a + S1x16x1024.size a ≤ S6144x16x1024.size a := fun i v11 v172 k0_hw16 k0_h1 => k0_hw16.1 k0_h1
theorem k0_off17_wordsbf16 : ∀ (i : grid0.Coords) (v11 : BitVec 32) (v172 : BitVec 32) (k0_hw16 : k0_chk16 i v11 v172), ∀ (k0_h1 : k0_cond1 i v11 = 1#1), (Rect.unit (s := S6144x16x1024) (k0_off17 v172) S1x16x1024.size (k0_off17_inb i v11 v172 k0_hw16 k0_h1)).WholeWords (EltTy.packing .bf16) := fun i v11 v172 k0_hw16 k0_h1 => k0_hw16.2 k0_h1 (k0_off17_inb i v11 v172 k0_hw16 k0_h1)

def k0_off18 (v181 : BitVec 32) : Fin 3 → Nat :=
  let c0_i32_169 : BitVec 32 := 0#32
  let c0_i32_170 : BitVec 32 := 0#32
  ![v181.toNat, 0, 0]

def k0_chk17 (i : grid0.Coords) (v11 : BitVec 32) (v181 : BitVec 32) : Prop :=
  (∀ (k0_h1 : k0_cond1 i v11 = 1#1), ∀ a, (k0_off18 v181) a + S1x16x1024.size a ≤ S6144x16x1024.size a) ∧
  (∀ (k0_h1 : k0_cond1 i v11 = 1#1), ∀ (hinb : ∀ a, (k0_off18 v181) a + S1x16x1024.size a ≤ S6144x16x1024.size a), (Rect.unit (s := S6144x16x1024) (k0_off18 v181) S1x16x1024.size hinb).WholeWords (EltTy.packing .bf16))
theorem k0_off18_inb : ∀ (i : grid0.Coords) (v11 : BitVec 32) (v181 : BitVec 32) (k0_hw17 : k0_chk17 i v11 v181), ∀ (k0_h1 : k0_cond1 i v11 = 1#1), ∀ a, (k0_off18 v181) a + S1x16x1024.size a ≤ S6144x16x1024.size a := fun i v11 v181 k0_hw17 k0_h1 => k0_hw17.1 k0_h1
theorem k0_off18_wordsbf16 : ∀ (i : grid0.Coords) (v11 : BitVec 32) (v181 : BitVec 32) (k0_hw17 : k0_chk17 i v11 v181), ∀ (k0_h1 : k0_cond1 i v11 = 1#1), (Rect.unit (s := S6144x16x1024) (k0_off18 v181) S1x16x1024.size (k0_off18_inb i v11 v181 k0_hw17 k0_h1)).WholeWords (EltTy.packing .bf16) := fun i v11 v181 k0_hw17 k0_h1 => k0_hw17.2 k0_h1 (k0_off18_inb i v11 v181 k0_hw17 k0_h1)

def k0_off19 (v190 : BitVec 32) : Fin 3 → Nat :=
  let c0_i32_178 : BitVec 32 := 0#32
  let c0_i32_179 : BitVec 32 := 0#32
  ![v190.toNat, 0, 0]

def k0_chk18 (i : grid0.Coords) (v11 : BitVec 32) (v190 : BitVec 32) : Prop :=
  (∀ (k0_h1 : k0_cond1 i v11 = 1#1), ∀ a, (k0_off19 v190) a + S1x16x1024.size a ≤ S6144x16x1024.size a) ∧
  (∀ (k0_h1 : k0_cond1 i v11 = 1#1), ∀ (hinb : ∀ a, (k0_off19 v190) a + S1x16x1024.size a ≤ S6144x16x1024.size a), (Rect.unit (s := S6144x16x1024) (k0_off19 v190) S1x16x1024.size hinb).WholeWords (EltTy.packing .bf16))
theorem k0_off19_inb : ∀ (i : grid0.Coords) (v11 : BitVec 32) (v190 : BitVec 32) (k0_hw18 : k0_chk18 i v11 v190), ∀ (k0_h1 : k0_cond1 i v11 = 1#1), ∀ a, (k0_off19 v190) a + S1x16x1024.size a ≤ S6144x16x1024.size a := fun i v11 v190 k0_hw18 k0_h1 => k0_hw18.1 k0_h1
theorem k0_off19_wordsbf16 : ∀ (i : grid0.Coords) (v11 : BitVec 32) (v190 : BitVec 32) (k0_hw18 : k0_chk18 i v11 v190), ∀ (k0_h1 : k0_cond1 i v11 = 1#1), (Rect.unit (s := S6144x16x1024) (k0_off19 v190) S1x16x1024.size (k0_off19_inb i v11 v190 k0_hw18 k0_h1)).WholeWords (EltTy.packing .bf16) := fun i v11 v190 k0_hw18 k0_h1 => k0_hw18.2 k0_h1 (k0_off19_inb i v11 v190 k0_hw18 k0_h1)

def k0_off20 (v199 : BitVec 32) : Fin 3 → Nat :=
  let c0_i32_187 : BitVec 32 := 0#32
  let c0_i32_188 : BitVec 32 := 0#32
  ![v199.toNat, 0, 0]

def k0_chk19 (i : grid0.Coords) (v11 : BitVec 32) (v199 : BitVec 32) : Prop :=
  (∀ (k0_h1 : k0_cond1 i v11 = 1#1), ∀ a, (k0_off20 v199) a + S1x16x1024.size a ≤ S6144x16x1024.size a) ∧
  (∀ (k0_h1 : k0_cond1 i v11 = 1#1), ∀ (hinb : ∀ a, (k0_off20 v199) a + S1x16x1024.size a ≤ S6144x16x1024.size a), (Rect.unit (s := S6144x16x1024) (k0_off20 v199) S1x16x1024.size hinb).WholeWords (EltTy.packing .bf16))
theorem k0_off20_inb : ∀ (i : grid0.Coords) (v11 : BitVec 32) (v199 : BitVec 32) (k0_hw19 : k0_chk19 i v11 v199), ∀ (k0_h1 : k0_cond1 i v11 = 1#1), ∀ a, (k0_off20 v199) a + S1x16x1024.size a ≤ S6144x16x1024.size a := fun i v11 v199 k0_hw19 k0_h1 => k0_hw19.1 k0_h1
theorem k0_off20_wordsbf16 : ∀ (i : grid0.Coords) (v11 : BitVec 32) (v199 : BitVec 32) (k0_hw19 : k0_chk19 i v11 v199), ∀ (k0_h1 : k0_cond1 i v11 = 1#1), (Rect.unit (s := S6144x16x1024) (k0_off20 v199) S1x16x1024.size (k0_off20_inb i v11 v199 k0_hw19 k0_h1)).WholeWords (EltTy.packing .bf16) := fun i v11 v199 k0_hw19 k0_h1 => k0_hw19.2 k0_h1 (k0_off20_inb i v11 v199 k0_hw19 k0_h1)

def k0_off21 (v208 : BitVec 32) : Fin 3 → Nat :=
  let c0_i32_196 : BitVec 32 := 0#32
  let c0_i32_197 : BitVec 32 := 0#32
  ![v208.toNat, 0, 0]

def k0_chk20 (i : grid0.Coords) (v11 : BitVec 32) (v208 : BitVec 32) : Prop :=
  (∀ (k0_h1 : k0_cond1 i v11 = 1#1), ∀ a, (k0_off21 v208) a + S1x16x1024.size a ≤ S6144x16x1024.size a) ∧
  (∀ (k0_h1 : k0_cond1 i v11 = 1#1), ∀ (hinb : ∀ a, (k0_off21 v208) a + S1x16x1024.size a ≤ S6144x16x1024.size a), (Rect.unit (s := S6144x16x1024) (k0_off21 v208) S1x16x1024.size hinb).WholeWords (EltTy.packing .bf16))
theorem k0_off21_inb : ∀ (i : grid0.Coords) (v11 : BitVec 32) (v208 : BitVec 32) (k0_hw20 : k0_chk20 i v11 v208), ∀ (k0_h1 : k0_cond1 i v11 = 1#1), ∀ a, (k0_off21 v208) a + S1x16x1024.size a ≤ S6144x16x1024.size a := fun i v11 v208 k0_hw20 k0_h1 => k0_hw20.1 k0_h1
theorem k0_off21_wordsbf16 : ∀ (i : grid0.Coords) (v11 : BitVec 32) (v208 : BitVec 32) (k0_hw20 : k0_chk20 i v11 v208), ∀ (k0_h1 : k0_cond1 i v11 = 1#1), (Rect.unit (s := S6144x16x1024) (k0_off21 v208) S1x16x1024.size (k0_off21_inb i v11 v208 k0_hw20 k0_h1)).WholeWords (EltTy.packing .bf16) := fun i v11 v208 k0_hw20 k0_h1 => k0_hw20.2 k0_h1 (k0_off21_inb i v11 v208 k0_hw20 k0_h1)

def k0_off22 (v217 : BitVec 32) : Fin 3 → Nat :=
  let c0_i32_205 : BitVec 32 := 0#32
  let c0_i32_206 : BitVec 32 := 0#32
  ![v217.toNat, 0, 0]

def k0_chk21 (i : grid0.Coords) (v11 : BitVec 32) (v217 : BitVec 32) : Prop :=
  (∀ (k0_h1 : k0_cond1 i v11 = 1#1), ∀ a, (k0_off22 v217) a + S1x16x1024.size a ≤ S6144x16x1024.size a) ∧
  (∀ (k0_h1 : k0_cond1 i v11 = 1#1), ∀ (hinb : ∀ a, (k0_off22 v217) a + S1x16x1024.size a ≤ S6144x16x1024.size a), (Rect.unit (s := S6144x16x1024) (k0_off22 v217) S1x16x1024.size hinb).WholeWords (EltTy.packing .bf16))
theorem k0_off22_inb : ∀ (i : grid0.Coords) (v11 : BitVec 32) (v217 : BitVec 32) (k0_hw21 : k0_chk21 i v11 v217), ∀ (k0_h1 : k0_cond1 i v11 = 1#1), ∀ a, (k0_off22 v217) a + S1x16x1024.size a ≤ S6144x16x1024.size a := fun i v11 v217 k0_hw21 k0_h1 => k0_hw21.1 k0_h1
theorem k0_off22_wordsbf16 : ∀ (i : grid0.Coords) (v11 : BitVec 32) (v217 : BitVec 32) (k0_hw21 : k0_chk21 i v11 v217), ∀ (k0_h1 : k0_cond1 i v11 = 1#1), (Rect.unit (s := S6144x16x1024) (k0_off22 v217) S1x16x1024.size (k0_off22_inb i v11 v217 k0_hw21 k0_h1)).WholeWords (EltTy.packing .bf16) := fun i v11 v217 k0_hw21 k0_h1 => k0_hw21.2 k0_h1 (k0_off22_inb i v11 v217 k0_hw21 k0_h1)

def k0_off23 (v226 : BitVec 32) : Fin 3 → Nat :=
  let c0_i32_214 : BitVec 32 := 0#32
  let c0_i32_215 : BitVec 32 := 0#32
  ![v226.toNat, 0, 0]

def k0_chk22 (i : grid0.Coords) (v11 : BitVec 32) (v226 : BitVec 32) : Prop :=
  (∀ (k0_h1 : k0_cond1 i v11 = 1#1), ∀ a, (k0_off23 v226) a + S1x16x1024.size a ≤ S6144x16x1024.size a) ∧
  (∀ (k0_h1 : k0_cond1 i v11 = 1#1), ∀ (hinb : ∀ a, (k0_off23 v226) a + S1x16x1024.size a ≤ S6144x16x1024.size a), (Rect.unit (s := S6144x16x1024) (k0_off23 v226) S1x16x1024.size hinb).WholeWords (EltTy.packing .bf16))
theorem k0_off23_inb : ∀ (i : grid0.Coords) (v11 : BitVec 32) (v226 : BitVec 32) (k0_hw22 : k0_chk22 i v11 v226), ∀ (k0_h1 : k0_cond1 i v11 = 1#1), ∀ a, (k0_off23 v226) a + S1x16x1024.size a ≤ S6144x16x1024.size a := fun i v11 v226 k0_hw22 k0_h1 => k0_hw22.1 k0_h1
theorem k0_off23_wordsbf16 : ∀ (i : grid0.Coords) (v11 : BitVec 32) (v226 : BitVec 32) (k0_hw22 : k0_chk22 i v11 v226), ∀ (k0_h1 : k0_cond1 i v11 = 1#1), (Rect.unit (s := S6144x16x1024) (k0_off23 v226) S1x16x1024.size (k0_off23_inb i v11 v226 k0_hw22 k0_h1)).WholeWords (EltTy.packing .bf16) := fun i v11 v226 k0_hw22 k0_h1 => k0_hw22.2 k0_h1 (k0_off23_inb i v11 v226 k0_hw22 k0_h1)

def k0_off24 (v235 : BitVec 32) : Fin 3 → Nat :=
  let c0_i32_223 : BitVec 32 := 0#32
  let c0_i32_224 : BitVec 32 := 0#32
  ![v235.toNat, 0, 0]

def k0_chk23 (i : grid0.Coords) (v11 : BitVec 32) (v235 : BitVec 32) : Prop :=
  (∀ (k0_h1 : k0_cond1 i v11 = 1#1), ∀ a, (k0_off24 v235) a + S1x16x1024.size a ≤ S6144x16x1024.size a) ∧
  (∀ (k0_h1 : k0_cond1 i v11 = 1#1), ∀ (hinb : ∀ a, (k0_off24 v235) a + S1x16x1024.size a ≤ S6144x16x1024.size a), (Rect.unit (s := S6144x16x1024) (k0_off24 v235) S1x16x1024.size hinb).WholeWords (EltTy.packing .bf16))
theorem k0_off24_inb : ∀ (i : grid0.Coords) (v11 : BitVec 32) (v235 : BitVec 32) (k0_hw23 : k0_chk23 i v11 v235), ∀ (k0_h1 : k0_cond1 i v11 = 1#1), ∀ a, (k0_off24 v235) a + S1x16x1024.size a ≤ S6144x16x1024.size a := fun i v11 v235 k0_hw23 k0_h1 => k0_hw23.1 k0_h1
theorem k0_off24_wordsbf16 : ∀ (i : grid0.Coords) (v11 : BitVec 32) (v235 : BitVec 32) (k0_hw23 : k0_chk23 i v11 v235), ∀ (k0_h1 : k0_cond1 i v11 = 1#1), (Rect.unit (s := S6144x16x1024) (k0_off24 v235) S1x16x1024.size (k0_off24_inb i v11 v235 k0_hw23 k0_h1)).WholeWords (EltTy.packing .bf16) := fun i v11 v235 k0_hw23 k0_h1 => k0_hw23.2 k0_h1 (k0_off24_inb i v11 v235 k0_hw23 k0_h1)

def k0_off25 (v244 : BitVec 32) : Fin 3 → Nat :=
  let c0_i32_232 : BitVec 32 := 0#32
  let c0_i32_233 : BitVec 32 := 0#32
  ![v244.toNat, 0, 0]

def k0_chk24 (i : grid0.Coords) (v11 : BitVec 32) (v244 : BitVec 32) : Prop :=
  (∀ (k0_h1 : k0_cond1 i v11 = 1#1), ∀ a, (k0_off25 v244) a + S1x16x1024.size a ≤ S6144x16x1024.size a) ∧
  (∀ (k0_h1 : k0_cond1 i v11 = 1#1), ∀ (hinb : ∀ a, (k0_off25 v244) a + S1x16x1024.size a ≤ S6144x16x1024.size a), (Rect.unit (s := S6144x16x1024) (k0_off25 v244) S1x16x1024.size hinb).WholeWords (EltTy.packing .bf16))
theorem k0_off25_inb : ∀ (i : grid0.Coords) (v11 : BitVec 32) (v244 : BitVec 32) (k0_hw24 : k0_chk24 i v11 v244), ∀ (k0_h1 : k0_cond1 i v11 = 1#1), ∀ a, (k0_off25 v244) a + S1x16x1024.size a ≤ S6144x16x1024.size a := fun i v11 v244 k0_hw24 k0_h1 => k0_hw24.1 k0_h1
theorem k0_off25_wordsbf16 : ∀ (i : grid0.Coords) (v11 : BitVec 32) (v244 : BitVec 32) (k0_hw24 : k0_chk24 i v11 v244), ∀ (k0_h1 : k0_cond1 i v11 = 1#1), (Rect.unit (s := S6144x16x1024) (k0_off25 v244) S1x16x1024.size (k0_off25_inb i v11 v244 k0_hw24 k0_h1)).WholeWords (EltTy.packing .bf16) := fun i v11 v244 k0_hw24 k0_h1 => k0_hw24.2 k0_h1 (k0_off25_inb i v11 v244 k0_hw24 k0_h1)

def k0_off26 (v253 : BitVec 32) : Fin 3 → Nat :=
  let c0_i32_241 : BitVec 32 := 0#32
  let c0_i32_242 : BitVec 32 := 0#32
  ![v253.toNat, 0, 0]

def k0_chk25 (i : grid0.Coords) (v11 : BitVec 32) (v253 : BitVec 32) : Prop :=
  (∀ (k0_h1 : k0_cond1 i v11 = 1#1), ∀ a, (k0_off26 v253) a + S1x16x1024.size a ≤ S6144x16x1024.size a) ∧
  (∀ (k0_h1 : k0_cond1 i v11 = 1#1), ∀ (hinb : ∀ a, (k0_off26 v253) a + S1x16x1024.size a ≤ S6144x16x1024.size a), (Rect.unit (s := S6144x16x1024) (k0_off26 v253) S1x16x1024.size hinb).WholeWords (EltTy.packing .bf16))
theorem k0_off26_inb : ∀ (i : grid0.Coords) (v11 : BitVec 32) (v253 : BitVec 32) (k0_hw25 : k0_chk25 i v11 v253), ∀ (k0_h1 : k0_cond1 i v11 = 1#1), ∀ a, (k0_off26 v253) a + S1x16x1024.size a ≤ S6144x16x1024.size a := fun i v11 v253 k0_hw25 k0_h1 => k0_hw25.1 k0_h1
theorem k0_off26_wordsbf16 : ∀ (i : grid0.Coords) (v11 : BitVec 32) (v253 : BitVec 32) (k0_hw25 : k0_chk25 i v11 v253), ∀ (k0_h1 : k0_cond1 i v11 = 1#1), (Rect.unit (s := S6144x16x1024) (k0_off26 v253) S1x16x1024.size (k0_off26_inb i v11 v253 k0_hw25 k0_h1)).WholeWords (EltTy.packing .bf16) := fun i v11 v253 k0_hw25 k0_h1 => k0_hw25.2 k0_h1 (k0_off26_inb i v11 v253 k0_hw25 k0_h1)

def k0_off27 (v262 : BitVec 32) : Fin 3 → Nat :=
  let c0_i32_250 : BitVec 32 := 0#32
  let c0_i32_251 : BitVec 32 := 0#32
  ![v262.toNat, 0, 0]

def k0_chk26 (i : grid0.Coords) (v11 : BitVec 32) (v262 : BitVec 32) : Prop :=
  (∀ (k0_h1 : k0_cond1 i v11 = 1#1), ∀ a, (k0_off27 v262) a + S1x16x1024.size a ≤ S6144x16x1024.size a) ∧
  (∀ (k0_h1 : k0_cond1 i v11 = 1#1), ∀ (hinb : ∀ a, (k0_off27 v262) a + S1x16x1024.size a ≤ S6144x16x1024.size a), (Rect.unit (s := S6144x16x1024) (k0_off27 v262) S1x16x1024.size hinb).WholeWords (EltTy.packing .bf16))
theorem k0_off27_inb : ∀ (i : grid0.Coords) (v11 : BitVec 32) (v262 : BitVec 32) (k0_hw26 : k0_chk26 i v11 v262), ∀ (k0_h1 : k0_cond1 i v11 = 1#1), ∀ a, (k0_off27 v262) a + S1x16x1024.size a ≤ S6144x16x1024.size a := fun i v11 v262 k0_hw26 k0_h1 => k0_hw26.1 k0_h1
theorem k0_off27_wordsbf16 : ∀ (i : grid0.Coords) (v11 : BitVec 32) (v262 : BitVec 32) (k0_hw26 : k0_chk26 i v11 v262), ∀ (k0_h1 : k0_cond1 i v11 = 1#1), (Rect.unit (s := S6144x16x1024) (k0_off27 v262) S1x16x1024.size (k0_off27_inb i v11 v262 k0_hw26 k0_h1)).WholeWords (EltTy.packing .bf16) := fun i v11 v262 k0_hw26 k0_h1 => k0_hw26.2 k0_h1 (k0_off27_inb i v11 v262 k0_hw26 k0_h1)

def k0_off28 (v271 : BitVec 32) : Fin 3 → Nat :=
  let c0_i32_259 : BitVec 32 := 0#32
  let c0_i32_260 : BitVec 32 := 0#32
  ![v271.toNat, 0, 0]

def k0_chk27 (i : grid0.Coords) (v11 : BitVec 32) (v271 : BitVec 32) : Prop :=
  (∀ (k0_h1 : k0_cond1 i v11 = 1#1), ∀ a, (k0_off28 v271) a + S1x16x1024.size a ≤ S6144x16x1024.size a) ∧
  (∀ (k0_h1 : k0_cond1 i v11 = 1#1), ∀ (hinb : ∀ a, (k0_off28 v271) a + S1x16x1024.size a ≤ S6144x16x1024.size a), (Rect.unit (s := S6144x16x1024) (k0_off28 v271) S1x16x1024.size hinb).WholeWords (EltTy.packing .bf16))
theorem k0_off28_inb : ∀ (i : grid0.Coords) (v11 : BitVec 32) (v271 : BitVec 32) (k0_hw27 : k0_chk27 i v11 v271), ∀ (k0_h1 : k0_cond1 i v11 = 1#1), ∀ a, (k0_off28 v271) a + S1x16x1024.size a ≤ S6144x16x1024.size a := fun i v11 v271 k0_hw27 k0_h1 => k0_hw27.1 k0_h1
theorem k0_off28_wordsbf16 : ∀ (i : grid0.Coords) (v11 : BitVec 32) (v271 : BitVec 32) (k0_hw27 : k0_chk27 i v11 v271), ∀ (k0_h1 : k0_cond1 i v11 = 1#1), (Rect.unit (s := S6144x16x1024) (k0_off28 v271) S1x16x1024.size (k0_off28_inb i v11 v271 k0_hw27 k0_h1)).WholeWords (EltTy.packing .bf16) := fun i v11 v271 k0_hw27 k0_h1 => k0_hw27.2 k0_h1 (k0_off28_inb i v11 v271 k0_hw27 k0_h1)

def k0_off29 (v280 : BitVec 32) : Fin 3 → Nat :=
  let c0_i32_268 : BitVec 32 := 0#32
  let c0_i32_269 : BitVec 32 := 0#32
  ![v280.toNat, 0, 0]

def k0_chk28 (i : grid0.Coords) (v11 : BitVec 32) (v280 : BitVec 32) : Prop :=
  (∀ (k0_h1 : k0_cond1 i v11 = 1#1), ∀ a, (k0_off29 v280) a + S1x16x1024.size a ≤ S6144x16x1024.size a) ∧
  (∀ (k0_h1 : k0_cond1 i v11 = 1#1), ∀ (hinb : ∀ a, (k0_off29 v280) a + S1x16x1024.size a ≤ S6144x16x1024.size a), (Rect.unit (s := S6144x16x1024) (k0_off29 v280) S1x16x1024.size hinb).WholeWords (EltTy.packing .bf16))
theorem k0_off29_inb : ∀ (i : grid0.Coords) (v11 : BitVec 32) (v280 : BitVec 32) (k0_hw28 : k0_chk28 i v11 v280), ∀ (k0_h1 : k0_cond1 i v11 = 1#1), ∀ a, (k0_off29 v280) a + S1x16x1024.size a ≤ S6144x16x1024.size a := fun i v11 v280 k0_hw28 k0_h1 => k0_hw28.1 k0_h1
theorem k0_off29_wordsbf16 : ∀ (i : grid0.Coords) (v11 : BitVec 32) (v280 : BitVec 32) (k0_hw28 : k0_chk28 i v11 v280), ∀ (k0_h1 : k0_cond1 i v11 = 1#1), (Rect.unit (s := S6144x16x1024) (k0_off29 v280) S1x16x1024.size (k0_off29_inb i v11 v280 k0_hw28 k0_h1)).WholeWords (EltTy.packing .bf16) := fun i v11 v280 k0_hw28 k0_h1 => k0_hw28.2 k0_h1 (k0_off29_inb i v11 v280 k0_hw28 k0_h1)

def k0_off30 (v289 : BitVec 32) : Fin 3 → Nat :=
  let c0_i32_277 : BitVec 32 := 0#32
  let c0_i32_278 : BitVec 32 := 0#32
  ![v289.toNat, 0, 0]

def k0_chk29 (i : grid0.Coords) (v11 : BitVec 32) (v289 : BitVec 32) : Prop :=
  (∀ (k0_h1 : k0_cond1 i v11 = 1#1), ∀ a, (k0_off30 v289) a + S1x16x1024.size a ≤ S6144x16x1024.size a) ∧
  (∀ (k0_h1 : k0_cond1 i v11 = 1#1), ∀ (hinb : ∀ a, (k0_off30 v289) a + S1x16x1024.size a ≤ S6144x16x1024.size a), (Rect.unit (s := S6144x16x1024) (k0_off30 v289) S1x16x1024.size hinb).WholeWords (EltTy.packing .bf16))
theorem k0_off30_inb : ∀ (i : grid0.Coords) (v11 : BitVec 32) (v289 : BitVec 32) (k0_hw29 : k0_chk29 i v11 v289), ∀ (k0_h1 : k0_cond1 i v11 = 1#1), ∀ a, (k0_off30 v289) a + S1x16x1024.size a ≤ S6144x16x1024.size a := fun i v11 v289 k0_hw29 k0_h1 => k0_hw29.1 k0_h1
theorem k0_off30_wordsbf16 : ∀ (i : grid0.Coords) (v11 : BitVec 32) (v289 : BitVec 32) (k0_hw29 : k0_chk29 i v11 v289), ∀ (k0_h1 : k0_cond1 i v11 = 1#1), (Rect.unit (s := S6144x16x1024) (k0_off30 v289) S1x16x1024.size (k0_off30_inb i v11 v289 k0_hw29 k0_h1)).WholeWords (EltTy.packing .bf16) := fun i v11 v289 k0_hw29 k0_h1 => k0_hw29.2 k0_h1 (k0_off30_inb i v11 v289 k0_hw29 k0_h1)

def k0_off31 (v298 : BitVec 32) : Fin 3 → Nat :=
  let c0_i32_286 : BitVec 32 := 0#32
  let c0_i32_287 : BitVec 32 := 0#32
  ![v298.toNat, 0, 0]

def k0_chk30 (i : grid0.Coords) (v11 : BitVec 32) (v298 : BitVec 32) : Prop :=
  (∀ (k0_h1 : k0_cond1 i v11 = 1#1), ∀ a, (k0_off31 v298) a + S1x16x1024.size a ≤ S6144x16x1024.size a) ∧
  (∀ (k0_h1 : k0_cond1 i v11 = 1#1), ∀ (hinb : ∀ a, (k0_off31 v298) a + S1x16x1024.size a ≤ S6144x16x1024.size a), (Rect.unit (s := S6144x16x1024) (k0_off31 v298) S1x16x1024.size hinb).WholeWords (EltTy.packing .bf16))
theorem k0_off31_inb : ∀ (i : grid0.Coords) (v11 : BitVec 32) (v298 : BitVec 32) (k0_hw30 : k0_chk30 i v11 v298), ∀ (k0_h1 : k0_cond1 i v11 = 1#1), ∀ a, (k0_off31 v298) a + S1x16x1024.size a ≤ S6144x16x1024.size a := fun i v11 v298 k0_hw30 k0_h1 => k0_hw30.1 k0_h1
theorem k0_off31_wordsbf16 : ∀ (i : grid0.Coords) (v11 : BitVec 32) (v298 : BitVec 32) (k0_hw30 : k0_chk30 i v11 v298), ∀ (k0_h1 : k0_cond1 i v11 = 1#1), (Rect.unit (s := S6144x16x1024) (k0_off31 v298) S1x16x1024.size (k0_off31_inb i v11 v298 k0_hw30 k0_h1)).WholeWords (EltTy.packing .bf16) := fun i v11 v298 k0_hw30 k0_h1 => k0_hw30.2 k0_h1 (k0_off31_inb i v11 v298 k0_hw30 k0_h1)

def k0_off32 (v307 : BitVec 32) : Fin 3 → Nat :=
  let c0_i32_295 : BitVec 32 := 0#32
  let c0_i32_296 : BitVec 32 := 0#32
  ![v307.toNat, 0, 0]

def k0_chk31 (i : grid0.Coords) (v11 : BitVec 32) (v307 : BitVec 32) : Prop :=
  (∀ (k0_h1 : k0_cond1 i v11 = 1#1), ∀ a, (k0_off32 v307) a + S1x16x1024.size a ≤ S6144x16x1024.size a) ∧
  (∀ (k0_h1 : k0_cond1 i v11 = 1#1), ∀ (hinb : ∀ a, (k0_off32 v307) a + S1x16x1024.size a ≤ S6144x16x1024.size a), (Rect.unit (s := S6144x16x1024) (k0_off32 v307) S1x16x1024.size hinb).WholeWords (EltTy.packing .bf16))
theorem k0_off32_inb : ∀ (i : grid0.Coords) (v11 : BitVec 32) (v307 : BitVec 32) (k0_hw31 : k0_chk31 i v11 v307), ∀ (k0_h1 : k0_cond1 i v11 = 1#1), ∀ a, (k0_off32 v307) a + S1x16x1024.size a ≤ S6144x16x1024.size a := fun i v11 v307 k0_hw31 k0_h1 => k0_hw31.1 k0_h1
theorem k0_off32_wordsbf16 : ∀ (i : grid0.Coords) (v11 : BitVec 32) (v307 : BitVec 32) (k0_hw31 : k0_chk31 i v11 v307), ∀ (k0_h1 : k0_cond1 i v11 = 1#1), (Rect.unit (s := S6144x16x1024) (k0_off32 v307) S1x16x1024.size (k0_off32_inb i v11 v307 k0_hw31 k0_h1)).WholeWords (EltTy.packing .bf16) := fun i v11 v307 k0_hw31 k0_h1 => k0_hw31.2 k0_h1 (k0_off32_inb i v11 v307 k0_hw31 k0_h1)

def k0_off33 (v316 : BitVec 32) : Fin 3 → Nat :=
  let c0_i32_304 : BitVec 32 := 0#32
  let c0_i32_305 : BitVec 32 := 0#32
  ![v316.toNat, 0, 0]

def k0_chk32 (i : grid0.Coords) (v11 : BitVec 32) (v316 : BitVec 32) : Prop :=
  (∀ (k0_h1 : k0_cond1 i v11 = 1#1), ∀ a, (k0_off33 v316) a + S1x16x1024.size a ≤ S6144x16x1024.size a) ∧
  (∀ (k0_h1 : k0_cond1 i v11 = 1#1), ∀ (hinb : ∀ a, (k0_off33 v316) a + S1x16x1024.size a ≤ S6144x16x1024.size a), (Rect.unit (s := S6144x16x1024) (k0_off33 v316) S1x16x1024.size hinb).WholeWords (EltTy.packing .bf16))
theorem k0_off33_inb : ∀ (i : grid0.Coords) (v11 : BitVec 32) (v316 : BitVec 32) (k0_hw32 : k0_chk32 i v11 v316), ∀ (k0_h1 : k0_cond1 i v11 = 1#1), ∀ a, (k0_off33 v316) a + S1x16x1024.size a ≤ S6144x16x1024.size a := fun i v11 v316 k0_hw32 k0_h1 => k0_hw32.1 k0_h1
theorem k0_off33_wordsbf16 : ∀ (i : grid0.Coords) (v11 : BitVec 32) (v316 : BitVec 32) (k0_hw32 : k0_chk32 i v11 v316), ∀ (k0_h1 : k0_cond1 i v11 = 1#1), (Rect.unit (s := S6144x16x1024) (k0_off33 v316) S1x16x1024.size (k0_off33_inb i v11 v316 k0_hw32 k0_h1)).WholeWords (EltTy.packing .bf16) := fun i v11 v316 k0_hw32 k0_h1 => k0_hw32.2 k0_h1 (k0_off33_inb i v11 v316 k0_hw32 k0_h1)

def k0_off34 (i : grid0.Coords) : Fin 1 → Nat :=
  let arg0 : BitVec 32 := BitVec.ofNat 32 (i 0).val
  let v17 : Index := Scalar.indexCast arg0
  ![v17.toNat]
def k0_off35 (i : grid0.Coords) : Fin 1 → Nat :=
  let arg0 : BitVec 32 := BitVec.ofNat 32 (i 0).val
  let c1_i32_7 : BitVec 32 := 1#32
  let v19 : BitVec 32 := Scalar.subi arg0 c1_i32_7
  let c0_i32_8 : BitVec 32 := 0#32
  let v20 : BitVec 32 := Scalar.maxsi v19 c0_i32_8
  let v21 : Index := Scalar.indexCast v20
  ![v21.toNat]
def k0_off36 (i : grid0.Coords) : Fin 1 → Nat :=
  let arg0 : BitVec 32 := BitVec.ofNat 32 (i 0).val
  let v27 : Index := Scalar.indexCast arg0
  ![v27.toNat]
def k0_off37 (i : grid0.Coords) : Fin 1 → Nat :=
  let arg0 : BitVec 32 := BitVec.ofNat 32 (i 0).val
  let c1_i32_15 : BitVec 32 := 1#32
  let v39 : BitVec 32 := Scalar.addi arg0 c1_i32_15
  let c220_i32 : BitVec 32 := 220#32
  let v40 : BitVec 32 := Scalar.minsi v39 c220_i32
  let v41 : Index := Scalar.indexCast v40
  ![v41.toNat]
def k0_off38 (i : grid0.Coords) : Fin 1 → Nat :=
  let arg0 : BitVec 32 := BitVec.ofNat 32 (i 0).val
  let c1_i32_49 : BitVec 32 := 1#32
  let v84 : BitVec 32 := Scalar.addi arg0 c1_i32_49
  let c32_i32 : BitVec 32 := 32#32
  let v87 : BitVec 32 := Scalar.muli v84 c32_i32
  let c0_i32_52 : BitVec 32 := 0#32
  let v88 : BitVec 32 := Scalar.addi v87 c0_i32_52
  let v89 : Index := Scalar.indexCast v88
  ![v89.toNat]
def k0_cond3 (v28 : BitVec 32) : BitVec 1 :=
  let c1_i32_10 : BitVec 32 := 1#32
  let v29 : BitVec 1 := Scalar.cmpi .eq v28 c1_i32_10
  let v30 : BitVec 32 := Scalar.extui v29
  let c0_i32_11 : BitVec 32 := 0#32
  let v31 : BitVec 1 := Scalar.cmpi .ne v30 c0_i32_11
  v31

def k0_cond4 (i : grid0.Coords) (v42 : BitVec 32) : BitVec 1 :=
  let arg0 : BitVec 32 := BitVec.ofNat 32 (i 0).val
  let c1_i32_14 : BitVec 32 := 1#32
  let v37 : BitVec 32 := Scalar.addi arg0 c1_i32_14
  let c221_i32 : BitVec 32 := 221#32
  let v38 : BitVec 1 := Scalar.cmpi .slt v37 c221_i32
  let c1_i32_16 : BitVec 32 := 1#32
  let v43 : BitVec 1 := Scalar.cmpi .eq v42 c1_i32_16
  let v44 : BitVec 1 := Scalar.andi v38 v43
  let v45 : BitVec 32 := Scalar.extui v44
  let c0_i32_17 : BitVec 32 := 0#32
  let v46 : BitVec 1 := Scalar.cmpi .ne v45 c0_i32_17
  v46

def k0_off39 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off40 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_54 : BitVec 32 := 0#32
  let c0_i32_55 : BitVec 32 := 0#32
  let c0_i32_56 : BitVec 32 := 0#32
  ![v85.toNat, 0, 0, 0]
def k0_off41 (v90 : BitVec 32) : Fin 3 → Nat :=
  let c0_i32_59 : BitVec 32 := 0#32
  let c0_i32_60 : BitVec 32 := 0#32
  ![v90.toNat, 0, 0]

def k0_chk34 (i : grid0.Coords) (v28 : BitVec 32) (v42 : BitVec 32) (v90 : BitVec 32) : Prop :=
  (∀ (k0_h3 : k0_cond3 v28 = 1#1), ∀ (k0_h4 : k0_cond4 i v42 = 1#1), ∀ a, (k0_off41 v90) a + S1x16x1024.size a ≤ S6144x16x1024.size a) ∧
  (∀ (k0_h3 : k0_cond3 v28 = 1#1), ∀ (k0_h4 : k0_cond4 i v42 = 1#1), ∀ (hinb : ∀ a, (k0_off41 v90) a + S1x16x1024.size a ≤ S6144x16x1024.size a), (Rect.unit (s := S6144x16x1024) (k0_off41 v90) S1x16x1024.size hinb).WholeWords (EltTy.packing .bf16))
theorem k0_off41_inb : ∀ (i : grid0.Coords) (v28 : BitVec 32) (v42 : BitVec 32) (v90 : BitVec 32) (k0_hw34 : k0_chk34 i v28 v42 v90), ∀ (k0_h3 : k0_cond3 v28 = 1#1), ∀ (k0_h4 : k0_cond4 i v42 = 1#1), ∀ a, (k0_off41 v90) a + S1x16x1024.size a ≤ S6144x16x1024.size a := fun i v28 v42 v90 k0_hw34 k0_h3 k0_h4 => k0_hw34.1 k0_h3 k0_h4
theorem k0_off41_wordsbf16 : ∀ (i : grid0.Coords) (v28 : BitVec 32) (v42 : BitVec 32) (v90 : BitVec 32) (k0_hw34 : k0_chk34 i v28 v42 v90), ∀ (k0_h3 : k0_cond3 v28 = 1#1), ∀ (k0_h4 : k0_cond4 i v42 = 1#1), (Rect.unit (s := S6144x16x1024) (k0_off41 v90) S1x16x1024.size (k0_off41_inb i v28 v42 v90 k0_hw34 k0_h3 k0_h4)).WholeWords (EltTy.packing .bf16) := fun i v28 v42 v90 k0_hw34 k0_h3 k0_h4 => k0_hw34.2 k0_h3 k0_h4 (k0_off41_inb i v28 v42 v90 k0_hw34 k0_h3 k0_h4)

def k0_off42 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_54 : BitVec 32 := 0#32
  let c0_i32_55 : BitVec 32 := 0#32
  let c0_i32_56 : BitVec 32 := 0#32
  ![v85.toNat, 0, 0, 0]
def k0_off43 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_61 : BitVec 32 := 32#32
  let v99 : BitVec 32 := Scalar.muli v84 c32_i32_61
  let c1_i32_62 : BitVec 32 := 1#32
  let v100 : BitVec 32 := Scalar.addi v99 c1_i32_62
  let v101 : Index := Scalar.indexCast v100
  ![v101.toNat]
def k0_off44 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off45 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_64 : BitVec 32 := 0#32
  let c0_i32_65 : BitVec 32 := 0#32
  let c0_i32_66 : BitVec 32 := 0#32
  ![v85.toNat, 0, 0, 0]
def k0_off46 (v102 : BitVec 32) : Fin 3 → Nat :=
  let c0_i32_69 : BitVec 32 := 0#32
  let c0_i32_70 : BitVec 32 := 0#32
  ![v102.toNat, 0, 0]

def k0_chk35 (i : grid0.Coords) (v28 : BitVec 32) (v42 : BitVec 32) (v102 : BitVec 32) : Prop :=
  (∀ (k0_h3 : k0_cond3 v28 = 1#1), ∀ (k0_h4 : k0_cond4 i v42 = 1#1), ∀ a, (k0_off46 v102) a + S1x16x1024.size a ≤ S6144x16x1024.size a) ∧
  (∀ (k0_h3 : k0_cond3 v28 = 1#1), ∀ (k0_h4 : k0_cond4 i v42 = 1#1), ∀ (hinb : ∀ a, (k0_off46 v102) a + S1x16x1024.size a ≤ S6144x16x1024.size a), (Rect.unit (s := S6144x16x1024) (k0_off46 v102) S1x16x1024.size hinb).WholeWords (EltTy.packing .bf16))
theorem k0_off46_inb : ∀ (i : grid0.Coords) (v28 : BitVec 32) (v42 : BitVec 32) (v102 : BitVec 32) (k0_hw35 : k0_chk35 i v28 v42 v102), ∀ (k0_h3 : k0_cond3 v28 = 1#1), ∀ (k0_h4 : k0_cond4 i v42 = 1#1), ∀ a, (k0_off46 v102) a + S1x16x1024.size a ≤ S6144x16x1024.size a := fun i v28 v42 v102 k0_hw35 k0_h3 k0_h4 => k0_hw35.1 k0_h3 k0_h4
theorem k0_off46_wordsbf16 : ∀ (i : grid0.Coords) (v28 : BitVec 32) (v42 : BitVec 32) (v102 : BitVec 32) (k0_hw35 : k0_chk35 i v28 v42 v102), ∀ (k0_h3 : k0_cond3 v28 = 1#1), ∀ (k0_h4 : k0_cond4 i v42 = 1#1), (Rect.unit (s := S6144x16x1024) (k0_off46 v102) S1x16x1024.size (k0_off46_inb i v28 v42 v102 k0_hw35 k0_h3 k0_h4)).WholeWords (EltTy.packing .bf16) := fun i v28 v42 v102 k0_hw35 k0_h3 k0_h4 => k0_hw35.2 k0_h3 k0_h4 (k0_off46_inb i v28 v42 v102 k0_hw35 k0_h3 k0_h4)

def k0_off47 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_65 : BitVec 32 := 0#32
  let c0_i32_66 : BitVec 32 := 0#32
  ![v85.toNat, 1, 0, 0]
def k0_off48 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_71 : BitVec 32 := 32#32
  let v111 : BitVec 32 := Scalar.muli v84 c32_i32_71
  let c2_i32_72 : BitVec 32 := 2#32
  let v112 : BitVec 32 := Scalar.addi v111 c2_i32_72
  let v113 : Index := Scalar.indexCast v112
  ![v113.toNat]
def k0_off49 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off50 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_74 : BitVec 32 := 0#32
  let c0_i32_75 : BitVec 32 := 0#32
  let c0_i32_76 : BitVec 32 := 0#32
  ![v85.toNat, 0, 0, 0]
def k0_off51 (v114 : BitVec 32) : Fin 3 → Nat :=
  let c0_i32_79 : BitVec 32 := 0#32
  let c0_i32_80 : BitVec 32 := 0#32
  ![v114.toNat, 0, 0]

def k0_chk36 (i : grid0.Coords) (v28 : BitVec 32) (v42 : BitVec 32) (v114 : BitVec 32) : Prop :=
  (∀ (k0_h3 : k0_cond3 v28 = 1#1), ∀ (k0_h4 : k0_cond4 i v42 = 1#1), ∀ a, (k0_off51 v114) a + S1x16x1024.size a ≤ S6144x16x1024.size a) ∧
  (∀ (k0_h3 : k0_cond3 v28 = 1#1), ∀ (k0_h4 : k0_cond4 i v42 = 1#1), ∀ (hinb : ∀ a, (k0_off51 v114) a + S1x16x1024.size a ≤ S6144x16x1024.size a), (Rect.unit (s := S6144x16x1024) (k0_off51 v114) S1x16x1024.size hinb).WholeWords (EltTy.packing .bf16))
theorem k0_off51_inb : ∀ (i : grid0.Coords) (v28 : BitVec 32) (v42 : BitVec 32) (v114 : BitVec 32) (k0_hw36 : k0_chk36 i v28 v42 v114), ∀ (k0_h3 : k0_cond3 v28 = 1#1), ∀ (k0_h4 : k0_cond4 i v42 = 1#1), ∀ a, (k0_off51 v114) a + S1x16x1024.size a ≤ S6144x16x1024.size a := fun i v28 v42 v114 k0_hw36 k0_h3 k0_h4 => k0_hw36.1 k0_h3 k0_h4
theorem k0_off51_wordsbf16 : ∀ (i : grid0.Coords) (v28 : BitVec 32) (v42 : BitVec 32) (v114 : BitVec 32) (k0_hw36 : k0_chk36 i v28 v42 v114), ∀ (k0_h3 : k0_cond3 v28 = 1#1), ∀ (k0_h4 : k0_cond4 i v42 = 1#1), (Rect.unit (s := S6144x16x1024) (k0_off51 v114) S1x16x1024.size (k0_off51_inb i v28 v42 v114 k0_hw36 k0_h3 k0_h4)).WholeWords (EltTy.packing .bf16) := fun i v28 v42 v114 k0_hw36 k0_h3 k0_h4 => k0_hw36.2 k0_h3 k0_h4 (k0_off51_inb i v28 v42 v114 k0_hw36 k0_h3 k0_h4)

def k0_off52 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_75 : BitVec 32 := 0#32
  let c0_i32_76 : BitVec 32 := 0#32
  ![v85.toNat, 2, 0, 0]
def k0_off53 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_81 : BitVec 32 := 32#32
  let v123 : BitVec 32 := Scalar.muli v84 c32_i32_81
  let c3_i32 : BitVec 32 := 3#32
  let v124 : BitVec 32 := Scalar.addi v123 c3_i32
  let v125 : Index := Scalar.indexCast v124
  ![v125.toNat]
def k0_off54 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off55 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_83 : BitVec 32 := 0#32
  let c0_i32_84 : BitVec 32 := 0#32
  let c0_i32_85 : BitVec 32 := 0#32
  ![v85.toNat, 0, 0, 0]
def k0_off56 (v126 : BitVec 32) : Fin 3 → Nat :=
  let c0_i32_88 : BitVec 32 := 0#32
  let c0_i32_89 : BitVec 32 := 0#32
  ![v126.toNat, 0, 0]

def k0_chk37 (i : grid0.Coords) (v28 : BitVec 32) (v42 : BitVec 32) (v126 : BitVec 32) : Prop :=
  (∀ (k0_h3 : k0_cond3 v28 = 1#1), ∀ (k0_h4 : k0_cond4 i v42 = 1#1), ∀ a, (k0_off56 v126) a + S1x16x1024.size a ≤ S6144x16x1024.size a) ∧
  (∀ (k0_h3 : k0_cond3 v28 = 1#1), ∀ (k0_h4 : k0_cond4 i v42 = 1#1), ∀ (hinb : ∀ a, (k0_off56 v126) a + S1x16x1024.size a ≤ S6144x16x1024.size a), (Rect.unit (s := S6144x16x1024) (k0_off56 v126) S1x16x1024.size hinb).WholeWords (EltTy.packing .bf16))
theorem k0_off56_inb : ∀ (i : grid0.Coords) (v28 : BitVec 32) (v42 : BitVec 32) (v126 : BitVec 32) (k0_hw37 : k0_chk37 i v28 v42 v126), ∀ (k0_h3 : k0_cond3 v28 = 1#1), ∀ (k0_h4 : k0_cond4 i v42 = 1#1), ∀ a, (k0_off56 v126) a + S1x16x1024.size a ≤ S6144x16x1024.size a := fun i v28 v42 v126 k0_hw37 k0_h3 k0_h4 => k0_hw37.1 k0_h3 k0_h4
theorem k0_off56_wordsbf16 : ∀ (i : grid0.Coords) (v28 : BitVec 32) (v42 : BitVec 32) (v126 : BitVec 32) (k0_hw37 : k0_chk37 i v28 v42 v126), ∀ (k0_h3 : k0_cond3 v28 = 1#1), ∀ (k0_h4 : k0_cond4 i v42 = 1#1), (Rect.unit (s := S6144x16x1024) (k0_off56 v126) S1x16x1024.size (k0_off56_inb i v28 v42 v126 k0_hw37 k0_h3 k0_h4)).WholeWords (EltTy.packing .bf16) := fun i v28 v42 v126 k0_hw37 k0_h3 k0_h4 => k0_hw37.2 k0_h3 k0_h4 (k0_off56_inb i v28 v42 v126 k0_hw37 k0_h3 k0_h4)

def k0_off57 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_84 : BitVec 32 := 0#32
  let c0_i32_85 : BitVec 32 := 0#32
  ![v85.toNat, 3, 0, 0]
def k0_off58 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_90 : BitVec 32 := 32#32
  let v135 : BitVec 32 := Scalar.muli v84 c32_i32_90
  let c4_i32 : BitVec 32 := 4#32
  let v136 : BitVec 32 := Scalar.addi v135 c4_i32
  let v137 : Index := Scalar.indexCast v136
  ![v137.toNat]
def k0_off59 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off60 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_92 : BitVec 32 := 0#32
  let c0_i32_93 : BitVec 32 := 0#32
  let c0_i32_94 : BitVec 32 := 0#32
  ![v85.toNat, 0, 0, 0]
def k0_off61 (v138 : BitVec 32) : Fin 3 → Nat :=
  let c0_i32_97 : BitVec 32 := 0#32
  let c0_i32_98 : BitVec 32 := 0#32
  ![v138.toNat, 0, 0]

def k0_chk38 (i : grid0.Coords) (v28 : BitVec 32) (v42 : BitVec 32) (v138 : BitVec 32) : Prop :=
  (∀ (k0_h3 : k0_cond3 v28 = 1#1), ∀ (k0_h4 : k0_cond4 i v42 = 1#1), ∀ a, (k0_off61 v138) a + S1x16x1024.size a ≤ S6144x16x1024.size a) ∧
  (∀ (k0_h3 : k0_cond3 v28 = 1#1), ∀ (k0_h4 : k0_cond4 i v42 = 1#1), ∀ (hinb : ∀ a, (k0_off61 v138) a + S1x16x1024.size a ≤ S6144x16x1024.size a), (Rect.unit (s := S6144x16x1024) (k0_off61 v138) S1x16x1024.size hinb).WholeWords (EltTy.packing .bf16))
theorem k0_off61_inb : ∀ (i : grid0.Coords) (v28 : BitVec 32) (v42 : BitVec 32) (v138 : BitVec 32) (k0_hw38 : k0_chk38 i v28 v42 v138), ∀ (k0_h3 : k0_cond3 v28 = 1#1), ∀ (k0_h4 : k0_cond4 i v42 = 1#1), ∀ a, (k0_off61 v138) a + S1x16x1024.size a ≤ S6144x16x1024.size a := fun i v28 v42 v138 k0_hw38 k0_h3 k0_h4 => k0_hw38.1 k0_h3 k0_h4
theorem k0_off61_wordsbf16 : ∀ (i : grid0.Coords) (v28 : BitVec 32) (v42 : BitVec 32) (v138 : BitVec 32) (k0_hw38 : k0_chk38 i v28 v42 v138), ∀ (k0_h3 : k0_cond3 v28 = 1#1), ∀ (k0_h4 : k0_cond4 i v42 = 1#1), (Rect.unit (s := S6144x16x1024) (k0_off61 v138) S1x16x1024.size (k0_off61_inb i v28 v42 v138 k0_hw38 k0_h3 k0_h4)).WholeWords (EltTy.packing .bf16) := fun i v28 v42 v138 k0_hw38 k0_h3 k0_h4 => k0_hw38.2 k0_h3 k0_h4 (k0_off61_inb i v28 v42 v138 k0_hw38 k0_h3 k0_h4)

def k0_off62 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_93 : BitVec 32 := 0#32
  let c0_i32_94 : BitVec 32 := 0#32
  ![v85.toNat, 4, 0, 0]
def k0_off63 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_99 : BitVec 32 := 32#32
  let v147 : BitVec 32 := Scalar.muli v84 c32_i32_99
  let c5_i32 : BitVec 32 := 5#32
  let v148 : BitVec 32 := Scalar.addi v147 c5_i32
  let v149 : Index := Scalar.indexCast v148
  ![v149.toNat]
def k0_off64 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off65 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_101 : BitVec 32 := 0#32
  let c0_i32_102 : BitVec 32 := 0#32
  let c0_i32_103 : BitVec 32 := 0#32
  ![v85.toNat, 0, 0, 0]
def k0_off66 (v150 : BitVec 32) : Fin 3 → Nat :=
  let c0_i32_106 : BitVec 32 := 0#32
  let c0_i32_107 : BitVec 32 := 0#32
  ![v150.toNat, 0, 0]

def k0_chk39 (i : grid0.Coords) (v28 : BitVec 32) (v42 : BitVec 32) (v150 : BitVec 32) : Prop :=
  (∀ (k0_h3 : k0_cond3 v28 = 1#1), ∀ (k0_h4 : k0_cond4 i v42 = 1#1), ∀ a, (k0_off66 v150) a + S1x16x1024.size a ≤ S6144x16x1024.size a) ∧
  (∀ (k0_h3 : k0_cond3 v28 = 1#1), ∀ (k0_h4 : k0_cond4 i v42 = 1#1), ∀ (hinb : ∀ a, (k0_off66 v150) a + S1x16x1024.size a ≤ S6144x16x1024.size a), (Rect.unit (s := S6144x16x1024) (k0_off66 v150) S1x16x1024.size hinb).WholeWords (EltTy.packing .bf16))
theorem k0_off66_inb : ∀ (i : grid0.Coords) (v28 : BitVec 32) (v42 : BitVec 32) (v150 : BitVec 32) (k0_hw39 : k0_chk39 i v28 v42 v150), ∀ (k0_h3 : k0_cond3 v28 = 1#1), ∀ (k0_h4 : k0_cond4 i v42 = 1#1), ∀ a, (k0_off66 v150) a + S1x16x1024.size a ≤ S6144x16x1024.size a := fun i v28 v42 v150 k0_hw39 k0_h3 k0_h4 => k0_hw39.1 k0_h3 k0_h4
theorem k0_off66_wordsbf16 : ∀ (i : grid0.Coords) (v28 : BitVec 32) (v42 : BitVec 32) (v150 : BitVec 32) (k0_hw39 : k0_chk39 i v28 v42 v150), ∀ (k0_h3 : k0_cond3 v28 = 1#1), ∀ (k0_h4 : k0_cond4 i v42 = 1#1), (Rect.unit (s := S6144x16x1024) (k0_off66 v150) S1x16x1024.size (k0_off66_inb i v28 v42 v150 k0_hw39 k0_h3 k0_h4)).WholeWords (EltTy.packing .bf16) := fun i v28 v42 v150 k0_hw39 k0_h3 k0_h4 => k0_hw39.2 k0_h3 k0_h4 (k0_off66_inb i v28 v42 v150 k0_hw39 k0_h3 k0_h4)

def k0_off67 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_102 : BitVec 32 := 0#32
  let c0_i32_103 : BitVec 32 := 0#32
  ![v85.toNat, 5, 0, 0]
def k0_off68 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_108 : BitVec 32 := 32#32
  let v159 : BitVec 32 := Scalar.muli v84 c32_i32_108
  let c6_i32 : BitVec 32 := 6#32
  let v160 : BitVec 32 := Scalar.addi v159 c6_i32
  let v161 : Index := Scalar.indexCast v160
  ![v161.toNat]
def k0_off69 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off70 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_110 : BitVec 32 := 0#32
  let c0_i32_111 : BitVec 32 := 0#32
  let c0_i32_112 : BitVec 32 := 0#32
  ![v85.toNat, 0, 0, 0]
def k0_off71 (v162 : BitVec 32) : Fin 3 → Nat :=
  let c0_i32_115 : BitVec 32 := 0#32
  let c0_i32_116 : BitVec 32 := 0#32
  ![v162.toNat, 0, 0]

def k0_chk40 (i : grid0.Coords) (v28 : BitVec 32) (v42 : BitVec 32) (v162 : BitVec 32) : Prop :=
  (∀ (k0_h3 : k0_cond3 v28 = 1#1), ∀ (k0_h4 : k0_cond4 i v42 = 1#1), ∀ a, (k0_off71 v162) a + S1x16x1024.size a ≤ S6144x16x1024.size a) ∧
  (∀ (k0_h3 : k0_cond3 v28 = 1#1), ∀ (k0_h4 : k0_cond4 i v42 = 1#1), ∀ (hinb : ∀ a, (k0_off71 v162) a + S1x16x1024.size a ≤ S6144x16x1024.size a), (Rect.unit (s := S6144x16x1024) (k0_off71 v162) S1x16x1024.size hinb).WholeWords (EltTy.packing .bf16))
theorem k0_off71_inb : ∀ (i : grid0.Coords) (v28 : BitVec 32) (v42 : BitVec 32) (v162 : BitVec 32) (k0_hw40 : k0_chk40 i v28 v42 v162), ∀ (k0_h3 : k0_cond3 v28 = 1#1), ∀ (k0_h4 : k0_cond4 i v42 = 1#1), ∀ a, (k0_off71 v162) a + S1x16x1024.size a ≤ S6144x16x1024.size a := fun i v28 v42 v162 k0_hw40 k0_h3 k0_h4 => k0_hw40.1 k0_h3 k0_h4
theorem k0_off71_wordsbf16 : ∀ (i : grid0.Coords) (v28 : BitVec 32) (v42 : BitVec 32) (v162 : BitVec 32) (k0_hw40 : k0_chk40 i v28 v42 v162), ∀ (k0_h3 : k0_cond3 v28 = 1#1), ∀ (k0_h4 : k0_cond4 i v42 = 1#1), (Rect.unit (s := S6144x16x1024) (k0_off71 v162) S1x16x1024.size (k0_off71_inb i v28 v42 v162 k0_hw40 k0_h3 k0_h4)).WholeWords (EltTy.packing .bf16) := fun i v28 v42 v162 k0_hw40 k0_h3 k0_h4 => k0_hw40.2 k0_h3 k0_h4 (k0_off71_inb i v28 v42 v162 k0_hw40 k0_h3 k0_h4)

def k0_off72 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_111 : BitVec 32 := 0#32
  let c0_i32_112 : BitVec 32 := 0#32
  ![v85.toNat, 6, 0, 0]
def k0_off73 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_117 : BitVec 32 := 32#32
  let v171 : BitVec 32 := Scalar.muli v84 c32_i32_117
  let c7_i32 : BitVec 32 := 7#32
  let v172 : BitVec 32 := Scalar.addi v171 c7_i32
  let v173 : Index := Scalar.indexCast v172
  ![v173.toNat]
def k0_off74 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off75 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_119 : BitVec 32 := 0#32
  let c0_i32_120 : BitVec 32 := 0#32
  let c0_i32_121 : BitVec 32 := 0#32
  ![v85.toNat, 0, 0, 0]
def k0_off76 (v174 : BitVec 32) : Fin 3 → Nat :=
  let c0_i32_124 : BitVec 32 := 0#32
  let c0_i32_125 : BitVec 32 := 0#32
  ![v174.toNat, 0, 0]

def k0_chk41 (i : grid0.Coords) (v28 : BitVec 32) (v42 : BitVec 32) (v174 : BitVec 32) : Prop :=
  (∀ (k0_h3 : k0_cond3 v28 = 1#1), ∀ (k0_h4 : k0_cond4 i v42 = 1#1), ∀ a, (k0_off76 v174) a + S1x16x1024.size a ≤ S6144x16x1024.size a) ∧
  (∀ (k0_h3 : k0_cond3 v28 = 1#1), ∀ (k0_h4 : k0_cond4 i v42 = 1#1), ∀ (hinb : ∀ a, (k0_off76 v174) a + S1x16x1024.size a ≤ S6144x16x1024.size a), (Rect.unit (s := S6144x16x1024) (k0_off76 v174) S1x16x1024.size hinb).WholeWords (EltTy.packing .bf16))
theorem k0_off76_inb : ∀ (i : grid0.Coords) (v28 : BitVec 32) (v42 : BitVec 32) (v174 : BitVec 32) (k0_hw41 : k0_chk41 i v28 v42 v174), ∀ (k0_h3 : k0_cond3 v28 = 1#1), ∀ (k0_h4 : k0_cond4 i v42 = 1#1), ∀ a, (k0_off76 v174) a + S1x16x1024.size a ≤ S6144x16x1024.size a := fun i v28 v42 v174 k0_hw41 k0_h3 k0_h4 => k0_hw41.1 k0_h3 k0_h4
theorem k0_off76_wordsbf16 : ∀ (i : grid0.Coords) (v28 : BitVec 32) (v42 : BitVec 32) (v174 : BitVec 32) (k0_hw41 : k0_chk41 i v28 v42 v174), ∀ (k0_h3 : k0_cond3 v28 = 1#1), ∀ (k0_h4 : k0_cond4 i v42 = 1#1), (Rect.unit (s := S6144x16x1024) (k0_off76 v174) S1x16x1024.size (k0_off76_inb i v28 v42 v174 k0_hw41 k0_h3 k0_h4)).WholeWords (EltTy.packing .bf16) := fun i v28 v42 v174 k0_hw41 k0_h3 k0_h4 => k0_hw41.2 k0_h3 k0_h4 (k0_off76_inb i v28 v42 v174 k0_hw41 k0_h3 k0_h4)

def k0_off77 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_120 : BitVec 32 := 0#32
  let c0_i32_121 : BitVec 32 := 0#32
  ![v85.toNat, 7, 0, 0]
def k0_off78 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_126 : BitVec 32 := 32#32
  let v183 : BitVec 32 := Scalar.muli v84 c32_i32_126
  let c8_i32 : BitVec 32 := 8#32
  let v184 : BitVec 32 := Scalar.addi v183 c8_i32
  let v185 : Index := Scalar.indexCast v184
  ![v185.toNat]
def k0_off79 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off80 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_128 : BitVec 32 := 0#32
  let c0_i32_129 : BitVec 32 := 0#32
  let c0_i32_130 : BitVec 32 := 0#32
  ![v85.toNat, 0, 0, 0]
def k0_off81 (v186 : BitVec 32) : Fin 3 → Nat :=
  let c0_i32_133 : BitVec 32 := 0#32
  let c0_i32_134 : BitVec 32 := 0#32
  ![v186.toNat, 0, 0]

def k0_chk42 (i : grid0.Coords) (v28 : BitVec 32) (v42 : BitVec 32) (v186 : BitVec 32) : Prop :=
  (∀ (k0_h3 : k0_cond3 v28 = 1#1), ∀ (k0_h4 : k0_cond4 i v42 = 1#1), ∀ a, (k0_off81 v186) a + S1x16x1024.size a ≤ S6144x16x1024.size a) ∧
  (∀ (k0_h3 : k0_cond3 v28 = 1#1), ∀ (k0_h4 : k0_cond4 i v42 = 1#1), ∀ (hinb : ∀ a, (k0_off81 v186) a + S1x16x1024.size a ≤ S6144x16x1024.size a), (Rect.unit (s := S6144x16x1024) (k0_off81 v186) S1x16x1024.size hinb).WholeWords (EltTy.packing .bf16))
theorem k0_off81_inb : ∀ (i : grid0.Coords) (v28 : BitVec 32) (v42 : BitVec 32) (v186 : BitVec 32) (k0_hw42 : k0_chk42 i v28 v42 v186), ∀ (k0_h3 : k0_cond3 v28 = 1#1), ∀ (k0_h4 : k0_cond4 i v42 = 1#1), ∀ a, (k0_off81 v186) a + S1x16x1024.size a ≤ S6144x16x1024.size a := fun i v28 v42 v186 k0_hw42 k0_h3 k0_h4 => k0_hw42.1 k0_h3 k0_h4
theorem k0_off81_wordsbf16 : ∀ (i : grid0.Coords) (v28 : BitVec 32) (v42 : BitVec 32) (v186 : BitVec 32) (k0_hw42 : k0_chk42 i v28 v42 v186), ∀ (k0_h3 : k0_cond3 v28 = 1#1), ∀ (k0_h4 : k0_cond4 i v42 = 1#1), (Rect.unit (s := S6144x16x1024) (k0_off81 v186) S1x16x1024.size (k0_off81_inb i v28 v42 v186 k0_hw42 k0_h3 k0_h4)).WholeWords (EltTy.packing .bf16) := fun i v28 v42 v186 k0_hw42 k0_h3 k0_h4 => k0_hw42.2 k0_h3 k0_h4 (k0_off81_inb i v28 v42 v186 k0_hw42 k0_h3 k0_h4)

def k0_off82 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_129 : BitVec 32 := 0#32
  let c0_i32_130 : BitVec 32 := 0#32
  ![v85.toNat, 8, 0, 0]
def k0_off83 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_135 : BitVec 32 := 32#32
  let v195 : BitVec 32 := Scalar.muli v84 c32_i32_135
  let c9_i32 : BitVec 32 := 9#32
  let v196 : BitVec 32 := Scalar.addi v195 c9_i32
  let v197 : Index := Scalar.indexCast v196
  ![v197.toNat]
def k0_off84 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off85 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_137 : BitVec 32 := 0#32
  let c0_i32_138 : BitVec 32 := 0#32
  let c0_i32_139 : BitVec 32 := 0#32
  ![v85.toNat, 0, 0, 0]
def k0_off86 (v198 : BitVec 32) : Fin 3 → Nat :=
  let c0_i32_142 : BitVec 32 := 0#32
  let c0_i32_143 : BitVec 32 := 0#32
  ![v198.toNat, 0, 0]

def k0_chk43 (i : grid0.Coords) (v28 : BitVec 32) (v42 : BitVec 32) (v198 : BitVec 32) : Prop :=
  (∀ (k0_h3 : k0_cond3 v28 = 1#1), ∀ (k0_h4 : k0_cond4 i v42 = 1#1), ∀ a, (k0_off86 v198) a + S1x16x1024.size a ≤ S6144x16x1024.size a) ∧
  (∀ (k0_h3 : k0_cond3 v28 = 1#1), ∀ (k0_h4 : k0_cond4 i v42 = 1#1), ∀ (hinb : ∀ a, (k0_off86 v198) a + S1x16x1024.size a ≤ S6144x16x1024.size a), (Rect.unit (s := S6144x16x1024) (k0_off86 v198) S1x16x1024.size hinb).WholeWords (EltTy.packing .bf16))
theorem k0_off86_inb : ∀ (i : grid0.Coords) (v28 : BitVec 32) (v42 : BitVec 32) (v198 : BitVec 32) (k0_hw43 : k0_chk43 i v28 v42 v198), ∀ (k0_h3 : k0_cond3 v28 = 1#1), ∀ (k0_h4 : k0_cond4 i v42 = 1#1), ∀ a, (k0_off86 v198) a + S1x16x1024.size a ≤ S6144x16x1024.size a := fun i v28 v42 v198 k0_hw43 k0_h3 k0_h4 => k0_hw43.1 k0_h3 k0_h4
theorem k0_off86_wordsbf16 : ∀ (i : grid0.Coords) (v28 : BitVec 32) (v42 : BitVec 32) (v198 : BitVec 32) (k0_hw43 : k0_chk43 i v28 v42 v198), ∀ (k0_h3 : k0_cond3 v28 = 1#1), ∀ (k0_h4 : k0_cond4 i v42 = 1#1), (Rect.unit (s := S6144x16x1024) (k0_off86 v198) S1x16x1024.size (k0_off86_inb i v28 v42 v198 k0_hw43 k0_h3 k0_h4)).WholeWords (EltTy.packing .bf16) := fun i v28 v42 v198 k0_hw43 k0_h3 k0_h4 => k0_hw43.2 k0_h3 k0_h4 (k0_off86_inb i v28 v42 v198 k0_hw43 k0_h3 k0_h4)

def k0_off87 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_138 : BitVec 32 := 0#32
  let c0_i32_139 : BitVec 32 := 0#32
  ![v85.toNat, 9, 0, 0]
def k0_off88 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_144 : BitVec 32 := 32#32
  let v207 : BitVec 32 := Scalar.muli v84 c32_i32_144
  let c10_i32 : BitVec 32 := 10#32
  let v208 : BitVec 32 := Scalar.addi v207 c10_i32
  let v209 : Index := Scalar.indexCast v208
  ![v209.toNat]
def k0_off89 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off90 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_146 : BitVec 32 := 0#32
  let c0_i32_147 : BitVec 32 := 0#32
  let c0_i32_148 : BitVec 32 := 0#32
  ![v85.toNat, 0, 0, 0]
def k0_off91 (v210 : BitVec 32) : Fin 3 → Nat :=
  let c0_i32_151 : BitVec 32 := 0#32
  let c0_i32_152 : BitVec 32 := 0#32
  ![v210.toNat, 0, 0]

def k0_chk44 (i : grid0.Coords) (v28 : BitVec 32) (v42 : BitVec 32) (v210 : BitVec 32) : Prop :=
  (∀ (k0_h3 : k0_cond3 v28 = 1#1), ∀ (k0_h4 : k0_cond4 i v42 = 1#1), ∀ a, (k0_off91 v210) a + S1x16x1024.size a ≤ S6144x16x1024.size a) ∧
  (∀ (k0_h3 : k0_cond3 v28 = 1#1), ∀ (k0_h4 : k0_cond4 i v42 = 1#1), ∀ (hinb : ∀ a, (k0_off91 v210) a + S1x16x1024.size a ≤ S6144x16x1024.size a), (Rect.unit (s := S6144x16x1024) (k0_off91 v210) S1x16x1024.size hinb).WholeWords (EltTy.packing .bf16))
theorem k0_off91_inb : ∀ (i : grid0.Coords) (v28 : BitVec 32) (v42 : BitVec 32) (v210 : BitVec 32) (k0_hw44 : k0_chk44 i v28 v42 v210), ∀ (k0_h3 : k0_cond3 v28 = 1#1), ∀ (k0_h4 : k0_cond4 i v42 = 1#1), ∀ a, (k0_off91 v210) a + S1x16x1024.size a ≤ S6144x16x1024.size a := fun i v28 v42 v210 k0_hw44 k0_h3 k0_h4 => k0_hw44.1 k0_h3 k0_h4
theorem k0_off91_wordsbf16 : ∀ (i : grid0.Coords) (v28 : BitVec 32) (v42 : BitVec 32) (v210 : BitVec 32) (k0_hw44 : k0_chk44 i v28 v42 v210), ∀ (k0_h3 : k0_cond3 v28 = 1#1), ∀ (k0_h4 : k0_cond4 i v42 = 1#1), (Rect.unit (s := S6144x16x1024) (k0_off91 v210) S1x16x1024.size (k0_off91_inb i v28 v42 v210 k0_hw44 k0_h3 k0_h4)).WholeWords (EltTy.packing .bf16) := fun i v28 v42 v210 k0_hw44 k0_h3 k0_h4 => k0_hw44.2 k0_h3 k0_h4 (k0_off91_inb i v28 v42 v210 k0_hw44 k0_h3 k0_h4)

def k0_off92 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_147 : BitVec 32 := 0#32
  let c0_i32_148 : BitVec 32 := 0#32
  ![v85.toNat, 10, 0, 0]
def k0_off93 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_153 : BitVec 32 := 32#32
  let v219 : BitVec 32 := Scalar.muli v84 c32_i32_153
  let c11_i32 : BitVec 32 := 11#32
  let v220 : BitVec 32 := Scalar.addi v219 c11_i32
  let v221 : Index := Scalar.indexCast v220
  ![v221.toNat]
def k0_off94 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off95 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_155 : BitVec 32 := 0#32
  let c0_i32_156 : BitVec 32 := 0#32
  let c0_i32_157 : BitVec 32 := 0#32
  ![v85.toNat, 0, 0, 0]
def k0_off96 (v222 : BitVec 32) : Fin 3 → Nat :=
  let c0_i32_160 : BitVec 32 := 0#32
  let c0_i32_161 : BitVec 32 := 0#32
  ![v222.toNat, 0, 0]

def k0_chk45 (i : grid0.Coords) (v28 : BitVec 32) (v42 : BitVec 32) (v222 : BitVec 32) : Prop :=
  (∀ (k0_h3 : k0_cond3 v28 = 1#1), ∀ (k0_h4 : k0_cond4 i v42 = 1#1), ∀ a, (k0_off96 v222) a + S1x16x1024.size a ≤ S6144x16x1024.size a) ∧
  (∀ (k0_h3 : k0_cond3 v28 = 1#1), ∀ (k0_h4 : k0_cond4 i v42 = 1#1), ∀ (hinb : ∀ a, (k0_off96 v222) a + S1x16x1024.size a ≤ S6144x16x1024.size a), (Rect.unit (s := S6144x16x1024) (k0_off96 v222) S1x16x1024.size hinb).WholeWords (EltTy.packing .bf16))
theorem k0_off96_inb : ∀ (i : grid0.Coords) (v28 : BitVec 32) (v42 : BitVec 32) (v222 : BitVec 32) (k0_hw45 : k0_chk45 i v28 v42 v222), ∀ (k0_h3 : k0_cond3 v28 = 1#1), ∀ (k0_h4 : k0_cond4 i v42 = 1#1), ∀ a, (k0_off96 v222) a + S1x16x1024.size a ≤ S6144x16x1024.size a := fun i v28 v42 v222 k0_hw45 k0_h3 k0_h4 => k0_hw45.1 k0_h3 k0_h4
theorem k0_off96_wordsbf16 : ∀ (i : grid0.Coords) (v28 : BitVec 32) (v42 : BitVec 32) (v222 : BitVec 32) (k0_hw45 : k0_chk45 i v28 v42 v222), ∀ (k0_h3 : k0_cond3 v28 = 1#1), ∀ (k0_h4 : k0_cond4 i v42 = 1#1), (Rect.unit (s := S6144x16x1024) (k0_off96 v222) S1x16x1024.size (k0_off96_inb i v28 v42 v222 k0_hw45 k0_h3 k0_h4)).WholeWords (EltTy.packing .bf16) := fun i v28 v42 v222 k0_hw45 k0_h3 k0_h4 => k0_hw45.2 k0_h3 k0_h4 (k0_off96_inb i v28 v42 v222 k0_hw45 k0_h3 k0_h4)

def k0_off97 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_156 : BitVec 32 := 0#32
  let c0_i32_157 : BitVec 32 := 0#32
  ![v85.toNat, 11, 0, 0]
def k0_off98 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_162 : BitVec 32 := 32#32
  let v231 : BitVec 32 := Scalar.muli v84 c32_i32_162
  let c12_i32 : BitVec 32 := 12#32
  let v232 : BitVec 32 := Scalar.addi v231 c12_i32
  let v233 : Index := Scalar.indexCast v232
  ![v233.toNat]
def k0_off99 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off100 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_164 : BitVec 32 := 0#32
  let c0_i32_165 : BitVec 32 := 0#32
  let c0_i32_166 : BitVec 32 := 0#32
  ![v85.toNat, 0, 0, 0]
def k0_off101 (v234 : BitVec 32) : Fin 3 → Nat :=
  let c0_i32_169 : BitVec 32 := 0#32
  let c0_i32_170 : BitVec 32 := 0#32
  ![v234.toNat, 0, 0]

def k0_chk46 (i : grid0.Coords) (v28 : BitVec 32) (v42 : BitVec 32) (v234 : BitVec 32) : Prop :=
  (∀ (k0_h3 : k0_cond3 v28 = 1#1), ∀ (k0_h4 : k0_cond4 i v42 = 1#1), ∀ a, (k0_off101 v234) a + S1x16x1024.size a ≤ S6144x16x1024.size a) ∧
  (∀ (k0_h3 : k0_cond3 v28 = 1#1), ∀ (k0_h4 : k0_cond4 i v42 = 1#1), ∀ (hinb : ∀ a, (k0_off101 v234) a + S1x16x1024.size a ≤ S6144x16x1024.size a), (Rect.unit (s := S6144x16x1024) (k0_off101 v234) S1x16x1024.size hinb).WholeWords (EltTy.packing .bf16))
theorem k0_off101_inb : ∀ (i : grid0.Coords) (v28 : BitVec 32) (v42 : BitVec 32) (v234 : BitVec 32) (k0_hw46 : k0_chk46 i v28 v42 v234), ∀ (k0_h3 : k0_cond3 v28 = 1#1), ∀ (k0_h4 : k0_cond4 i v42 = 1#1), ∀ a, (k0_off101 v234) a + S1x16x1024.size a ≤ S6144x16x1024.size a := fun i v28 v42 v234 k0_hw46 k0_h3 k0_h4 => k0_hw46.1 k0_h3 k0_h4
theorem k0_off101_wordsbf16 : ∀ (i : grid0.Coords) (v28 : BitVec 32) (v42 : BitVec 32) (v234 : BitVec 32) (k0_hw46 : k0_chk46 i v28 v42 v234), ∀ (k0_h3 : k0_cond3 v28 = 1#1), ∀ (k0_h4 : k0_cond4 i v42 = 1#1), (Rect.unit (s := S6144x16x1024) (k0_off101 v234) S1x16x1024.size (k0_off101_inb i v28 v42 v234 k0_hw46 k0_h3 k0_h4)).WholeWords (EltTy.packing .bf16) := fun i v28 v42 v234 k0_hw46 k0_h3 k0_h4 => k0_hw46.2 k0_h3 k0_h4 (k0_off101_inb i v28 v42 v234 k0_hw46 k0_h3 k0_h4)

def k0_off102 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_165 : BitVec 32 := 0#32
  let c0_i32_166 : BitVec 32 := 0#32
  ![v85.toNat, 12, 0, 0]
def k0_off103 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_171 : BitVec 32 := 32#32
  let v243 : BitVec 32 := Scalar.muli v84 c32_i32_171
  let c13_i32 : BitVec 32 := 13#32
  let v244 : BitVec 32 := Scalar.addi v243 c13_i32
  let v245 : Index := Scalar.indexCast v244
  ![v245.toNat]
def k0_off104 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off105 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_173 : BitVec 32 := 0#32
  let c0_i32_174 : BitVec 32 := 0#32
  let c0_i32_175 : BitVec 32 := 0#32
  ![v85.toNat, 0, 0, 0]
def k0_off106 (v246 : BitVec 32) : Fin 3 → Nat :=
  let c0_i32_178 : BitVec 32 := 0#32
  let c0_i32_179 : BitVec 32 := 0#32
  ![v246.toNat, 0, 0]

def k0_chk47 (i : grid0.Coords) (v28 : BitVec 32) (v42 : BitVec 32) (v246 : BitVec 32) : Prop :=
  (∀ (k0_h3 : k0_cond3 v28 = 1#1), ∀ (k0_h4 : k0_cond4 i v42 = 1#1), ∀ a, (k0_off106 v246) a + S1x16x1024.size a ≤ S6144x16x1024.size a) ∧
  (∀ (k0_h3 : k0_cond3 v28 = 1#1), ∀ (k0_h4 : k0_cond4 i v42 = 1#1), ∀ (hinb : ∀ a, (k0_off106 v246) a + S1x16x1024.size a ≤ S6144x16x1024.size a), (Rect.unit (s := S6144x16x1024) (k0_off106 v246) S1x16x1024.size hinb).WholeWords (EltTy.packing .bf16))
theorem k0_off106_inb : ∀ (i : grid0.Coords) (v28 : BitVec 32) (v42 : BitVec 32) (v246 : BitVec 32) (k0_hw47 : k0_chk47 i v28 v42 v246), ∀ (k0_h3 : k0_cond3 v28 = 1#1), ∀ (k0_h4 : k0_cond4 i v42 = 1#1), ∀ a, (k0_off106 v246) a + S1x16x1024.size a ≤ S6144x16x1024.size a := fun i v28 v42 v246 k0_hw47 k0_h3 k0_h4 => k0_hw47.1 k0_h3 k0_h4
theorem k0_off106_wordsbf16 : ∀ (i : grid0.Coords) (v28 : BitVec 32) (v42 : BitVec 32) (v246 : BitVec 32) (k0_hw47 : k0_chk47 i v28 v42 v246), ∀ (k0_h3 : k0_cond3 v28 = 1#1), ∀ (k0_h4 : k0_cond4 i v42 = 1#1), (Rect.unit (s := S6144x16x1024) (k0_off106 v246) S1x16x1024.size (k0_off106_inb i v28 v42 v246 k0_hw47 k0_h3 k0_h4)).WholeWords (EltTy.packing .bf16) := fun i v28 v42 v246 k0_hw47 k0_h3 k0_h4 => k0_hw47.2 k0_h3 k0_h4 (k0_off106_inb i v28 v42 v246 k0_hw47 k0_h3 k0_h4)

def k0_off107 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_174 : BitVec 32 := 0#32
  let c0_i32_175 : BitVec 32 := 0#32
  ![v85.toNat, 13, 0, 0]
def k0_off108 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_180 : BitVec 32 := 32#32
  let v255 : BitVec 32 := Scalar.muli v84 c32_i32_180
  let c14_i32 : BitVec 32 := 14#32
  let v256 : BitVec 32 := Scalar.addi v255 c14_i32
  let v257 : Index := Scalar.indexCast v256
  ![v257.toNat]
def k0_off109 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off110 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_182 : BitVec 32 := 0#32
  let c0_i32_183 : BitVec 32 := 0#32
  let c0_i32_184 : BitVec 32 := 0#32
  ![v85.toNat, 0, 0, 0]
def k0_off111 (v258 : BitVec 32) : Fin 3 → Nat :=
  let c0_i32_187 : BitVec 32 := 0#32
  let c0_i32_188 : BitVec 32 := 0#32
  ![v258.toNat, 0, 0]

def k0_chk48 (i : grid0.Coords) (v28 : BitVec 32) (v42 : BitVec 32) (v258 : BitVec 32) : Prop :=
  (∀ (k0_h3 : k0_cond3 v28 = 1#1), ∀ (k0_h4 : k0_cond4 i v42 = 1#1), ∀ a, (k0_off111 v258) a + S1x16x1024.size a ≤ S6144x16x1024.size a) ∧
  (∀ (k0_h3 : k0_cond3 v28 = 1#1), ∀ (k0_h4 : k0_cond4 i v42 = 1#1), ∀ (hinb : ∀ a, (k0_off111 v258) a + S1x16x1024.size a ≤ S6144x16x1024.size a), (Rect.unit (s := S6144x16x1024) (k0_off111 v258) S1x16x1024.size hinb).WholeWords (EltTy.packing .bf16))
theorem k0_off111_inb : ∀ (i : grid0.Coords) (v28 : BitVec 32) (v42 : BitVec 32) (v258 : BitVec 32) (k0_hw48 : k0_chk48 i v28 v42 v258), ∀ (k0_h3 : k0_cond3 v28 = 1#1), ∀ (k0_h4 : k0_cond4 i v42 = 1#1), ∀ a, (k0_off111 v258) a + S1x16x1024.size a ≤ S6144x16x1024.size a := fun i v28 v42 v258 k0_hw48 k0_h3 k0_h4 => k0_hw48.1 k0_h3 k0_h4
theorem k0_off111_wordsbf16 : ∀ (i : grid0.Coords) (v28 : BitVec 32) (v42 : BitVec 32) (v258 : BitVec 32) (k0_hw48 : k0_chk48 i v28 v42 v258), ∀ (k0_h3 : k0_cond3 v28 = 1#1), ∀ (k0_h4 : k0_cond4 i v42 = 1#1), (Rect.unit (s := S6144x16x1024) (k0_off111 v258) S1x16x1024.size (k0_off111_inb i v28 v42 v258 k0_hw48 k0_h3 k0_h4)).WholeWords (EltTy.packing .bf16) := fun i v28 v42 v258 k0_hw48 k0_h3 k0_h4 => k0_hw48.2 k0_h3 k0_h4 (k0_off111_inb i v28 v42 v258 k0_hw48 k0_h3 k0_h4)

def k0_off112 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_183 : BitVec 32 := 0#32
  let c0_i32_184 : BitVec 32 := 0#32
  ![v85.toNat, 14, 0, 0]
def k0_off113 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_189 : BitVec 32 := 32#32
  let v267 : BitVec 32 := Scalar.muli v84 c32_i32_189
  let c15_i32 : BitVec 32 := 15#32
  let v268 : BitVec 32 := Scalar.addi v267 c15_i32
  let v269 : Index := Scalar.indexCast v268
  ![v269.toNat]
def k0_off114 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off115 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_191 : BitVec 32 := 0#32
  let c0_i32_192 : BitVec 32 := 0#32
  let c0_i32_193 : BitVec 32 := 0#32
  ![v85.toNat, 0, 0, 0]
def k0_off116 (v270 : BitVec 32) : Fin 3 → Nat :=
  let c0_i32_196 : BitVec 32 := 0#32
  let c0_i32_197 : BitVec 32 := 0#32
  ![v270.toNat, 0, 0]

def k0_chk49 (i : grid0.Coords) (v28 : BitVec 32) (v42 : BitVec 32) (v270 : BitVec 32) : Prop :=
  (∀ (k0_h3 : k0_cond3 v28 = 1#1), ∀ (k0_h4 : k0_cond4 i v42 = 1#1), ∀ a, (k0_off116 v270) a + S1x16x1024.size a ≤ S6144x16x1024.size a) ∧
  (∀ (k0_h3 : k0_cond3 v28 = 1#1), ∀ (k0_h4 : k0_cond4 i v42 = 1#1), ∀ (hinb : ∀ a, (k0_off116 v270) a + S1x16x1024.size a ≤ S6144x16x1024.size a), (Rect.unit (s := S6144x16x1024) (k0_off116 v270) S1x16x1024.size hinb).WholeWords (EltTy.packing .bf16))
theorem k0_off116_inb : ∀ (i : grid0.Coords) (v28 : BitVec 32) (v42 : BitVec 32) (v270 : BitVec 32) (k0_hw49 : k0_chk49 i v28 v42 v270), ∀ (k0_h3 : k0_cond3 v28 = 1#1), ∀ (k0_h4 : k0_cond4 i v42 = 1#1), ∀ a, (k0_off116 v270) a + S1x16x1024.size a ≤ S6144x16x1024.size a := fun i v28 v42 v270 k0_hw49 k0_h3 k0_h4 => k0_hw49.1 k0_h3 k0_h4
theorem k0_off116_wordsbf16 : ∀ (i : grid0.Coords) (v28 : BitVec 32) (v42 : BitVec 32) (v270 : BitVec 32) (k0_hw49 : k0_chk49 i v28 v42 v270), ∀ (k0_h3 : k0_cond3 v28 = 1#1), ∀ (k0_h4 : k0_cond4 i v42 = 1#1), (Rect.unit (s := S6144x16x1024) (k0_off116 v270) S1x16x1024.size (k0_off116_inb i v28 v42 v270 k0_hw49 k0_h3 k0_h4)).WholeWords (EltTy.packing .bf16) := fun i v28 v42 v270 k0_hw49 k0_h3 k0_h4 => k0_hw49.2 k0_h3 k0_h4 (k0_off116_inb i v28 v42 v270 k0_hw49 k0_h3 k0_h4)

def k0_off117 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_192 : BitVec 32 := 0#32
  let c0_i32_193 : BitVec 32 := 0#32
  ![v85.toNat, 15, 0, 0]
def k0_off118 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_198 : BitVec 32 := 32#32
  let v279 : BitVec 32 := Scalar.muli v84 c32_i32_198
  let c16_i32 : BitVec 32 := 16#32
  let v280 : BitVec 32 := Scalar.addi v279 c16_i32
  let v281 : Index := Scalar.indexCast v280
  ![v281.toNat]
def k0_off119 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off120 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_200 : BitVec 32 := 0#32
  let c0_i32_201 : BitVec 32 := 0#32
  let c0_i32_202 : BitVec 32 := 0#32
  ![v85.toNat, 0, 0, 0]
def k0_off121 (v282 : BitVec 32) : Fin 3 → Nat :=
  let c0_i32_205 : BitVec 32 := 0#32
  let c0_i32_206 : BitVec 32 := 0#32
  ![v282.toNat, 0, 0]

def k0_chk50 (i : grid0.Coords) (v28 : BitVec 32) (v42 : BitVec 32) (v282 : BitVec 32) : Prop :=
  (∀ (k0_h3 : k0_cond3 v28 = 1#1), ∀ (k0_h4 : k0_cond4 i v42 = 1#1), ∀ a, (k0_off121 v282) a + S1x16x1024.size a ≤ S6144x16x1024.size a) ∧
  (∀ (k0_h3 : k0_cond3 v28 = 1#1), ∀ (k0_h4 : k0_cond4 i v42 = 1#1), ∀ (hinb : ∀ a, (k0_off121 v282) a + S1x16x1024.size a ≤ S6144x16x1024.size a), (Rect.unit (s := S6144x16x1024) (k0_off121 v282) S1x16x1024.size hinb).WholeWords (EltTy.packing .bf16))
theorem k0_off121_inb : ∀ (i : grid0.Coords) (v28 : BitVec 32) (v42 : BitVec 32) (v282 : BitVec 32) (k0_hw50 : k0_chk50 i v28 v42 v282), ∀ (k0_h3 : k0_cond3 v28 = 1#1), ∀ (k0_h4 : k0_cond4 i v42 = 1#1), ∀ a, (k0_off121 v282) a + S1x16x1024.size a ≤ S6144x16x1024.size a := fun i v28 v42 v282 k0_hw50 k0_h3 k0_h4 => k0_hw50.1 k0_h3 k0_h4
theorem k0_off121_wordsbf16 : ∀ (i : grid0.Coords) (v28 : BitVec 32) (v42 : BitVec 32) (v282 : BitVec 32) (k0_hw50 : k0_chk50 i v28 v42 v282), ∀ (k0_h3 : k0_cond3 v28 = 1#1), ∀ (k0_h4 : k0_cond4 i v42 = 1#1), (Rect.unit (s := S6144x16x1024) (k0_off121 v282) S1x16x1024.size (k0_off121_inb i v28 v42 v282 k0_hw50 k0_h3 k0_h4)).WholeWords (EltTy.packing .bf16) := fun i v28 v42 v282 k0_hw50 k0_h3 k0_h4 => k0_hw50.2 k0_h3 k0_h4 (k0_off121_inb i v28 v42 v282 k0_hw50 k0_h3 k0_h4)

def k0_off122 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_201 : BitVec 32 := 0#32
  let c0_i32_202 : BitVec 32 := 0#32
  ![v85.toNat, 16, 0, 0]
def k0_off123 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_207 : BitVec 32 := 32#32
  let v291 : BitVec 32 := Scalar.muli v84 c32_i32_207
  let c17_i32 : BitVec 32 := 17#32
  let v292 : BitVec 32 := Scalar.addi v291 c17_i32
  let v293 : Index := Scalar.indexCast v292
  ![v293.toNat]
def k0_off124 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off125 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_209 : BitVec 32 := 0#32
  let c0_i32_210 : BitVec 32 := 0#32
  let c0_i32_211 : BitVec 32 := 0#32
  ![v85.toNat, 0, 0, 0]
def k0_off126 (v294 : BitVec 32) : Fin 3 → Nat :=
  let c0_i32_214 : BitVec 32 := 0#32
  let c0_i32_215 : BitVec 32 := 0#32
  ![v294.toNat, 0, 0]

def k0_chk51 (i : grid0.Coords) (v28 : BitVec 32) (v42 : BitVec 32) (v294 : BitVec 32) : Prop :=
  (∀ (k0_h3 : k0_cond3 v28 = 1#1), ∀ (k0_h4 : k0_cond4 i v42 = 1#1), ∀ a, (k0_off126 v294) a + S1x16x1024.size a ≤ S6144x16x1024.size a) ∧
  (∀ (k0_h3 : k0_cond3 v28 = 1#1), ∀ (k0_h4 : k0_cond4 i v42 = 1#1), ∀ (hinb : ∀ a, (k0_off126 v294) a + S1x16x1024.size a ≤ S6144x16x1024.size a), (Rect.unit (s := S6144x16x1024) (k0_off126 v294) S1x16x1024.size hinb).WholeWords (EltTy.packing .bf16))
theorem k0_off126_inb : ∀ (i : grid0.Coords) (v28 : BitVec 32) (v42 : BitVec 32) (v294 : BitVec 32) (k0_hw51 : k0_chk51 i v28 v42 v294), ∀ (k0_h3 : k0_cond3 v28 = 1#1), ∀ (k0_h4 : k0_cond4 i v42 = 1#1), ∀ a, (k0_off126 v294) a + S1x16x1024.size a ≤ S6144x16x1024.size a := fun i v28 v42 v294 k0_hw51 k0_h3 k0_h4 => k0_hw51.1 k0_h3 k0_h4
theorem k0_off126_wordsbf16 : ∀ (i : grid0.Coords) (v28 : BitVec 32) (v42 : BitVec 32) (v294 : BitVec 32) (k0_hw51 : k0_chk51 i v28 v42 v294), ∀ (k0_h3 : k0_cond3 v28 = 1#1), ∀ (k0_h4 : k0_cond4 i v42 = 1#1), (Rect.unit (s := S6144x16x1024) (k0_off126 v294) S1x16x1024.size (k0_off126_inb i v28 v42 v294 k0_hw51 k0_h3 k0_h4)).WholeWords (EltTy.packing .bf16) := fun i v28 v42 v294 k0_hw51 k0_h3 k0_h4 => k0_hw51.2 k0_h3 k0_h4 (k0_off126_inb i v28 v42 v294 k0_hw51 k0_h3 k0_h4)

def k0_off127 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_210 : BitVec 32 := 0#32
  let c0_i32_211 : BitVec 32 := 0#32
  ![v85.toNat, 17, 0, 0]
def k0_off128 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_216 : BitVec 32 := 32#32
  let v303 : BitVec 32 := Scalar.muli v84 c32_i32_216
  let c18_i32 : BitVec 32 := 18#32
  let v304 : BitVec 32 := Scalar.addi v303 c18_i32
  let v305 : Index := Scalar.indexCast v304
  ![v305.toNat]
def k0_off129 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off130 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_218 : BitVec 32 := 0#32
  let c0_i32_219 : BitVec 32 := 0#32
  let c0_i32_220 : BitVec 32 := 0#32
  ![v85.toNat, 0, 0, 0]
def k0_off131 (v306 : BitVec 32) : Fin 3 → Nat :=
  let c0_i32_223 : BitVec 32 := 0#32
  let c0_i32_224 : BitVec 32 := 0#32
  ![v306.toNat, 0, 0]

def k0_chk52 (i : grid0.Coords) (v28 : BitVec 32) (v42 : BitVec 32) (v306 : BitVec 32) : Prop :=
  (∀ (k0_h3 : k0_cond3 v28 = 1#1), ∀ (k0_h4 : k0_cond4 i v42 = 1#1), ∀ a, (k0_off131 v306) a + S1x16x1024.size a ≤ S6144x16x1024.size a) ∧
  (∀ (k0_h3 : k0_cond3 v28 = 1#1), ∀ (k0_h4 : k0_cond4 i v42 = 1#1), ∀ (hinb : ∀ a, (k0_off131 v306) a + S1x16x1024.size a ≤ S6144x16x1024.size a), (Rect.unit (s := S6144x16x1024) (k0_off131 v306) S1x16x1024.size hinb).WholeWords (EltTy.packing .bf16))
theorem k0_off131_inb : ∀ (i : grid0.Coords) (v28 : BitVec 32) (v42 : BitVec 32) (v306 : BitVec 32) (k0_hw52 : k0_chk52 i v28 v42 v306), ∀ (k0_h3 : k0_cond3 v28 = 1#1), ∀ (k0_h4 : k0_cond4 i v42 = 1#1), ∀ a, (k0_off131 v306) a + S1x16x1024.size a ≤ S6144x16x1024.size a := fun i v28 v42 v306 k0_hw52 k0_h3 k0_h4 => k0_hw52.1 k0_h3 k0_h4
theorem k0_off131_wordsbf16 : ∀ (i : grid0.Coords) (v28 : BitVec 32) (v42 : BitVec 32) (v306 : BitVec 32) (k0_hw52 : k0_chk52 i v28 v42 v306), ∀ (k0_h3 : k0_cond3 v28 = 1#1), ∀ (k0_h4 : k0_cond4 i v42 = 1#1), (Rect.unit (s := S6144x16x1024) (k0_off131 v306) S1x16x1024.size (k0_off131_inb i v28 v42 v306 k0_hw52 k0_h3 k0_h4)).WholeWords (EltTy.packing .bf16) := fun i v28 v42 v306 k0_hw52 k0_h3 k0_h4 => k0_hw52.2 k0_h3 k0_h4 (k0_off131_inb i v28 v42 v306 k0_hw52 k0_h3 k0_h4)

def k0_off132 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_219 : BitVec 32 := 0#32
  let c0_i32_220 : BitVec 32 := 0#32
  ![v85.toNat, 18, 0, 0]
def k0_off133 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_225 : BitVec 32 := 32#32
  let v315 : BitVec 32 := Scalar.muli v84 c32_i32_225
  let c19_i32 : BitVec 32 := 19#32
  let v316 : BitVec 32 := Scalar.addi v315 c19_i32
  let v317 : Index := Scalar.indexCast v316
  ![v317.toNat]
def k0_off134 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off135 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_227 : BitVec 32 := 0#32
  let c0_i32_228 : BitVec 32 := 0#32
  let c0_i32_229 : BitVec 32 := 0#32
  ![v85.toNat, 0, 0, 0]
def k0_off136 (v318 : BitVec 32) : Fin 3 → Nat :=
  let c0_i32_232 : BitVec 32 := 0#32
  let c0_i32_233 : BitVec 32 := 0#32
  ![v318.toNat, 0, 0]

def k0_chk53 (i : grid0.Coords) (v28 : BitVec 32) (v42 : BitVec 32) (v318 : BitVec 32) : Prop :=
  (∀ (k0_h3 : k0_cond3 v28 = 1#1), ∀ (k0_h4 : k0_cond4 i v42 = 1#1), ∀ a, (k0_off136 v318) a + S1x16x1024.size a ≤ S6144x16x1024.size a) ∧
  (∀ (k0_h3 : k0_cond3 v28 = 1#1), ∀ (k0_h4 : k0_cond4 i v42 = 1#1), ∀ (hinb : ∀ a, (k0_off136 v318) a + S1x16x1024.size a ≤ S6144x16x1024.size a), (Rect.unit (s := S6144x16x1024) (k0_off136 v318) S1x16x1024.size hinb).WholeWords (EltTy.packing .bf16))
theorem k0_off136_inb : ∀ (i : grid0.Coords) (v28 : BitVec 32) (v42 : BitVec 32) (v318 : BitVec 32) (k0_hw53 : k0_chk53 i v28 v42 v318), ∀ (k0_h3 : k0_cond3 v28 = 1#1), ∀ (k0_h4 : k0_cond4 i v42 = 1#1), ∀ a, (k0_off136 v318) a + S1x16x1024.size a ≤ S6144x16x1024.size a := fun i v28 v42 v318 k0_hw53 k0_h3 k0_h4 => k0_hw53.1 k0_h3 k0_h4
theorem k0_off136_wordsbf16 : ∀ (i : grid0.Coords) (v28 : BitVec 32) (v42 : BitVec 32) (v318 : BitVec 32) (k0_hw53 : k0_chk53 i v28 v42 v318), ∀ (k0_h3 : k0_cond3 v28 = 1#1), ∀ (k0_h4 : k0_cond4 i v42 = 1#1), (Rect.unit (s := S6144x16x1024) (k0_off136 v318) S1x16x1024.size (k0_off136_inb i v28 v42 v318 k0_hw53 k0_h3 k0_h4)).WholeWords (EltTy.packing .bf16) := fun i v28 v42 v318 k0_hw53 k0_h3 k0_h4 => k0_hw53.2 k0_h3 k0_h4 (k0_off136_inb i v28 v42 v318 k0_hw53 k0_h3 k0_h4)

def k0_off137 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_228 : BitVec 32 := 0#32
  let c0_i32_229 : BitVec 32 := 0#32
  ![v85.toNat, 19, 0, 0]
def k0_off138 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_234 : BitVec 32 := 32#32
  let v327 : BitVec 32 := Scalar.muli v84 c32_i32_234
  let c20_i32 : BitVec 32 := 20#32
  let v328 : BitVec 32 := Scalar.addi v327 c20_i32
  let v329 : Index := Scalar.indexCast v328
  ![v329.toNat]
def k0_off139 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off140 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_236 : BitVec 32 := 0#32
  let c0_i32_237 : BitVec 32 := 0#32
  let c0_i32_238 : BitVec 32 := 0#32
  ![v85.toNat, 0, 0, 0]
def k0_off141 (v330 : BitVec 32) : Fin 3 → Nat :=
  let c0_i32_241 : BitVec 32 := 0#32
  let c0_i32_242 : BitVec 32 := 0#32
  ![v330.toNat, 0, 0]

def k0_chk54 (i : grid0.Coords) (v28 : BitVec 32) (v42 : BitVec 32) (v330 : BitVec 32) : Prop :=
  (∀ (k0_h3 : k0_cond3 v28 = 1#1), ∀ (k0_h4 : k0_cond4 i v42 = 1#1), ∀ a, (k0_off141 v330) a + S1x16x1024.size a ≤ S6144x16x1024.size a) ∧
  (∀ (k0_h3 : k0_cond3 v28 = 1#1), ∀ (k0_h4 : k0_cond4 i v42 = 1#1), ∀ (hinb : ∀ a, (k0_off141 v330) a + S1x16x1024.size a ≤ S6144x16x1024.size a), (Rect.unit (s := S6144x16x1024) (k0_off141 v330) S1x16x1024.size hinb).WholeWords (EltTy.packing .bf16))
theorem k0_off141_inb : ∀ (i : grid0.Coords) (v28 : BitVec 32) (v42 : BitVec 32) (v330 : BitVec 32) (k0_hw54 : k0_chk54 i v28 v42 v330), ∀ (k0_h3 : k0_cond3 v28 = 1#1), ∀ (k0_h4 : k0_cond4 i v42 = 1#1), ∀ a, (k0_off141 v330) a + S1x16x1024.size a ≤ S6144x16x1024.size a := fun i v28 v42 v330 k0_hw54 k0_h3 k0_h4 => k0_hw54.1 k0_h3 k0_h4
theorem k0_off141_wordsbf16 : ∀ (i : grid0.Coords) (v28 : BitVec 32) (v42 : BitVec 32) (v330 : BitVec 32) (k0_hw54 : k0_chk54 i v28 v42 v330), ∀ (k0_h3 : k0_cond3 v28 = 1#1), ∀ (k0_h4 : k0_cond4 i v42 = 1#1), (Rect.unit (s := S6144x16x1024) (k0_off141 v330) S1x16x1024.size (k0_off141_inb i v28 v42 v330 k0_hw54 k0_h3 k0_h4)).WholeWords (EltTy.packing .bf16) := fun i v28 v42 v330 k0_hw54 k0_h3 k0_h4 => k0_hw54.2 k0_h3 k0_h4 (k0_off141_inb i v28 v42 v330 k0_hw54 k0_h3 k0_h4)

def k0_off142 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_237 : BitVec 32 := 0#32
  let c0_i32_238 : BitVec 32 := 0#32
  ![v85.toNat, 20, 0, 0]
def k0_off143 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_243 : BitVec 32 := 32#32
  let v339 : BitVec 32 := Scalar.muli v84 c32_i32_243
  let c21_i32 : BitVec 32 := 21#32
  let v340 : BitVec 32 := Scalar.addi v339 c21_i32
  let v341 : Index := Scalar.indexCast v340
  ![v341.toNat]
def k0_off144 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off145 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_245 : BitVec 32 := 0#32
  let c0_i32_246 : BitVec 32 := 0#32
  let c0_i32_247 : BitVec 32 := 0#32
  ![v85.toNat, 0, 0, 0]
def k0_off146 (v342 : BitVec 32) : Fin 3 → Nat :=
  let c0_i32_250 : BitVec 32 := 0#32
  let c0_i32_251 : BitVec 32 := 0#32
  ![v342.toNat, 0, 0]

def k0_chk55 (i : grid0.Coords) (v28 : BitVec 32) (v42 : BitVec 32) (v342 : BitVec 32) : Prop :=
  (∀ (k0_h3 : k0_cond3 v28 = 1#1), ∀ (k0_h4 : k0_cond4 i v42 = 1#1), ∀ a, (k0_off146 v342) a + S1x16x1024.size a ≤ S6144x16x1024.size a) ∧
  (∀ (k0_h3 : k0_cond3 v28 = 1#1), ∀ (k0_h4 : k0_cond4 i v42 = 1#1), ∀ (hinb : ∀ a, (k0_off146 v342) a + S1x16x1024.size a ≤ S6144x16x1024.size a), (Rect.unit (s := S6144x16x1024) (k0_off146 v342) S1x16x1024.size hinb).WholeWords (EltTy.packing .bf16))
theorem k0_off146_inb : ∀ (i : grid0.Coords) (v28 : BitVec 32) (v42 : BitVec 32) (v342 : BitVec 32) (k0_hw55 : k0_chk55 i v28 v42 v342), ∀ (k0_h3 : k0_cond3 v28 = 1#1), ∀ (k0_h4 : k0_cond4 i v42 = 1#1), ∀ a, (k0_off146 v342) a + S1x16x1024.size a ≤ S6144x16x1024.size a := fun i v28 v42 v342 k0_hw55 k0_h3 k0_h4 => k0_hw55.1 k0_h3 k0_h4
theorem k0_off146_wordsbf16 : ∀ (i : grid0.Coords) (v28 : BitVec 32) (v42 : BitVec 32) (v342 : BitVec 32) (k0_hw55 : k0_chk55 i v28 v42 v342), ∀ (k0_h3 : k0_cond3 v28 = 1#1), ∀ (k0_h4 : k0_cond4 i v42 = 1#1), (Rect.unit (s := S6144x16x1024) (k0_off146 v342) S1x16x1024.size (k0_off146_inb i v28 v42 v342 k0_hw55 k0_h3 k0_h4)).WholeWords (EltTy.packing .bf16) := fun i v28 v42 v342 k0_hw55 k0_h3 k0_h4 => k0_hw55.2 k0_h3 k0_h4 (k0_off146_inb i v28 v42 v342 k0_hw55 k0_h3 k0_h4)

def k0_off147 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_246 : BitVec 32 := 0#32
  let c0_i32_247 : BitVec 32 := 0#32
  ![v85.toNat, 21, 0, 0]
def k0_off148 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_252 : BitVec 32 := 32#32
  let v351 : BitVec 32 := Scalar.muli v84 c32_i32_252
  let c22_i32 : BitVec 32 := 22#32
  let v352 : BitVec 32 := Scalar.addi v351 c22_i32
  let v353 : Index := Scalar.indexCast v352
  ![v353.toNat]
def k0_off149 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off150 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_254 : BitVec 32 := 0#32
  let c0_i32_255 : BitVec 32 := 0#32
  let c0_i32_256 : BitVec 32 := 0#32
  ![v85.toNat, 0, 0, 0]
def k0_off151 (v354 : BitVec 32) : Fin 3 → Nat :=
  let c0_i32_259 : BitVec 32 := 0#32
  let c0_i32_260 : BitVec 32 := 0#32
  ![v354.toNat, 0, 0]

def k0_chk56 (i : grid0.Coords) (v28 : BitVec 32) (v42 : BitVec 32) (v354 : BitVec 32) : Prop :=
  (∀ (k0_h3 : k0_cond3 v28 = 1#1), ∀ (k0_h4 : k0_cond4 i v42 = 1#1), ∀ a, (k0_off151 v354) a + S1x16x1024.size a ≤ S6144x16x1024.size a) ∧
  (∀ (k0_h3 : k0_cond3 v28 = 1#1), ∀ (k0_h4 : k0_cond4 i v42 = 1#1), ∀ (hinb : ∀ a, (k0_off151 v354) a + S1x16x1024.size a ≤ S6144x16x1024.size a), (Rect.unit (s := S6144x16x1024) (k0_off151 v354) S1x16x1024.size hinb).WholeWords (EltTy.packing .bf16))
theorem k0_off151_inb : ∀ (i : grid0.Coords) (v28 : BitVec 32) (v42 : BitVec 32) (v354 : BitVec 32) (k0_hw56 : k0_chk56 i v28 v42 v354), ∀ (k0_h3 : k0_cond3 v28 = 1#1), ∀ (k0_h4 : k0_cond4 i v42 = 1#1), ∀ a, (k0_off151 v354) a + S1x16x1024.size a ≤ S6144x16x1024.size a := fun i v28 v42 v354 k0_hw56 k0_h3 k0_h4 => k0_hw56.1 k0_h3 k0_h4
theorem k0_off151_wordsbf16 : ∀ (i : grid0.Coords) (v28 : BitVec 32) (v42 : BitVec 32) (v354 : BitVec 32) (k0_hw56 : k0_chk56 i v28 v42 v354), ∀ (k0_h3 : k0_cond3 v28 = 1#1), ∀ (k0_h4 : k0_cond4 i v42 = 1#1), (Rect.unit (s := S6144x16x1024) (k0_off151 v354) S1x16x1024.size (k0_off151_inb i v28 v42 v354 k0_hw56 k0_h3 k0_h4)).WholeWords (EltTy.packing .bf16) := fun i v28 v42 v354 k0_hw56 k0_h3 k0_h4 => k0_hw56.2 k0_h3 k0_h4 (k0_off151_inb i v28 v42 v354 k0_hw56 k0_h3 k0_h4)

def k0_off152 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_255 : BitVec 32 := 0#32
  let c0_i32_256 : BitVec 32 := 0#32
  ![v85.toNat, 22, 0, 0]
def k0_off153 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_261 : BitVec 32 := 32#32
  let v363 : BitVec 32 := Scalar.muli v84 c32_i32_261
  let c23_i32 : BitVec 32 := 23#32
  let v364 : BitVec 32 := Scalar.addi v363 c23_i32
  let v365 : Index := Scalar.indexCast v364
  ![v365.toNat]
def k0_off154 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off155 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_263 : BitVec 32 := 0#32
  let c0_i32_264 : BitVec 32 := 0#32
  let c0_i32_265 : BitVec 32 := 0#32
  ![v85.toNat, 0, 0, 0]
def k0_off156 (v366 : BitVec 32) : Fin 3 → Nat :=
  let c0_i32_268 : BitVec 32 := 0#32
  let c0_i32_269 : BitVec 32 := 0#32
  ![v366.toNat, 0, 0]

def k0_chk57 (i : grid0.Coords) (v28 : BitVec 32) (v42 : BitVec 32) (v366 : BitVec 32) : Prop :=
  (∀ (k0_h3 : k0_cond3 v28 = 1#1), ∀ (k0_h4 : k0_cond4 i v42 = 1#1), ∀ a, (k0_off156 v366) a + S1x16x1024.size a ≤ S6144x16x1024.size a) ∧
  (∀ (k0_h3 : k0_cond3 v28 = 1#1), ∀ (k0_h4 : k0_cond4 i v42 = 1#1), ∀ (hinb : ∀ a, (k0_off156 v366) a + S1x16x1024.size a ≤ S6144x16x1024.size a), (Rect.unit (s := S6144x16x1024) (k0_off156 v366) S1x16x1024.size hinb).WholeWords (EltTy.packing .bf16))
theorem k0_off156_inb : ∀ (i : grid0.Coords) (v28 : BitVec 32) (v42 : BitVec 32) (v366 : BitVec 32) (k0_hw57 : k0_chk57 i v28 v42 v366), ∀ (k0_h3 : k0_cond3 v28 = 1#1), ∀ (k0_h4 : k0_cond4 i v42 = 1#1), ∀ a, (k0_off156 v366) a + S1x16x1024.size a ≤ S6144x16x1024.size a := fun i v28 v42 v366 k0_hw57 k0_h3 k0_h4 => k0_hw57.1 k0_h3 k0_h4
theorem k0_off156_wordsbf16 : ∀ (i : grid0.Coords) (v28 : BitVec 32) (v42 : BitVec 32) (v366 : BitVec 32) (k0_hw57 : k0_chk57 i v28 v42 v366), ∀ (k0_h3 : k0_cond3 v28 = 1#1), ∀ (k0_h4 : k0_cond4 i v42 = 1#1), (Rect.unit (s := S6144x16x1024) (k0_off156 v366) S1x16x1024.size (k0_off156_inb i v28 v42 v366 k0_hw57 k0_h3 k0_h4)).WholeWords (EltTy.packing .bf16) := fun i v28 v42 v366 k0_hw57 k0_h3 k0_h4 => k0_hw57.2 k0_h3 k0_h4 (k0_off156_inb i v28 v42 v366 k0_hw57 k0_h3 k0_h4)

def k0_off157 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_264 : BitVec 32 := 0#32
  let c0_i32_265 : BitVec 32 := 0#32
  ![v85.toNat, 23, 0, 0]
def k0_off158 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_270 : BitVec 32 := 32#32
  let v375 : BitVec 32 := Scalar.muli v84 c32_i32_270
  let c24_i32 : BitVec 32 := 24#32
  let v376 : BitVec 32 := Scalar.addi v375 c24_i32
  let v377 : Index := Scalar.indexCast v376
  ![v377.toNat]
def k0_off159 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off160 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_272 : BitVec 32 := 0#32
  let c0_i32_273 : BitVec 32 := 0#32
  let c0_i32_274 : BitVec 32 := 0#32
  ![v85.toNat, 0, 0, 0]
def k0_off161 (v378 : BitVec 32) : Fin 3 → Nat :=
  let c0_i32_277 : BitVec 32 := 0#32
  let c0_i32_278 : BitVec 32 := 0#32
  ![v378.toNat, 0, 0]

def k0_chk58 (i : grid0.Coords) (v28 : BitVec 32) (v42 : BitVec 32) (v378 : BitVec 32) : Prop :=
  (∀ (k0_h3 : k0_cond3 v28 = 1#1), ∀ (k0_h4 : k0_cond4 i v42 = 1#1), ∀ a, (k0_off161 v378) a + S1x16x1024.size a ≤ S6144x16x1024.size a) ∧
  (∀ (k0_h3 : k0_cond3 v28 = 1#1), ∀ (k0_h4 : k0_cond4 i v42 = 1#1), ∀ (hinb : ∀ a, (k0_off161 v378) a + S1x16x1024.size a ≤ S6144x16x1024.size a), (Rect.unit (s := S6144x16x1024) (k0_off161 v378) S1x16x1024.size hinb).WholeWords (EltTy.packing .bf16))
theorem k0_off161_inb : ∀ (i : grid0.Coords) (v28 : BitVec 32) (v42 : BitVec 32) (v378 : BitVec 32) (k0_hw58 : k0_chk58 i v28 v42 v378), ∀ (k0_h3 : k0_cond3 v28 = 1#1), ∀ (k0_h4 : k0_cond4 i v42 = 1#1), ∀ a, (k0_off161 v378) a + S1x16x1024.size a ≤ S6144x16x1024.size a := fun i v28 v42 v378 k0_hw58 k0_h3 k0_h4 => k0_hw58.1 k0_h3 k0_h4
theorem k0_off161_wordsbf16 : ∀ (i : grid0.Coords) (v28 : BitVec 32) (v42 : BitVec 32) (v378 : BitVec 32) (k0_hw58 : k0_chk58 i v28 v42 v378), ∀ (k0_h3 : k0_cond3 v28 = 1#1), ∀ (k0_h4 : k0_cond4 i v42 = 1#1), (Rect.unit (s := S6144x16x1024) (k0_off161 v378) S1x16x1024.size (k0_off161_inb i v28 v42 v378 k0_hw58 k0_h3 k0_h4)).WholeWords (EltTy.packing .bf16) := fun i v28 v42 v378 k0_hw58 k0_h3 k0_h4 => k0_hw58.2 k0_h3 k0_h4 (k0_off161_inb i v28 v42 v378 k0_hw58 k0_h3 k0_h4)

def k0_off162 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_273 : BitVec 32 := 0#32
  let c0_i32_274 : BitVec 32 := 0#32
  ![v85.toNat, 24, 0, 0]
def k0_off163 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_279 : BitVec 32 := 32#32
  let v387 : BitVec 32 := Scalar.muli v84 c32_i32_279
  let c25_i32 : BitVec 32 := 25#32
  let v388 : BitVec 32 := Scalar.addi v387 c25_i32
  let v389 : Index := Scalar.indexCast v388
  ![v389.toNat]
def k0_off164 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off165 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_281 : BitVec 32 := 0#32
  let c0_i32_282 : BitVec 32 := 0#32
  let c0_i32_283 : BitVec 32 := 0#32
  ![v85.toNat, 0, 0, 0]
def k0_off166 (v390 : BitVec 32) : Fin 3 → Nat :=
  let c0_i32_286 : BitVec 32 := 0#32
  let c0_i32_287 : BitVec 32 := 0#32
  ![v390.toNat, 0, 0]

def k0_chk59 (i : grid0.Coords) (v28 : BitVec 32) (v42 : BitVec 32) (v390 : BitVec 32) : Prop :=
  (∀ (k0_h3 : k0_cond3 v28 = 1#1), ∀ (k0_h4 : k0_cond4 i v42 = 1#1), ∀ a, (k0_off166 v390) a + S1x16x1024.size a ≤ S6144x16x1024.size a) ∧
  (∀ (k0_h3 : k0_cond3 v28 = 1#1), ∀ (k0_h4 : k0_cond4 i v42 = 1#1), ∀ (hinb : ∀ a, (k0_off166 v390) a + S1x16x1024.size a ≤ S6144x16x1024.size a), (Rect.unit (s := S6144x16x1024) (k0_off166 v390) S1x16x1024.size hinb).WholeWords (EltTy.packing .bf16))
theorem k0_off166_inb : ∀ (i : grid0.Coords) (v28 : BitVec 32) (v42 : BitVec 32) (v390 : BitVec 32) (k0_hw59 : k0_chk59 i v28 v42 v390), ∀ (k0_h3 : k0_cond3 v28 = 1#1), ∀ (k0_h4 : k0_cond4 i v42 = 1#1), ∀ a, (k0_off166 v390) a + S1x16x1024.size a ≤ S6144x16x1024.size a := fun i v28 v42 v390 k0_hw59 k0_h3 k0_h4 => k0_hw59.1 k0_h3 k0_h4
theorem k0_off166_wordsbf16 : ∀ (i : grid0.Coords) (v28 : BitVec 32) (v42 : BitVec 32) (v390 : BitVec 32) (k0_hw59 : k0_chk59 i v28 v42 v390), ∀ (k0_h3 : k0_cond3 v28 = 1#1), ∀ (k0_h4 : k0_cond4 i v42 = 1#1), (Rect.unit (s := S6144x16x1024) (k0_off166 v390) S1x16x1024.size (k0_off166_inb i v28 v42 v390 k0_hw59 k0_h3 k0_h4)).WholeWords (EltTy.packing .bf16) := fun i v28 v42 v390 k0_hw59 k0_h3 k0_h4 => k0_hw59.2 k0_h3 k0_h4 (k0_off166_inb i v28 v42 v390 k0_hw59 k0_h3 k0_h4)

def k0_off167 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_282 : BitVec 32 := 0#32
  let c0_i32_283 : BitVec 32 := 0#32
  ![v85.toNat, 25, 0, 0]
def k0_off168 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_288 : BitVec 32 := 32#32
  let v399 : BitVec 32 := Scalar.muli v84 c32_i32_288
  let c26_i32 : BitVec 32 := 26#32
  let v400 : BitVec 32 := Scalar.addi v399 c26_i32
  let v401 : Index := Scalar.indexCast v400
  ![v401.toNat]
def k0_off169 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off170 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_290 : BitVec 32 := 0#32
  let c0_i32_291 : BitVec 32 := 0#32
  let c0_i32_292 : BitVec 32 := 0#32
  ![v85.toNat, 0, 0, 0]
def k0_off171 (v402 : BitVec 32) : Fin 3 → Nat :=
  let c0_i32_295 : BitVec 32 := 0#32
  let c0_i32_296 : BitVec 32 := 0#32
  ![v402.toNat, 0, 0]

def k0_chk60 (i : grid0.Coords) (v28 : BitVec 32) (v42 : BitVec 32) (v402 : BitVec 32) : Prop :=
  (∀ (k0_h3 : k0_cond3 v28 = 1#1), ∀ (k0_h4 : k0_cond4 i v42 = 1#1), ∀ a, (k0_off171 v402) a + S1x16x1024.size a ≤ S6144x16x1024.size a) ∧
  (∀ (k0_h3 : k0_cond3 v28 = 1#1), ∀ (k0_h4 : k0_cond4 i v42 = 1#1), ∀ (hinb : ∀ a, (k0_off171 v402) a + S1x16x1024.size a ≤ S6144x16x1024.size a), (Rect.unit (s := S6144x16x1024) (k0_off171 v402) S1x16x1024.size hinb).WholeWords (EltTy.packing .bf16))
theorem k0_off171_inb : ∀ (i : grid0.Coords) (v28 : BitVec 32) (v42 : BitVec 32) (v402 : BitVec 32) (k0_hw60 : k0_chk60 i v28 v42 v402), ∀ (k0_h3 : k0_cond3 v28 = 1#1), ∀ (k0_h4 : k0_cond4 i v42 = 1#1), ∀ a, (k0_off171 v402) a + S1x16x1024.size a ≤ S6144x16x1024.size a := fun i v28 v42 v402 k0_hw60 k0_h3 k0_h4 => k0_hw60.1 k0_h3 k0_h4
theorem k0_off171_wordsbf16 : ∀ (i : grid0.Coords) (v28 : BitVec 32) (v42 : BitVec 32) (v402 : BitVec 32) (k0_hw60 : k0_chk60 i v28 v42 v402), ∀ (k0_h3 : k0_cond3 v28 = 1#1), ∀ (k0_h4 : k0_cond4 i v42 = 1#1), (Rect.unit (s := S6144x16x1024) (k0_off171 v402) S1x16x1024.size (k0_off171_inb i v28 v42 v402 k0_hw60 k0_h3 k0_h4)).WholeWords (EltTy.packing .bf16) := fun i v28 v42 v402 k0_hw60 k0_h3 k0_h4 => k0_hw60.2 k0_h3 k0_h4 (k0_off171_inb i v28 v42 v402 k0_hw60 k0_h3 k0_h4)

def k0_off172 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_291 : BitVec 32 := 0#32
  let c0_i32_292 : BitVec 32 := 0#32
  ![v85.toNat, 26, 0, 0]
def k0_off173 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_297 : BitVec 32 := 32#32
  let v411 : BitVec 32 := Scalar.muli v84 c32_i32_297
  let c27_i32 : BitVec 32 := 27#32
  let v412 : BitVec 32 := Scalar.addi v411 c27_i32
  let v413 : Index := Scalar.indexCast v412
  ![v413.toNat]
def k0_off174 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off175 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_299 : BitVec 32 := 0#32
  let c0_i32_300 : BitVec 32 := 0#32
  let c0_i32_301 : BitVec 32 := 0#32
  ![v85.toNat, 0, 0, 0]
def k0_off176 (v414 : BitVec 32) : Fin 3 → Nat :=
  let c0_i32_304 : BitVec 32 := 0#32
  let c0_i32_305 : BitVec 32 := 0#32
  ![v414.toNat, 0, 0]

def k0_chk61 (i : grid0.Coords) (v28 : BitVec 32) (v42 : BitVec 32) (v414 : BitVec 32) : Prop :=
  (∀ (k0_h3 : k0_cond3 v28 = 1#1), ∀ (k0_h4 : k0_cond4 i v42 = 1#1), ∀ a, (k0_off176 v414) a + S1x16x1024.size a ≤ S6144x16x1024.size a) ∧
  (∀ (k0_h3 : k0_cond3 v28 = 1#1), ∀ (k0_h4 : k0_cond4 i v42 = 1#1), ∀ (hinb : ∀ a, (k0_off176 v414) a + S1x16x1024.size a ≤ S6144x16x1024.size a), (Rect.unit (s := S6144x16x1024) (k0_off176 v414) S1x16x1024.size hinb).WholeWords (EltTy.packing .bf16))
theorem k0_off176_inb : ∀ (i : grid0.Coords) (v28 : BitVec 32) (v42 : BitVec 32) (v414 : BitVec 32) (k0_hw61 : k0_chk61 i v28 v42 v414), ∀ (k0_h3 : k0_cond3 v28 = 1#1), ∀ (k0_h4 : k0_cond4 i v42 = 1#1), ∀ a, (k0_off176 v414) a + S1x16x1024.size a ≤ S6144x16x1024.size a := fun i v28 v42 v414 k0_hw61 k0_h3 k0_h4 => k0_hw61.1 k0_h3 k0_h4
theorem k0_off176_wordsbf16 : ∀ (i : grid0.Coords) (v28 : BitVec 32) (v42 : BitVec 32) (v414 : BitVec 32) (k0_hw61 : k0_chk61 i v28 v42 v414), ∀ (k0_h3 : k0_cond3 v28 = 1#1), ∀ (k0_h4 : k0_cond4 i v42 = 1#1), (Rect.unit (s := S6144x16x1024) (k0_off176 v414) S1x16x1024.size (k0_off176_inb i v28 v42 v414 k0_hw61 k0_h3 k0_h4)).WholeWords (EltTy.packing .bf16) := fun i v28 v42 v414 k0_hw61 k0_h3 k0_h4 => k0_hw61.2 k0_h3 k0_h4 (k0_off176_inb i v28 v42 v414 k0_hw61 k0_h3 k0_h4)

def k0_off177 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_300 : BitVec 32 := 0#32
  let c0_i32_301 : BitVec 32 := 0#32
  ![v85.toNat, 27, 0, 0]
def k0_off178 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_306 : BitVec 32 := 32#32
  let v423 : BitVec 32 := Scalar.muli v84 c32_i32_306
  let c28_i32 : BitVec 32 := 28#32
  let v424 : BitVec 32 := Scalar.addi v423 c28_i32
  let v425 : Index := Scalar.indexCast v424
  ![v425.toNat]
def k0_off179 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off180 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_308 : BitVec 32 := 0#32
  let c0_i32_309 : BitVec 32 := 0#32
  let c0_i32_310 : BitVec 32 := 0#32
  ![v85.toNat, 0, 0, 0]
def k0_off181 (v426 : BitVec 32) : Fin 3 → Nat :=
  let c0_i32_313 : BitVec 32 := 0#32
  let c0_i32_314 : BitVec 32 := 0#32
  ![v426.toNat, 0, 0]

def k0_chk62 (i : grid0.Coords) (v28 : BitVec 32) (v42 : BitVec 32) (v426 : BitVec 32) : Prop :=
  (∀ (k0_h3 : k0_cond3 v28 = 1#1), ∀ (k0_h4 : k0_cond4 i v42 = 1#1), ∀ a, (k0_off181 v426) a + S1x16x1024.size a ≤ S6144x16x1024.size a) ∧
  (∀ (k0_h3 : k0_cond3 v28 = 1#1), ∀ (k0_h4 : k0_cond4 i v42 = 1#1), ∀ (hinb : ∀ a, (k0_off181 v426) a + S1x16x1024.size a ≤ S6144x16x1024.size a), (Rect.unit (s := S6144x16x1024) (k0_off181 v426) S1x16x1024.size hinb).WholeWords (EltTy.packing .bf16))
theorem k0_off181_inb : ∀ (i : grid0.Coords) (v28 : BitVec 32) (v42 : BitVec 32) (v426 : BitVec 32) (k0_hw62 : k0_chk62 i v28 v42 v426), ∀ (k0_h3 : k0_cond3 v28 = 1#1), ∀ (k0_h4 : k0_cond4 i v42 = 1#1), ∀ a, (k0_off181 v426) a + S1x16x1024.size a ≤ S6144x16x1024.size a := fun i v28 v42 v426 k0_hw62 k0_h3 k0_h4 => k0_hw62.1 k0_h3 k0_h4
theorem k0_off181_wordsbf16 : ∀ (i : grid0.Coords) (v28 : BitVec 32) (v42 : BitVec 32) (v426 : BitVec 32) (k0_hw62 : k0_chk62 i v28 v42 v426), ∀ (k0_h3 : k0_cond3 v28 = 1#1), ∀ (k0_h4 : k0_cond4 i v42 = 1#1), (Rect.unit (s := S6144x16x1024) (k0_off181 v426) S1x16x1024.size (k0_off181_inb i v28 v42 v426 k0_hw62 k0_h3 k0_h4)).WholeWords (EltTy.packing .bf16) := fun i v28 v42 v426 k0_hw62 k0_h3 k0_h4 => k0_hw62.2 k0_h3 k0_h4 (k0_off181_inb i v28 v42 v426 k0_hw62 k0_h3 k0_h4)

def k0_off182 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_309 : BitVec 32 := 0#32
  let c0_i32_310 : BitVec 32 := 0#32
  ![v85.toNat, 28, 0, 0]
def k0_off183 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_315 : BitVec 32 := 32#32
  let v435 : BitVec 32 := Scalar.muli v84 c32_i32_315
  let c29_i32 : BitVec 32 := 29#32
  let v436 : BitVec 32 := Scalar.addi v435 c29_i32
  let v437 : Index := Scalar.indexCast v436
  ![v437.toNat]
def k0_off184 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off185 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_317 : BitVec 32 := 0#32
  let c0_i32_318 : BitVec 32 := 0#32
  let c0_i32_319 : BitVec 32 := 0#32
  ![v85.toNat, 0, 0, 0]
def k0_off186 (v438 : BitVec 32) : Fin 3 → Nat :=
  let c0_i32_322 : BitVec 32 := 0#32
  let c0_i32_323 : BitVec 32 := 0#32
  ![v438.toNat, 0, 0]

def k0_chk63 (i : grid0.Coords) (v28 : BitVec 32) (v42 : BitVec 32) (v438 : BitVec 32) : Prop :=
  (∀ (k0_h3 : k0_cond3 v28 = 1#1), ∀ (k0_h4 : k0_cond4 i v42 = 1#1), ∀ a, (k0_off186 v438) a + S1x16x1024.size a ≤ S6144x16x1024.size a) ∧
  (∀ (k0_h3 : k0_cond3 v28 = 1#1), ∀ (k0_h4 : k0_cond4 i v42 = 1#1), ∀ (hinb : ∀ a, (k0_off186 v438) a + S1x16x1024.size a ≤ S6144x16x1024.size a), (Rect.unit (s := S6144x16x1024) (k0_off186 v438) S1x16x1024.size hinb).WholeWords (EltTy.packing .bf16))
theorem k0_off186_inb : ∀ (i : grid0.Coords) (v28 : BitVec 32) (v42 : BitVec 32) (v438 : BitVec 32) (k0_hw63 : k0_chk63 i v28 v42 v438), ∀ (k0_h3 : k0_cond3 v28 = 1#1), ∀ (k0_h4 : k0_cond4 i v42 = 1#1), ∀ a, (k0_off186 v438) a + S1x16x1024.size a ≤ S6144x16x1024.size a := fun i v28 v42 v438 k0_hw63 k0_h3 k0_h4 => k0_hw63.1 k0_h3 k0_h4
theorem k0_off186_wordsbf16 : ∀ (i : grid0.Coords) (v28 : BitVec 32) (v42 : BitVec 32) (v438 : BitVec 32) (k0_hw63 : k0_chk63 i v28 v42 v438), ∀ (k0_h3 : k0_cond3 v28 = 1#1), ∀ (k0_h4 : k0_cond4 i v42 = 1#1), (Rect.unit (s := S6144x16x1024) (k0_off186 v438) S1x16x1024.size (k0_off186_inb i v28 v42 v438 k0_hw63 k0_h3 k0_h4)).WholeWords (EltTy.packing .bf16) := fun i v28 v42 v438 k0_hw63 k0_h3 k0_h4 => k0_hw63.2 k0_h3 k0_h4 (k0_off186_inb i v28 v42 v438 k0_hw63 k0_h3 k0_h4)

def k0_off187 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_318 : BitVec 32 := 0#32
  let c0_i32_319 : BitVec 32 := 0#32
  ![v85.toNat, 29, 0, 0]
def k0_off188 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_324 : BitVec 32 := 32#32
  let v447 : BitVec 32 := Scalar.muli v84 c32_i32_324
  let c30_i32 : BitVec 32 := 30#32
  let v448 : BitVec 32 := Scalar.addi v447 c30_i32
  let v449 : Index := Scalar.indexCast v448
  ![v449.toNat]
def k0_off189 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off190 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_326 : BitVec 32 := 0#32
  let c0_i32_327 : BitVec 32 := 0#32
  let c0_i32_328 : BitVec 32 := 0#32
  ![v85.toNat, 0, 0, 0]
def k0_off191 (v450 : BitVec 32) : Fin 3 → Nat :=
  let c0_i32_331 : BitVec 32 := 0#32
  let c0_i32_332 : BitVec 32 := 0#32
  ![v450.toNat, 0, 0]

def k0_chk64 (i : grid0.Coords) (v28 : BitVec 32) (v42 : BitVec 32) (v450 : BitVec 32) : Prop :=
  (∀ (k0_h3 : k0_cond3 v28 = 1#1), ∀ (k0_h4 : k0_cond4 i v42 = 1#1), ∀ a, (k0_off191 v450) a + S1x16x1024.size a ≤ S6144x16x1024.size a) ∧
  (∀ (k0_h3 : k0_cond3 v28 = 1#1), ∀ (k0_h4 : k0_cond4 i v42 = 1#1), ∀ (hinb : ∀ a, (k0_off191 v450) a + S1x16x1024.size a ≤ S6144x16x1024.size a), (Rect.unit (s := S6144x16x1024) (k0_off191 v450) S1x16x1024.size hinb).WholeWords (EltTy.packing .bf16))
theorem k0_off191_inb : ∀ (i : grid0.Coords) (v28 : BitVec 32) (v42 : BitVec 32) (v450 : BitVec 32) (k0_hw64 : k0_chk64 i v28 v42 v450), ∀ (k0_h3 : k0_cond3 v28 = 1#1), ∀ (k0_h4 : k0_cond4 i v42 = 1#1), ∀ a, (k0_off191 v450) a + S1x16x1024.size a ≤ S6144x16x1024.size a := fun i v28 v42 v450 k0_hw64 k0_h3 k0_h4 => k0_hw64.1 k0_h3 k0_h4
theorem k0_off191_wordsbf16 : ∀ (i : grid0.Coords) (v28 : BitVec 32) (v42 : BitVec 32) (v450 : BitVec 32) (k0_hw64 : k0_chk64 i v28 v42 v450), ∀ (k0_h3 : k0_cond3 v28 = 1#1), ∀ (k0_h4 : k0_cond4 i v42 = 1#1), (Rect.unit (s := S6144x16x1024) (k0_off191 v450) S1x16x1024.size (k0_off191_inb i v28 v42 v450 k0_hw64 k0_h3 k0_h4)).WholeWords (EltTy.packing .bf16) := fun i v28 v42 v450 k0_hw64 k0_h3 k0_h4 => k0_hw64.2 k0_h3 k0_h4 (k0_off191_inb i v28 v42 v450 k0_hw64 k0_h3 k0_h4)

def k0_off192 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_327 : BitVec 32 := 0#32
  let c0_i32_328 : BitVec 32 := 0#32
  ![v85.toNat, 30, 0, 0]
def k0_off193 (i : grid0.Coords) : Fin 1 → Nat :=
  let arg0 : BitVec 32 := BitVec.ofNat 32 (i 0).val
  let c1_i32_49 : BitVec 32 := 1#32
  let v84 : BitVec 32 := Scalar.addi arg0 c1_i32_49
  let c32_i32_333 : BitVec 32 := 32#32
  let v459 : BitVec 32 := Scalar.muli v84 c32_i32_333
  let c31_i32 : BitVec 32 := 31#32
  let v460 : BitVec 32 := Scalar.addi v459 c31_i32
  let v461 : Index := Scalar.indexCast v460
  ![v461.toNat]

def k0_chk33 (i : grid0.Coords) (v28 : BitVec 32) (v42 : BitVec 32) : Prop :=
  (∀ (k0_h3 : k0_cond3 v28 = 1#1), ∀ (k0_h4 : k0_cond4 i v42 = 1#1), ∀ a, (k0_off38 i) a + S1.size a ≤ S7072.size a) ∧
  (∀ (k0_h3 : k0_cond3 v28 = 1#1), ∀ (k0_h4 : k0_cond4 i v42 = 1#1), ∀ a, (k0_off43 i) a + S1.size a ≤ S7072.size a) ∧
  (∀ (k0_h3 : k0_cond3 v28 = 1#1), ∀ (k0_h4 : k0_cond4 i v42 = 1#1), ∀ a, (k0_off48 i) a + S1.size a ≤ S7072.size a) ∧
  (∀ (k0_h3 : k0_cond3 v28 = 1#1), ∀ (k0_h4 : k0_cond4 i v42 = 1#1), ∀ a, (k0_off53 i) a + S1.size a ≤ S7072.size a) ∧
  (∀ (k0_h3 : k0_cond3 v28 = 1#1), ∀ (k0_h4 : k0_cond4 i v42 = 1#1), ∀ a, (k0_off58 i) a + S1.size a ≤ S7072.size a) ∧
  (∀ (k0_h3 : k0_cond3 v28 = 1#1), ∀ (k0_h4 : k0_cond4 i v42 = 1#1), ∀ a, (k0_off63 i) a + S1.size a ≤ S7072.size a) ∧
  (∀ (k0_h3 : k0_cond3 v28 = 1#1), ∀ (k0_h4 : k0_cond4 i v42 = 1#1), ∀ a, (k0_off68 i) a + S1.size a ≤ S7072.size a) ∧
  (∀ (k0_h3 : k0_cond3 v28 = 1#1), ∀ (k0_h4 : k0_cond4 i v42 = 1#1), ∀ a, (k0_off73 i) a + S1.size a ≤ S7072.size a) ∧
  (∀ (k0_h3 : k0_cond3 v28 = 1#1), ∀ (k0_h4 : k0_cond4 i v42 = 1#1), ∀ a, (k0_off78 i) a + S1.size a ≤ S7072.size a) ∧
  (∀ (k0_h3 : k0_cond3 v28 = 1#1), ∀ (k0_h4 : k0_cond4 i v42 = 1#1), ∀ a, (k0_off83 i) a + S1.size a ≤ S7072.size a) ∧
  (∀ (k0_h3 : k0_cond3 v28 = 1#1), ∀ (k0_h4 : k0_cond4 i v42 = 1#1), ∀ a, (k0_off88 i) a + S1.size a ≤ S7072.size a) ∧
  (∀ (k0_h3 : k0_cond3 v28 = 1#1), ∀ (k0_h4 : k0_cond4 i v42 = 1#1), ∀ a, (k0_off93 i) a + S1.size a ≤ S7072.size a) ∧
  (∀ (k0_h3 : k0_cond3 v28 = 1#1), ∀ (k0_h4 : k0_cond4 i v42 = 1#1), ∀ a, (k0_off98 i) a + S1.size a ≤ S7072.size a) ∧
  (∀ (k0_h3 : k0_cond3 v28 = 1#1), ∀ (k0_h4 : k0_cond4 i v42 = 1#1), ∀ a, (k0_off103 i) a + S1.size a ≤ S7072.size a) ∧
  (∀ (k0_h3 : k0_cond3 v28 = 1#1), ∀ (k0_h4 : k0_cond4 i v42 = 1#1), ∀ a, (k0_off108 i) a + S1.size a ≤ S7072.size a) ∧
  (∀ (k0_h3 : k0_cond3 v28 = 1#1), ∀ (k0_h4 : k0_cond4 i v42 = 1#1), ∀ a, (k0_off113 i) a + S1.size a ≤ S7072.size a) ∧
  (∀ (k0_h3 : k0_cond3 v28 = 1#1), ∀ (k0_h4 : k0_cond4 i v42 = 1#1), ∀ a, (k0_off118 i) a + S1.size a ≤ S7072.size a) ∧
  (∀ (k0_h3 : k0_cond3 v28 = 1#1), ∀ (k0_h4 : k0_cond4 i v42 = 1#1), ∀ a, (k0_off123 i) a + S1.size a ≤ S7072.size a) ∧
  (∀ (k0_h3 : k0_cond3 v28 = 1#1), ∀ (k0_h4 : k0_cond4 i v42 = 1#1), ∀ a, (k0_off128 i) a + S1.size a ≤ S7072.size a) ∧
  (∀ (k0_h3 : k0_cond3 v28 = 1#1), ∀ (k0_h4 : k0_cond4 i v42 = 1#1), ∀ a, (k0_off133 i) a + S1.size a ≤ S7072.size a) ∧
  (∀ (k0_h3 : k0_cond3 v28 = 1#1), ∀ (k0_h4 : k0_cond4 i v42 = 1#1), ∀ a, (k0_off138 i) a + S1.size a ≤ S7072.size a) ∧
  (∀ (k0_h3 : k0_cond3 v28 = 1#1), ∀ (k0_h4 : k0_cond4 i v42 = 1#1), ∀ a, (k0_off143 i) a + S1.size a ≤ S7072.size a) ∧
  (∀ (k0_h3 : k0_cond3 v28 = 1#1), ∀ (k0_h4 : k0_cond4 i v42 = 1#1), ∀ a, (k0_off148 i) a + S1.size a ≤ S7072.size a) ∧
  (∀ (k0_h3 : k0_cond3 v28 = 1#1), ∀ (k0_h4 : k0_cond4 i v42 = 1#1), ∀ a, (k0_off153 i) a + S1.size a ≤ S7072.size a) ∧
  (∀ (k0_h3 : k0_cond3 v28 = 1#1), ∀ (k0_h4 : k0_cond4 i v42 = 1#1), ∀ a, (k0_off158 i) a + S1.size a ≤ S7072.size a) ∧
  (∀ (k0_h3 : k0_cond3 v28 = 1#1), ∀ (k0_h4 : k0_cond4 i v42 = 1#1), ∀ a, (k0_off163 i) a + S1.size a ≤ S7072.size a) ∧
  (∀ (k0_h3 : k0_cond3 v28 = 1#1), ∀ (k0_h4 : k0_cond4 i v42 = 1#1), ∀ a, (k0_off168 i) a + S1.size a ≤ S7072.size a) ∧
  (∀ (k0_h3 : k0_cond3 v28 = 1#1), ∀ (k0_h4 : k0_cond4 i v42 = 1#1), ∀ a, (k0_off173 i) a + S1.size a ≤ S7072.size a) ∧
  (∀ (k0_h3 : k0_cond3 v28 = 1#1), ∀ (k0_h4 : k0_cond4 i v42 = 1#1), ∀ a, (k0_off178 i) a + S1.size a ≤ S7072.size a) ∧
  (∀ (k0_h3 : k0_cond3 v28 = 1#1), ∀ (k0_h4 : k0_cond4 i v42 = 1#1), ∀ a, (k0_off183 i) a + S1.size a ≤ S7072.size a) ∧
  (∀ (k0_h3 : k0_cond3 v28 = 1#1), ∀ (k0_h4 : k0_cond4 i v42 = 1#1), ∀ a, (k0_off188 i) a + S1.size a ≤ S7072.size a) ∧
  (∀ (k0_h3 : k0_cond3 v28 = 1#1), ∀ (k0_h4 : k0_cond4 i v42 = 1#1), ∀ a, (k0_off193 i) a + S1.size a ≤ S7072.size a)
theorem k0_off38_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off38 i) a + S1.size a ≤ S7072.size a := fun i v28 v42 k0_hw33 k0_h3 k0_h4 => k0_hw33.1 k0_h3 k0_h4
theorem k0_off43_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off43 i) a + S1.size a ≤ S7072.size a := fun i v28 v42 k0_hw33 k0_h3 k0_h4 => k0_hw33.2.1 k0_h3 k0_h4
theorem k0_off48_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off48 i) a + S1.size a ≤ S7072.size a := fun i v28 v42 k0_hw33 k0_h3 k0_h4 => k0_hw33.2.2.1 k0_h3 k0_h4
theorem k0_off53_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off53 i) a + S1.size a ≤ S7072.size a := fun i v28 v42 k0_hw33 k0_h3 k0_h4 => k0_hw33.2.2.2.1 k0_h3 k0_h4
theorem k0_off58_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off58 i) a + S1.size a ≤ S7072.size a := fun i v28 v42 k0_hw33 k0_h3 k0_h4 => k0_hw33.2.2.2.2.1 k0_h3 k0_h4
theorem k0_off63_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off63 i) a + S1.size a ≤ S7072.size a := fun i v28 v42 k0_hw33 k0_h3 k0_h4 => k0_hw33.2.2.2.2.2.1 k0_h3 k0_h4
theorem k0_off68_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off68 i) a + S1.size a ≤ S7072.size a := fun i v28 v42 k0_hw33 k0_h3 k0_h4 => k0_hw33.2.2.2.2.2.2.1 k0_h3 k0_h4
theorem k0_off73_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off73 i) a + S1.size a ≤ S7072.size a := fun i v28 v42 k0_hw33 k0_h3 k0_h4 => k0_hw33.2.2.2.2.2.2.2.1 k0_h3 k0_h4
theorem k0_off78_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off78 i) a + S1.size a ≤ S7072.size a := fun i v28 v42 k0_hw33 k0_h3 k0_h4 => k0_hw33.2.2.2.2.2.2.2.2.1 k0_h3 k0_h4
theorem k0_off83_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off83 i) a + S1.size a ≤ S7072.size a := fun i v28 v42 k0_hw33 k0_h3 k0_h4 => k0_hw33.2.2.2.2.2.2.2.2.2.1 k0_h3 k0_h4
theorem k0_off88_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off88 i) a + S1.size a ≤ S7072.size a := fun i v28 v42 k0_hw33 k0_h3 k0_h4 => k0_hw33.2.2.2.2.2.2.2.2.2.2.1 k0_h3 k0_h4
theorem k0_off93_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off93 i) a + S1.size a ≤ S7072.size a := fun i v28 v42 k0_hw33 k0_h3 k0_h4 => k0_hw33.2.2.2.2.2.2.2.2.2.2.2.1 k0_h3 k0_h4
theorem k0_off98_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off98 i) a + S1.size a ≤ S7072.size a := fun i v28 v42 k0_hw33 k0_h3 k0_h4 => k0_hw33.2.2.2.2.2.2.2.2.2.2.2.2.1 k0_h3 k0_h4
theorem k0_off103_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off103 i) a + S1.size a ≤ S7072.size a := fun i v28 v42 k0_hw33 k0_h3 k0_h4 => k0_hw33.2.2.2.2.2.2.2.2.2.2.2.2.2.1 k0_h3 k0_h4
theorem k0_off108_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off108 i) a + S1.size a ≤ S7072.size a := fun i v28 v42 k0_hw33 k0_h3 k0_h4 => k0_hw33.2.2.2.2.2.2.2.2.2.2.2.2.2.2.1 k0_h3 k0_h4
theorem k0_off113_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off113 i) a + S1.size a ≤ S7072.size a := fun i v28 v42 k0_hw33 k0_h3 k0_h4 => k0_hw33.2.2.2.2.2.2.2.2.2.2.2.2.2.2.2.1 k0_h3 k0_h4
theorem k0_off118_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off118 i) a + S1.size a ≤ S7072.size a := fun i v28 v42 k0_hw33 k0_h3 k0_h4 => k0_hw33.2.2.2.2.2.2.2.2.2.2.2.2.2.2.2.2.1 k0_h3 k0_h4
theorem k0_off123_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off123 i) a + S1.size a ≤ S7072.size a := fun i v28 v42 k0_hw33 k0_h3 k0_h4 => k0_hw33.2.2.2.2.2.2.2.2.2.2.2.2.2.2.2.2.2.1 k0_h3 k0_h4
theorem k0_off128_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off128 i) a + S1.size a ≤ S7072.size a := fun i v28 v42 k0_hw33 k0_h3 k0_h4 => k0_hw33.2.2.2.2.2.2.2.2.2.2.2.2.2.2.2.2.2.2.1 k0_h3 k0_h4
theorem k0_off133_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off133 i) a + S1.size a ≤ S7072.size a := fun i v28 v42 k0_hw33 k0_h3 k0_h4 => k0_hw33.2.2.2.2.2.2.2.2.2.2.2.2.2.2.2.2.2.2.2.1 k0_h3 k0_h4
theorem k0_off138_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off138 i) a + S1.size a ≤ S7072.size a := fun i v28 v42 k0_hw33 k0_h3 k0_h4 => k0_hw33.2.2.2.2.2.2.2.2.2.2.2.2.2.2.2.2.2.2.2.2.1 k0_h3 k0_h4
theorem k0_off143_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off143 i) a + S1.size a ≤ S7072.size a := fun i v28 v42 k0_hw33 k0_h3 k0_h4 => k0_hw33.2.2.2.2.2.2.2.2.2.2.2.2.2.2.2.2.2.2.2.2.2.1 k0_h3 k0_h4
theorem k0_off148_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off148 i) a + S1.size a ≤ S7072.size a := fun i v28 v42 k0_hw33 k0_h3 k0_h4 => k0_hw33.2.2.2.2.2.2.2.2.2.2.2.2.2.2.2.2.2.2.2.2.2.2.1 k0_h3 k0_h4
theorem k0_off153_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off153 i) a + S1.size a ≤ S7072.size a := fun i v28 v42 k0_hw33 k0_h3 k0_h4 => k0_hw33.2.2.2.2.2.2.2.2.2.2.2.2.2.2.2.2.2.2.2.2.2.2.2.1 k0_h3 k0_h4
theorem k0_off158_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off158 i) a + S1.size a ≤ S7072.size a := fun i v28 v42 k0_hw33 k0_h3 k0_h4 => k0_hw33.2.2.2.2.2.2.2.2.2.2.2.2.2.2.2.2.2.2.2.2.2.2.2.2.1 k0_h3 k0_h4
theorem k0_off163_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off163 i) a + S1.size a ≤ S7072.size a := fun i v28 v42 k0_hw33 k0_h3 k0_h4 => k0_hw33.2.2.2.2.2.2.2.2.2.2.2.2.2.2.2.2.2.2.2.2.2.2.2.2.2.1 k0_h3 k0_h4
theorem k0_off168_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off168 i) a + S1.size a ≤ S7072.size a := fun i v28 v42 k0_hw33 k0_h3 k0_h4 => k0_hw33.2.2.2.2.2.2.2.2.2.2.2.2.2.2.2.2.2.2.2.2.2.2.2.2.2.2.1 k0_h3 k0_h4
theorem k0_off173_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off173 i) a + S1.size a ≤ S7072.size a := fun i v28 v42 k0_hw33 k0_h3 k0_h4 => k0_hw33.2.2.2.2.2.2.2.2.2.2.2.2.2.2.2.2.2.2.2.2.2.2.2.2.2.2.2.1 k0_h3 k0_h4
theorem k0_off178_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off178 i) a + S1.size a ≤ S7072.size a := fun i v28 v42 k0_hw33 k0_h3 k0_h4 => k0_hw33.2.2.2.2.2.2.2.2.2.2.2.2.2.2.2.2.2.2.2.2.2.2.2.2.2.2.2.2.1 k0_h3 k0_h4
theorem k0_off183_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off183 i) a + S1.size a ≤ S7072.size a := fun i v28 v42 k0_hw33 k0_h3 k0_h4 => k0_hw33.2.2.2.2.2.2.2.2.2.2.2.2.2.2.2.2.2.2.2.2.2.2.2.2.2.2.2.2.2.1 k0_h3 k0_h4
theorem k0_off188_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off188 i) a + S1.size a ≤ S7072.size a := fun i v28 v42 k0_hw33 k0_h3 k0_h4 => k0_hw33.2.2.2.2.2.2.2.2.2.2.2.2.2.2.2.2.2.2.2.2.2.2.2.2.2.2.2.2.2.2.1 k0_h3 k0_h4
theorem k0_off193_inb : ∀ (i : grid0.Coords) (v28 : BitVec 32) (v42 : BitVec 32) (k0_hw33 : k0_chk33 i v28 v42), ∀ (k0_h3 : k0_cond3 v28 = 1#1), ∀ (k0_h4 : k0_cond4 i v42 = 1#1), ∀ a, (k0_off193 i) a + S1.size a ≤ S7072.size a := fun i v28 v42 k0_hw33 k0_h3 k0_h4 => k0_hw33.2.2.2.2.2.2.2.2.2.2.2.2.2.2.2.2.2.2.2.2.2.2.2.2.2.2.2.2.2.2.2 k0_h3 k0_h4

def k0_off194 (i : grid0.Coords) : Fin 1 → Nat :=
  let c1_i32_51 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.subi c1_i32_51 v9
  ![v86.toNat]
def k0_off195 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_335 : BitVec 32 := 0#32
  let c0_i32_336 : BitVec 32 := 0#32
  let c0_i32_337 : BitVec 32 := 0#32
  ![v85.toNat, 0, 0, 0]
def k0_off196 (v462 : BitVec 32) : Fin 3 → Nat :=
  let c0_i32_340 : BitVec 32 := 0#32
  let c0_i32_341 : BitVec 32 := 0#32
  ![v462.toNat, 0, 0]

def k0_chk65 (i : grid0.Coords) (v28 : BitVec 32) (v42 : BitVec 32) (v462 : BitVec 32) : Prop :=
  (∀ (k0_h3 : k0_cond3 v28 = 1#1), ∀ (k0_h4 : k0_cond4 i v42 = 1#1), ∀ a, (k0_off196 v462) a + S1x16x1024.size a ≤ S6144x16x1024.size a) ∧
  (∀ (k0_h3 : k0_cond3 v28 = 1#1), ∀ (k0_h4 : k0_cond4 i v42 = 1#1), ∀ (hinb : ∀ a, (k0_off196 v462) a + S1x16x1024.size a ≤ S6144x16x1024.size a), (Rect.unit (s := S6144x16x1024) (k0_off196 v462) S1x16x1024.size hinb).WholeWords (EltTy.packing .bf16))
theorem k0_off196_inb : ∀ (i : grid0.Coords) (v28 : BitVec 32) (v42 : BitVec 32) (v462 : BitVec 32) (k0_hw65 : k0_chk65 i v28 v42 v462), ∀ (k0_h3 : k0_cond3 v28 = 1#1), ∀ (k0_h4 : k0_cond4 i v42 = 1#1), ∀ a, (k0_off196 v462) a + S1x16x1024.size a ≤ S6144x16x1024.size a := fun i v28 v42 v462 k0_hw65 k0_h3 k0_h4 => k0_hw65.1 k0_h3 k0_h4
theorem k0_off196_wordsbf16 : ∀ (i : grid0.Coords) (v28 : BitVec 32) (v42 : BitVec 32) (v462 : BitVec 32) (k0_hw65 : k0_chk65 i v28 v42 v462), ∀ (k0_h3 : k0_cond3 v28 = 1#1), ∀ (k0_h4 : k0_cond4 i v42 = 1#1), (Rect.unit (s := S6144x16x1024) (k0_off196 v462) S1x16x1024.size (k0_off196_inb i v28 v42 v462 k0_hw65 k0_h3 k0_h4)).WholeWords (EltTy.packing .bf16) := fun i v28 v42 v462 k0_hw65 k0_h3 k0_h4 => k0_hw65.2 k0_h3 k0_h4 (k0_off196_inb i v28 v42 v462 k0_hw65 k0_h3 k0_h4)

def k0_off197 (i : grid0.Coords) : Fin 4 → Nat :=
  let c1_i32_50 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : BitVec 32 := Scalar.subi c1_i32_50 v9
  let c0_i32_336 : BitVec 32 := 0#32
  let c0_i32_337 : BitVec 32 := 0#32
  ![v85.toNat, 31, 0, 0]
def k0_off198 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off199 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_18 : BitVec 32 := 0#32
  let c0_i32_19 : BitVec 32 := 0#32
  let c0_i32_20 : BitVec 32 := 0#32
  ![v9.toNat, 0, 0, 0]
def k0_off200 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v52 : Index := Scalar.indexCast v9
  let c0_24 : Index := 0#32
  let c0_25 : Index := 0#32
  let c0_26 : Index := 0#32
  ![v52.toNat, 0, 0, 0]
def k0_off201 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : Index := Scalar.indexCast v9
  let c16 : Index := 16#32
  let c0_32 : Index := 0#32
  let c0_33 : Index := 0#32
  ![v60.toNat, 16, 0, 0]
def k0_off202 (i : grid0.Coords) : Fin 1 → Nat :=
  let arg0 : BitVec 32 := BitVec.ofNat 32 (i 0).val
  let v32 : Index := Scalar.indexCast arg0
  ![v32.toNat]
def k0_cond5 (v33 : BitVec 32) : BitVec 1 :=
  let c0_i32_12 : BitVec 32 := 0#32
  let v34 : BitVec 1 := Scalar.cmpi .eq v33 c0_i32_12
  let v35 : BitVec 32 := Scalar.extui v34
  let c0_i32_13 : BitVec 32 := 0#32
  let v36 : BitVec 1 := Scalar.cmpi .ne v35 c0_i32_13
  v36

def cc0_transform_1 (k0_off1_inb : ∀ i : grid0.Coords, ∀ a, (k0_off1 i) a + S1.size a ≤ S221.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S221) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S221.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S221) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S221.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S221) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S221 : Shape := ⟨1, ![221]⟩
abbrev S7072 : Shape := ⟨1, ![7072]⟩
abbrev S6144x16x1024 : Shape := ⟨3, ![6144, 16, 1024]⟩
abbrev S64x1024x256 : Shape := ⟨3, ![64, 1024, 256]⟩
abbrev S64x256x1024 : Shape := ⟨3, ![64, 256, 1024]⟩
abbrev S_ : Shape := ⟨0, ![]⟩
abbrev S7072x1 : Shape := ⟨2, ![7072, 1]⟩
abbrev S7072x16x1024 : Shape := ⟨3, ![7072, 16, 1024]⟩
abbrev S221x512x1024 : Shape := ⟨3, ![221, 512, 1024]⟩
abbrev S221x1 : Shape := ⟨2, ![221, 1]⟩
abbrev S221x1024x256 : Shape := ⟨3, ![221, 1024, 256]⟩
abbrev S221x512x256 : Shape := ⟨3, ![221, 512, 256]⟩
abbrev S221x256x1024 : Shape := ⟨3, ![221, 256, 1024]⟩
abbrev S221x1x1 : Shape := ⟨3, ![221, 1, 1]⟩
abbrev S113152x1024 : Shape := ⟨2, ![113152, 1024]⟩

abbrev nBuf : Space → Nat
  | .hbm => 69
  | .vmem => 0
  | .smem => 0
  | _ => 0

abbrev bufTy : (tb : Table) → Fin (tcTables nBuf tb) → BufTy
  | .hbm, ⟨0, _⟩ => ⟨S221, .i32⟩
  | .hbm, ⟨1, _⟩ => ⟨S221, .i32⟩
  | .hbm, ⟨2, _⟩ => ⟨S7072, .i32⟩
  | .hbm, ⟨3, _⟩ => ⟨S6144x16x1024, .bf16⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S_, .i32⟩
  | .hbm, ⟨8, _⟩ => ⟨S7072, .i32⟩
  | .hbm, ⟨9, _⟩ => ⟨S7072, .i1⟩
  | .hbm, ⟨10, _⟩ => ⟨S_, .i32⟩
  | .hbm, ⟨11, _⟩ => ⟨S7072, .i32⟩
  | .hbm, ⟨12, _⟩ => ⟨S7072, .i32⟩
  | .hbm, ⟨13, _⟩ => ⟨S7072, .i32⟩
  | .hbm, ⟨14, _⟩ => ⟨S7072x1, .i32⟩
  | .hbm, ⟨15, _⟩ => ⟨S7072x16x1024, .bf16⟩
  | .hbm, ⟨16, _⟩ => ⟨S221x512x1024, .bf16⟩
  | .hbm, ⟨17, _⟩ => ⟨S221x512x1024, .f32⟩
  | .hbm, ⟨18, _⟩ => ⟨S_, .i32⟩
  | .hbm, ⟨19, _⟩ => ⟨S221, .i32⟩
  | .hbm, ⟨20, _⟩ => ⟨S221, .i1⟩
  | .hbm, ⟨21, _⟩ => ⟨S_, .i32⟩
  | .hbm, ⟨22, _⟩ => ⟨S221, .i32⟩
  | .hbm, ⟨23, _⟩ => ⟨S221, .i32⟩
  | .hbm, ⟨24, _⟩ => ⟨S221, .i32⟩
  | .hbm, ⟨25, _⟩ => ⟨S221x1, .i32⟩
  | .hbm, ⟨26, _⟩ => ⟨S221x1024x256, .f32⟩
  | .hbm, ⟨27, _⟩ => ⟨S221x512x256, .f32⟩
  | .hbm, ⟨28, _⟩ => ⟨S_, .i32⟩
  | .hbm, ⟨29, _⟩ => ⟨S221, .i32⟩
  | .hbm, ⟨30, _⟩ => ⟨S221, .i1⟩
  | .hbm, ⟨31, _⟩ => ⟨S_, .i32⟩
  | .hbm, ⟨32, _⟩ => ⟨S221, .i32⟩
  | .hbm, ⟨33, _⟩ => ⟨S221, .i32⟩
  | .hbm, ⟨34, _⟩ => ⟨S221, .i32⟩
  | .hbm, ⟨35, _⟩ => ⟨S221x1, .i32⟩
  | .hbm, ⟨36, _⟩ => ⟨S221x1024x256, .f32⟩
  | .hbm, ⟨37, _⟩ => ⟨S221x512x256, .f32⟩
  | .hbm, ⟨38, _⟩ => ⟨S221x512x256, .f32⟩
  | .hbm, ⟨39, _⟩ => ⟨S221x512x256, .f32⟩
  | .hbm, ⟨40, _⟩ => ⟨S_, .f32⟩
  | .hbm, ⟨41, _⟩ => ⟨S221x512x256, .f32⟩
  | .hbm, ⟨42, _⟩ => ⟨S221x512x256, .f32⟩
  | .hbm, ⟨43, _⟩ => ⟨S_, .f32⟩
  | .hbm, ⟨44, _⟩ => ⟨S221x512x256, .f32⟩
  | .hbm, ⟨45, _⟩ => ⟨S221x512x256, .f32⟩
  | .hbm, ⟨46, _⟩ => ⟨S221x512x256, .f32⟩
  | .hbm, ⟨47, _⟩ => ⟨S221x512x256, .f32⟩
  | .hbm, ⟨48, _⟩ => ⟨S_, .i32⟩
  | .hbm, ⟨49, _⟩ => ⟨S221, .i32⟩
  | .hbm, ⟨50, _⟩ => ⟨S221, .i1⟩
  | .hbm, ⟨51, _⟩ => ⟨S_, .i32⟩
  | .hbm, ⟨52, _⟩ => ⟨S221, .i32⟩
  | .hbm, ⟨53, _⟩ => ⟨S221, .i32⟩
  | .hbm, ⟨54, _⟩ => ⟨S221, .i32⟩
  | .hbm, ⟨55, _⟩ => ⟨S221x1, .i32⟩
  | .hbm, ⟨56, _⟩ => ⟨S221x256x1024, .f32⟩
  | .hbm, ⟨57, _⟩ => ⟨S221x512x1024, .f32⟩
  | .hbm, ⟨58, _⟩ => ⟨S221x1x1, .i32⟩
  | .hbm, ⟨59, _⟩ => ⟨S_, .i32⟩
  | .hbm, ⟨60, _⟩ => ⟨S221x1x1, .i32⟩
  | .hbm, ⟨61, _⟩ => ⟨S221x1x1, .i1⟩
  | .hbm, ⟨62, _⟩ => ⟨S_, .f32⟩
  | .hbm, ⟨63, _⟩ => ⟨S_, .f32⟩
  | .hbm, ⟨64, _⟩ => ⟨S221x512x1024, .i1⟩
  | .hbm, ⟨65, _⟩ => ⟨S221x512x1024, .f32⟩
  | .hbm, ⟨66, _⟩ => ⟨S221x512x1024, .f32⟩
  | .hbm, ⟨67, _⟩ => ⟨S113152x1024, .f32⟩
  | .hbm, ⟨68, _⟩ => ⟨S113152x1024, .bf16⟩
  | _, _ => ⟨S221, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== Kernel2.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S40x1024 : Shape := ⟨2, ![40, 1024]⟩
abbrev S40x1 : Shape := ⟨2, ![40, 1]⟩
abbrev S98304x1024 : Shape := ⟨2, ![98304, 1024]⟩
abbrev S2x32768 : Shape := ⟨2, ![2, 32768]⟩
abbrev S1x512x512 : Shape := ⟨3, ![1, 512, 512]⟩
abbrev S1x512x1024 : Shape := ⟨3, ![1, 512, 1024]⟩
abbrev S1x6x1024 : Shape := ⟨3, ![1, 6, 1024]⟩
abbrev S1536x1024 : Shape := ⟨2, ![1536, 1024]⟩
abbrev S2x512 : Shape := ⟨2, ![2, 512]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S40x512 : Shape := ⟨2, ![40, 512]⟩
abbrev S8x512 : Shape := ⟨2, ![8, 512]⟩
abbrev S32x512 : Shape := ⟨2, ![32, 512]⟩
abbrev S32x1024 : Shape := ⟨2, ![32, 1024]⟩
abbrev S32 : Shape := ⟨1, ![32]⟩
abbrev S32x1 : Shape := ⟨2, ![32, 1]⟩
abbrev S32x32 : Shape := ⟨2, ![32, 32]⟩
abbrev S32x128 : Shape := ⟨2, ![32, 128]⟩
abbrev S1024 : Shape := ⟨1, ![1024]⟩
abbrev S1536x512 : Shape := ⟨2, ![1536, 512]⟩

abbrev nBuf : Space → Nat
  | .hbm => 20
  | .vmem => 26
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x6x1024, .f32⟩
  | .hbm, ⟨4, _⟩ => ⟨S4x128x128, .bf16⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S40x1024, .bf16⟩
  | .hbm, ⟨9, _⟩ => ⟨S40x1024, .bf16⟩
  | .hbm, ⟨10, _⟩ => ⟨S40x1, .f32⟩
  | .hbm, ⟨11, _⟩ => ⟨S1024x1024, .i32⟩
  | .hbm, ⟨12, _⟩ => ⟨S1024x1024, .i32⟩
  | .hbm, ⟨13, _⟩ => ⟨S1024x1024, .i1⟩
  | .hbm, ⟨14, _⟩ => ⟨S1024x1024, .bf16⟩
  | .hbm, ⟨15, _⟩ => ⟨S8x4096x1024, .f32⟩
  | .hbm, ⟨16, _⟩ => ⟨S98304x1024, .bf16⟩
  | .hbm, ⟨17, _⟩ => ⟨S2x32768, .i32⟩
  | .hbm, ⟨18, _⟩ => ⟨S2x32768, .f32⟩
  | .hbm, ⟨19, _⟩ => ⟨S2x32768, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S4x128x128, .bf16⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S40x1024, .bf16⟩
  | .local _ .vmem, ⟨13, _⟩ => ⟨S40x1024, .bf16⟩
  | .local _ .vmem, ⟨14, _⟩ => ⟨S40x1, .f32⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1536x1024, .bf16⟩
  | .local _ .vmem, ⟨19, _⟩ => ⟨S1536x1024, .bf16⟩
  | .local _ .vmem, ⟨20, _⟩ => ⟨S2x512, .i32⟩
  | .local _ .vmem, ⟨21, _⟩ => ⟨S2x512, .i32⟩
  | .local _ .vmem, ⟨22, _⟩ => ⟨S2x512, .f32⟩
  | .local _ .vmem, ⟨23, _⟩ => ⟨S2x512, .f32⟩
  | .local _ .vmem, ⟨24, _⟩ => ⟨S2x512, .f32⟩
  | .local _ .vmem, ⟨25, _⟩ => ⟨S2x512, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S40x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S40x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S40x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1536x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S40x1024 : Shape := ⟨2, ![40, 1024]⟩
abbrev S40x1 : Shape := ⟨2, ![40, 1]⟩
abbrev S8x4096x4x128 : Shape := ⟨4, ![8, 4096, 4, 128]⟩
abbrev S4x128x8x4096 : Shape := ⟨4, ![4, 128, 8, 4096]⟩
abbrev S512 : Shape := ⟨1, ![512]⟩
abbrev S1x1x512 : Shape := ⟨3, ![1, 1, 512]⟩
abbrev S8x1x1024 : Shape := ⟨3, ![8, 1, 1024]⟩
abbrev S8x1024 : Shape := ⟨2, ![8, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x6x1024, .f32⟩
  | .hbm, ⟨4, _⟩ => ⟨S4x128x128, .bf16⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S40x1024, .bf16⟩
  | .hbm, ⟨9, _⟩ => ⟨S40x1024, .bf16⟩
  | .hbm, ⟨10, _⟩ => ⟨S40x1, .f32⟩
  | .hbm, ⟨11, _⟩ => ⟨S8x4096x512, .f32⟩
  | .hbm, ⟨12, _⟩ => ⟨S8x4096x4x128, .f32⟩
  | .hbm, ⟨13, _⟩ => ⟨S4x128x128, .f32⟩
  | .hbm, ⟨14, _⟩ => ⟨S4x128x8x4096, .f32⟩
  | .hbm, ⟨15, _⟩ => ⟨S8x4096x4x128, .f32⟩
  | .hbm, ⟨16, _⟩ => ⟨S8x4096x512, .f32⟩
  | .hbm, ⟨17, _⟩ => ⟨S512, .f32⟩
  | .hbm, ⟨18, _⟩ => ⟨S1x1x512, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S8x4096x1024, .f32⟩
  | .hbm, ⟨23, _⟩ => ⟨S1024x1024, .f32⟩
  | .hbm, ⟨24, _⟩ => ⟨S8x4096x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6x1024 : Shape := ⟨3, ![8, 6, 1024]⟩
abbrev S1x1024 : Shape := ⟨2, ![1, 1024]⟩
abbrev S1024x1536 : Shape := ⟨2, ![1024, 1536]⟩
abbrev S1024x128 : Shape := ⟨2, ![1024, 128]⟩
abbrev S1x128 : Shape := ⟨2, ![1, 128]⟩
abbrev S1024x512 : Shape := ⟨2, ![1024, 512]⟩
abbrev S3x128x128 : Shape := ⟨3, ![3, 128, 128]⟩
abbrev S8x512x4096 : Shape := ⟨3, ![8, 512, 4096]⟩
abbrev S8x4096x640 : Shape := ⟨3, ![8, 4096, 640]⟩
abbrev S8x4096x512 : Shape := ⟨3, ![8, 4096, 512]⟩
abbrev S1x512x1024 : Shape := ⟨3, ![1, 512, 1024]⟩
abbrev S1x6x1024 : Shape := ⟨3, ![1, 6, 1024]⟩
abbrev S1x512x512 : Shape := ⟨3, ![1, 512, 512]⟩
abbrev S1x512x640 : Shape := ⟨3, ![1, 512, 640]⟩
abbrev S528x512 : Shape := ⟨2, ![528, 512]⟩
abbrev S512x1024 : Shape := ⟨2, ![512, 1024]⟩
abbrev S16x512 : Shape := ⟨2, ![16, 512]⟩
abbrev S1x1x1024 : Shape := ⟨3, ![1, 1, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S512x1536 : Shape := ⟨2, ![512, 1536]⟩
abbrev S128x128 : Shape := ⟨2, ![128, 128]⟩
abbrev S1x128x128 : Shape := ⟨3, ![1, 128, 128]⟩
abbrev S512x640 : Shape := ⟨2, ![512, 640]⟩

abbrev nBuf : Space → Nat
  | .hbm => 12
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1x1024, .f32⟩
  | .hbm, ⟨3, _⟩ => ⟨S1024x1536, .bf16⟩
  | .hbm, ⟨4, _⟩ => ⟨S1024x128, .bf16⟩
  | .hbm, ⟨5, _⟩ => ⟨S1x128, .f32⟩
  | .hbm, ⟨6, _⟩ => ⟨S1024x512, .bf16⟩
  | .hbm, ⟨7, _⟩ => ⟨S3x128x128, .bf16⟩
  | .hbm, ⟨8, _⟩ => ⟨S8x512x4096, .bf16⟩
  | .hbm, ⟨9, _⟩ => ⟨S8x4096x640, .bf16⟩
  | .hbm, ⟨10, _⟩ => ⟨S8x512x4096, .bf16⟩
  | .hbm, ⟨11, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1024x128, .bf16⟩
  | .local _ .vmem, ⟨7, _⟩ => ⟨S1x128, .f32⟩
  | .local _ .vmem, ⟨8, _⟩ => ⟨S1024x512, .bf16⟩
  | .local _ .vmem, ⟨9, _⟩ => ⟨S3x128x128, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x640, .bf16⟩
  | .local _ .vmem, ⟨13, _⟩ => ⟨S1x512x640, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x128, .f32⟩
  | .local _ .vmem, ⟨19, _⟩ => ⟨S528x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x4096x1024 : Shape := ⟨3, ![8, 4096, 1024]⟩
abbrev S8x6x1024 : Shape := ⟨3, ![8, 6, 1024]⟩
abbrev S1x1024 : Shape := ⟨2, ![1, 1024]⟩
abbrev S1024x1536 : Shape := ⟨2, ![1024, 1536]⟩
abbrev S1024x128 : Shape := ⟨2, ![1024, 128]⟩
abbrev S1x128 : Shape := ⟨2, ![1, 128]⟩
abbrev S1024x512 : Shape := ⟨2, ![1024, 512]⟩
abbrev S3x128x128 : Shape := ⟨3, ![3, 128, 128]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S8x1x1024 : Shape := ⟨3, ![8, 1, 1024]⟩
abbrev S8x1024 : Shape := ⟨2, ![8, 1024]⟩
abbrev S512x8x4096 : Shape := ⟨3, ![512, 8, 4096]⟩
abbrev S8x512x4096 : Shape := ⟨3, ![8, 512, 4096]⟩
abbrev S8x4096x512 : Shape := ⟨3, ![8, 4096, 512]⟩
abbrev S4096 : Shape := ⟨1, ![4096]⟩
abbrev S4096x1 : Shape := ⟨2, ![4096, 1]⟩
abbrev S1x4096 : Shape := ⟨2, ![1, 4096]⟩
abbrev S8x4096x128 : Shape := ⟨3, ![8, 4096, 128]⟩
abbrev S4096x4096 : Shape := ⟨2, ![4096, 4096]⟩
abbrev S8x128x4096 : Shape := ⟨3, ![8, 128, 4096]⟩
abbrev S1x4096x1 : Shape := ⟨3, ![1, 4096, 1]⟩

abbrev nBuf : Space → Nat
  | .hbm => 158
  | .vmem => 0
  | .smem => 0
  | _ => 0

abbrev hbmTy0_0 (i : Nat) : BufTy := match i % 128 with
  | 0 => ⟨S8x4096x1024, .f32⟩
  | 1 => ⟨S8x6x1024, .f32⟩
  | 2 => ⟨S1x1024, .f32⟩
  | 3 => ⟨S1024x1536, .bf16⟩
  | 4 => ⟨S1024x128, .bf16⟩
  | 5 => ⟨S1x128, .f32⟩
  | 6 => ⟨S1024x512, .bf16⟩
  | 7 => ⟨S3x128x128, .bf16⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1024, .f32⟩
  | 22 => ⟨S1x1x1024, .f32⟩
  | 23 => ⟨S8x4096x1024, .f32⟩
  | 24 => ⟨S8x4096x1024, .f32⟩
  | 25 => ⟨S8x1x1024, .f32⟩
  | 26 => ⟨S8x1024, .f32⟩
  | 27 => ⟨S8x1x1024, .f32⟩
  | 28 => ⟨S_, .f32⟩
  | 29 => ⟨S8x1x1024, .f32⟩
  | 30 => ⟨S8x1x1024, .f32⟩
  | 31 => ⟨S8x4096x1024, .f32⟩
  | 32 => ⟨S8x4096x1024, .f32⟩
  | 33 => ⟨S8x1x1024, .f32⟩
  | 34 => ⟨S8x1024, .f32⟩
  | 35 => ⟨S8x1x1024, .f32⟩
  | 36 => ⟨S8x4096x1024, .f32⟩
  | 37 => ⟨S8x4096x1024, .f32⟩
  | 38 => ⟨S1024x1536, .f32⟩
  | 39 => ⟨S1024x512, .f32⟩
  | 40 => ⟨S512x8x4096, .f32⟩
  | 41 => ⟨S8x512x4096, .f32⟩
  | 42 => ⟨S_, .f32⟩
  | 43 => ⟨S8x512x4096, .f32⟩
  | 44 => ⟨S8x512x4096, .f32⟩
  | 45 => ⟨S1024x512, .f32⟩
  | 46 => ⟨S512x8x4096, .f32⟩
  | 47 => ⟨S8x512x4096, .f32⟩
  | 48 => ⟨S1024x512, .f32⟩
  | 49 => ⟨S8x4096x512, .f32⟩
  | 50 => ⟨S4096, .i32⟩
  | 51 => ⟨S4096x1, .i32⟩
  | 52 => ⟨S4096, .i32⟩
  | 53 => ⟨S1x4096, .i32⟩
  | 54 => ⟨S8x4096x128, .f32⟩
  | 55 => ⟨S4096x4096, .i32⟩
  | 56 => ⟨S4096x4096, .i32⟩
  | 57 => ⟨S4096x4096, .i1⟩
  | 58 => ⟨S_, .i32⟩
  | 59 => ⟨S1x4096, .i32⟩
  | 60 => ⟨S1x4096, .i32⟩
  | 61 => ⟨S4096x4096, .i32⟩
  | 62 => ⟨S4096x4096, .i32⟩
  | 63 => ⟨S4096x4096, .i1⟩
  | 64 => ⟨S4096x4096, .i1⟩
  | 65 => ⟨S4096x4096, .f32⟩
  | 66 => ⟨S8x128x4096, .f32⟩
  | 67 => ⟨S8x4096x128, .f32⟩
  | 68 => ⟨S_, .i32⟩
  | 69 => ⟨S4096x1, .i32⟩
  | 70 => ⟨S4096x1, .i32⟩
  | 71 => ⟨S_, .i32⟩
  | 72 => ⟨S4096x1, .i32⟩
  | 73 => ⟨S4096x1, .i32⟩
  | 74 => ⟨S4096x1, .f32⟩
  | 75 => ⟨S1x4096x1, .f32⟩
  | 76 => ⟨S8x4096x128, .f32⟩
  | 77 => ⟨S8x4096x128, .f32⟩
  | 78 => ⟨S8x4096x128, .f32⟩
  | 79 => ⟨S8x4096x128, .f32⟩
  | 80 => ⟨S4096x4096, .i32⟩
  | 81 => ⟨S4096x4096, .i32⟩
  | 82 => ⟨S4096x4096, .i1⟩
  | 83 => ⟨S_, .i32⟩
  | 84 => ⟨S1x4096, .i32⟩
  | 85 => ⟨S1x4096, .i32⟩
  | 86 => ⟨S4096x4096, .i32⟩
  | 87 => ⟨S4096x4096, .i32⟩
  | 88 => ⟨S4096x4096, .i1⟩
  | 89 => ⟨S4096x4096, .i1⟩
  | 90 => ⟨S4096x4096, .f32⟩
  | 91 => ⟨S8x128x4096, .f32⟩
  | 92 => ⟨S8x4096x128, .f32⟩
  | 93 => ⟨S_, .i32⟩
  | 94 => ⟨S4096x1, .i32⟩
  | 95 => ⟨S4096x1, .i32⟩
  | 96 => ⟨S_, .i32⟩
  | 97 => ⟨S4096x1, .i32⟩
  | 98 => ⟨S4096x1, .i32⟩
  | 99 => ⟨S4096x1, .f32⟩
  | 100 => ⟨S1x4096x1, .f32⟩
  | 101 => ⟨S8x4096x128, .f32⟩
  | 102 => ⟨S8x4096x128, .f32⟩
  | 103 => ⟨S8x4096x128, .f32⟩
  | 104 => ⟨S8x4096x128, .f32⟩
  | 105 => ⟨S4096x4096, .i32⟩
  | 106 => ⟨S4096x4096, .i32⟩
  | 107 => ⟨S4096x4096, .i1⟩
  | 108 => ⟨S_, .i32⟩
  | 109 => ⟨S1x4096, .i32⟩
  | 110 => ⟨S1x4096, .i32⟩
  | 111 => ⟨S4096x4096, .i32⟩
  | 112 => ⟨S4096x4096, .i32⟩
  | 113 => ⟨S4096x4096, .i1⟩
  | 114 => ⟨S4096x4096, .i1⟩
  | 115 => ⟨S4096x4096, .f32⟩
  | 116 => ⟨S8x128x4096, .f32⟩
  | 117 => ⟨S8x4096x128, .f32⟩
  | 118 => ⟨S_, .i32⟩
  | 119 => ⟨S4096x1, .i32⟩
  | 120 => ⟨S4096x1, .i32⟩
  | 121 => ⟨S_, .i32⟩
  | 122 => ⟨S4096x1, .i32⟩
  | 123 => ⟨S4096x1, .i32⟩
  | 124 => ⟨S4096x1, .f32⟩
  | 125 => ⟨S1x4096x1, .f32⟩
  | 126 => ⟨S8x4096x128, .f32⟩
  | 127 => ⟨S8x4096x128, .f32⟩
  | _ => ⟨S8x4096x1024, .f32⟩

abbrev hbmTy0_1 (i : Nat) : BufTy := match i % 128 with
  | 0 => ⟨S8x4096x128, .f32⟩
  | 1 => ⟨S8x4096x128, .f32⟩
  | 2 => ⟨S4096x4096, .i32⟩
  | 3 => ⟨S4096x4096, .i32⟩
  | 4 => ⟨S4096x4096, .i1⟩
  | 5 => ⟨S_, .i32⟩
  | 6 => ⟨S1x4096, .i32⟩
  | 7 => ⟨S1x4096, .i32⟩
  | 8 => ⟨S4096x4096, .i32⟩
  | 9 => ⟨S4096x4096, .i32⟩
  | 10 => ⟨S4096x4096, .i1⟩
  | 11 => ⟨S4096x4096, .i1⟩
  | 12 => ⟨S4096x4096, .f32⟩
  | 13 => ⟨S8x128x4096, .f32⟩
  | 14 => ⟨S8x4096x128, .f32⟩
  | 15 => ⟨S_, .i32⟩
  | 16 => ⟨S4096x1, .i32⟩
  | 17 => ⟨S4096x1, .i32⟩
  | 18 => ⟨S_, .i32⟩
  | 19 => ⟨S4096x1, .i32⟩
  | 20 => ⟨S4096x1, .i32⟩
  | 21 => ⟨S4096x1, .f32⟩
  | 22 => ⟨S1x4096x1, .f32⟩
  | 23 => ⟨S8x4096x128, .f32⟩
  | 24 => ⟨S8x4096x128, .f32⟩
  | 25 => ⟨S8x4096x128, .f32⟩
  | 26 => ⟨S8x512x4096, .bf16⟩
  | 27 => ⟨S8x512x4096, .bf16⟩
  | 28 => ⟨S8x4096x512, .f32⟩
  | 29 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_4 : Ref sig .tc := ⟨.hbm, 68, rfl⟩
abbrev main_v54 : Ref sig .tc := ⟨.hbm, 69, rfl⟩
abbrev main_v55 : Ref sig .tc := ⟨.hbm, 70, rfl⟩
abbrev main_c_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_6 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_7 : Ref sig .tc := ⟨.hbm, 93, rfl⟩
abbrev main_v76 : Ref sig .tc := ⟨.hbm, 94, rfl⟩
abbrev main_v77 : Ref sig .tc := ⟨.hbm, 95, rfl⟩
abbrev main_c_8 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_9 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_c_10 : Ref sig .tc := ⟨.hbm, 118, rfl⟩
abbrev main_v98 : Ref sig .tc := ⟨.hbm, 119, rfl⟩
abbrev main_v99 : Ref sig .tc := ⟨.hbm, 120, rfl⟩
abbrev main_c_11 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_c_12 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_c_13 : Ref sig .tc := ⟨.hbm, 143, rfl⟩
abbrev main_v120 : Ref sig .tc := ⟨.hbm, 144, rfl⟩
abbrev main_v121 : Ref sig .tc := ⟨.hbm, 145, rfl⟩
abbrev main_c_14 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩

abbrev nD : Nat := 1
abbrev τ : Topo := Topo.v7x

variable {F : FTy → Type} [FloatOps F]
-- ==== Kernel4.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.ICommon.lean ====
/-
  Shared definitions of the run of the experts' kernel: the proof's resource algebra, the three tables as
  total functions of a position, the requirement on them (`TabOk`), the views the row copies go through, what
  a gather buffer's slot holds once a tile's 32 row copies have landed (`gath`), and the three steps a tile's
  copies are made of: read a table word, check it, start one copy.
-/
module

public import proofs.«01_k».proof.Defs
public import Idealize.ShloMosaic.Lib.Pipeline.Launch
public import Idealize.ShloMosaic.Lib.Pipeline.Kit
public import Idealize.ShloMosaic.Lib.Pipeline.Frame
public import Idealize.ShloMosaic.Lib.Batch
public import Idealize.ShloMosaic.Lib.ValueLayout
public import Idealize.ShloMosaic.Lib.QrPanel.StackBlock
public import proofs.«01_k».proof.Proof.Gen.KernelIdeal.Launch
public import proofs.«01_k».proof.Proof.Gen.KernelIdeal.Skeleton

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

/-! ## The resource algebra -/

/-- The pipeline's rounds algebra and the counters the row copies' batches draw on. -/
abbrev UU : Type := Pipeline.UD sig nD τ

local notation "𝕄" => MT nD τ sig Unit (Elt F) ℕ UU ℕ

/-- The pipeline's component, embedded; -/
abbrev EP : Emb (UR sig nD τ) (MT nD τ sig Unit (Elt F) ℕ UU ℕ) := embL
/-- and the counters'. -/
abbrev EC : UEmb Counters (MT nD τ sig Unit (Elt F) ℕ UU ℕ) := countersEmb (U := UU)

abbrev 𝒱₀ : Variants := Variants.none

variable (m : (ℓ : Loc nD τ sig) → Buf (Elt F) ℓ)

/-! ## The tables -/

/-- The expert of tile `n`, as a word; -/
def teW (c : Dev nD) (n : ℕ) : BitVec 32 :=
  if h : n < 221 then (m ((c : Thread nD τ).loc main_arg0) : S221.Idx → BitVec 32) (ix1 (n := 221) ⟨n, h⟩) else 0#32
/-- whether tile `n` carries rows (1) or not (0); -/
def tvW (c : Dev nD) (n : ℕ) : BitVec 32 :=
  if h : n < 221 then (m ((c : Thread nD τ).loc main_arg1) : S221.Idx → BitVec 32) (ix1 (n := 221) ⟨n, h⟩) else 0#32
/-- the chunk of tokens the `n`-th chunk of rows is copied from. -/
def csW (c : Dev nD) (n : ℕ) : BitVec 32 :=
  if h : n < 7072 then (m ((c : Thread nD τ).loc main_arg2) : S7072.Idx → BitVec 32) (ix1 (n := 7072) ⟨n, h⟩) else 0#32

/-- What the certificate's precondition says of the tables, in words: experts and chunks in range, the tiles'
    marks 0 or 1, and the marked tiles a prefix. -/
structure TabOk : Prop where
  te : ∀ c n, (teW m c n).toNat < 64
  tv : ∀ c n, tvW m c n = 0#32 ∨ tvW m c n = 1#32
  mono : ∀ c n, tvW m c (n + 1) = 1#32 → tvW m c n = 1#32
  cs : ∀ c n, (csW m c n).toNat < 6144

/-- The chunk as an index. -/
def chunk (c : Dev nD) (n : ℕ) : Fin 6144 := ⟨(csW m c n).toNat % 6144, Nat.mod_lt _ (by decide)⟩

omit [FloatOps F] in
theorem chunk_val (hok : TabOk m) (c : Dev nD) (n : ℕ) : (chunk m c n).val = (csW m c n).toNat :=
  Nat.mod_eq_of_lt (hok.cs c n)

/-! ## The views of the row copies -/

abbrev teM : Memref sig .tc .smem S221 .i32 := Memref.whole main_arg0
abbrev tvM : Memref sig .tc .smem S221 .i32 := Memref.whole main_arg1
abbrev csM : Memref sig .tc .smem S7072 .i32 := Memref.whole main_arg2
abbrev xsM : Memref sig .tc .hbm S6144x16x1024 .bf16 := Memref.whole main_arg3
abbrev bfM : Memref sig .tc .vmem S2x32x16x1024 .bf16 := Memref.whole cc0_scratch0
abbrev s2M : Memref sig .tc .vmem S1024x256 .bf16 := Memref.whole cc0_scratch2
abbrev s3M : Memref sig .tc .vmem S1024x256 .bf16 := Memref.whole cc0_scratch3
abbrev s4M : Memref sig .tc .vmem S256x1024 .bf16 := Memref.whole cc0_scratch4

theorem xs_inb (w : ℕ) (h : w < 6144) : ∀ a, (![w, 0, 0] : Fin 3 → ℕ) a + S1x16x1024.size a ≤ S6144x16x1024.size a := by
  intro a; fin_cases a
  · show w + 1 ≤ 6144; omega
  · show 0 + 16 ≤ 16; omega
  · show 0 + 1024 ≤ 1024; omega

theorem bf_inb (u : Fin 2) (j : Fin 32) : ∀ a, (![u.val, j.val, 0, 0] : Fin 4 → ℕ) a + S1x1x16x1024.size a ≤ S2x32x16x1024.size a := by
  intro a; fin_cases a
  · show u.val + 1 ≤ 2; omega
  · show j.val + 1 ≤ 32; omega
  · show 0 + 16 ≤ 16; omega
  · show 0 + 1024 ≤ 1024; omega

/-- Chunk `a` of the token rows, as a copy reads it. -/
abbrev xsl (a : Fin 6144) : Memref sig .tc .hbm S16x1024 .bf16 :=
  (xsM.slice (Rect.unit (s := S6144x16x1024) ![a.val, 0, 0] S1x16x1024.size (xs_inb a.val a.isLt)) (fun _ => rfl)).squeeze
    S16x1024 squeezes_S1x16x1024_S16x1024

/-- Row `j` of the gather buffer's slot `u`, as a copy writes it. -/
abbrev row (u : Fin 2) (j : Fin 32) : Memref sig .tc .vmem S16x1024 .bf16 :=
  (bfM.slice (Rect.unit (s := S2x32x16x1024) ![u.val, j.val, 0, 0] S1x1x16x1024.size (bf_inb u j)) (fun _ => rfl)).squeeze
    S16x1024 squeezes_S1x1x16x1024_S16x1024

theorem sm_inb (u : Fin 2) : ∀ a, (![u.val] : Fin 1 → ℕ) a + S1.size a ≤ S2.size a := by
  intro a; fin_cases a; show u.val + 1 ≤ 2; omega

/-- Slot `u`'s semaphore. -/
abbrev rsem (u : Fin 2) : DmaSem sig :=
  ((cc0_scratch1.slice (Rect.unit (s := S2) ![u.val] S1.size (sm_inb u))).squeeze S_ squeezes_S1_S_).sem

/-- The units one row copy posts. -/
abbrev NN : ℕ := RefSig.tileCredit S16x1024 .bf16

/-- The elements of a row of a slot: those at its two leading coordinates. -/
theorem mem_row (u : Fin 2) (j : Fin 32) (y : S2x32x16x1024.Idx) :
    y ∈ (row u j).view.set ↔ (y 0).val = u.val ∧ (y 1).val = j.val := by
  have e : (row u j).view.set = (Rect.unit (s := S2x32x16x1024) ![u.val, j.val, 0, 0] S1x1x16x1024.size (bf_inb u j)).set := by
    show (((View.whole cc0_scratch0).slice _).reshape S16x1024 _).set = _
    rw [View.set_reshape, View.set_slice_whole]
  rw [e, Rect.mem_set_unit]
  have h2 : (y 2).val < 16 := (y 2).isLt
  have h3 : (y 3).val < 1024 := (y 3).isLt
  constructor
  · intro H
    have h0 : u.val ≤ (y 0).val ∧ (y 0).val < u.val + 1 := H 0
    have h1 : j.val ≤ (y 1).val ∧ (y 1).val < j.val + 1 := H 1
    omega
  · intro H a; fin_cases a
    · show u.val ≤ (y 0).val ∧ (y 0).val < u.val + 1; omega
    · show j.val ≤ (y 1).val ∧ (y 1).val < j.val + 1; omega
    · show 0 ≤ (y 2).val ∧ (y 2).val < 0 + 16; omega
    · show 0 ≤ (y 3).val ∧ (y 3).val < 0 + 1024; omega

/-- The token rows, as the kernel finds them. -/
abbrev xsB (c : Dev nD) : S6144x16x1024.Idx → Elt F .bf16 := m ((c : Thread nD τ).loc main_arg3)

/-- The gather buffer with tile `T`'s rows in place (in either slot): row `j` is chunk `32 T + j`'s source. -/
def gath (c : Dev nD) (T : ℕ) : S2x32x16x1024.Idx → Elt F .bf16 :=
  fun y => xsB m c (ix3 (chunk m c (32 * T + (y 1).val)) (y 2) (y 3))

omit [FloatOps F] in
/-- A row copy leaves in the row what `gath` says of it. -/
theorem copy_eq (c : Dev nD) (u : Fin 2) (T : ℕ) (j : Fin 32) (fd : S2x32x16x1024.Idx → Elt F .bf16) (y : S2x32x16x1024.Idx)
    (hy : y ∈ (row u j).view.set) :
    (row u j).view.write (Elt F) fd ((xsl (chunk m c (32 * T + j.val))).view.read (Elt F) (xsB m c)) Finset.univ y = gath m c T y := by
  have hy' := hy
  rw [mem_row] at hy'
  obtain ⟨x, -, rfl⟩ := Finset.mem_map.1 (show y ∈ Finset.univ.map (row u j).view.emb from hy)
  rw [View.write_emb_of_mem _ _ (Finset.mem_univ _), View.read_apply]
  have e1 : (row u j).view.emb x = (Rect.unit (s := S2x32x16x1024) ![u.val, j.val, 0, 0] S1x1x16x1024.size (bf_inb u j)).emb
      (Fin.cons ⟨0, Nat.one_pos⟩ (Fin.cons ⟨0, Nat.one_pos⟩ x)) := by
    rw [← QrPanel.StackBlock.reshapeEquiv_cons_one_one (d := ![16, 1024]) squeezes_S1x1x16x1024_S16x1024.numel_eq x]; rfl
  have e2 : (xsl (chunk m c (32 * T + j.val))).view.emb x
      = (Rect.unit (s := S6144x16x1024) ![(chunk m c (32 * T + j.val)).val, 0, 0] S1x16x1024.size (xs_inb _ (Fin.isLt _))).emb
        (Fin.cons ⟨0, Nat.one_pos⟩ x) := by
    rw [← Shape.reshapeEquiv_cons_one (d := ![16, 1024]) squeezes_S1x16x1024_S16x1024.numel_eq x]; rfl
  show xsB m c ((xsl (chunk m c (32 * T + j.val))).view.emb x) = _
  unfold gath
  rw [e2]
  refine congrArg (xsB m c) (funext fun a => Fin.ext ?_)
  match a with
  | ⟨0, _⟩ =>
    show (chunk m c (32 * T + j.val)).val + 1 * 0 = (chunk m c (32 * T + ((row u j).view.emb x 1).val)).val
    rw [hy'.2, Nat.mul_zero, Nat.add_zero]
  | ⟨1, _⟩ => rw [e1]; rfl
  | ⟨2, _⟩ => rw [e1]; rfl

/-! ## A tile's copies in flight -/

/-- The share of the token rows slot `u`'s copies read through. -/
def qs (u : Fin 2) : PosShare TreeShare := if u = 0 then fullShare.left else fullShare.right

/-- Row copy `j`'s source, held. -/
abbrev srcPts (c : Dev nD) (u : Fin 2) (T : ℕ) (j : Fin 32) : sProp 𝕄 :=
  (xsl (chunk m c (32 * T + j.val))).view.loc (c : Thread nD τ) ↦[(xsl (chunk m c (32 * T + j.val))).view.set]{Transfers.shareTok (qs u) 32 j} (xsB m c)

/-- Row `j` of slot `u`, held at contents `f` of the buffer. -/
abbrev rowPts (c : Dev nD) (u : Fin 2) (j : Fin 32) (f : S2x32x16x1024.Idx → Elt F .bf16) : sProp 𝕄 :=
  (row u j).view.loc (c : Thread nD τ) ↦[(row u j).view.set]{fullShare} f

/-- What row copy `j` of tile `T` into slot `u` hands over when it lands. -/
def Dv (c : Dev nD) (u : Fin 2) (T : ℕ) (j : Fin 32) : sProp 𝕄 :=
  iprop(rowPts c u j (gath m c T) ∗ srcPts m c u T j)

instance Dv_storable (c : Dev nD) (u : Fin 2) (T : ℕ) (j : Fin 32) : BI.Storable (upEmb : UEmb _ 𝕄) (Dv (F := F) m c u T j) := by
  unfold Dv; infer_instance

/-- Slot `u`'s batch with the first `k` of tile `T`'s copies started. -/
abbrev Bat (c : Dev nD) (u : Fin 2) (T k : ℕ) : sProp 𝕄 :=
  Batch EC (c : Thread nD τ) (.dma (rsem u)) () NN (Dv m c u T) k 0

/-- The `cs` table, held for reading. -/
abbrev csPts (c : Dev nD) : sProp 𝕄 := ((c : Thread nD τ).loc main_arg2) ↦{fullShare.right} m ((c : Thread nD τ).loc main_arg2)

/-- Between two of tile `T`'s copies: `k` started, the other rows and sources in hand, whatever else there is (`R`). -/
def St (c : Dev nD) (u : Fin 2) (T : ℕ) (R : sProp 𝕄) (k : ℕ) : sProp 𝕄 :=
  iprop(csPts m c ∗ Bat m c u T k ∗ bigSep (pending (n := 32) k) (fun j => iprop(srcPts m c u T j ∗ ∃ f, rowPts (F := F) c u j f)) ∗ R)

abbrev wpK (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- Reading the `cs` table at offset `n`. -/
theorem cs_read (c : Dev nD) {off : Fin 1 → ℕ} {inb} (n : ℕ) (hn : off 0 = n) (hlt : n < 7072) (x : S1.Idx) :
    ((csM.access (Rect.unit (s := S7072) off S1.size inb) : View sig .tc _ _ _).read (Elt F) (m ((c : Thread nD τ).loc main_arg2))) x
      = csW m c n := by
  unfold csW
  rw [dif_pos hlt]
  refine congrArg (m ((c : Thread nD τ).loc main_arg2)) (funext fun a => Fin.ext ?_)
  match a with
  | ⟨0, _⟩ =>
    have hx : (x 0).val < 1 := (x 0).isLt
    show off 0 + 1 * (x 0).val = n
    omega

/-- A word of the `cs` table is read. -/
theorem step_load {α : Type} (c : Dev nD) (u : Fin 2) (T : ℕ) (R : sProp 𝕄) (k n : ℕ) {off : Fin 1 → ℕ}
    {inb : ∀ a, off a + S1.size a ≤ S7072.size a} {h1 : S1.numel = 1} {hp} {K : Elt F .i32 → Prog (TpuEff nD τ sig (Elt F) Λ₀ .tc) α} {Q : α → sProp 𝕄}
    (hn : off 0 = n) (hlt : n < 7072)
    (H : St m c u T R k ⊢ wpK c (K (csW m c n)) Q) :
    St m c u T R k ⊢ wpK c (smemLoad csM (Rect.unit (s := S7072) off S1.size inb) h1 hp >>= K) Q := by
  refine BIBase.Entails.trans ?_ (show iprop((csPts m c -∗ wpK c (K (csW m c n)) Q) ∗ csPts m c) ⊢ _ from ?_)
  · unfold St at H ⊢
    iintro ⟨Hcs, Hr⟩
    isplitl [Hr]
    · iintro Hcs
      iapply H
      isplitl [Hcs] <;> iassumption
    · iexact Hcs
  · unfold smemLoad smemLoadElt
    simp only [Prog.bind_op, Prog.bind_ret]
    iintro ⟨Hk, Hcs⟩
    iapply (wp_load_rect 𝒱₀ (c : Thread nD τ) none Set.univ (m := csM) (r := Rect.unit (s := S7072) off S1.size inb) (Finset.subset_univ _)) $$ Hcs
    iintro Hcs
    rw [cs_read m c n hn hlt]
    iapply Hk
    iexact Hcs

/-- A check that holds is passed. -/
theorem step_assume {α : Type} (c : Dev nD) {P : Prop} {d : Decidable P} {A : sProp 𝕄}
    {K : PLift P → Prog (TpuEff nD τ sig (Elt F) Λ₀ .tc) α} {Q : α → sProp 𝕄} (h : P)
    (H : A ⊢ wpK c (K ⟨h⟩) Q) :
    A ⊢ wpK c (Prog.lift (TpuEff.assume P d) >>= K) Q :=
  H.trans (wp_assume 𝒱₀ (c : Thread nD τ) none Set.univ h)

/-- A part of the program runs, then the rest. -/
theorem step_bind {α β : Type} (c : Dev nD) {A : sProp 𝕄} {p : Prog (TpuEff nD τ sig (Elt F) Λ₀ .tc) β}
    {K : β → Prog (TpuEff nD τ sig (Elt F) Λ₀ .tc) α} {Q : α → sProp 𝕄}
    (H : A ⊢ wpK c p (fun a => wpK c (K a) Q)) : A ⊢ wpK c (p >>= K) Q := by
  show _ ⊢ wp _ _ _ _ _
  rw [wp_bind]; exact H

/-- A part's result is handed on. -/
theorem step_pure {β : Type} (c : Dev nD) {A : sProp 𝕄} {x : β} {Q : β → sProp 𝕄} (H : A ⊢ Q x) : A ⊢ wpK c (pure x) Q :=
  H.trans (le_wp_ret _ _ _ _ Q)

/-- The next copy is started. -/
theorem step_copy {α : Type} (c : Dev nD) (u : Fin 2) (T : ℕ) (R : sProp 𝕄) (k : ℕ) (hk : k < 32) (hok : TabOk m)
    {off4 : Fin 3 → ℕ} {inb4 : ∀ a, off4 a + S1x16x1024.size a ≤ S6144x16x1024.size a}
    {off9 : Fin 4 → ℕ} {inb9 : ∀ a, off9 a + S1x1x16x1024.size a ≤ S2x32x16x1024.size a}
    {off10 : Fin 1 → ℕ} {inb10 : ∀ a, off10 a + S1.size a ≤ S2.size a} {hr4 hr9 hsrc hdst hsem}
    {K : PUnit → Prog (TpuEff nD τ sig (Elt F) Λ₀ .tc) α} {Q : α → sProp 𝕄}
    (h4 : off4 = ![(csW m c (32 * T + k)).toNat, 0, 0]) (h9 : off9 = ![u.val, k, 0, 0]) (h10 : off10 = ![u.val])
    (H : St m c u T R (k + 1) ⊢ wpK c (K ⟨⟩) Q) :
    St m c u T R k ⊢ wpK c (Prog.lift (TpuEff.enqueueDma
      ((xsM.slice (Rect.unit (s := S6144x16x1024) off4 S1x16x1024.size inb4) hr4).squeeze S16x1024 squeezes_S1x16x1024_S16x1024)
      (.here ((bfM.slice (Rect.unit (s := S2x32x16x1024) off9 S1x1x16x1024.size inb9) hr9).squeeze S16x1024 squeezes_S1x1x16x1024_S16x1024))
      (.dma ((cc0_scratch1.slice (Rect.unit (s := S2) off10 S1.size inb10)).squeeze S_ squeezes_S1_S_).sem) hsrc hdst hsem) >>= K) Q := by
  have e4 : off4 = ![(chunk m c (32 * T + k)).val, 0, 0] := by rw [h4, chunk_val m hok]
  subst e4 h9 h10
  refine BIBase.Entails.trans ?_ (show iprop((Bat m c u T (k + 1) -∗ wpK c (K ⟨⟩) Q) ∗ (srcPts m c u T ⟨k, hk⟩ ∗ ∃ f, rowPts (F := F) c u ⟨k, hk⟩ f) ∗ Bat m c u T k) ⊢ _ from ?_)
  · unfold St at H ⊢
    rw [Transfers.bigSep_pending_step _ k hk]
    iintro ⟨Hcs, HB, ⟨Hs, Hp⟩, HR⟩
    isplitl [Hcs Hp HR]
    · iintro HB
      iapply H
      isplitl [Hcs]; · iexact Hcs
      isplitl [HB]; · iexact HB
      isplitl [Hp]; · iexact Hp
      iexact HR
    isplitl [Hs]; · iexact Hs
    iexact HB
  · simp only [Prog.lift, Prog.bind_op, Prog.bind_ret]
    iintro ⟨Hk, ⟨Hs, ⟨%f, Hd⟩⟩, HB⟩
    iapply (Transfers.wp_dmaBatch EC 𝒱₀ (c : Thread nD τ) none (src := xsl (chunk m c (32 * T + k))) (dst := row u ⟨k, hk⟩) (sm := .dma (rsem u))
      (D := Dv m c u T) (j := k) (u := 0) (fd := f) (fs := xsB m c) (q := Transfers.shareTok (qs u) 32 ⟨k, hk⟩) () NN rfl (Finset.Subset.refl _) hk (Nat.zero_le _)
      (by
        unfold Dv
        refine sep_mono_l (Entails.of_eq (pointsTo_congr fun y hy => ?_))
        exact copy_eq m c u T ⟨k, hk⟩ f y hy)) $$ [Hs Hd HB]
    · isplitl [Hs]; · iexact Hs
      isplitl [Hd]; · iexact Hd
      iexact HB
    iexact Hk

end Cert.KernelIdeal.Run
-- ==== Proof.IParts.lean ====
/-
  A tile's 32 row copies, part by part: each part of the printed program reads a few words of the `cs` table,
  checks them and starts their copies; a lemma per part says so, of the state `St` counting the copies started.
  First the parts of the copies for tile 0 (`start…`), then those for the tile after the point's own (`next…`).
-/
module

public import proofs.«01_k».proof.Proof.ICommon

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ)

/-- A chunk of rows is whole words: its last two axes are whole. -/
theorem xs_words (w : ℕ) (hinb) : (Rect.unit (s := S6144x16x1024) ![w, 0, 0] S1x16x1024.size hinb).WholeWords (EltTy.packing .bf16) :=
  Or.inr ⟨by decide, rfl, rfl, rfl⟩

/-- The position in the `cs` table of the `k`-th chunk of the tile after point `i`, as the kernel computes it. -/
theorem next_word (i : grid0.Coords) (T : ℕ) (hT : T = (i 0).val + 1) (k : ℕ) (hk : k < 32) :
    (Scalar.addi (Scalar.muli (Scalar.addi (BitVec.ofNat 32 (i 0).val) 1#32) 32#32) (BitVec.ofNat 32 k)).toNat = 32 * T + k := by
  have hi : (i 0).val < 221 := (i 0).isLt
  have e1 : Scalar.addi (Scalar.muli (Scalar.addi (BitVec.ofNat 32 (i 0).val) 1#32) 32#32) (BitVec.ofNat 32 k)
      = (BitVec.ofNat 32 (i 0).val + 1#32) * 32#32 + BitVec.ofNat 32 k := rfl
  rw [e1]
  simp only [BitVec.toNat_add, BitVec.toNat_mul, BitVec.toNat_ofNat]
  omega

/-- A read of the `cs` table as the last operation. -/
theorem step_load_tail (c : Dev nD) (u : Fin 2) (T : ℕ) (R : sProp 𝕄) (k n : ℕ) {off : Fin 1 → ℕ}
    {inb : ∀ a, off a + S1.size a ≤ S7072.size a} {h1 : S1.numel = 1} {hp} {Q : Elt F .i32 → sProp 𝕄}
    (hn : off 0 = n) (hlt : n < 7072) (H : St m c u T R k ⊢ Q (csW m c n)) :
    St m c u T R k ⊢ wpK c (smemLoad csM (Rect.unit (s := S7072) off S1.size inb) h1 hp) Q := by
  have e := step_load m c u T R k n (inb := inb) (h1 := h1) (hp := hp) (K := pure) hn hlt (step_pure c H)
  rwa [bind_pure] at e

section Parts

variable (hok : TabOk m) (c : Dev nD) (i : grid0.Coords)
  (a5 : Memref sig .tc .vmem S1x1024x256 .f32) (h5 : a5.IsWhole) (a6 : Memref sig .tc .vmem S1x1024x256 .f32) (h6 : a6.IsWhole)
  (a7 : Memref sig .tc .vmem S1x256x1024 .f32) (h7 : a7.IsWhole) (a8 : Memref sig .tc .vmem S512x1024 .bf16) (h8 : a8.IsWhole)

include hok in
/-- Part 1 of the program: from 0 copies started to 2. -/
theorem part1 (R : sProp 𝕄) (v11 : Elt F .i32) (k0_h1 : k0_cond1 i v11 = 1#1)
    {Q : _ → sProp 𝕄}
    (H : ∀ h, St m c 0 0 R 2 ⊢ Q ⟨(csW m c 2), h⟩) :
    St m c 0 0 R 0 ⊢ wpK c (k0_part1 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1) Q := by
  rw [k0_part1_eq_skeleton]; unfold k0_part1_skel
  refine step_load m c 0 0 R 0 0 rfl (by decide) ?_
  refine step_assume c (And.intro (fun _ => xs_inb _ (hok.cs c 0)) (fun _ hinb => xs_words _ hinb)) ?_
  refine step_copy m c 0 0 R 0 (by decide) hok rfl rfl rfl ?_
  refine step_load m c 0 0 R 1 1 rfl (by decide) ?_
  refine step_assume c (And.intro (fun _ => xs_inb _ (hok.cs c 1)) (fun _ hinb => xs_words _ hinb)) ?_
  refine step_copy m c 0 0 R 1 (by decide) hok rfl rfl rfl ?_
  refine step_load m c 0 0 R 2 2 rfl (by decide) ?_
  refine step_assume c (And.intro (fun _ => xs_inb _ (hok.cs c 2)) (fun _ hinb => xs_words _ hinb)) ?_
  exact step_pure c (H _)

include hok in
/-- Part 2 of the program: from 2 copies started to 5. -/
theorem part2 (R : sProp 𝕄) (v11 : Elt F .i32) (k0_h1 : k0_cond1 i v11 = 1#1) (k0_hw3 : k0_chk3 i v11 (csW m c 2))
    {Q : _ → sProp 𝕄}
    (H : ∀ h, St m c 0 0 R 5 ⊢ Q ⟨(csW m c 5), h⟩) :
    St m c 0 0 R 2 ⊢ wpK c (k0_part2 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 2) k0_hw3) Q := by
  rw [k0_part2_eq_skeleton]; unfold k0_part2_skel
  refine step_copy m c 0 0 R 2 (by decide) hok rfl rfl rfl ?_
  refine step_load m c 0 0 R 3 3 rfl (by decide) ?_
  refine step_assume c (And.intro (fun _ => xs_inb _ (hok.cs c 3)) (fun _ hinb => xs_words _ hinb)) ?_
  refine step_copy m c 0 0 R 3 (by decide) hok rfl rfl rfl ?_
  refine step_load m c 0 0 R 4 4 rfl (by decide) ?_
  refine step_assume c (And.intro (fun _ => xs_inb _ (hok.cs c 4)) (fun _ hinb => xs_words _ hinb)) ?_
  refine step_copy m c 0 0 R 4 (by decide) hok rfl rfl rfl ?_
  refine step_load m c 0 0 R 5 5 rfl (by decide) ?_
  refine step_assume c (And.intro (fun _ => xs_inb _ (hok.cs c 5)) (fun _ hinb => xs_words _ hinb)) ?_
  exact step_pure c (H _)

include hok in
/-- Part 3 of the program: from 5 copies started to 8. -/
theorem part3 (R : sProp 𝕄) (v11 : Elt F .i32) (k0_h1 : k0_cond1 i v11 = 1#1) (k0_hw6 : k0_chk6 i v11 (csW m c 5))
    {Q : _ → sProp 𝕄}
    (H : ∀ h, St m c 0 0 R 8 ⊢ Q ⟨(csW m c 8), h⟩) :
    St m c 0 0 R 5 ⊢ wpK c (k0_part3 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 5) k0_hw6) Q := by
  rw [k0_part3_eq_skeleton]; unfold k0_part3_skel
  refine step_copy m c 0 0 R 5 (by decide) hok rfl rfl rfl ?_
  refine step_load m c 0 0 R 6 6 rfl (by decide) ?_
  refine step_assume c (And.intro (fun _ => xs_inb _ (hok.cs c 6)) (fun _ hinb => xs_words _ hinb)) ?_
  refine step_copy m c 0 0 R 6 (by decide) hok rfl rfl rfl ?_
  refine step_load m c 0 0 R 7 7 rfl (by decide) ?_
  refine step_assume c (And.intro (fun _ => xs_inb _ (hok.cs c 7)) (fun _ hinb => xs_words _ hinb)) ?_
  refine step_copy m c 0 0 R 7 (by decide) hok rfl rfl rfl ?_
  refine step_load m c 0 0 R 8 8 rfl (by decide) ?_
  refine step_assume c (And.intro (fun _ => xs_inb _ (hok.cs c 8)) (fun _ hinb => xs_words _ hinb)) ?_
  exact step_pure c (H _)

include hok in
/-- Part 4 of the program: from 8 copies started to 10. -/
theorem part4 (R : sProp 𝕄) (v11 : Elt F .i32) (k0_h1 : k0_cond1 i v11 = 1#1) (k0_hw9 : k0_chk9 i v11 (csW m c 8))
    {Q : _ → sProp 𝕄}
    (H : ∀ h, St m c 0 0 R 10 ⊢ Q ⟨(csW m c 10), h⟩) :
    St m c 0 0 R 8 ⊢ wpK c (k0_part4 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 8) k0_hw9) Q := by
  rw [k0_part4_eq_skeleton]; unfold k0_part4_skel
  refine step_copy m c 0 0 R 8 (by decide) hok rfl rfl rfl ?_
  refine step_load m c 0 0 R 9 9 rfl (by decide) ?_
  refine step_assume c (And.intro (fun _ => xs_inb _ (hok.cs c 9)) (fun _ hinb => xs_words _ hinb)) ?_
  refine step_copy m c 0 0 R 9 (by decide) hok rfl rfl rfl ?_
  refine step_load m c 0 0 R 10 10 rfl (by decide) ?_
  refine step_assume c (And.intro (fun _ => xs_inb _ (hok.cs c 10)) (fun _ hinb => xs_words _ hinb)) ?_
  exact step_pure c (H _)

include hok in
/-- Part 5 of the program: from 10 copies started to 13. -/
theorem part5 (R : sProp 𝕄) (v11 : Elt F .i32) (k0_h1 : k0_cond1 i v11 = 1#1) (k0_hw11 : k0_chk11 i v11 (csW m c 10))
    {Q : _ → sProp 𝕄}
    (H : ∀ h, St m c 0 0 R 13 ⊢ Q ⟨(csW m c 13), h⟩) :
    St m c 0 0 R 10 ⊢ wpK c (k0_part5 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 10) k0_hw11) Q := by
  rw [k0_part5_eq_skeleton]; unfold k0_part5_skel
  refine step_copy m c 0 0 R 10 (by decide) hok rfl rfl rfl ?_
  refine step_load m c 0 0 R 11 11 rfl (by decide) ?_
  refine step_assume c (And.intro (fun _ => xs_inb _ (hok.cs c 11)) (fun _ hinb => xs_words _ hinb)) ?_
  refine step_copy m c 0 0 R 11 (by decide) hok rfl rfl rfl ?_
  refine step_load m c 0 0 R 12 12 rfl (by decide) ?_
  refine step_assume c (And.intro (fun _ => xs_inb _ (hok.cs c 12)) (fun _ hinb => xs_words _ hinb)) ?_
  refine step_copy m c 0 0 R 12 (by decide) hok rfl rfl rfl ?_
  refine step_load m c 0 0 R 13 13 rfl (by decide) ?_
  refine step_assume c (And.intro (fun _ => xs_inb _ (hok.cs c 13)) (fun _ hinb => xs_words _ hinb)) ?_
  exact step_pure c (H _)

include hok in
/-- Part 6 of the program: from 13 copies started to 16. -/
theorem part6 (R : sProp 𝕄) (v11 : Elt F .i32) (k0_h1 : k0_cond1 i v11 = 1#1) (k0_hw14 : k0_chk14 i v11 (csW m c 13))
    {Q : _ → sProp 𝕄}
    (H : ∀ h, St m c 0 0 R 16 ⊢ Q ⟨(csW m c 16), h⟩) :
    St m c 0 0 R 13 ⊢ wpK c (k0_part6 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 13) k0_hw14) Q := by
  rw [k0_part6_eq_skeleton]; unfold k0_part6_skel
  refine step_copy m c 0 0 R 13 (by decide) hok rfl rfl rfl ?_
  refine step_load m c 0 0 R 14 14 rfl (by decide) ?_
  refine step_assume c (And.intro (fun _ => xs_inb _ (hok.cs c 14)) (fun _ hinb => xs_words _ hinb)) ?_
  refine step_copy m c 0 0 R 14 (by decide) hok rfl rfl rfl ?_
  refine step_load m c 0 0 R 15 15 rfl (by decide) ?_
  refine step_assume c (And.intro (fun _ => xs_inb _ (hok.cs c 15)) (fun _ hinb => xs_words _ hinb)) ?_
  refine step_copy m c 0 0 R 15 (by decide) hok rfl rfl rfl ?_
  refine step_load m c 0 0 R 16 16 rfl (by decide) ?_
  refine step_assume c (And.intro (fun _ => xs_inb _ (hok.cs c 16)) (fun _ hinb => xs_words _ hinb)) ?_
  exact step_pure c (H _)

include hok in
/-- Part 7 of the program: from 16 copies started to 19. -/
theorem part7 (R : sProp 𝕄) (v11 : Elt F .i32) (k0_h1 : k0_cond1 i v11 = 1#1) (k0_hw17 : k0_chk17 i v11 (csW m c 16))
    {Q : _ → sProp 𝕄}
    (H : St m c 0 0 R 19 ⊢ Q (csW m c 19)) :
    St m c 0 0 R 16 ⊢ wpK c (k0_part7 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 16) k0_hw17) Q := by
  rw [k0_part7_eq_skeleton]; unfold k0_part7_skel
  refine step_copy m c 0 0 R 16 (by decide) hok rfl rfl rfl ?_
  refine step_load m c 0 0 R 17 17 rfl (by decide) ?_
  refine step_assume c (And.intro (fun _ => xs_inb _ (hok.cs c 17)) (fun _ hinb => xs_words _ hinb)) ?_
  refine step_copy m c 0 0 R 17 (by decide) hok rfl rfl rfl ?_
  refine step_load m c 0 0 R 18 18 rfl (by decide) ?_
  refine step_assume c (And.intro (fun _ => xs_inb _ (hok.cs c 18)) (fun _ hinb => xs_words _ hinb)) ?_
  refine step_copy m c 0 0 R 18 (by decide) hok rfl rfl rfl ?_
  exact step_load_tail m c 0 0 R 19 19 rfl (by decide) H

include hok in
/-- Part 8 of the program: from 19 copies started to 21. -/
theorem part8 (R : sProp 𝕄) (v11 : Elt F .i32) (k0_h1 : k0_cond1 i v11 = 1#1)
    {Q : _ → sProp 𝕄}
    (H : ∀ h, St m c 0 0 R 21 ⊢ Q ⟨(csW m c 21), h⟩) :
    St m c 0 0 R 19 ⊢ wpK c (k0_part8 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 19)) Q := by
  rw [k0_part8_eq_skeleton]; unfold k0_part8_skel
  refine step_assume c (And.intro (fun _ => xs_inb _ (hok.cs c 19)) (fun _ hinb => xs_words _ hinb)) ?_
  refine step_copy m c 0 0 R 19 (by decide) hok rfl rfl rfl ?_
  refine step_load m c 0 0 R 20 20 rfl (by decide) ?_
  refine step_assume c (And.intro (fun _ => xs_inb _ (hok.cs c 20)) (fun _ hinb => xs_words _ hinb)) ?_
  refine step_copy m c 0 0 R 20 (by decide) hok rfl rfl rfl ?_
  refine step_load m c 0 0 R 21 21 rfl (by decide) ?_
  refine step_assume c (And.intro (fun _ => xs_inb _ (hok.cs c 21)) (fun _ hinb => xs_words _ hinb)) ?_
  exact step_pure c (H _)

include hok in
/-- Part 9 of the program: from 21 copies started to 24. -/
theorem part9 (R : sProp 𝕄) (v11 : Elt F .i32) (k0_h1 : k0_cond1 i v11 = 1#1) (k0_hw22 : k0_chk22 i v11 (csW m c 21))
    {Q : _ → sProp 𝕄}
    (H : ∀ h, St m c 0 0 R 24 ⊢ Q ⟨(csW m c 24), h⟩) :
    St m c 0 0 R 21 ⊢ wpK c (k0_part9 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 21) k0_hw22) Q := by
  rw [k0_part9_eq_skeleton]; unfold k0_part9_skel
  refine step_copy m c 0 0 R 21 (by decide) hok rfl rfl rfl ?_
  refine step_load m c 0 0 R 22 22 rfl (by decide) ?_
  refine step_assume c (And.intro (fun _ => xs_inb _ (hok.cs c 22)) (fun _ hinb => xs_words _ hinb)) ?_
  refine step_copy m c 0 0 R 22 (by decide) hok rfl rfl rfl ?_
  refine step_load m c 0 0 R 23 23 rfl (by decide) ?_
  refine step_assume c (And.intro (fun _ => xs_inb _ (hok.cs c 23)) (fun _ hinb => xs_words _ hinb)) ?_
  refine step_copy m c 0 0 R 23 (by decide) hok rfl rfl rfl ?_
  refine step_load m c 0 0 R 24 24 rfl (by decide) ?_
  refine step_assume c (And.intro (fun _ => xs_inb _ (hok.cs c 24)) (fun _ hinb => xs_words _ hinb)) ?_
  exact step_pure c (H _)

include hok in
/-- Part 10 of the program: from 24 copies started to 27. -/
theorem part10 (R : sProp 𝕄) (v11 : Elt F .i32) (k0_h1 : k0_cond1 i v11 = 1#1) (k0_hw25 : k0_chk25 i v11 (csW m c 24))
    {Q : _ → sProp 𝕄}
    (H : ∀ h, St m c 0 0 R 27 ⊢ Q ⟨(csW m c 27), h⟩) :
    St m c 0 0 R 24 ⊢ wpK c (k0_part10 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 24) k0_hw25) Q := by
  rw [k0_part10_eq_skeleton]; unfold k0_part10_skel
  refine step_copy m c 0 0 R 24 (by decide) hok rfl rfl rfl ?_
  refine step_load m c 0 0 R 25 25 rfl (by decide) ?_
  refine step_assume c (And.intro (fun _ => xs_inb _ (hok.cs c 25)) (fun _ hinb => xs_words _ hinb)) ?_
  refine step_copy m c 0 0 R 25 (by decide) hok rfl rfl rfl ?_
  refine step_load m c 0 0 R 26 26 rfl (by decide) ?_
  refine step_assume c (And.intro (fun _ => xs_inb _ (hok.cs c 26)) (fun _ hinb => xs_words _ hinb)) ?_
  refine step_copy m c 0 0 R 26 (by decide) hok rfl rfl rfl ?_
  refine step_load m c 0 0 R 27 27 rfl (by decide) ?_
  refine step_assume c (And.intro (fun _ => xs_inb _ (hok.cs c 27)) (fun _ hinb => xs_words _ hinb)) ?_
  exact step_pure c (H _)

include hok in
/-- Part 11 of the program: from 27 copies started to 30. -/
theorem part11 (R : sProp 𝕄) (v11 : Elt F .i32) (k0_h1 : k0_cond1 i v11 = 1#1) (k0_hw28 : k0_chk28 i v11 (csW m c 27))
    {Q : _ → sProp 𝕄}
    (H : St m c 0 0 R 30 ⊢ Q ⟨⟩) :
    St m c 0 0 R 27 ⊢ wpK c (k0_part11 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v11 k0_h1 (csW m c 27) k0_hw28) Q := by
  rw [k0_part11_eq_skeleton]; unfold k0_part11_skel
  refine step_copy m c 0 0 R 27 (by decide) hok rfl rfl rfl ?_
  refine step_load m c 0 0 R 28 28 rfl (by decide) ?_
  refine step_assume c (And.intro (fun _ => xs_inb _ (hok.cs c 28)) (fun _ hinb => xs_words _ hinb)) ?_
  refine step_copy m c 0 0 R 28 (by decide) hok rfl rfl rfl ?_
  refine step_load m c 0 0 R 29 29 rfl (by decide) ?_
  refine step_assume c (And.intro (fun _ => xs_inb _ (hok.cs c 29)) (fun _ hinb => xs_words _ hinb)) ?_
  refine step_copy m c 0 0 R 29 (by decide) hok rfl rfl rfl ?_
  exact step_pure c H

include hok in
/-- Part 12 of the program: from 0 copies started to 2. -/
theorem part12 (R : sProp 𝕄) (u : Fin 2) (T : ℕ) (hu : k0_off39 i 0 = u.val) (hT : T = (i 0).val + 1) (hlt : T < 221) (arg0 : BitVec 32) (v9 : BitVec 32) (v28 : Elt F .i32) (k0_h3 : k0_cond3 v28 = 1#1) (v42 : Elt F .i32) (k0_hw33 : k0_chk33 i v28 v42) (k0_h4 : k0_cond4 i v42 = 1#1)
    {Q : _ → sProp 𝕄}
    (H : St m c u T R 2 ⊢ Q ⟨Scalar.addi arg0 1#32, (csW m c (32 * T + 2))⟩) :
    St m c u T R 0 ⊢ wpK c (k0_part12 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) arg0 v9 v28 k0_h3 v42 k0_hw33 k0_h4) Q := by
  rw [k0_part12_eq_skeleton]; unfold k0_part12_skel
  refine step_load m c u T R 0 (32 * T + 0) (next_word i T hT 0 (by decide)) (by omega) ?_
  refine step_assume c (And.intro (fun _ _ => xs_inb _ (hok.cs c (32 * T + 0))) (fun _ _ hinb => xs_words _ hinb)) ?_
  refine step_copy m c u T R 0 (by decide) hok rfl (by rw [← hu]; rfl) (by rw [← hu]; rfl) ?_
  refine step_load m c u T R 1 (32 * T + 1) (next_word i T hT 1 (by decide)) (by omega) ?_
  refine step_assume c (And.intro (fun _ _ => xs_inb _ (hok.cs c (32 * T + 1))) (fun _ _ hinb => xs_words _ hinb)) ?_
  refine step_copy m c u T R 1 (by decide) hok rfl (by rw [← hu]; rfl) (by rw [← hu]; rfl) ?_
  refine step_load m c u T R 2 (32 * T + 2) (next_word i T hT 2 (by decide)) (by omega) ?_
  exact step_pure c H

include hok in
/-- Part 13 of the program: from 2 copies started to 4. -/
theorem part13 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32)
    {Q : _ → sProp 𝕄}
    (H : ∀ h, St m c u T R 4 ⊢ Q ⟨(csW m c (32 * T + 4)), h⟩) :
    St m c u T R 2 ⊢ wpK c (k0_part13 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 2))) Q := by
  rw [k0_part13_eq_skeleton]; unfold k0_part13_skel
  refine step_assume c (And.intro (fun _ _ => xs_inb _ (hok.cs c (32 * T + 2))) (fun _ _ hinb => xs_words _ hinb)) ?_
  refine step_copy m c u T R 2 (by decide) hok rfl (by rw [← hu]; rfl) (by rw [← hu]; rfl) ?_
  refine step_load m c u T R 3 (32 * T + 3) (next_word i T hT 3 (by decide)) (by omega) ?_
  refine step_assume c (And.intro (fun _ _ => xs_inb _ (hok.cs c (32 * T + 3))) (fun _ _ hinb => xs_words _ hinb)) ?_
  refine step_copy m c u T R 3 (by decide) hok rfl (by rw [← hu]; rfl) (by rw [← hu]; rfl) ?_
  refine step_load m c u T R 4 (32 * T + 4) (next_word i T hT 4 (by decide)) (by omega) ?_
  refine step_assume c (And.intro (fun _ _ => xs_inb _ (hok.cs c (32 * T + 4))) (fun _ _ hinb => xs_words _ hinb)) ?_
  exact step_pure c (H _)

include hok in
/-- Part 14 of the program: from 4 copies started to 7. -/
theorem part14 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32) (k0_hw38 : k0_chk38 i v28 v42 (csW m c (32 * T + 4)))
    {Q : _ → sProp 𝕄}
    (H : St m c u T R 7 ⊢ Q (csW m c (32 * T + 7))) :
    St m c u T R 4 ⊢ wpK c (k0_part14 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 4)) k0_hw38) Q := by
  rw [k0_part14_eq_skeleton]; unfold k0_part14_skel
  refine step_copy m c u T R 4 (by decide) hok rfl (by rw [← hu]; rfl) (by rw [← hu]; rfl) ?_
  refine step_load m c u T R 5 (32 * T + 5) (next_word i T hT 5 (by decide)) (by omega) ?_
  refine step_assume c (And.intro (fun _ _ => xs_inb _ (hok.cs c (32 * T + 5))) (fun _ _ hinb => xs_words _ hinb)) ?_
  refine step_copy m c u T R 5 (by decide) hok rfl (by rw [← hu]; rfl) (by rw [← hu]; rfl) ?_
  refine step_load m c u T R 6 (32 * T + 6) (next_word i T hT 6 (by decide)) (by omega) ?_
  refine step_assume c (And.intro (fun _ _ => xs_inb _ (hok.cs c (32 * T + 6))) (fun _ _ hinb => xs_words _ hinb)) ?_
  refine step_copy m c u T R 6 (by decide) hok rfl (by rw [← hu]; rfl) (by rw [← hu]; rfl) ?_
  exact step_load_tail m c u T R 7 (32 * T + 7) (next_word i T hT 7 (by decide)) (by omega) H

include hok in
/-- Part 15 of the program: from 7 copies started to 9. -/
theorem part15 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32)
    {Q : _ → sProp 𝕄}
    (H : ∀ h, St m c u T R 9 ⊢ Q ⟨(csW m c (32 * T + 9)), h⟩) :
    St m c u T R 7 ⊢ wpK c (k0_part15 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 7))) Q := by
  rw [k0_part15_eq_skeleton]; unfold k0_part15_skel
  refine step_assume c (And.intro (fun _ _ => xs_inb _ (hok.cs c (32 * T + 7))) (fun _ _ hinb => xs_words _ hinb)) ?_
  refine step_copy m c u T R 7 (by decide) hok rfl (by rw [← hu]; rfl) (by rw [← hu]; rfl) ?_
  refine step_load m c u T R 8 (32 * T + 8) (next_word i T hT 8 (by decide)) (by omega) ?_
  refine step_assume c (And.intro (fun _ _ => xs_inb _ (hok.cs c (32 * T + 8))) (fun _ _ hinb => xs_words _ hinb)) ?_
  refine step_copy m c u T R 8 (by decide) hok rfl (by rw [← hu]; rfl) (by rw [← hu]; rfl) ?_
  refine step_load m c u T R 9 (32 * T + 9) (next_word i T hT 9 (by decide)) (by omega) ?_
  refine step_assume c (And.intro (fun _ _ => xs_inb _ (hok.cs c (32 * T + 9))) (fun _ _ hinb => xs_words _ hinb)) ?_
  exact step_pure c (H _)

include hok in
/-- Part 16 of the program: from 9 copies started to 12. -/
theorem part16 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32) (k0_hw43 : k0_chk43 i v28 v42 (csW m c (32 * T + 9)))
    {Q : _ → sProp 𝕄}
    (H : St m c u T R 12 ⊢ Q (csW m c (32 * T + 12))) :
    St m c u T R 9 ⊢ wpK c (k0_part16 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 9)) k0_hw43) Q := by
  rw [k0_part16_eq_skeleton]; unfold k0_part16_skel
  refine step_copy m c u T R 9 (by decide) hok rfl (by rw [← hu]; rfl) (by rw [← hu]; rfl) ?_
  refine step_load m c u T R 10 (32 * T + 10) (next_word i T hT 10 (by decide)) (by omega) ?_
  refine step_assume c (And.intro (fun _ _ => xs_inb _ (hok.cs c (32 * T + 10))) (fun _ _ hinb => xs_words _ hinb)) ?_
  refine step_copy m c u T R 10 (by decide) hok rfl (by rw [← hu]; rfl) (by rw [← hu]; rfl) ?_
  refine step_load m c u T R 11 (32 * T + 11) (next_word i T hT 11 (by decide)) (by omega) ?_
  refine step_assume c (And.intro (fun _ _ => xs_inb _ (hok.cs c (32 * T + 11))) (fun _ _ hinb => xs_words _ hinb)) ?_
  refine step_copy m c u T R 11 (by decide) hok rfl (by rw [← hu]; rfl) (by rw [← hu]; rfl) ?_
  exact step_load_tail m c u T R 12 (32 * T + 12) (next_word i T hT 12 (by decide)) (by omega) H

include hok in
/-- Part 17 of the program: from 12 copies started to 14. -/
theorem part17 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32)
    {Q : _ → sProp 𝕄}
    (H : ∀ h, St m c u T R 14 ⊢ Q ⟨(csW m c (32 * T + 14)), h⟩) :
    St m c u T R 12 ⊢ wpK c (k0_part17 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 12))) Q := by
  rw [k0_part17_eq_skeleton]; unfold k0_part17_skel
  refine step_assume c (And.intro (fun _ _ => xs_inb _ (hok.cs c (32 * T + 12))) (fun _ _ hinb => xs_words _ hinb)) ?_
  refine step_copy m c u T R 12 (by decide) hok rfl (by rw [← hu]; rfl) (by rw [← hu]; rfl) ?_
  refine step_load m c u T R 13 (32 * T + 13) (next_word i T hT 13 (by decide)) (by omega) ?_
  refine step_assume c (And.intro (fun _ _ => xs_inb _ (hok.cs c (32 * T + 13))) (fun _ _ hinb => xs_words _ hinb)) ?_
  refine step_copy m c u T R 13 (by decide) hok rfl (by rw [← hu]; rfl) (by rw [← hu]; rfl) ?_
  refine step_load m c u T R 14 (32 * T + 14) (next_word i T hT 14 (by decide)) (by omega) ?_
  refine step_assume c (And.intro (fun _ _ => xs_inb _ (hok.cs c (32 * T + 14))) (fun _ _ hinb => xs_words _ hinb)) ?_
  exact step_pure c (H _)

include hok in
/-- Part 18 of the program: from 14 copies started to 17. -/
theorem part18 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32) (k0_hw48 : k0_chk48 i v28 v42 (csW m c (32 * T + 14)))
    {Q : _ → sProp 𝕄}
    (H : St m c u T R 17 ⊢ Q (csW m c (32 * T + 17))) :
    St m c u T R 14 ⊢ wpK c (k0_part18 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 14)) k0_hw48) Q := by
  rw [k0_part18_eq_skeleton]; unfold k0_part18_skel
  refine step_copy m c u T R 14 (by decide) hok rfl (by rw [← hu]; rfl) (by rw [← hu]; rfl) ?_
  refine step_load m c u T R 15 (32 * T + 15) (next_word i T hT 15 (by decide)) (by omega) ?_
  refine step_assume c (And.intro (fun _ _ => xs_inb _ (hok.cs c (32 * T + 15))) (fun _ _ hinb => xs_words _ hinb)) ?_
  refine step_copy m c u T R 15 (by decide) hok rfl (by rw [← hu]; rfl) (by rw [← hu]; rfl) ?_
  refine step_load m c u T R 16 (32 * T + 16) (next_word i T hT 16 (by decide)) (by omega) ?_
  refine step_assume c (And.intro (fun _ _ => xs_inb _ (hok.cs c (32 * T + 16))) (fun _ _ hinb => xs_words _ hinb)) ?_
  refine step_copy m c u T R 16 (by decide) hok rfl (by rw [← hu]; rfl) (by rw [← hu]; rfl) ?_
  exact step_load_tail m c u T R 17 (32 * T + 17) (next_word i T hT 17 (by decide)) (by omega) H

include hok in
/-- Part 19 of the program: from 17 copies started to 19. -/
theorem part19 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32)
    {Q : _ → sProp 𝕄}
    (H : ∀ h, St m c u T R 19 ⊢ Q ⟨(csW m c (32 * T + 19)), h⟩) :
    St m c u T R 17 ⊢ wpK c (k0_part19 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 17))) Q := by
  rw [k0_part19_eq_skeleton]; unfold k0_part19_skel
  refine step_assume c (And.intro (fun _ _ => xs_inb _ (hok.cs c (32 * T + 17))) (fun _ _ hinb => xs_words _ hinb)) ?_
  refine step_copy m c u T R 17 (by decide) hok rfl (by rw [← hu]; rfl) (by rw [← hu]; rfl) ?_
  refine step_load m c u T R 18 (32 * T + 18) (next_word i T hT 18 (by decide)) (by omega) ?_
  refine step_assume c (And.intro (fun _ _ => xs_inb _ (hok.cs c (32 * T + 18))) (fun _ _ hinb => xs_words _ hinb)) ?_
  refine step_copy m c u T R 18 (by decide) hok rfl (by rw [← hu]; rfl) (by rw [← hu]; rfl) ?_
  refine step_load m c u T R 19 (32 * T + 19) (next_word i T hT 19 (by decide)) (by omega) ?_
  refine step_assume c (And.intro (fun _ _ => xs_inb _ (hok.cs c (32 * T + 19))) (fun _ _ hinb => xs_words _ hinb)) ?_
  exact step_pure c (H _)

include hok in
/-- Part 20 of the program: from 19 copies started to 22. -/
theorem part20 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32) (k0_hw53 : k0_chk53 i v28 v42 (csW m c (32 * T + 19)))
    {Q : _ → sProp 𝕄}
    (H : St m c u T R 22 ⊢ Q (csW m c (32 * T + 22))) :
    St m c u T R 19 ⊢ wpK c (k0_part20 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 19)) k0_hw53) Q := by
  rw [k0_part20_eq_skeleton]; unfold k0_part20_skel
  refine step_copy m c u T R 19 (by decide) hok rfl (by rw [← hu]; rfl) (by rw [← hu]; rfl) ?_
  refine step_load m c u T R 20 (32 * T + 20) (next_word i T hT 20 (by decide)) (by omega) ?_
  refine step_assume c (And.intro (fun _ _ => xs_inb _ (hok.cs c (32 * T + 20))) (fun _ _ hinb => xs_words _ hinb)) ?_
  refine step_copy m c u T R 20 (by decide) hok rfl (by rw [← hu]; rfl) (by rw [← hu]; rfl) ?_
  refine step_load m c u T R 21 (32 * T + 21) (next_word i T hT 21 (by decide)) (by omega) ?_
  refine step_assume c (And.intro (fun _ _ => xs_inb _ (hok.cs c (32 * T + 21))) (fun _ _ hinb => xs_words _ hinb)) ?_
  refine step_copy m c u T R 21 (by decide) hok rfl (by rw [← hu]; rfl) (by rw [← hu]; rfl) ?_
  exact step_load_tail m c u T R 22 (32 * T + 22) (next_word i T hT 22 (by decide)) (by omega) H

include hok in
/-- Part 21 of the program: from 22 copies started to 24. -/
theorem part21 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32)
    {Q : _ → sProp 𝕄}
    (H : ∀ h, St m c u T R 24 ⊢ Q ⟨(csW m c (32 * T + 24)), h⟩) :
    St m c u T R 22 ⊢ wpK c (k0_part21 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 22))) Q := by
  rw [k0_part21_eq_skeleton]; unfold k0_part21_skel
  refine step_assume c (And.intro (fun _ _ => xs_inb _ (hok.cs c (32 * T + 22))) (fun _ _ hinb => xs_words _ hinb)) ?_
  refine step_copy m c u T R 22 (by decide) hok rfl (by rw [← hu]; rfl) (by rw [← hu]; rfl) ?_
  refine step_load m c u T R 23 (32 * T + 23) (next_word i T hT 23 (by decide)) (by omega) ?_
  refine step_assume c (And.intro (fun _ _ => xs_inb _ (hok.cs c (32 * T + 23))) (fun _ _ hinb => xs_words _ hinb)) ?_
  refine step_copy m c u T R 23 (by decide) hok rfl (by rw [← hu]; rfl) (by rw [← hu]; rfl) ?_
  refine step_load m c u T R 24 (32 * T + 24) (next_word i T hT 24 (by decide)) (by omega) ?_
  refine step_assume c (And.intro (fun _ _ => xs_inb _ (hok.cs c (32 * T + 24))) (fun _ _ hinb => xs_words _ hinb)) ?_
  exact step_pure c (H _)

include hok in
/-- Part 22 of the program: from 24 copies started to 27. -/
theorem part22 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32) (k0_hw58 : k0_chk58 i v28 v42 (csW m c (32 * T + 24)))
    {Q : _ → sProp 𝕄}
    (H : St m c u T R 27 ⊢ Q (csW m c (32 * T + 27))) :
    St m c u T R 24 ⊢ wpK c (k0_part22 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 24)) k0_hw58) Q := by
  rw [k0_part22_eq_skeleton]; unfold k0_part22_skel
  refine step_copy m c u T R 24 (by decide) hok rfl (by rw [← hu]; rfl) (by rw [← hu]; rfl) ?_
  refine step_load m c u T R 25 (32 * T + 25) (next_word i T hT 25 (by decide)) (by omega) ?_
  refine step_assume c (And.intro (fun _ _ => xs_inb _ (hok.cs c (32 * T + 25))) (fun _ _ hinb => xs_words _ hinb)) ?_
  refine step_copy m c u T R 25 (by decide) hok rfl (by rw [← hu]; rfl) (by rw [← hu]; rfl) ?_
  refine step_load m c u T R 26 (32 * T + 26) (next_word i T hT 26 (by decide)) (by omega) ?_
  refine step_assume c (And.intro (fun _ _ => xs_inb _ (hok.cs c (32 * T + 26))) (fun _ _ hinb => xs_words _ hinb)) ?_
  refine step_copy m c u T R 26 (by decide) hok rfl (by rw [← hu]; rfl) (by rw [← hu]; rfl) ?_
  exact step_load_tail m c u T R 27 (32 * T + 27) (next_word i T hT 27 (by decide)) (by omega) H

include hok in
/-- Part 23 of the program: from 27 copies started to 29. -/
theorem part23 (R : sProp 𝕄) (u : Fin 2) (T : ℕ) (hu : k0_off39 i 0 = u.val) (hT : T = (i 0).val + 1) (hlt : T < 221) (v28 : Elt F .i32) (k0_h3 : k0_cond3 v28 = 1#1) (v42 : Elt F .i32) (k0_hw33 : k0_chk33 i v28 v42) (k0_h4 : k0_cond4 i v42 = 1#1) (v84 : BitVec 32)
    {Q : _ → sProp 𝕄}
    (H : ∀ h, St m c u T R 29 ⊢ Q ⟨(csW m c (32 * T + 29)), h⟩) :
    St m c u T R 27 ⊢ wpK c (k0_part23 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) v28 k0_h3 v42 k0_hw33 k0_h4 v84 (csW m c (32 * T + 27))) Q := by
  rw [k0_part23_eq_skeleton]; unfold k0_part23_skel
  refine step_assume c (And.intro (fun _ _ => xs_inb _ (hok.cs c (32 * T + 27))) (fun _ _ hinb => xs_words _ hinb)) ?_
  refine step_copy m c u T R 27 (by decide) hok rfl (by rw [← hu]; rfl) (by rw [← hu]; rfl) ?_
  refine step_load m c u T R 28 (32 * T + 28) (next_word i T hT 28 (by decide)) (by omega) ?_
  refine step_assume c (And.intro (fun _ _ => xs_inb _ (hok.cs c (32 * T + 28))) (fun _ _ hinb => xs_words _ hinb)) ?_
  refine step_copy m c u T R 28 (by decide) hok rfl (by rw [← hu]; rfl) (by rw [← hu]; rfl) ?_
  refine step_load m c u T R 29 (32 * T + 29) (next_word i T hT 29 (by decide)) (by omega) ?_
  refine step_assume c (And.intro (fun _ _ => xs_inb _ (hok.cs c (32 * T + 29))) (fun _ _ hinb => xs_words _ hinb)) ?_
  exact step_pure c (H _)

include hok in
/-- Part 24 of the program: from 0 copies started to 31. -/
theorem part24 (R : sProp 𝕄) (u : Fin 2) (T : ℕ) (hu : k0_off39 i 0 = u.val) (hT : T = (i 0).val + 1) (hlt : T < 221) (arg0 : BitVec 32) (v9 : BitVec 32) (v28 : Elt F .i32) (k0_h3 : k0_cond3 v28 = 1#1) (v42 : Elt F .i32) (k0_hw33 : k0_chk33 i v28 v42) (k0_h4 : k0_cond4 i v42 = 1#1)
    {Q : _ → sProp 𝕄}
    (H : ∀ h, St m c u T R 31 ⊢ Q ⟨(csW m c (32 * T + 31)), h⟩) :
    St m c u T R 0 ⊢ wpK c (k0_part24 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) arg0 v9 v28 k0_h3 v42 k0_hw33 k0_h4) Q := by
  rw [k0_part24_eq_skeleton]; unfold k0_part24_skel
  refine step_bind c ?_
  refine part12 m hok c i a5 h5 a6 h6 a7 h7 a8 h8 R u T hu hT hlt arg0 v9 v28 k0_h3 v42 k0_hw33 k0_h4 ?_
  dsimp only
  refine step_bind c ?_
  refine part13 m hok c i a5 h5 a6 h6 a7 h7 a8 h8 R u T hu hT hlt v28 k0_h3 v42 k0_hw33 k0_h4 _ ?_
  intro hw
  dsimp only
  refine step_bind c ?_
  refine part14 m hok c i a5 h5 a6 h6 a7 h7 a8 h8 R u T hu hT hlt v28 k0_h3 v42 k0_hw33 k0_h4 _ hw ?_
  refine step_bind c ?_
  refine part15 m hok c i a5 h5 a6 h6 a7 h7 a8 h8 R u T hu hT hlt v28 k0_h3 v42 k0_hw33 k0_h4 _ ?_
  intro hw
  dsimp only
  refine step_bind c ?_
  refine part16 m hok c i a5 h5 a6 h6 a7 h7 a8 h8 R u T hu hT hlt v28 k0_h3 v42 k0_hw33 k0_h4 _ hw ?_
  refine step_bind c ?_
  refine part17 m hok c i a5 h5 a6 h6 a7 h7 a8 h8 R u T hu hT hlt v28 k0_h3 v42 k0_hw33 k0_h4 _ ?_
  intro hw
  dsimp only
  refine step_bind c ?_
  refine part18 m hok c i a5 h5 a6 h6 a7 h7 a8 h8 R u T hu hT hlt v28 k0_h3 v42 k0_hw33 k0_h4 _ hw ?_
  refine step_bind c ?_
  refine part19 m hok c i a5 h5 a6 h6 a7 h7 a8 h8 R u T hu hT hlt v28 k0_h3 v42 k0_hw33 k0_h4 _ ?_
  intro hw
  dsimp only
  refine step_bind c ?_
  refine part20 m hok c i a5 h5 a6 h6 a7 h7 a8 h8 R u T hu hT hlt v28 k0_h3 v42 k0_hw33 k0_h4 _ hw ?_
  refine step_bind c ?_
  refine part21 m hok c i a5 h5 a6 h6 a7 h7 a8 h8 R u T hu hT hlt v28 k0_h3 v42 k0_hw33 k0_h4 _ ?_
  intro hw
  dsimp only
  refine step_bind c ?_
  refine part22 m hok c i a5 h5 a6 h6 a7 h7 a8 h8 R u T hu hT hlt v28 k0_h3 v42 k0_hw33 k0_h4 _ hw ?_
  refine step_bind c ?_
  refine part23 m hok c i a5 h5 a6 h6 a7 h7 a8 h8 R u T hu hT hlt v28 k0_h3 v42 k0_hw33 k0_h4 _ ?_
  intro hw
  dsimp only
  refine step_copy m c u T R 29 (by decide) hok rfl (by rw [← hu]; rfl) (by rw [← hu]; rfl) ?_
  refine step_load m c u T R 30 (32 * T + 30) (next_word i T hT 30 (by decide)) (by omega) ?_
  refine step_assume c (And.intro (fun _ _ => xs_inb _ (hok.cs c (32 * T + 30))) (fun _ _ hinb => xs_words _ hinb)) ?_
  refine step_copy m c u T R 30 (by decide) hok rfl (by rw [← hu]; rfl) (by rw [← hu]; rfl) ?_
  refine step_load m c u T R 31 (32 * T + 31) (next_word i T hT 31 (by decide)) (by omega) ?_
  refine step_assume c (And.intro (fun _ _ => xs_inb _ (hok.cs c (32 * T + 31))) (fun _ _ hinb => xs_words _ hinb)) ?_
  exact step_pure c (H _)

end Parts

end Cert.KernelIdeal.Run
-- ==== Proof.ISlots.lean ====
/-
  The gather buffer's two slots between a tile's copies: idle, with a tile's 32 copies in flight, or full. The
  passage from idle to in flight is the 32 copies of `KParts`; that from in flight to full is the one wait.
-/
module

public import proofs.«01_k».proof.Proof.IParts

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ)

/-! ## Shares and parts of a buffer -/

omit [FloatOps F] in
/-- Pairs of a family, apart. -/
theorem fam_sep (Φ Ψ : Fin 32 → sProp 𝕄) :
    bigSep Finset.univ (fun j => iprop(Φ j ∗ Ψ j)) = iprop(bigSep Finset.univ Φ ∗ bigSep Finset.univ Ψ) := bigSep_sep _ _ _

section Deal

variable {ℓ : Loc nD τ sig} (f : Buf (Elt F) ℓ) (q : PosShare TreeShare) (K : Fin 32 → Finset (Idx ℓ))

/-- What is left of a share dealt to 32 readers of parts: what is over the 32 tokens, and each token's elements
    outside its reader's part. -/
def rest : sProp 𝕄 :=
  iprop((ℓ ↦{Transfers.shareDrop q 32} f) ∗ bigSep Finset.univ fun j : Fin 32 => (ℓ ↦[Finset.univ \ K j]{Transfers.shareTok q 32 j} f : sProp 𝕄))

omit [FloatOps F] in
/-- A share dealt to 32 readers of parts. -/
theorem deal : (ℓ ↦{q} f : sProp 𝕄) ⊢ iprop((bigSep Finset.univ fun j : Fin 32 => (ℓ ↦[K j]{Transfers.shareTok q 32 j} f : sProp 𝕄)) ∗ rest f q K) := by
  refine BIBase.Entails.trans (Transfers.pointsTo_toks_split q 32) ?_
  refine BIBase.Entails.trans (sep_mono_right (bigSep_mono (Ψ := fun j : Fin 32 => iprop((ℓ ↦[K j]{Transfers.shareTok q 32 j} f) ∗
    (ℓ ↦[Finset.univ \ K j]{Transfers.shareTok q 32 j} f))) fun j _ => (pointsTo_split_subset (Finset.subset_univ _)).1)) ?_
  refine BIBase.Entails.trans (sep_mono_right (Entails.of_eq (fam_sep _ _))) ?_
  unfold rest
  iintro ⟨H1, H2, H3⟩
  isplitl [H2]; · iexact H2
  isplitl [H1] <;> iassumption

omit [FloatOps F] in
/-- The share whole again. -/
theorem undeal : iprop((bigSep Finset.univ fun j : Fin 32 => (ℓ ↦[K j]{Transfers.shareTok q 32 j} f : sProp 𝕄)) ∗ rest f q K) ⊢ (ℓ ↦{q} f : sProp 𝕄) := by
  refine BIBase.Entails.trans ?_ (Transfers.pointsTo_toks_join q 32)
  refine BIBase.Entails.trans ?_ (sep_mono_right (bigSep_mono (Φ := fun j : Fin 32 => iprop((ℓ ↦[K j]{Transfers.shareTok q 32 j} f) ∗
    (ℓ ↦[Finset.univ \ K j]{Transfers.shareTok q 32 j} f))) fun j _ => (pointsTo_split_subset (Finset.subset_univ _)).2))
  refine BIBase.Entails.trans ?_ (sep_mono_right (Entails.of_eq (fam_sep _ _).symm))
  unfold rest
  iintro ⟨H2, H1, H3⟩
  isplitl [H1]; · iexact H1
  isplitl [H2] <;> iassumption

end Deal

/-! ## A slot's states -/

/-- Slot `u`'s elements of the gather buffer. -/
def slotSet (u : Fin 2) : Finset S2x32x16x1024.Idx := Finset.univ.filter fun y => (y 0).val = u.val

/-- Slot `u` held at contents `f` of the buffer. -/
abbrev slotPts (c : Dev nD) (u : Fin 2) (f : S2x32x16x1024.Idx → Elt F .bf16) : sProp 𝕄 :=
  ((c : Thread nD τ).loc cc0_scratch0) ↦[slotSet u]{fullShare} (show Buf (Elt F) ((c : Thread nD τ).loc cc0_scratch0) from f)

/-- The token rows held for reading. -/
abbrev xsPts (c : Dev nD) (q : PosShare TreeShare) : sProp 𝕄 := ((c : Thread nD τ).loc main_arg3) ↦{q} m ((c : Thread nD τ).loc main_arg3)

/-- Slot `u` idle: at anything, its semaphore at zero, its share of the token rows in hand. -/
def Idle (c : Dev nD) (u : Fin 2) : sProp 𝕄 :=
  iprop((∃ f, slotPts (F := F) c u f) ∗ semVal ((c : Thread nD τ), SemLoc.dma (rsem u)) 0 ∗ xsPts m c (qs u))

/-- A chunk, as elements of the token rows. -/
abbrev chunkSet (a : Fin 6144) : Finset S6144x16x1024.Idx := (xsl a).view.set

/-- The chunk row copy `j` of tile `T` reads, as elements of the token rows. -/
abbrev srcSet (c : Dev nD) (T : ℕ) (j : Fin 32) : Finset S6144x16x1024.Idx := chunkSet (chunk m c (32 * T + j.val))

/-- What of the token rows' share the copies do not read. -/
def Aside (c : Dev nD) (u : Fin 2) (T : ℕ) : sProp 𝕄 :=
  rest (ℓ := (c : Thread nD τ).loc main_arg3) (m ((c : Thread nD τ).loc main_arg3)) (qs u) (srcSet m c T)

/-- Slot `u` with tile `T`'s 32 copies in flight. -/
def Flight (c : Dev nD) (u : Fin 2) (T : ℕ) : sProp 𝕄 := iprop(Bat m c u T 32 ∗ Aside m c u T)

/-- Slot `u` holding tile `T`'s rows. -/
def Full (c : Dev nD) (u : Fin 2) (T : ℕ) : sProp 𝕄 :=
  iprop(slotPts c u (gath m c T) ∗ semVal ((c : Thread nD τ), SemLoc.dma (rsem u)) 0 ∗ xsPts m c (qs u))

/-- A slot is its 32 rows. -/
theorem slotSet_rows (u : Fin 2) : slotSet u = Finset.univ.biUnion fun j : Fin 32 => (row u j).view.set := by
  ext y
  unfold slotSet
  rw [Finset.mem_filter, Finset.mem_biUnion]
  constructor
  · rintro ⟨-, h⟩
    exact ⟨⟨(y 1).val, (y 1).isLt⟩, Finset.mem_univ _, (mem_row u _ y).2 ⟨h, rfl⟩⟩
  · rintro ⟨j, -, hj⟩
    exact ⟨Finset.mem_univ _, ((mem_row u j y).1 hj).1⟩

/-- The rows are apart. -/
theorem rows_disj (u : Fin 2) : ∀ j ∈ (Finset.univ : Finset (Fin 32)), ∀ j' ∈ (Finset.univ : Finset (Fin 32)), j ≠ j' →
    Disjoint (row u j).view.set (row u j').view.set := by
  intro j _ j' _ hne
  rw [Finset.disjoint_left]
  intro y hy hy'
  exact hne (Fin.ext (((mem_row u j y).1 hy).2.symm.trans ((mem_row u j' y).1 hy').2))

omit [FloatOps F] in
/-- A slot held is its rows held. -/
theorem slot_split (c : Dev nD) (u : Fin 2) (f : S2x32x16x1024.Idx → Elt F .bf16) :
    slotPts (F := F) c u f = bigSep Finset.univ fun j : Fin 32 => rowPts (F := F) c u j f := by
  unfold slotPts
  rw [slotSet_rows]
  exact pointsTo_biUnion (ℓ := (c : Thread nD τ).loc cc0_scratch0) Finset.univ (fun j : Fin 32 => (row u j).view.set) (rows_disj u)

omit [FloatOps F] in
/-- The token rows' share dealt to the 32 copies. -/
theorem xs_split (c : Dev nD) (u : Fin 2) (T : ℕ) :
    xsPts m c (qs u) ⊢ iprop((bigSep Finset.univ fun j : Fin 32 => srcPts m c u T j) ∗ Aside m c u T) :=
  deal (ℓ := (c : Thread nD τ).loc main_arg3) (m ((c : Thread nD τ).loc main_arg3)) (qs u) (srcSet m c T)

omit [FloatOps F] in
/-- The share whole again. -/
theorem xs_join (c : Dev nD) (u : Fin 2) (T : ℕ) :
    iprop((bigSep Finset.univ fun j : Fin 32 => srcPts m c u T j) ∗ Aside m c u T) ⊢ xsPts m c (qs u) :=
  undeal (ℓ := (c : Thread nD τ).loc main_arg3) (m ((c : Thread nD τ).loc main_arg3)) (qs u) (srcSet m c T)

omit [FloatOps F] in
theorem row_any (c : Dev nD) (u : Fin 2) (j : Fin 32) (f : S2x32x16x1024.Idx → Elt F .bf16) :
    rowPts (F := F) c u j f ⊢ iprop(∃ f, rowPts (F := F) c u j f) := by
  iintro H; iexists f; iexact H

omit [FloatOps F] in
/-- Rows and sources side by side. -/
theorem rows_srcs (c : Dev nD) (u : Fin 2) (T : ℕ) (f : S2x32x16x1024.Idx → Elt F .bf16) :
    iprop((bigSep Finset.univ fun j : Fin 32 => srcPts m c u T j) ∗ (bigSep Finset.univ fun j : Fin 32 => rowPts (F := F) c u j f))
      ⊢ (bigSep Finset.univ fun j : Fin 32 => iprop(srcPts m c u T j ∗ ∃ f, rowPts (F := F) c u j f)) :=
  BIBase.Entails.trans (Entails.of_eq (fam_sep _ _).symm)
    (bigSep_mono fun j _ => sep_mono_right (row_any c u j f))

omit [FloatOps F] in
theorem rows_pending (c : Dev nD) (u : Fin 2) (T : ℕ) (f : S2x32x16x1024.Idx → Elt F .bf16) :
    iprop((bigSep Finset.univ fun j : Fin 32 => srcPts m c u T j) ∗ slotPts (F := F) c u f)
      ⊢ (bigSep (pending (n := 32) 0) fun j => iprop(srcPts m c u T j ∗ ∃ f, rowPts (F := F) c u j f)) := by
  rw [slot_split, ← Transfers.bigSep_pending_zero]
  exact rows_srcs m c u T f

/-- From idle, no copy started: the batch opened, the rows and the sources apart. -/
theorem open_slot (c : Dev nD) (u : Fin 2) (T : ℕ) (R : sProp 𝕄) :
    iprop(csPts m c ∗ Idle m c u ∗ R) ⊢ |={Set.univ}=> St m c u T iprop(Aside m c u T ∗ R) 0 := by
  unfold Idle St
  iintro ⟨Hcs, ⟨⟨%f, Hs⟩, Hv, Hx⟩, HR⟩
  imod (Transfers.batch_alloc' (Lvl := ℕ) EC (c : Thread nD τ) () NN (Dv m c u T) (sm := .dma (rsem u)) (E := Set.univ)) $$ Hv with Hb
  imodintro
  icases (xs_split m c u T) $$ Hx with ⟨Hx, Ha⟩
  isplitl [Hcs]; · iexact Hcs
  isplitl [Hb]; · iexact Hb
  isplitl [Hs Hx]
  · iapply (rows_pending m c u T f)
    isplitl [Hx]; · iexact Hx
    iexact Hs
  · isplitl [Ha] <;> iassumption

/-- All 32 copies started. -/
theorem close_slot (c : Dev nD) (u : Fin 2) (T : ℕ) (R : sProp 𝕄) :
    St m c u T iprop(Aside m c u T ∗ R) 32 ⊢ iprop(csPts m c ∗ Flight m c u T ∗ R) := by
  unfold St Flight
  iintro ⟨Hcs, Hb, -, Ha, HR⟩
  isplitl [Hcs]; · iexact Hcs
  isplitl [Hb Ha]
  · isplitl [Hb] <;> iassumption
  · iexact HR

omit [FloatOps F] in
theorem landed (c : Dev nD) (u : Fin 2) (T : ℕ) :
    bigSep Finset.univ (Dv m c u T) ⊢ iprop((bigSep Finset.univ fun j : Fin 32 => rowPts c u j (gath m c T)) ∗ (bigSep Finset.univ fun j : Fin 32 => srcPts m c u T j)) :=
  Entails.of_eq (fam_sep _ _)

omit [FloatOps F] in
/-- What the wait hands over, put together: the slot full. -/
theorem land_slot (c : Dev nD) (u : Fin 2) (T : ℕ) :
    iprop(bigSep Finset.univ (Dv m c u T) ∗ semVal ((c : Thread nD τ), SemLoc.dma (rsem u)) 0 ∗ Aside m c u T) ⊢ Full m c u T := by
  unfold Full
  iintro ⟨HD, Hv, Ha⟩
  icases (landed m c u T) $$ HD with ⟨Hr, Hx⟩
  rw [slot_split]
  isplitl [Hr]; · iexact Hr
  isplitl [Hv]; · iexact Hv
  iapply (xs_join m c u T)
  isplitl [Hx] <;> iassumption

/-- A full slot is idle. -/
theorem full_idle (c : Dev nD) (u : Fin 2) (T : ℕ) : Full m c u T ⊢ Idle m c u := by
  unfold Full Idle
  iintro ⟨Hs, H⟩
  isplitl [Hs]
  · iexists _; iexact Hs
  · iexact H

/-- The wait for tile `T`'s 32 copies. -/
theorem step_wait {α : Type} (c : Dev nD) (u : Fin 2) (T : ℕ) {sem : DmaSem sig} {srcw : Memref sig .tc .hbm S32x16x1024 .bf16}
    {dstw : Memref sig .tc .vmem S32x16x1024 .bf16} {hs hd} {W : Waits sig Unit}
    {K : PUnit → Prog (TpuEff nD τ sig (Elt F) Λ₀ .tc) α} {Q : α → sProp 𝕄} (hsem : sem = rsem u) :
    iprop(Flight m c u T ∗ owes (c : Thread nD τ) 0 W ∗ (Full m c u T -∗ owes (c : Thread nD τ) 0 (insert (SemLoc.dma (rsem u), ()) W) -∗ wpK c (K ⟨⟩) Q))
      ⊢ wpK c (Prog.lift (.waitDma2 sem srcw dstw hs hd) >>= K) Q := by
  subst hsem
  unfold Flight
  simp only [Prog.lift, Prog.bind_op, Prog.bind_ret]
  iintro ⟨⟨Hb, Ha⟩, Ho, Hk⟩
  iapply (Transfers.wp_waitBatchAll EC 𝒱₀ (c : Thread nD τ) none () (N := NN) (n := 32) (u := 0) (J := NN * 32)
    rfl (RefSig.tileCredit_pos _ _ (by decide)) (by rw [Nat.zero_add])) $$ [Hb Ho]
  · isplitl [Hb] <;> iassumption
  iintro ⟨HD, Hv, Ho⟩
  iapply Hk $$ [HD Hv Ha] [Ho]
  · iapply (land_slot m c u T)
    isplitl [HD]; · iexact HD
    isplitl [Hv] <;> iassumption
  · iexact Ho

end Cert.KernelIdeal.Run
-- ==== Proof.IOps.lean ====
/-
  The body's single operations, as rules for what a memref reads: loads and stores through owned memrefs, words of the
  tables, reads of a full slot; and the kernel's conditions and offsets in closed form.
-/
module

public import proofs.«01_k».proof.Proof.ISlots

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ)

/-! ## Loads and stores -/

/-- A load through an owned memref reads the rectangle's elements. -/
theorem ld_owns {α : Type} {s : Shape} {e : EltTy} (c : Dev nD) (M : Memref sig .tc .vmem s e) (v : s.Idx → Elt F e)
    {r : Rect s} {hl : M.view.LoadsAt r.toLoadRect}
    {K : (r.shape.Idx → Elt F e) → Prog (TpuEff nD τ sig (Elt F) Λ₀ .tc) α} {Q : α → sProp 𝕄} :
    iprop(owns (c : Thread nD τ) M fullShare v ∗ (owns (c : Thread nD τ) M fullShare v -∗ wpK c (K fun x => v (r.emb x)) Q))
      ⊢ wpK c (Prog.lift (.load M r.toLoadRect hl) >>= K) Q := by
  simp only [Prog.lift, Prog.bind_op, Prog.bind_ret]
  unfold owns
  iintro ⟨⟨%f, %hf, H⟩, Hk⟩
  subst hf
  iapply (wp_load_rect 𝒱₀ (c : Thread nD τ) none Set.univ (m := M) (r := r) (S := M.view.set) (View.set_slice_subset _ _)) $$ H
  iintro H
  iapply Hk
  iexists f
  isplitr
  · ipureintro; rfl
  · iexact H

/-- A store through an owned memref leaves the payload in the rectangle and the rest as it was. -/
theorem st_owns {α : Type} {s : Shape} {e : EltTy} (c : Dev nD) (M : Memref sig .tc .vmem s e) (v : s.Idx → Elt F e)
    {r : Rect s} {w : r.shape.Idx → Elt F e} {hx hm} {K : PUnit → Prog (TpuEff nD τ sig (Elt F) Λ₀ .tc) α} {Q : α → sProp 𝕄} :
    iprop(owns (c : Thread nD τ) M fullShare v ∗ (∀ v' : s.Idx → Elt F e, ⌜(∀ x, v' (r.emb x) = w x) ∧ ∀ y, y ∉ r.set → v' y = v y⌝ -∗
        owns (c : Thread nD τ) M fullShare v' -∗ wpK c (K ⟨⟩) Q))
      ⊢ wpK c (Prog.lift (.store M r w Finset.univ hx hm) >>= K) Q := by
  simp only [Prog.lift, Prog.bind_op, Prog.bind_ret]
  unfold owns
  iintro ⟨⟨%f, %hf, H⟩, Hk⟩
  subst hf
  iapply (wp_store 𝒱₀ (c : Thread nD τ) none Set.univ (m := M) (r := r) (Mk := Finset.univ) (S := M.view.set) (View.set_slice_subset _ _)) $$ H
  iintro H
  iapply Hk $$ %(M.view.read (Elt F) ((M.access r).write (Elt F) f w Finset.univ)) [] [H]
  · ipureintro
    exact ⟨fun x => View.read_slice_write_emb _ _ _ (Finset.mem_univ _), fun y hy => View.read_slice_write_of_not_mem _ _ _ _ (fun h => hy (by rw [← Rect.map_emb_univ]; exact h))⟩
  · iexists _
    isplitr
    · ipureintro; rfl
    · iexact H

/-- The experts' table, held for reading; -/
abbrev tePts (c : Dev nD) : sProp 𝕄 := ((c : Thread nD τ).loc main_arg0) ↦{fullShare.right} m ((c : Thread nD τ).loc main_arg0)
/-- the marks'. -/
abbrev tvPts (c : Dev nD) : sProp 𝕄 := ((c : Thread nD τ).loc main_arg1) ↦{fullShare.right} m ((c : Thread nD τ).loc main_arg1)

omit [FloatOps F] in
theorem te_read (c : Dev nD) {off : Fin 1 → ℕ} {inb} (n : ℕ) (hn : off 0 = n) (hlt : n < 221) (x : S1.Idx) :
    ((teM.access (Rect.unit (s := S221) off S1.size inb) : View sig .tc _ _ _).read (Elt F) (m ((c : Thread nD τ).loc main_arg0))) x
      = teW m c n := by
  unfold teW
  rw [dif_pos hlt]
  refine congrArg (m ((c : Thread nD τ).loc main_arg0)) (funext fun a => Fin.ext ?_)
  match a with
  | ⟨0, _⟩ =>
    have hx : (x 0).val < 1 := (x 0).isLt
    show off 0 + 1 * (x 0).val = n
    omega

omit [FloatOps F] in
theorem tv_read (c : Dev nD) {off : Fin 1 → ℕ} {inb} (n : ℕ) (hn : off 0 = n) (hlt : n < 221) (x : S1.Idx) :
    ((tvM.access (Rect.unit (s := S221) off S1.size inb) : View sig .tc _ _ _).read (Elt F) (m ((c : Thread nD τ).loc main_arg1))) x
      = tvW m c n := by
  unfold tvW
  rw [dif_pos hlt]
  refine congrArg (m ((c : Thread nD τ).loc main_arg1)) (funext fun a => Fin.ext ?_)
  match a with
  | ⟨0, _⟩ =>
    have hx : (x 0).val < 1 := (x 0).isLt
    show off 0 + 1 * (x 0).val = n
    omega

/-- A tile's expert is read. -/
theorem te_ld {α : Type} (c : Dev nD) (n : ℕ) {off : Fin 1 → ℕ}
    {inb : ∀ a, off a + S1.size a ≤ S221.size a} {h1 : S1.numel = 1} {hp} {K : Elt F .i32 → Prog (TpuEff nD τ sig (Elt F) Λ₀ .tc) α} {Q : α → sProp 𝕄}
    (hn : off 0 = n) (hlt : n < 221) :
    iprop(tePts m c ∗ (tePts m c -∗ wpK c (K (teW m c n)) Q)) ⊢ wpK c (smemLoad teM (Rect.unit (s := S221) off S1.size inb) h1 hp >>= K) Q := by
  unfold smemLoad smemLoadElt
  simp only [Prog.bind_op, Prog.bind_ret]
  iintro ⟨Hcs, Hk⟩
  iapply (wp_load_rect 𝒱₀ (c : Thread nD τ) none Set.univ (m := teM) (r := Rect.unit (s := S221) off S1.size inb) (Finset.subset_univ _)) $$ Hcs
  iintro Hcs
  rw [te_read m c n hn hlt]
  iapply Hk
  iexact Hcs

/-- A tile's mark is read. -/
theorem tv_ld {α : Type} (c : Dev nD) (n : ℕ) {off : Fin 1 → ℕ}
    {inb : ∀ a, off a + S1.size a ≤ S221.size a} {h1 : S1.numel = 1} {hp} {K : Elt F .i32 → Prog (TpuEff nD τ sig (Elt F) Λ₀ .tc) α} {Q : α → sProp 𝕄}
    (hn : off 0 = n) (hlt : n < 221) :
    iprop(tvPts m c ∗ (tvPts m c -∗ wpK c (K (tvW m c n)) Q)) ⊢ wpK c (smemLoad tvM (Rect.unit (s := S221) off S1.size inb) h1 hp >>= K) Q := by
  unfold smemLoad smemLoadElt
  simp only [Prog.bind_op, Prog.bind_ret]
  iintro ⟨Hcs, Hk⟩
  iapply (wp_load_rect 𝒱₀ (c : Thread nD τ) none Set.univ (m := tvM) (r := Rect.unit (s := S221) off S1.size inb) (Finset.subset_univ _)) $$ Hcs
  iintro Hcs
  rw [tv_read m c n hn hlt]
  iapply Hk
  iexact Hcs

/-- Half `h` of tile `T`'s rows, as the kernel loads it. -/
def half (c : Dev nD) (T h : ℕ) : S1x16x16x1024.Idx → Elt F .bf16 :=
  fun x => xsB m c (ix3 (chunk m c (32 * T + (16 * h + (x 1).val))) (x 2) (x 3))

/-- Half a full slot is read. -/
theorem half_ld {α : Type} (c : Dev nD) (u : Fin 2) (T h : ℕ) {off : Fin 4 → ℕ} {inb : ∀ a, off a + S1x16x16x1024.size a ≤ S2x32x16x1024.size a}
    {hl} {K : (S1x16x16x1024.Idx → Elt F .bf16) → Prog (TpuEff nD τ sig (Elt F) Λ₀ .tc) α} {Q : α → sProp 𝕄}
    (ho : off = ![u.val, 16 * h, 0, 0]) :
    iprop(Full m c u T ∗ (Full m c u T -∗ wpK c (K (half m c T h)) Q))
      ⊢ wpK c (Prog.lift (.load bfM (Rect.unit (s := S2x32x16x1024) off S1x16x16x1024.size inb).toLoadRect hl) >>= K) Q := by
  subst ho
  simp only [Prog.lift, Prog.bind_op, Prog.bind_ret]
  unfold Full
  iintro ⟨⟨Hs, Hr⟩, Hk⟩
  iapply (wp_load_rect 𝒱₀ (c : Thread nD τ) none Set.univ (m := bfM) (r := Rect.unit (s := S2x32x16x1024) ![u.val, 16 * h, 0, 0] S1x16x16x1024.size inb) (S := slotSet u) (f := gath m c T) ?hS) $$ Hs
  case hS =>
    intro y hy
    have hy' := Rect.mem_set_unit.1 ((show (bfM.access (Rect.unit (s := S2x32x16x1024) ![u.val, 16 * h, 0, 0] S1x16x16x1024.size inb)).set = _ from View.set_slice_whole _ _) ▸ hy)
    have h0 : u.val ≤ (y 0).val ∧ (y 0).val < u.val + 1 := hy' 0
    exact Finset.mem_filter.2 ⟨Finset.mem_univ _, by omega⟩
  iintro Hs
  have e : ((bfM.access (Rect.unit (s := S2x32x16x1024) ![u.val, 16 * h, 0, 0] S1x16x16x1024.size inb) : View sig .tc _ _ _).read (Elt F) (gath m c T)) = half m c T h := by
    funext x
    show gath m c T ((Rect.unit (s := S2x32x16x1024) ![u.val, 16 * h, 0, 0] S1x16x16x1024.size inb).emb x) = _
    unfold gath half
    refine congrArg (xsB m c) (funext fun a => Fin.ext ?_)
    match a with
    | ⟨0, _⟩ =>
      show (chunk m c (32 * T + (16 * h + 1 * (x 1).val))).val = (chunk m c (32 * T + (16 * h + (x 1).val))).val
      rw [Nat.one_mul]
    | ⟨1, _⟩ => show 0 + 1 * (x 2).val = (x 2).val; omega
    | ⟨2, _⟩ => show 0 + 1 * (x 3).val = (x 3).val; omega
  rw [e]
  iapply Hk
  isplitl [Hs] <;> iassumption

/-! ## Conditions and offsets -/

theorem ne_ext (b : BitVec 1) : Scalar.cmpi .ne (Scalar.extui b : BitVec 32) 0#32 = 1#1 ↔ b = 1#1 := by
  revert b; decide

theorem eq_iff (a b : BitVec 32) : Scalar.cmpi .eq a b = 1#1 ↔ a = b := by
  rw [show Scalar.cmpi .eq a b = BitVec.ofBool (a == b) from rfl]
  by_cases h : a = b
  · subst h; rw [beq_self_eq_true]; exact ⟨fun _ => rfl, fun _ => rfl⟩
  · rw [beq_eq_false_iff_ne.2 h]; exact ⟨fun h => absurd h (by decide), fun h' => absurd h' h⟩

theorem ne_iff (a b : BitVec 32) : Scalar.cmpi .ne a b = 1#1 ↔ a ≠ b := by
  rw [show Scalar.cmpi .ne a b = BitVec.ofBool (a != b) from rfl]
  by_cases h : a = b
  · subst h; rw [bne_self_eq_false]; exact ⟨fun h => absurd h (by decide), fun h => absurd rfl h⟩
  · rw [bne_iff_ne.2 h]; exact ⟨fun _ => h, fun _ => rfl⟩

theorem and_iff (a b : BitVec 1) : Scalar.andi a b = 1#1 ↔ a = 1#1 ∧ b = 1#1 := by revert a b; decide
theorem or_iff (a b : BitVec 1) : Scalar.ori a b = 1#1 ↔ a = 1#1 ∨ b = 1#1 := by revert a b; decide

theorem word_zero : ∀ i : grid0.Coords, BitVec.ofNat 32 (i 0).val = 0#32 ↔ (i 0).val = 0 := by decide +kernel
theorem word_next : ∀ i : grid0.Coords, Scalar.cmpi .slt (Scalar.addi (BitVec.ofNat 32 (i 0).val) 1#32) 221#32 = 1#1 ↔ (i 0).val + 1 < 221 := by
  decide +kernel

/-- The first tile's copies are started at point 0 of a marked first tile; -/
theorem cond1_iff (i : grid0.Coords) (w : BitVec 32) : k0_cond1 i w = 1#1 ↔ (i 0).val = 0 ∧ w = 1#32 :=
  (ne_ext _).trans ((and_iff _ _).trans (and_congr ((eq_iff _ _).trans (word_zero i)) (eq_iff _ _)))
/-- the weights are taken at point 0 and where the expert changes; -/
theorem cond2_iff (i : grid0.Coords) (a b : BitVec 32) :
    Scalar.cmpi .ne (Scalar.extui (Scalar.ori (Scalar.cmpi .eq (BitVec.ofNat 32 (i 0).val) 0#32) (Scalar.cmpi .ne a b)) : BitVec 32) 0#32 = 1#1
      ↔ (i 0).val = 0 ∨ a ≠ b :=
  (ne_ext _).trans ((or_iff _ _).trans (or_congr ((eq_iff _ _).trans (word_zero i)) (ne_iff _ _)))
/-- a marked tile is computed; -/
theorem cond3_iff (w : BitVec 32) : k0_cond3 w = 1#1 ↔ w = 1#32 := (ne_ext _).trans (eq_iff _ _)
/-- the next tile's copies are started when there is one and it is marked; -/
theorem cond4_iff (i : grid0.Coords) (w : BitVec 32) : k0_cond4 i w = 1#1 ↔ (i 0).val + 1 < 221 ∧ w = 1#32 :=
  (ne_ext _).trans ((and_iff _ _).trans (and_congr (word_next i) (eq_iff _ _)))
/-- an unmarked tile is zeroed. -/
theorem cond5_iff (w : BitVec 32) : k0_cond5 w = 1#1 ↔ w = 0#32 := (ne_ext _).trans (eq_iff _ _)

theorem off34_eq : ∀ i : grid0.Coords, k0_off34 i 0 = (i 0).val := by decide +kernel
theorem off35_eq : ∀ i : grid0.Coords, k0_off35 i 0 = (i 0).val - 1 := by decide +kernel
theorem off36_eq : ∀ i : grid0.Coords, k0_off36 i 0 = (i 0).val := by decide +kernel
theorem off37_eq : ∀ i : grid0.Coords, k0_off37 i 0 = min ((i 0).val + 1) 220 := by decide +kernel
theorem off202_eq : ∀ i : grid0.Coords, k0_off202 i 0 = (i 0).val := by decide +kernel
theorem off39_eq : ∀ i : grid0.Coords, k0_off39 i 0 = ((i 0).val + 1) % 2 := by decide +kernel
theorem off198_eq : ∀ i : grid0.Coords, k0_off198 i 0 = (i 0).val % 2 := by decide +kernel

/-- The next tile's chunks are within the table. -/
theorem next_inb (i : grid0.Coords) (w : BitVec 32) (h : k0_cond4 i w = 1#1) (k : ℕ) (hk : k < 32) :
    ∀ a : Fin 1, (![(Scalar.addi (Scalar.muli (Scalar.addi (BitVec.ofNat 32 (i 0).val) 1#32) 32#32) (BitVec.ofNat 32 k)).toNat] : Fin 1 → ℕ) a
      + S1.size a ≤ S7072.size a := by
  intro a
  have e := next_word i _ rfl k hk
  have hT := ((cond4_iff i w).1 h).1
  match a with
  | ⟨0, _⟩ =>
    show (Scalar.addi (Scalar.muli (Scalar.addi (BitVec.ofNat 32 (i 0).val) 1#32) 32#32) (BitVec.ofNat 32 k)).toNat + 1 ≤ 7072
    rw [e]; omega

/-- So the check before the next tile's copies holds. -/
theorem chk33_ok (i : grid0.Coords) (w0 w : BitVec 32) : k0_chk33 i w0 w :=
  ⟨fun _ h => next_inb i w h 0 (by decide), fun _ h => next_inb i w h 1 (by decide), fun _ h => next_inb i w h 2 (by decide), fun _ h => next_inb i w h 3 (by decide), fun _ h => next_inb i w h 4 (by decide), fun _ h => next_inb i w h 5 (by decide), fun _ h => next_inb i w h 6 (by decide), fun _ h => next_inb i w h 7 (by decide), fun _ h => next_inb i w h 8 (by decide), fun _ h => next_inb i w h 9 (by decide), fun _ h => next_inb i w h 10 (by decide), fun _ h => next_inb i w h 11 (by decide), fun _ h => next_inb i w h 12 (by decide), fun _ h => next_inb i w h 13 (by decide), fun _ h => next_inb i w h 14 (by decide), fun _ h => next_inb i w h 15 (by decide), fun _ h => next_inb i w h 16 (by decide), fun _ h => next_inb i w h 17 (by decide), fun _ h => next_inb i w h 18 (by decide), fun _ h => next_inb i w h 19 (by decide), fun _ h => next_inb i w h 20 (by decide), fun _ h => next_inb i w h 21 (by decide), fun _ h => next_inb i w h 22 (by decide), fun _ h => next_inb i w h 23 (by decide), fun _ h => next_inb i w h 24 (by decide), fun _ h => next_inb i w h 25 (by decide), fun _ h => next_inb i w h 26 (by decide), fun _ h => next_inb i w h 27 (by decide), fun _ h => next_inb i w h 28 (by decide), fun _ h => next_inb i w h 29 (by decide), fun _ h => next_inb i w h 30 (by decide), fun _ h => next_inb i w h 31 (by decide)⟩

end Cert.KernelIdeal.Run
-- ==== Proof.IB1.lean ====
/-
  Point `T` of the launch in a marked tile: the next tile's 32 copies are started when there is a next marked
  tile, this tile's are waited for, and the two halves' products with the gate and the up weights are formed.
-/
module

public import proofs.«01_k».proof.Proof.IOps
public import proofs.«01_k».proof.Proof.IParts

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ)

/-- Tile `T`'s slot. -/
abbrev sl (T : ℕ) : Fin 2 := ⟨T % 2, Nat.mod_lt _ (by decide)⟩

theorem sl_two (T : ℕ) : sl (T + 2) = sl T := Fin.ext (Nat.add_mod_right T 2)

open Classical in
/-- A slot that carries tile `T`'s copies in flight when `p`, and is idle otherwise. -/
def SlotAt (p : Prop) (c : Dev nD) (u : Fin 2) (T : ℕ) : sProp 𝕄 := if p then Flight m c u T else Idle m c u

theorem slotAt_pos {p : Prop} (h : p) (c : Dev nD) (u : Fin 2) (T : ℕ) : SlotAt m p c u T = Flight m c u T := if_pos h
theorem slotAt_neg {p : Prop} (h : ¬ p) (c : Dev nD) (u : Fin 2) (T : ℕ) : SlotAt m p c u T = Idle m c u := if_neg h

theorem slotAt_iff {p q : Prop} (h : p ↔ q) (c : Dev nD) (u : Fin 2) (T : ℕ) : SlotAt m p c u T = SlotAt m q c u T := by
  rw [propext h]

/-- An update first. -/
theorem step_upd {α : Type} (c : Dev nD) {p : Prog (TpuEff nD τ sig (Elt F) Λ₀ .tc) α} {Q : α → sProp 𝕄} {P P' : sProp 𝕄}
    (h : P ⊢ iprop(|={Set.univ}=> P')) (H : P' ⊢ wpK c p Q) : P ⊢ wpK c p Q := by
  refine h.trans ?_
  iintro >HP
  iapply H
  iexact HP

/-- A branch taken; -/
theorem br_pos {α : Type} (c : Dev nD) {p : Prop} [Decidable p] (h : p) {A : p → Prog (TpuEff nD τ sig (Elt F) Λ₀ .tc) α}
    {B : ¬ p → Prog (TpuEff nD τ sig (Elt F) Λ₀ .tc) α} {Q : α → sProp 𝕄} : wpK c (A h) Q ⊢ wpK c (dite p A B) Q := by
  rw [dif_pos h]

/-- and not taken; -/
theorem br_neg {α : Type} (c : Dev nD) {p : Prop} [Decidable p] (h : ¬ p) {A : p → Prog (TpuEff nD τ sig (Elt F) Λ₀ .tc) α}
    {B : ¬ p → Prog (TpuEff nD τ sig (Elt F) Λ₀ .tc) α} {Q : α → sProp 𝕄} : wpK c (B h) Q ⊢ wpK c (dite p A B) Q := by
  rw [dif_neg h]

/-- the same where the branches do not use the test. -/
theorem br_pos' {α : Type} (c : Dev nD) {p : Prop} [Decidable p] (h : p) {A B : Prog (TpuEff nD τ sig (Elt F) Λ₀ .tc) α}
    {Q : α → sProp 𝕄} : wpK c A Q ⊢ wpK c (ite p A B) Q := by
  rw [if_pos h]

theorem br_neg' {α : Type} (c : Dev nD) {p : Prop} [Decidable p] (h : ¬ p) {A B : Prog (TpuEff nD τ sig (Elt F) Λ₀ .tc) α}
    {Q : α → sProp 𝕄} : wpK c B Q ⊢ wpK c (ite p A B) Q := by
  rw [if_neg h]

theorem sl_off39 (i : grid0.Coords) (T : ℕ) (hT : T = (i 0).val) : k0_off39 i 0 = (sl (T + 1)).val := by
  rw [off39_eq, hT]

theorem sl_off198 (i : grid0.Coords) (T : ℕ) (hT : T = (i 0).val) : k0_off198 i = ![(sl T).val] := by
  funext a
  match a with
  | ⟨0, _⟩ => exact (off198_eq i).trans (by rw [hT]; rfl)

theorem off200_0 : ∀ i : grid0.Coords, k0_off200 i 0 = (i 0).val % 2 := by decide +kernel
theorem off201_0 : ∀ i : grid0.Coords, k0_off201 i 0 = (i 0).val % 2 := by decide +kernel

theorem sl_off200 (i : grid0.Coords) (T : ℕ) (hT : T = (i 0).val) : k0_off200 i = ![(sl T).val, 16 * 0, 0, 0] := by
  funext a
  match a with
  | ⟨0, _⟩ => exact (off200_0 i).trans (by rw [hT]; rfl)
  | ⟨1, _⟩ => rfl
  | ⟨2, _⟩ => rfl
  | ⟨3, _⟩ => rfl

theorem sl_off201 (i : grid0.Coords) (T : ℕ) (hT : T = (i 0).val) : k0_off201 i = ![(sl T).val, 16 * 1, 0, 0] := by
  funext a
  match a with
  | ⟨0, _⟩ => exact (off201_0 i).trans (by rw [hT]; rfl)
  | ⟨1, _⟩ => rfl
  | ⟨2, _⟩ => rfl
  | ⟨3, _⟩ => rfl

theorem sem_eq {off off' : Fin 1 → ℕ} {inb : ∀ a, off a + S1.size a ≤ S2.size a} {inb' : ∀ a, off' a + S1.size a ≤ S2.size a} (h : off = off') :
    ((cc0_scratch1.slice (Rect.unit (s := S2) off S1.size inb)).squeeze S_ squeezes_S1_S_).sem
      = ((cc0_scratch1.slice (Rect.unit (s := S2) off' S1.size inb')).squeeze S_ squeezes_S1_S_).sem := by
  subst h; rfl

/-- A whole buffer's elements are where they are. -/
theorem emb_zero {s : Shape} {off : Fin s.rank → ℕ} {inb : ∀ a, off a + s.size a ≤ s.size a} (hz : ∀ a, off a = 0) (x : s.Idx) :
    (Rect.unit (s := s) off s.size inb).emb x = x :=
  funext fun a => Fin.ext (by
    show off a + 1 * (x a).val = (x a).val
    rw [hz]; omega)

/-- A whole owned buffer is read; -/
theorem ld_all {α : Type} {s : Shape} {e : EltTy} (c : Dev nD) (M : Memref sig .tc .vmem s e) (v : s.Idx → Elt F e)
    {off : Fin s.rank → ℕ} {inb : ∀ a, off a + s.size a ≤ s.size a} {hl} {K : (s.Idx → Elt F e) → Prog (TpuEff nD τ sig (Elt F) Λ₀ .tc) α}
    {Q : α → sProp 𝕄} (hz : ∀ a, off a = 0) :
    iprop(owns (c : Thread nD τ) M fullShare v ∗ (owns (c : Thread nD τ) M fullShare v -∗ wpK c (K v) Q))
      ⊢ wpK c (Prog.lift (.load M (Rect.unit (s := s) off s.size inb).toLoadRect hl) >>= K) Q := by
  have e : (fun x : s.Idx => v ((Rect.unit (s := s) off s.size inb).emb x)) = v := funext fun x => congrArg v (emb_zero hz x)
  refine BIBase.Entails.trans ?_ (ld_owns c M v)
  have e' : K (fun x => v ((Rect.unit (s := s) off s.size inb).emb x)) = K v := congrArg K e
  exact BIBase.Entails.of_eq (congrArg (fun p => iprop(owns (c : Thread nD τ) M fullShare v ∗ (owns (c : Thread nD τ) M fullShare v -∗ wpK c p Q))) e'.symm)

/-- and written. -/
theorem st_all {α : Type} {s : Shape} {e : EltTy} (c : Dev nD) (M : Memref sig .tc .vmem s e) (v w : s.Idx → Elt F e)
    {off : Fin s.rank → ℕ} {inb : ∀ a, off a + s.size a ≤ s.size a} {hx hm} {K : PUnit → Prog (TpuEff nD τ sig (Elt F) Λ₀ .tc) α}
    {Q : α → sProp 𝕄} (hz : ∀ a, off a = 0) :
    iprop(owns (c : Thread nD τ) M fullShare v ∗ (owns (c : Thread nD τ) M fullShare w -∗ wpK c (K ⟨⟩) Q))
      ⊢ wpK c (Prog.lift (.store M (Rect.unit (s := s) off s.size inb) w Finset.univ hx hm) >>= K) Q := by
  refine BIBase.Entails.trans ?_ (st_owns c M v)
  iintro ⟨H, Hk⟩
  isplitl [H]; · iexact H
  iintro %v' %hv H
  have e : v' = w := funext fun x => (congrArg v' (emb_zero hz x)).symm.trans (hv.1 x)
  subst e
  iapply Hk
  iexact H

set_option maxHeartbeats 4000000 in
/-- The marked tile's first part. -/
theorem part25_run (hok : TabOk m) (c : Dev nD) (i : grid0.Coords)
    (a5 : Memref sig .tc .vmem S1x1024x256 .f32) (h5 : a5.IsWhole) (a6 : Memref sig .tc .vmem S1x1024x256 .f32) (h6 : a6.IsWhole)
    (a7 : Memref sig .tc .vmem S1x256x1024 .f32) (h7 : a7.IsWhole) (a8 : Memref sig .tc .vmem S512x1024 .bf16) (h8 : a8.IsWhole)
    (T : ℕ) (hT : T = (i 0).val) (hlt : T < 221) (arg0 v9 : BitVec 32) (v28 : Elt F .i32) (k0_h3 : k0_cond3 v28 = 1#1)
    (v2 v3 : S1024x256.Idx → Elt F .bf16) (W : Waits sig Unit) (R : sProp 𝕄) {Q : _ → sProp 𝕄}
    (H : ∀ W', iprop(csPts m c ∗ tvPts m c ∗ Full m c (sl T) T ∗ SlotAt m (T + 1 < 221 ∧ tvW m c (T + 1) = 1#32) c (sl (T + 1)) (T + 1)
        ∗ owns (c : Thread nD τ) s2M fullShare v2 ∗ owns (c : Thread nD τ) s3M fullShare v3 ∗ owes (c : Thread nD τ) 0 W' ∗ R)
        ⊢ Q ⟨k0_pay2 (half m c T 0) v2, k0_pay3 (half m c T 0) v3, k0_pay4 (half m c T 1), k0_pay5 (half m c T 1) v2⟩) :
    iprop(csPts m c ∗ tvPts m c ∗ Flight m c (sl T) T ∗ Idle m c (sl (T + 1))
        ∗ owns (c : Thread nD τ) s2M fullShare v2 ∗ owns (c : Thread nD τ) s3M fullShare v3 ∗ owes (c : Thread nD τ) 0 W ∗ R)
      ⊢ wpK c (k0_part25 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _) arg0 v9 v28 k0_h3) Q := by
  rw [k0_part25_eq_skeleton]; unfold k0_part25_skel
  iintro ⟨Hcs, Htv, Hf, Hi, H2, H3, Ho, HR⟩
  iapply (tv_ld m c (min (T + 1) 220) (hT ▸ off37_eq i) (by omega))
  isplitl [Htv]; · iexact Htv
  iintro Htv
  iapply (step_assume c (chk33_ok i v28 _) .rfl)
  extract_lets hchk l47 l48 l49 l50 l51 jp l463 l464
  have HJ : iprop(csPts m c ∗ tvPts m c ∗ Flight m c (sl T) T ∗ SlotAt m (T + 1 < 221 ∧ tvW m c (T + 1) = 1#32) c (sl (T + 1)) (T + 1)
        ∗ owns (c : Thread nD τ) s2M fullShare v2 ∗ owns (c : Thread nD τ) s3M fullShare v3 ∗ owes (c : Thread nD τ) 0 W ∗ R)
      ⊢ wpK c (jp PUnit.unit) Q := by
    iintro ⟨Hcs, Htv, Hf, Hi, H2, H3, Ho, HR⟩
    iapply (step_wait m c (sl T) T (W := W) (sem_eq (sl_off198 i T hT)))
    isplitl [Hf]; · iexact Hf
    isplitl [Ho]; · iexact Ho
    iintro Hf Ho
    iapply (half_ld m c (sl T) T 0 (sl_off200 i T hT))
    isplitl [Hf]; · iexact Hf
    iintro Hf
    iapply (ld_all c s2M v2 (by decide))
    isplitl [H2]; · iexact H2
    iintro H2
    iapply (ld_all c s3M v3 (by decide))
    isplitl [H3]; · iexact H3
    iintro H3
    iapply (half_ld m c (sl T) T 1 (sl_off201 i T hT))
    isplitl [Hf]; · iexact Hf
    iintro Hf
    iapply (ld_all c s2M v2 (by decide))
    isplitl [H2]; · iexact H2
    iintro H2
    iapply (step_pure c (H (insert (SemLoc.dma (rsem (sl T)), ()) W)))
    isplitl [Hcs]; · iexact Hcs
    isplitl [Htv]; · iexact Htv
    isplitl [Hf]; · iexact Hf
    isplitl [Hi]; · iexact Hi
    isplitl [H2]; · iexact H2
    isplitl [H3]; · iexact H3
    isplitl [Ho]; · iexact Ho
    iexact HR
  by_cases hc : T + 1 < 221 ∧ tvW m c (T + 1) = 1#32
  · have e1 : min (T + 1) 220 = T + 1 := by omega
    have k0_h4 : k0_cond4 i (tvW m c (min (T + 1) 220)) = 1#1 := (cond4_iff i _).2 ⟨hT ▸ hc.1, by rw [e1]; exact hc.2⟩
    iapply (br_pos c k0_h4)
    iapply (step_upd c (open_slot m c (sl (T + 1)) (T + 1) iprop(tvPts m c ∗ Flight m c (sl T) T
      ∗ owns (c : Thread nD τ) s2M fullShare v2 ∗ owns (c : Thread nD τ) s3M fullShare v3 ∗ owes (c : Thread nD τ) 0 W ∗ R)) ?H)
    case H =>
      refine step_bind c ?_
      refine part24 m hok c i a5 h5 a6 h6 a7 h7 a8 h8 _ (sl (T + 1)) (T + 1) (sl_off39 i T hT) (by rw [hT]) hc.1 arg0 v9 v28 k0_h3 _ _ k0_h4 ?_
      intro hw
      dsimp only
      have hu := sl_off39 i T hT
      refine step_copy m c (sl (T + 1)) (T + 1) _ 31 (by decide) hok rfl (by rw [← hu]; rfl) (by rw [← hu]; rfl) ?_
      refine BIBase.Entails.trans (close_slot m c (sl (T + 1)) (T + 1) _) (BIBase.Entails.trans ?_ HJ)
      iintro ⟨Hcs, Hi, Htv, Hf, H2, H3, Ho, HR⟩
      rw [slotAt_pos m hc]
      isplitl [Hcs]; · iexact Hcs
      isplitl [Htv]; · iexact Htv
      isplitl [Hf]; · iexact Hf
      isplitl [Hi]; · iexact Hi
      isplitl [H2]; · iexact H2
      isplitl [H3]; · iexact H3
      isplitl [Ho]; · iexact Ho
      iexact HR
    isplitl [Hcs]; · iexact Hcs
    isplitl [Hi]; · iexact Hi
    isplitl [Htv]; · iexact Htv
    isplitl [Hf]; · iexact Hf
    isplitl [H2]; · iexact H2
    isplitl [H3]; · iexact H3
    isplitl [Ho]; · iexact Ho
    iexact HR
  · have k0_h4 : ¬ k0_cond4 i (tvW m c (min (T + 1) 220)) = 1#1 := fun h => by
      obtain ⟨ha, hb⟩ := (cond4_iff i _).1 h
      have ha' : T + 1 < 221 := by rw [hT]; exact ha
      exact hc ⟨ha', by rw [show min (T + 1) 220 = T + 1 by omega] at hb; exact hb⟩
    iapply (br_neg c k0_h4)
    iapply HJ
    rw [slotAt_neg m hc]
    isplitl [Hcs]; · iexact Hcs
    isplitl [Htv]; · iexact Htv
    isplitl [Hf]; · iexact Hf
    isplitl [Hi]; · iexact Hi
    isplitl [H2]; · iexact H2
    isplitl [H3]; · iexact H3
    isplitl [Ho]; · iexact Ho
    iexact HR

end Cert.KernelIdeal.Run
-- ==== Proof.IB2.lean ====
/-
  One point of the launch: what the kernel's body leaves, in its output block, in the gather buffer's two slots and
  in the three scratch buffers of the expert's weights.
-/
module

public import proofs.«01_k».proof.Proof.IB1

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ)

/-- An expert, from its table word. -/
def exq (w : BitVec 32) : Fin 64 := ⟨w.toNat % 64, Nat.mod_lt _ (by decide)⟩

/-- The gate weights of the expert named by `w`, as the launch's block of them; -/
def wgBlk (c : Dev nD) (w : BitVec 32) : S1x1024x256.Idx → Elt F .f32 :=
  fun x => (m ((c : Thread nD τ).loc main_arg4) : S64x1024x256.Idx → Elt F .f32) (ix3 (exq w) (x 1) (x 2))
/-- the up weights; -/
def wuBlk (c : Dev nD) (w : BitVec 32) : S1x1024x256.Idx → Elt F .f32 :=
  fun x => (m ((c : Thread nD τ).loc main_arg5) : S64x1024x256.Idx → Elt F .f32) (ix3 (exq w) (x 1) (x 2))
/-- the down weights. -/
def wdBlk (c : Dev nD) (w : BitVec 32) : S1x256x1024.Idx → Elt F .f32 :=
  fun x => (m ((c : Thread nD τ).loc main_arg6) : S64x256x1024.Idx → Elt F .f32) (ix3 (exq w) (x 1) (x 2))

/-- A marked tile's block of results. -/
def outM (c : Dev nD) (T : ℕ) : S512x1024.Idx → Elt F .bf16 := fun y =>
  if h : (y 0).val < 256 then
    k0_pay9 (k0_pay2 (half m c T 0) (k0_pay6 (wgBlk m c (teW m c T)))) (k0_pay3 (half m c T 0) (k0_pay7 (wuBlk m c (teW m c T))))
      (k0_pay8 (wdBlk m c (teW m c T))) (ix2 (n0 := 256) (n1 := 1024) ⟨(y 0).val, h⟩ (y 1))
  else
    k0_pay10 (k0_pay4 (half m c T 1)) (k0_pay5 (half m c T 1) (k0_pay6 (wgBlk m c (teW m c T)))) (k0_pay7 (wuBlk m c (teW m c T)))
      (k0_pay8 (wdBlk m c (teW m c T)))
      (ix2 (n0 := 256) (n1 := 1024) ⟨(y 0).val - 256, by have : (y 0).val < 512 := (y 0).isLt; omega⟩ (y 1))

/-- A tile's block of results. -/
def outT (c : Dev nD) (T : ℕ) : S512x1024.Idx → Elt F .bf16 := if tvW m c T = 1#32 then outM m c T else k0_pay11

/-- The scratch weights hold expert `w`'s. -/
def WtsAt (c : Dev nD) (w : BitVec 32) : sProp 𝕄 :=
  iprop(owns (c : Thread nD τ) s2M fullShare (k0_pay6 (wgBlk m c w)) ∗ owns (c : Thread nD τ) s3M fullShare (k0_pay7 (wuBlk m c w))
    ∗ owns (c : Thread nD τ) s4M fullShare (k0_pay8 (wdBlk m c w)))

/-- The scratch weights before point `T`: anything before the first, then the previous point's expert's. -/
def Wts (c : Dev nD) (T : ℕ) : sProp 𝕄 :=
  iprop(∃ v2 v3 v4, ⌜0 < T → v2 = k0_pay6 (wgBlk m c (teW m c (T - 1))) ∧ v3 = k0_pay7 (wuBlk m c (teW m c (T - 1)))
      ∧ v4 = k0_pay8 (wdBlk m c (teW m c (T - 1)))⌝
    ∗ owns (c : Thread nD τ) s2M fullShare v2 ∗ owns (c : Thread nD τ) s3M fullShare v3 ∗ owns (c : Thread nD τ) s4M fullShare v4)

theorem wtsAt_open (c : Dev nD) (w : BitVec 32) : WtsAt m c w
    ⊢ iprop(owns (c : Thread nD τ) s2M fullShare (k0_pay6 (wgBlk m c w)) ∗ owns (c : Thread nD τ) s3M fullShare (k0_pay7 (wuBlk m c w))
      ∗ owns (c : Thread nD τ) s4M fullShare (k0_pay8 (wdBlk m c w))) := .rfl

theorem wtsAt_close (c : Dev nD) (w : BitVec 32) :
    iprop(owns (c : Thread nD τ) s2M fullShare (k0_pay6 (wgBlk m c w)) ∗ owns (c : Thread nD τ) s3M fullShare (k0_pay7 (wuBlk m c w))
      ∗ owns (c : Thread nD τ) s4M fullShare (k0_pay8 (wdBlk m c w))) ⊢ WtsAt m c w := .rfl

theorem wts_next (c : Dev nD) (T : ℕ) : WtsAt m c (teW m c T) ⊢ Wts m c (T + 1) := by
  unfold WtsAt Wts
  iintro H
  iexists (k0_pay6 (wgBlk m c (teW m c T))), (k0_pay7 (wuBlk m c (teW m c T))), (k0_pay8 (wdBlk m c (teW m c T)))
  isplitr
  · ipureintro; exact fun _ => ⟨rfl, rfl, rfl⟩
  · iexact H

/-- The gather buffer before point `T`. -/
def SlotSt (c : Dev nD) (T : ℕ) : sProp 𝕄 :=
  iprop(SlotAt m (0 < T ∧ T < 221 ∧ tvW m c T = 1#32) c (sl T) T ∗ Idle m c (sl (T + 1)))

theorem slotSt_open (c : Dev nD) (T : ℕ) :
    SlotSt m c T ⊢ iprop(SlotAt m (0 < T ∧ T < 221 ∧ tvW m c T = 1#32) c (sl T) T ∗ Idle m c (sl (T + 1))) := .rfl

theorem slotSt_next (c : Dev nD) (T : ℕ) :
    iprop(SlotAt m (T + 1 < 221 ∧ tvW m c (T + 1) = 1#32) c (sl (T + 1)) (T + 1) ∗ Idle m c (sl T)) ⊢ SlotSt m c (T + 1) := by
  unfold SlotSt
  rw [show sl (T + 1 + 1) = sl T from sl_two T, slotAt_iff m (show (T + 1 < 221 ∧ tvW m c (T + 1) = 1#32)
    ↔ (0 < T + 1 ∧ T + 1 < 221 ∧ tvW m c (T + 1) = 1#32) from ⟨fun h => ⟨Nat.succ_pos _, h⟩, fun h => h.2⟩)]

/-- The two halves stored make the block. -/
theorem out_eq (c : Dev nD) (T : ℕ) {v v' v'' : S512x1024.Idx → Elt F .bf16} {inb inb'}
    (h1 : (∀ x, v' ((Rect.unit (s := S512x1024) ![0, 0] S256x1024.size inb).emb x)
        = k0_pay9 (k0_pay2 (half m c T 0) (k0_pay6 (wgBlk m c (teW m c T)))) (k0_pay3 (half m c T 0) (k0_pay7 (wuBlk m c (teW m c T))))
            (k0_pay8 (wdBlk m c (teW m c T))) x)
      ∧ ∀ y, y ∉ (Rect.unit (s := S512x1024) ![0, 0] S256x1024.size inb).set → v' y = v y)
    (h2 : (∀ x, v'' ((Rect.unit (s := S512x1024) ![256, 0] S256x1024.size inb').emb x)
        = k0_pay10 (k0_pay4 (half m c T 1)) (k0_pay5 (half m c T 1) (k0_pay6 (wgBlk m c (teW m c T)))) (k0_pay7 (wuBlk m c (teW m c T)))
            (k0_pay8 (wdBlk m c (teW m c T))) x)
      ∧ ∀ y, y ∉ (Rect.unit (s := S512x1024) ![256, 0] S256x1024.size inb').set → v'' y = v' y) :
    v'' = outM m c T := by
  funext y
  have hy0 : (y 0).val < 512 := (y 0).isLt
  unfold outM
  by_cases h : (y 0).val < 256
  · rw [dif_pos h, ← h1.1, h2.2 y]
    · refine congrArg v' (funext fun a => Fin.ext ?_)
      match a with
      | ⟨0, _⟩ => show (y 0).val = 0 + 1 * (y 0).val; omega
      | ⟨1, _⟩ => show (y 1).val = 0 + 1 * (y 1).val; omega
    · intro hm
      have h0 : 256 ≤ (y 0).val ∧ (y 0).val < 256 + 256 := Rect.mem_set_unit.1 hm 0
      omega
  · rw [dif_neg h, ← h2.1]
    refine congrArg v'' (funext fun a => Fin.ext ?_)
    match a with
    | ⟨0, _⟩ => show (y 0).val = 256 + 1 * ((y 0).val - 256); omega
    | ⟨1, _⟩ => show (y 1).val = 0 + 1 * (y 1).val; omega

set_option maxHeartbeats 4000000 in
/-- The body at point `T`. -/
theorem part26_run (hok : TabOk m) (c : Dev nD) (i : grid0.Coords)
    (a5 : Memref sig .tc .vmem S1x1024x256 .f32) (h5 : a5.IsWhole) (a6 : Memref sig .tc .vmem S1x1024x256 .f32) (h6 : a6.IsWhole)
    (a7 : Memref sig .tc .vmem S1x256x1024 .f32) (h7 : a7.IsWhole) (a8 : Memref sig .tc .vmem S512x1024 .bf16) (h8 : a8.IsWhole)
    (T : ℕ) (hT : T = (i 0).val) (hlt : T < 221) (v8 : S512x1024.Idx → Elt F .bf16) (W : Waits sig Unit) {Q : PUnit → sProp 𝕄}
    (H : ∀ W', iprop(csPts m c ∗ tvPts m c ∗ tePts m c ∗ SlotSt m c (T + 1) ∗ Wts m c (T + 1)
        ∗ owns (c : Thread nD τ) a5 fullShare (wgBlk m c (teW m c T)) ∗ owns (c : Thread nD τ) a6 fullShare (wuBlk m c (teW m c T))
        ∗ owns (c : Thread nD τ) a7 fullShare (wdBlk m c (teW m c T)) ∗ owns (c : Thread nD τ) a8 fullShare (outT m c T)
        ∗ owes (c : Thread nD τ) 0 W') ⊢ Q ⟨⟩) :
    iprop(csPts m c ∗ tvPts m c ∗ tePts m c ∗ SlotSt m c T ∗ Wts m c T
        ∗ owns (c : Thread nD τ) a5 fullShare (wgBlk m c (teW m c T)) ∗ owns (c : Thread nD τ) a6 fullShare (wuBlk m c (teW m c T))
        ∗ owns (c : Thread nD τ) a7 fullShare (wdBlk m c (teW m c T)) ∗ owns (c : Thread nD τ) a8 fullShare v8
        ∗ owes (c : Thread nD τ) 0 W)
      ⊢ wpK c (k0_part26 i teM (Memref.isWhole_whole _) tvM (Memref.isWhole_whole _) csM (Memref.isWhole_whole _) xsM (Memref.isWhole_whole _) a5 h5 a6 h6 a7 h7 a8 h8 bfM (Memref.isWhole_whole _) cc0_scratch1 s2M (Memref.isWhole_whole _) s3M (Memref.isWhole_whole _) s4M (Memref.isWhole_whole _)) Q := by
  rw [k0_part26_eq_skeleton]; unfold k0_part26_skel
  iintro ⟨Hcs, Htv, Hte, Hsl, Hw, H5, H6, H7, H8, Ho⟩
  iapply (tv_ld m c 0 rfl (by decide))
  isplitl [Htv]; · iexact Htv
  iintro Htv
  extract_lets
  rename_i x16 jpD jpC jpB jpA x308 x309
  have HC : ∀ W' v8', (tvW m c T = 1#32 → v8' = outM m c T) →
      iprop(csPts m c ∗ tvPts m c ∗ tePts m c ∗ SlotSt m c (T + 1) ∗ WtsAt m c (teW m c T)
        ∗ owns (c : Thread nD τ) a5 fullShare (wgBlk m c (teW m c T)) ∗ owns (c : Thread nD τ) a6 fullShare (wuBlk m c (teW m c T))
        ∗ owns (c : Thread nD τ) a7 fullShare (wdBlk m c (teW m c T)) ∗ owns (c : Thread nD τ) a8 fullShare v8'
        ∗ owes (c : Thread nD τ) 0 W') ⊢ wpK c (jpC PUnit.unit) Q := by
    intro W' v8' hv8
    iintro ⟨Hcs, Htv, Hte, Hsl, Hw, H5, H6, H7, H8, Ho⟩
    ihave Hw := (wts_next m c T) $$ Hw
    iapply (tv_ld m c T (hT ▸ off202_eq i) hlt)
    isplitl [Htv]; · iexact Htv
    iintro Htv
    rcases hok.tv c T with h0 | h1
    · have k0_h5 : k0_cond5 (tvW m c T) = 1#1 := (cond5_iff _).2 h0
      have ho : outT m c T = k0_pay11 := if_neg (by rw [h0]; decide)
      iapply (br_pos c k0_h5)
      iapply (ld_all c a8 v8' (by decide))
      isplitl [H8]; · iexact H8
      iintro H8
      iapply (st_all c a8 v8' (k0_pay11 (F := F)) (by decide))
      isplitl [H8]; · iexact H8
      iintro H8
      iapply (step_pure c (H W'))
      rw [ho]
      isplitl [Hcs]; · iexact Hcs
      isplitl [Htv]; · iexact Htv
      isplitl [Hte]; · iexact Hte
      isplitl [Hsl]; · iexact Hsl
      isplitl [Hw]; · iexact Hw
      isplitl [H5]; · iexact H5
      isplitl [H6]; · iexact H6
      isplitl [H7]; · iexact H7
      isplitl [H8]; · iexact H8
      iexact Ho
    · have k0_h5 : ¬ k0_cond5 (tvW m c T) = 1#1 := fun h => by
        have := (cond5_iff _).1 h; rw [h1] at this; exact absurd this (by decide)
      have ho : outT m c T = v8' := (if_pos h1).trans (hv8 h1).symm
      iapply (br_neg c k0_h5)
      iapply (step_pure c (H W'))
      rw [ho]
      isplitl [Hcs]; · iexact Hcs
      isplitl [Htv]; · iexact Htv
      isplitl [Hte]; · iexact Hte
      isplitl [Hsl]; · iexact Hsl
      isplitl [Hw]; · iexact Hw
      isplitl [H5]; · iexact H5
      isplitl [H6]; · iexact H6
      isplitl [H7]; · iexact H7
      isplitl [H8]; · iexact H8
      iexact Ho
  have HB : iprop(csPts m c ∗ tvPts m c ∗ tePts m c ∗ SlotAt m (tvW m c T = 1#32) c (sl T) T ∗ Idle m c (sl (T + 1)) ∗ WtsAt m c (teW m c T)
        ∗ owns (c : Thread nD τ) a5 fullShare (wgBlk m c (teW m c T)) ∗ owns (c : Thread nD τ) a6 fullShare (wuBlk m c (teW m c T))
        ∗ owns (c : Thread nD τ) a7 fullShare (wdBlk m c (teW m c T)) ∗ owns (c : Thread nD τ) a8 fullShare v8
        ∗ owes (c : Thread nD τ) 0 W) ⊢ wpK c (jpB PUnit.unit) Q := by
    iintro ⟨Hcs, Htv, Hte, Hf, Hi, Hw, H5, H6, H7, H8, Ho⟩
    iapply (tv_ld m c T (hT ▸ off36_eq i) hlt)
    isplitl [Htv]; · iexact Htv
    iintro Htv
    rcases hok.tv c T with h0 | h1
    · have k0_h3 : ¬ k0_cond3 (tvW m c T) = 1#1 := fun h => by
        have := (cond3_iff _).1 h; rw [h0] at this; exact absurd this (by decide)
      have hn1 : ¬ tvW m c T = 1#32 := by rw [h0]; decide
      have hn2 : ¬ (T + 1 < 221 ∧ tvW m c (T + 1) = 1#32) := fun h => hn1 (hok.mono c T h.2)
      iapply (br_neg c k0_h3)
      iapply (HC W v8 (fun h => absurd h hn1))
      ihave Hf := (BIBase.Entails.of_eq (slotAt_neg m hn1 c (sl T) T)) $$ Hf
      ihave Hi := (BIBase.Entails.of_eq (slotAt_neg m hn2 c (sl (T + 1)) (T + 1)).symm) $$ Hi
      isplitl [Hcs]; · iexact Hcs
      isplitl [Htv]; · iexact Htv
      isplitl [Hte]; · iexact Hte
      isplitl [Hf Hi]
      · iapply (slotSt_next m c T)
        isplitl [Hi]; · iexact Hi
        iexact Hf
      isplitl [Hw]; · iexact Hw
      isplitl [H5]; · iexact H5
      isplitl [H6]; · iexact H6
      isplitl [H7]; · iexact H7
      isplitl [H8]; · iexact H8
      iexact Ho
    · have k0_h3 : k0_cond3 (tvW m c T) = 1#1 := (cond3_iff _).2 h1
      iapply (br_pos c k0_h3)
      ihave Hf := (BIBase.Entails.of_eq (slotAt_pos m h1 c (sl T) T)) $$ Hf
      ihave Hw := (wtsAt_open m c (teW m c T)) $$ Hw
      icases Hw with ⟨H2, H3, H4⟩
      iapply (step_bind c (part25_run m hok c i a5 h5 a6 h6 a7 h7 a8 h8 T hT hlt (BitVec.ofNat 32 (i 0).val) _ _ k0_h3
        (k0_pay6 (wgBlk m c (teW m c T))) (k0_pay7 (wuBlk m c (teW m c T))) W
        iprop(tePts m c ∗ owns (c : Thread nD τ) s4M fullShare (k0_pay8 (wdBlk m c (teW m c T)))
          ∗ owns (c : Thread nD τ) a5 fullShare (wgBlk m c (teW m c T)) ∗ owns (c : Thread nD τ) a6 fullShare (wuBlk m c (teW m c T))
          ∗ owns (c : Thread nD τ) a7 fullShare (wdBlk m c (teW m c T)) ∗ owns (c : Thread nD τ) a8 fullShare v8) ?H))
      case H =>
        intro W'
        dsimp only
        iintro ⟨Hcs, Htv, Hf, Hi, H2, H3, Ho, Hte, H4, H5, H6, H7, H8⟩
        iapply (ld_all c s3M _ (by decide))
        isplitl [H3]; · iexact H3
        iintro H3
        iapply (ld_all c s4M _ (by decide))
        isplitl [H4]; · iexact H4
        iintro H4
        iapply (ld_owns c a8 v8)
        isplitl [H8]; · iexact H8
        iintro H8
        iapply (st_owns c a8 v8)
        isplitl [H8]; · iexact H8
        iintro %v' %hv' H8
        iapply (ld_all c s4M _ (by decide))
        isplitl [H4]; · iexact H4
        iintro H4
        iapply (ld_owns c a8 v')
        isplitl [H8]; · iexact H8
        iintro H8
        iapply (st_owns c a8 v')
        isplitl [H8]; · iexact H8
        iintro %v'' %hv'' H8
        iapply (HC W' v'' (fun _ => out_eq m c T hv' hv''))
        ihave Hf := (full_idle m c (sl T) T) $$ Hf
        isplitl [Hcs]; · iexact Hcs
        isplitl [Htv]; · iexact Htv
        isplitl [Hte]; · iexact Hte
        isplitl [Hf Hi]
        · iapply (slotSt_next m c T)
          isplitl [Hi]; · iexact Hi
          iexact Hf
        isplitl [H2 H3 H4]
        · iapply (wtsAt_close m c (teW m c T))
          isplitl [H2]; · iexact H2
          isplitl [H3]; · iexact H3
          iexact H4
        isplitl [H5]; · iexact H5
        isplitl [H6]; · iexact H6
        isplitl [H7]; · iexact H7
        isplitl [H8]; · iexact H8
        iexact Ho
      isplitl [Hcs]; · iexact Hcs
      isplitl [Htv]; · iexact Htv
      isplitl [Hf]; · iexact Hf
      isplitl [Hi]; · iexact Hi
      isplitl [H2]; · iexact H2
      isplitl [H3]; · iexact H3
      isplitl [Ho]; · iexact Ho
      isplitl [Hte]; · iexact Hte
      isplitl [H4]; · iexact H4
      isplitl [H5]; · iexact H5
      isplitl [H6]; · iexact H6
      isplitl [H7]; · iexact H7
      iexact H8
  have HA : iprop(csPts m c ∗ tvPts m c ∗ tePts m c ∗ SlotAt m (tvW m c T = 1#32) c (sl T) T ∗ Idle m c (sl (T + 1)) ∗ Wts m c T
        ∗ owns (c : Thread nD τ) a5 fullShare (wgBlk m c (teW m c T)) ∗ owns (c : Thread nD τ) a6 fullShare (wuBlk m c (teW m c T))
        ∗ owns (c : Thread nD τ) a7 fullShare (wdBlk m c (teW m c T)) ∗ owns (c : Thread nD τ) a8 fullShare v8
        ∗ owes (c : Thread nD τ) 0 W) ⊢ wpK c (jpA PUnit.unit) Q := by
    unfold Wts
    iintro ⟨Hcs, Htv, Hte, Hf, Hi, ⟨%v2, %v3, %v4, %hv, H2, H3, H4⟩, H5, H6, H7, H8, Ho⟩
    iapply (te_ld m c T (hT ▸ off34_eq i) hlt)
    isplitl [Hte]; · iexact Hte
    iintro Hte
    iapply (te_ld m c (T - 1) (hT ▸ off35_eq i) (by omega))
    isplitl [Hte]; · iexact Hte
    iintro Hte
    by_cases hc : T = 0 ∨ teW m c T ≠ teW m c (T - 1)
    · have k0_h2 := (cond2_iff i (teW m c T) (teW m c (T - 1))).2 (hT ▸ hc)
      iapply (br_pos' c k0_h2)
      iapply (ld_all c a5 _ (by decide))
      isplitl [H5]; · iexact H5
      iintro H5
      iapply (ld_all c s2M v2 (by decide))
      isplitl [H2]; · iexact H2
      iintro H2
      iapply (st_all c s2M v2 _ (by decide))
      isplitl [H2]; · iexact H2
      iintro H2
      iapply (ld_all c a6 _ (by decide))
      isplitl [H6]; · iexact H6
      iintro H6
      iapply (ld_all c s3M v3 (by decide))
      isplitl [H3]; · iexact H3
      iintro H3
      iapply (st_all c s3M v3 _ (by decide))
      isplitl [H3]; · iexact H3
      iintro H3
      iapply (ld_all c a7 _ (by decide))
      isplitl [H7]; · iexact H7
      iintro H7
      iapply (ld_all c s4M v4 (by decide))
      isplitl [H4]; · iexact H4
      iintro H4
      iapply (st_all c s4M v4 _ (by decide))
      isplitl [H4]; · iexact H4
      iintro H4
      iapply HB
      isplitl [Hcs]; · iexact Hcs
      isplitl [Htv]; · iexact Htv
      isplitl [Hte]; · iexact Hte
      isplitl [Hf]; · iexact Hf
      isplitl [Hi]; · iexact Hi
      isplitl [H2 H3 H4]
      · iapply (wtsAt_close m c (teW m c T))
        isplitl [H2]; · iexact H2
        isplitl [H3]; · iexact H3
        iexact H4
      isplitl [H5]; · iexact H5
      isplitl [H6]; · iexact H6
      isplitl [H7]; · iexact H7
      isplitl [H8]; · iexact H8
      iexact Ho
    · have k0_h2 := (not_congr (cond2_iff i (teW m c T) (teW m c (T - 1)))).2 (hT ▸ hc)
      iapply (br_neg' c k0_h2)
      have hT0 : 0 < T := Nat.pos_of_ne_zero fun h => hc (Or.inl h)
      have hte : teW m c (T - 1) = teW m c T := (not_not.1 fun h => hc (Or.inr h)).symm
      obtain ⟨rfl, rfl, rfl⟩ := hte ▸ hv hT0
      iapply HB
      isplitl [Hcs]; · iexact Hcs
      isplitl [Htv]; · iexact Htv
      isplitl [Hte]; · iexact Hte
      isplitl [Hf]; · iexact Hf
      isplitl [Hi]; · iexact Hi
      isplitl [H2 H3 H4]
      · iapply (wtsAt_close m c (teW m c T))
        isplitl [H2]; · iexact H2
        isplitl [H3]; · iexact H3
        iexact H4
      isplitl [H5]; · iexact H5
      isplitl [H6]; · iexact H6
      isplitl [H7]; · iexact H7
      isplitl [H8]; · iexact H8
      iexact Ho
  ihave Hsl := (slotSt_open m c T) $$ Hsl
  icases Hsl with ⟨Hf, Hi⟩
  by_cases hc : (i 0).val = 0 ∧ tvW m c 0 = 1#32
  · have k0_h1 := (cond1_iff i (tvW m c 0)).2 hc
    obtain rfl : T = 0 := hT.trans hc.1
    iapply (br_pos c k0_h1)
    ihave Hf := (BIBase.Entails.of_eq (slotAt_neg m (fun h => absurd h.1 (lt_irrefl 0)) c (sl 0) 0)) $$ Hf
    iapply (step_upd c (open_slot m c (sl 0) 0 iprop(tvPts m c ∗ tePts m c ∗ Idle m c (sl 1) ∗ Wts m c 0
        ∗ owns (c : Thread nD τ) a5 fullShare (wgBlk m c (teW m c 0)) ∗ owns (c : Thread nD τ) a6 fullShare (wuBlk m c (teW m c 0))
        ∗ owns (c : Thread nD τ) a7 fullShare (wdBlk m c (teW m c 0)) ∗ owns (c : Thread nD τ) a8 fullShare v8
        ∗ owes (c : Thread nD τ) 0 W)) ?H)
    case H =>
      refine step_bind c ?_
      refine part1 m hok c i a5 h5 a6 h6 a7 h7 a8 h8 _ (tvW m c 0) k0_h1 ?_
      intro hw
      dsimp only
      refine step_bind c ?_
      refine part2 m hok c i a5 h5 a6 h6 a7 h7 a8 h8 _ (tvW m c 0) k0_h1 hw ?_
      intro hw
      dsimp only
      refine step_bind c ?_
      refine part3 m hok c i a5 h5 a6 h6 a7 h7 a8 h8 _ (tvW m c 0) k0_h1 hw ?_
      intro hw
      dsimp only
      refine step_bind c ?_
      refine part4 m hok c i a5 h5 a6 h6 a7 h7 a8 h8 _ (tvW m c 0) k0_h1 hw ?_
      intro hw
      dsimp only
      refine step_bind c ?_
      refine part5 m hok c i a5 h5 a6 h6 a7 h7 a8 h8 _ (tvW m c 0) k0_h1 hw ?_
      intro hw
      dsimp only
      refine step_bind c ?_
      refine part6 m hok c i a5 h5 a6 h6 a7 h7 a8 h8 _ (tvW m c 0) k0_h1 hw ?_
      intro hw
      dsimp only
      refine step_bind c ?_
      refine part7 m hok c i a5 h5 a6 h6 a7 h7 a8 h8 _ (tvW m c 0) k0_h1 hw ?_
      refine step_bind c ?_
      refine part8 m hok c i a5 h5 a6 h6 a7 h7 a8 h8 _ (tvW m c 0) k0_h1 ?_
      intro hw
      dsimp only
      refine step_bind c ?_
      refine part9 m hok c i a5 h5 a6 h6 a7 h7 a8 h8 _ (tvW m c 0) k0_h1 hw ?_
      intro hw
      dsimp only
      refine step_bind c ?_
      refine part10 m hok c i a5 h5 a6 h6 a7 h7 a8 h8 _ (tvW m c 0) k0_h1 hw ?_
      intro hw
      dsimp only
      refine step_bind c ?_
      refine part11 m hok c i a5 h5 a6 h6 a7 h7 a8 h8 _ (tvW m c 0) k0_h1 hw ?_
      refine step_load m c 0 0 _ 30 30 rfl (by decide) ?_
      refine step_assume c (And.intro (fun _ => xs_inb _ (hok.cs c 30)) (fun _ hinb => xs_words _ hinb)) ?_
      refine step_copy m c 0 0 _ 30 (by decide) hok rfl rfl rfl ?_
      refine step_load m c 0 0 _ 31 31 rfl (by decide) ?_
      refine step_assume c (And.intro (fun _ => xs_inb _ (hok.cs c 31)) (fun _ hinb => xs_words _ hinb)) ?_
      refine step_copy m c 0 0 _ 31 (by decide) hok rfl rfl rfl ?_
      refine BIBase.Entails.trans (close_slot m c 0 0 _) (BIBase.Entails.trans ?_ HA)
      iintro ⟨Hcs, Hf, Htv, Hte, Hi, Hw, H5, H6, H7, H8, Ho⟩
      ihave Hf := (show Flight m c (0 : Fin 2) 0 ⊢ SlotAt m (tvW m c 0 = 1#32) c (sl 0) 0 from BIBase.Entails.of_eq (slotAt_pos m hc.2 c (sl 0) 0).symm) $$ Hf
      isplitl [Hcs]; · iexact Hcs
      isplitl [Htv]; · iexact Htv
      isplitl [Hte]; · iexact Hte
      isplitl [Hf]; · iexact Hf
      isplitl [Hi]; · iexact Hi
      isplitl [Hw]; · iexact Hw
      isplitl [H5]; · iexact H5
      isplitl [H6]; · iexact H6
      isplitl [H7]; · iexact H7
      isplitl [H8]; · iexact H8
      iexact Ho
    isplitl [Hcs]; · iexact Hcs
    isplitl [Hf]; · iexact Hf
    isplitl [Htv]; · iexact Htv
    isplitl [Hte]; · iexact Hte
    isplitl [Hi]; · iexact Hi
    isplitl [Hw]; · iexact Hw
    isplitl [H5]; · iexact H5
    isplitl [H6]; · iexact H6
    isplitl [H7]; · iexact H7
    isplitl [H8]; · iexact H8
    iexact Ho
  · have k0_h1 := (not_congr (cond1_iff i (tvW m c 0))).2 hc
    have hi : (0 < T ∧ T < 221 ∧ tvW m c T = 1#32) ↔ tvW m c T = 1#32 := by
      refine ⟨fun h => h.2.2, fun h => ⟨Nat.pos_of_ne_zero fun h0 => hc ⟨hT.symm.trans h0, h0 ▸ h⟩, hlt, h⟩⟩
    iapply (br_neg c k0_h1)
    iapply HA
    ihave Hf := (BIBase.Entails.of_eq (slotAt_iff m hi c (sl T) T)) $$ Hf
    isplitl [Hcs]; · iexact Hcs
    isplitl [Htv]; · iexact Htv
    isplitl [Hte]; · iexact Hte
    isplitl [Hf]; · iexact Hf
    isplitl [Hi]; · iexact Hi
    isplitl [Hw]; · iexact Hw
    isplitl [H5]; · iexact H5
    isplitl [H6]; · iexact H6
    isplitl [H7]; · iexact H7
    isplitl [H8]; · iexact H8
    iexact Ho

end Cert.KernelIdeal.Run
-- ==== Proof.IR1.lean ====
/-
  The pipeline's data of the run of the experts' kernel: the tables it runs at, what each window's staging buffer
  holds before and after the body at each point, and the invariant between points.
-/
module

public import proofs.«01_k».proof.Proof.IB2
public import Idealize.ShloMosaic.Lib.Pipeline.FrameBody
public import Idealize.ShloMosaic.Lib.Pipeline.Quiescent

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ)

/-! ## The tables the pipeline runs at -/

/-- The prefetched tables at launch. -/
def pf0 : pre0.Contents (Elt F) := fun k => m (((0 : Dev nD) : Thread nD τ).loc (pre0.ref k))

omit [FloatOps F] in
/-- A word of the experts' table, as an index map reads it. -/
theorem pf0_te (y : S221.Idx) : (pf0 m 0 : S221.Idx → BitVec 32) y = teW m 0 (y 0).val := by
  unfold teW
  have hy : (y 0).val < 221 := (y 0).isLt
  rw [dif_pos hy]
  exact congrArg (m (((0 : Dev nD) : Thread nD τ).loc main_arg0)) (funext fun a => match a with | ⟨0, _⟩ => rfl)

omit [FloatOps F] in
/-- A word of the marks' table. -/
theorem pf0_tv (y : S221.Idx) : (pf0 m 1 : S221.Idx → BitVec 32) y = tvW m 0 (y 0).val := by
  unfold tvW
  have hy : (y 0).val < 221 := (y 0).isLt
  rw [dif_pos hy]
  exact congrArg (m (((0 : Dev nD) : Thread nD τ).loc main_arg1)) (funext fun a => match a with | ⟨0, _⟩ => rfl)

theorem off1_eq : ∀ i : grid0.Coords, k0_off1 i 0 = (i 0).val := by decide +kernel

/-- The weights' index maps name the tile's expert: the first, -/
theorem ix_1 (i : grid0.Coords) : cc0_transform_1 (F := F) k0_off1_inb numel1_S1 (pf0 m) i = ![(teW m 0 (i 0).val).toNat, 0, 0] := by
  have e : (pf0 m).at 0 (Rect.unit (s := S221) (k0_off1 i) S1.size (k0_off1_inb i)) numel1_S1 = teW m 0 (i 0).val := by
    refine (pf0_te m _).trans (congrArg (teW m 0) ?_)
    show k0_off1 i 0 + 1 * _ = _
    rw [off1_eq i]; rfl
  show ![(Scalar.addi 0#32 ((pf0 m).at 0 (Rect.unit (s := S221) (k0_off1 i) S1.size (k0_off1_inb i)) numel1_S1)).toNat, (0#32).toNat, (0#32).toNat] = _
  rw [e]
  show ![(0#32 + teW m 0 (i 0).val).toNat, 0, 0] = _
  rw [BitVec.zero_add]
/-- the second, -/
theorem ix_2 (i : grid0.Coords) : cc0_transform_2 (F := F) k0_off1_inb numel1_S1 (pf0 m) i = ![(teW m 0 (i 0).val).toNat, 0, 0] :=
  (show _ = cc0_transform_1 (F := F) k0_off1_inb numel1_S1 (pf0 m) i from rfl).trans (ix_1 m i)
/-- the third. -/
theorem ix_3 (i : grid0.Coords) : cc0_transform_3 (F := F) k0_off1_inb numel1_S1 (pf0 m) i = ![(teW m 0 (i 0).val).toNat, 0, 0] :=
  (show _ = cc0_transform_1 (F := F) k0_off1_inb numel1_S1 (pf0 m) i from rfl).trans (ix_1 m i)

/-- With the experts in range every weight block is inside its array. -/
theorem ok_pf (hok : TabOk m) : ok0 (pf0 (F := F) m) := by
  have h (i : grid0.Coords) : (teW m 0 (i 0).val).toNat < 64 := hok.te 0 _
  refine ⟨fun i => ⟨?_, Or.inl rfl⟩, fun i => ⟨?_, Or.inl rfl⟩, fun i => ⟨?_, Or.inl rfl⟩⟩
  · rw [ix_1]; intro a
    match a with
    | ⟨0, _⟩ => have := h i; show ((teW m 0 (i 0).val).toNat + 1) * 1 ≤ 64; omega
    | ⟨1, _⟩ => show (0 + 1) * 1024 ≤ 1024; omega
    | ⟨2, _⟩ => show (0 + 1) * 256 ≤ 256; omega
  · rw [ix_2]; intro a
    match a with
    | ⟨0, _⟩ => have := h i; show ((teW m 0 (i 0).val).toNat + 1) * 1 ≤ 64; omega
    | ⟨1, _⟩ => show (0 + 1) * 1024 ≤ 1024; omega
    | ⟨2, _⟩ => show (0 + 1) * 256 ≤ 256; omega
  · rw [ix_3]; intro a
    match a with
    | ⟨0, _⟩ => have := h i; show ((teW m 0 (i 0).val).toNat + 1) * 1 ≤ 64; omega
    | ⟨1, _⟩ => show (0 + 1) * 256 ≤ 256; omega
    | ⟨2, _⟩ => show (0 + 1) * 1024 ≤ 1024; omega

/-- The contents the pipeline runs at: the launch's. -/
def adm (hok : TabOk m) : (pcfg0 (F := F)).Adm := ⟨pf0 m, ok_pf m hok⟩

variable (hok : TabOk m)

/-- The pipeline at them, -/
abbrev cfgA : Pipeline.Cfg sig Λ₀ := cfg0 (adm m hok)
/-- and the program's pipelines. -/
abbrev pcs : Fin 1 → Pipeline.Cfg sig Λ₀ := Pipeline.pin pcfgs fun _ => adm m hok

theorem cellOf_inj : Function.Injective (cellOf (nD := nD) (τ := τ) (pcs m hok)) := Gen.cellOf_inj fun _ => adm m hok

/-- The one coordinate of a point. -/
theorem coords_val : ∀ t : Fin grid0.N, (grid0.coords t 0).val = t.val := by decide +kernel

/-! ## The data -/

/-- Each core's arrays at launch. -/
abbrev V (c : Dev nD) (b : Ref sig .tc) : Buf (Elt F) ((c : Thread nD τ).loc b) := m ((c : Thread nD τ).loc b)

/-- The invariant before point `n`. -/
def Φn (c : Dev nD) (n : ℕ) : sProp 𝕄 :=
  iprop(csPts m c ∗ tvPts m c ∗ tePts m c ∗ SlotSt m c n ∗ Wts m c n)

/-- The pipeline's data: the arrays as launched; the weights' buffers keep their blocks, the output's is left at the
    tile's rows; the invariant; nothing owed; full shares. -/
def dats (_ : Fin 1) (c : Dev nD) : Dat τ (Elt F) Unit ℕ UU ℕ (cfgA m hok) c where
  A w := V m c (Pipeline.arrRef spec0 w)
  after w t := match w with
    | ⟨0, _⟩ => wgBlk m c (teW m c t.val)
    | ⟨1, _⟩ => wuBlk m c (teW m c t.val)
    | ⟨2, _⟩ => wdBlk m c (teW m c t.val)
    | ⟨3, _⟩ => outT m c t.val
  Φ t := Φn m c t.val
  q _ := fullShare
  owed _ := 0

section Blocks

variable (c : Dev nD) (t : Fin grid0.N)

/-- What a fetch of the first weight brings in. -/
theorem blockOf_0 : (dats m hok 0 c).blockOf (0 : Fin 4) t = wgBlk m c (teW m c t.val) := by
  obtain rfl : c = 0 := Subsingleton.elim _ _
  refine funext fun x => ?_
  show m (((0 : Dev nD) : Thread nD τ).loc main_arg4) ((((cfgA m hok).win (0 : Fin 4)).rect t).emb x) = m (((0 : Dev nD) : Thread nD τ).loc main_arg4) _
  have e := ix_1 (F := F) m (grid0.coords t)
  rw [coords_val t] at e
  have h := hok.te 0 t.val
  refine congrArg (m (((0 : Dev nD) : Thread nD τ).loc main_arg4)) (funext fun a => Fin.ext ?_)
  have hx0 : (x 0).val < 1 := (x 0).isLt
  match a with
  | ⟨0, _⟩ =>
    show cc0_transform_1 (F := F) k0_off1_inb numel1_S1 (pf0 m) (grid0.coords t) 0 * 1 + 1 * (x 0).val = (teW m 0 t.val).toNat % 64
    rw [e, Nat.mod_eq_of_lt h]
    show (teW m 0 t.val).toNat * 1 + 1 * (x 0).val = _
    omega
  | ⟨1, _⟩ =>
    show cc0_transform_1 (F := F) k0_off1_inb numel1_S1 (pf0 m) (grid0.coords t) 1 * 1024 + 1 * (x 1).val = (x 1).val
    rw [e]
    show 0 * 1024 + 1 * (x 1).val = _
    omega
  | ⟨2, _⟩ =>
    show cc0_transform_1 (F := F) k0_off1_inb numel1_S1 (pf0 m) (grid0.coords t) 2 * 256 + 1 * (x 2).val = (x 2).val
    rw [e]
    show 0 * 256 + 1 * (x 2).val = _
    omega
/-- What a fetch of the second weight brings in. -/
theorem blockOf_1 : (dats m hok 0 c).blockOf (1 : Fin 4) t = wuBlk m c (teW m c t.val) := by
  obtain rfl : c = 0 := Subsingleton.elim _ _
  refine funext fun x => ?_
  show m (((0 : Dev nD) : Thread nD τ).loc main_arg5) ((((cfgA m hok).win (1 : Fin 4)).rect t).emb x) = m (((0 : Dev nD) : Thread nD τ).loc main_arg5) _
  have e := ix_2 (F := F) m (grid0.coords t)
  rw [coords_val t] at e
  have h := hok.te 0 t.val
  refine congrArg (m (((0 : Dev nD) : Thread nD τ).loc main_arg5)) (funext fun a => Fin.ext ?_)
  have hx0 : (x 0).val < 1 := (x 0).isLt
  match a with
  | ⟨0, _⟩ =>
    show cc0_transform_2 (F := F) k0_off1_inb numel1_S1 (pf0 m) (grid0.coords t) 0 * 1 + 1 * (x 0).val = (teW m 0 t.val).toNat % 64
    rw [e, Nat.mod_eq_of_lt h]
    show (teW m 0 t.val).toNat * 1 + 1 * (x 0).val = _
    omega
  | ⟨1, _⟩ =>
    show cc0_transform_2 (F := F) k0_off1_inb numel1_S1 (pf0 m) (grid0.coords t) 1 * 1024 + 1 * (x 1).val = (x 1).val
    rw [e]
    show 0 * 1024 + 1 * (x 1).val = _
    omega
  | ⟨2, _⟩ =>
    show cc0_transform_2 (F := F) k0_off1_inb numel1_S1 (pf0 m) (grid0.coords t) 2 * 256 + 1 * (x 2).val = (x 2).val
    rw [e]
    show 0 * 256 + 1 * (x 2).val = _
    omega
/-- What a fetch of the third weight brings in. -/
theorem blockOf_2 : (dats m hok 0 c).blockOf (2 : Fin 4) t = wdBlk m c (teW m c t.val) := by
  obtain rfl : c = 0 := Subsingleton.elim _ _
  refine funext fun x => ?_
  show m (((0 : Dev nD) : Thread nD τ).loc main_arg6) ((((cfgA m hok).win (2 : Fin 4)).rect t).emb x) = m (((0 : Dev nD) : Thread nD τ).loc main_arg6) _
  have e := ix_3 (F := F) m (grid0.coords t)
  rw [coords_val t] at e
  have h := hok.te 0 t.val
  refine congrArg (m (((0 : Dev nD) : Thread nD τ).loc main_arg6)) (funext fun a => Fin.ext ?_)
  have hx0 : (x 0).val < 1 := (x 0).isLt
  match a with
  | ⟨0, _⟩ =>
    show cc0_transform_3 (F := F) k0_off1_inb numel1_S1 (pf0 m) (grid0.coords t) 0 * 1 + 1 * (x 0).val = (teW m 0 t.val).toNat % 64
    rw [e, Nat.mod_eq_of_lt h]
    show (teW m 0 t.val).toNat * 1 + 1 * (x 0).val = _
    omega
  | ⟨1, _⟩ =>
    show cc0_transform_3 (F := F) k0_off1_inb numel1_S1 (pf0 m) (grid0.coords t) 1 * 256 + 1 * (x 1).val = (x 1).val
    rw [e]
    show 0 * 256 + 1 * (x 1).val = _
    omega
  | ⟨2, _⟩ =>
    show cc0_transform_3 (F := F) k0_off1_inb numel1_S1 (pf0 m) (grid0.coords t) 2 * 1024 + 1 * (x 2).val = (x 2).val
    rw [e]
    show 0 * 1024 + 1 * (x 2).val = _
    omega

/-- Window 0's buffer holds its block whenever the body runs. -/
theorem before_0 (d) : (dats m hok 0 c).before (0 : Fin 4) t d = wgBlk m c (teW m c t.val) := by
  rw [(dats m hok 0 c).before_in_eq_fetched (0 : Fin 4) rfl (fun _ => rfl) (fun _ _ _ => rfl) (fun t => (blockOf_0 m hok c t).symm) t d]
  exact blockOf_0 m hok c t

/-- Window 1's buffer holds its block whenever the body runs. -/
theorem before_1 (d) : (dats m hok 0 c).before (1 : Fin 4) t d = wuBlk m c (teW m c t.val) := by
  rw [(dats m hok 0 c).before_in_eq_fetched (1 : Fin 4) rfl (fun _ => rfl) (fun _ _ _ => rfl) (fun t => (blockOf_1 m hok c t).symm) t d]
  exact blockOf_1 m hok c t

/-- Window 2's buffer holds its block whenever the body runs. -/
theorem before_2 (d) : (dats m hok 0 c).before (2 : Fin 4) t d = wdBlk m c (teW m c t.val) := by
  rw [(dats m hok 0 c).before_in_eq_fetched (2 : Fin 4) rfl (fun _ => rfl) (fun _ _ _ => rfl) (fun t => (blockOf_2 m hok c t).symm) t d]
  exact blockOf_2 m hok c t

theorem atD_tv (off : Fin 1 → ℕ) (n : ℕ) (h : off 0 = n) (hlt : n < 221) : (pf0 m).atD 1 off = tvW m 0 n := by
  unfold Pipeline.Prefetch.Contents.atD
  split
  · exact (pf0_tv m _).trans (congrArg (tvW m 0) h)
  · next hn => exact absurd (fun a => match a with | ⟨0, _⟩ => (by show off 0 + 1 ≤ 221; omega)) hn

/-- The body stores the output block at every point. -/
theorem idle_3 : (cfgA m hok).idle (3 : Fin 4) (grid0.coords t) = false := by
  have ht : t.val < 221 := t.isLt
  have hi := coords_val t
  show (!(k0_cond3 ((pf0 m).atD 1 (k0_off36 (grid0.coords t))) == 1#1) && !(k0_cond5 ((pf0 m).atD 1 (k0_off202 (grid0.coords t))) == 1#1)) = false
  rw [atD_tv m _ t.val ((off36_eq _).trans hi) ht, atD_tv m _ t.val ((off202_eq _).trans hi) ht]
  rcases hok.tv 0 t.val with h | h
  · rw [h]; decide
  · rw [h]; decide

end Blocks

end Cert.KernelIdeal.Run

end
-- ==== Proof.IR2.lean ====
/-
  The body obligation of the experts' kernel: from the invariant before a point to the invariant after it.
-/
module

public import proofs.«01_k».proof.Proof.IR1

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ) (hok : TabOk m)

/-- Window `w`'s staging buffer at point `t`. -/
abbrev st0 (t : Fin grid0.N) : Memref sig .tc .vmem S1x1024x256 .f32 := spec0_0.stage ((cfgA m hok).slots t (0 : Fin 4))
abbrev st1 (t : Fin grid0.N) : Memref sig .tc .vmem S1x1024x256 .f32 := spec0_1.stage ((cfgA m hok).slots t (1 : Fin 4))
abbrev st2 (t : Fin grid0.N) : Memref sig .tc .vmem S1x256x1024 .f32 := spec0_2.stage ((cfgA m hok).slots t (2 : Fin 4))
abbrev st3 (t : Fin grid0.N) : Memref sig .tc .vmem S512x1024 .bf16 := spec0_3.stage ((cfgA m hok).slots t (3 : Fin 4))

/-- What the body is handed. -/
def bodyPre (c : Dev nD) (t : Fin grid0.N) : sProp 𝕄 :=
  iprop((dats m hok 0 c).Φ t.castSucc ∗ (dats m hok 0 c).owesAt () t.castSucc
    ∗ (∃ d, owns (c : Thread nD τ) (st0 m hok t) fullShare ((dats m hok 0 c).before (0 : Fin 4) t d))
    ∗ (∃ d, owns (c : Thread nD τ) (st1 m hok t) fullShare ((dats m hok 0 c).before (1 : Fin 4) t d))
    ∗ (∃ d, owns (c : Thread nD τ) (st2 m hok t) fullShare ((dats m hok 0 c).before (2 : Fin 4) t d))
    ∗ (∃ d, owns (c : Thread nD τ) (st3 m hok t) fullShare ((dats m hok 0 c).before (3 : Fin 4) t d)))

/-- What it returns of the output's buffer. -/
def outPost (c : Dev nD) (t : Fin grid0.N) : sProp 𝕄 :=
  match (cfgA m hok).idle (3 : Fin 4) ((cfgA m hok).grid.coords t) with
  | true =>
    match ((cfgA m hok).win (3 : Fin 4)).flush t with
    | false => iprop(∃ d, owns (c : Thread nD τ) (st3 m hok t) fullShare ((dats m hok 0 c).before (3 : Fin 4) t d))
    | true =>
      match (cfgA m hok).loose (3 : Fin 4) with
      | true => iprop(∃ d, owns (c : Thread nD τ) (st3 m hok t) fullShare
          (((cfgA m hok).win (3 : Fin 4)).fill (grid0.coords t) d (((cfgA m hok).win (3 : Fin 4)).cut (grid0.coords t) ((dats m hok 0 c).after (3 : Fin 4) t))))
      | false => owns (c : Thread nD τ) (st3 m hok t) fullShare ((dats m hok 0 c).after (3 : Fin 4) t)
  | false =>
    match (cfgA m hok).loose (3 : Fin 4) with
    | true => iprop(∃ d, owns (c : Thread nD τ) (st3 m hok t) fullShare
        (((cfgA m hok).win (3 : Fin 4)).fill (grid0.coords t) d (((cfgA m hok).win (3 : Fin 4)).cut (grid0.coords t) ((dats m hok 0 c).after (3 : Fin 4) t))))
    | false => owns (c : Thread nD τ) (st3 m hok t) fullShare ((dats m hok 0 c).after (3 : Fin 4) t)

/-- The tile's block of results is what is asked of it. -/
theorem outPost_intro (c : Dev nD) (t : Fin grid0.N) :
    owns (c : Thread nD τ) (st3 m hok t) fullShare (outT m c t.val) ⊢ (outPost m hok c t : sProp 𝕄) := by
  unfold outPost
  rw [show (cfgA m hok).idle (3 : Fin 4) ((cfgA m hok).grid.coords t) = false from idle_3 m hok t]
  exact .rfl

/-- All it returns. -/
def bodyPost (c : Dev nD) (t : Fin grid0.N) : sProp 𝕄 :=
  iprop((dats m hok 0 c).Φ t.succ ∗ (dats m hok 0 c).owesAt () t.succ
    ∗ owns (c : Thread nD τ) (st0 m hok t) fullShare ((dats m hok 0 c).after (0 : Fin 4) t)
    ∗ owns (c : Thread nD τ) (st1 m hok t) fullShare ((dats m hok 0 c).after (1 : Fin 4) t)
    ∗ owns (c : Thread nD τ) (st2 m hok t) fullShare ((dats m hok 0 c).after (2 : Fin 4) t)
    ∗ outPost m hok c t)

/-- The body at point `t`. -/
abbrev bodyAt (t : Fin grid0.N) : Prog (TpuEff nD τ sig (Elt F) Λ₀ .tc) PUnit :=
  k0_part26 (grid0.coords t) teM (Memref.isWhole_whole _) tvM (Memref.isWhole_whole _) csM (Memref.isWhole_whole _) xsM (Memref.isWhole_whole _)
    (st0 m hok t) (hstage0_0 (((cfgA m hok).slots t (0 : Fin 4)).cast nbuf0_0)) (st1 m hok t) (hstage0_1 (((cfgA m hok).slots t (1 : Fin 4)).cast nbuf0_1))
    (st2 m hok t) (hstage0_2 (((cfgA m hok).slots t (2 : Fin 4)).cast nbuf0_2)) (st3 m hok t) (hstage0_3 (((cfgA m hok).slots t (3 : Fin 4)).cast nbuf0_3))
    bfM (Memref.isWhole_whole _) cc0_scratch1 s2M (Memref.isWhole_whole _) s3M (Memref.isWhole_whole _) s4M (Memref.isWhole_whole _)

theorem Phi_castSucc (c : Dev nD) (t : Fin grid0.N) : (dats m hok 0 c).Φ t.castSucc = (Φn m c t.val : sProp 𝕄) := rfl
theorem Phi_succ (c : Dev nD) (t : Fin grid0.N) : (dats m hok 0 c).Φ t.succ = (Φn m c (t.val + 1) : sProp 𝕄) := rfl

/-- What the core has waited for, named. -/
theorem owes_open (c : Dev nD) (t : Fin (grid0.N + 1)) :
    (dats m hok 0 c).owesAt () t ⊢ (iprop(∃ W, owes (c : Thread nD τ) 0 W) : sProp 𝕄) := by
  unfold Dat.owesAt Pipeline.owesWithin
  iintro ⟨%W, -, H⟩
  iexists W
  iexact H
/-- And back. -/
theorem owes_close (c : Dev nD) (t : Fin (grid0.N + 1)) (W : Waits sig Unit) :
    (owes (c : Thread nD τ) 0 W : sProp 𝕄) ⊢ (dats m hok 0 c).owesAt () t := by
  unfold Dat.owesAt Pipeline.owesWithin
  iintro H
  iexists W
  isplitr; · ipureintro; exact fun _ _ => Or.inl trivial
  iexact H

/-- What the body is handed, opened. -/
theorem pre_open (c : Dev nD) (t : Fin grid0.N) :
    bodyPre m hok c t ⊢ (iprop(∃ v8 W, csPts m c ∗ tvPts m c ∗ tePts m c ∗ SlotSt m c t.val ∗ Wts m c t.val
      ∗ owns (c : Thread nD τ) (st0 m hok t) fullShare (wgBlk m c (teW m c t.val))
      ∗ owns (c : Thread nD τ) (st1 m hok t) fullShare (wuBlk m c (teW m c t.val))
      ∗ owns (c : Thread nD τ) (st2 m hok t) fullShare (wdBlk m c (teW m c t.val))
      ∗ owns (c : Thread nD τ) (st3 m hok t) fullShare v8 ∗ owes (c : Thread nD τ) 0 W) : sProp 𝕄) := by
  unfold bodyPre
  rw [Phi_castSucc]
  simp only [before_0, before_1, before_2]
  unfold Φn
  iintro ⟨⟨Hcs, Htv, Hte, Hs, Hw⟩, Ho, ⟨%d0, H0⟩, ⟨%d1, H1⟩, ⟨%d2, H2⟩, ⟨%d3, H3⟩⟩
  icases (owes_open m hok c t.castSucc) $$ Ho with ⟨%W, Ho⟩
  iexists _, W
  isplitl [Hcs]; · iexact Hcs
  isplitl [Htv]; · iexact Htv
  isplitl [Hte]; · iexact Hte
  isplitl [Hs]; · iexact Hs
  isplitl [Hw]; · iexact Hw
  isplitl [H0]; · iexact H0
  isplitl [H1]; · iexact H1
  isplitl [H2]; · iexact H2
  isplitl [H3]; · iexact H3
  iexact Ho

/-- What the body leaves, as the obligation states it. -/
theorem post_close (c : Dev nD) (t : Fin grid0.N) (W' : Waits sig Unit) :
    iprop(csPts m c ∗ tvPts m c ∗ tePts m c ∗ SlotSt m c (t.val + 1) ∗ Wts m c (t.val + 1)
      ∗ owns (c : Thread nD τ) (st0 m hok t) fullShare (wgBlk m c (teW m c t.val))
      ∗ owns (c : Thread nD τ) (st1 m hok t) fullShare (wuBlk m c (teW m c t.val))
      ∗ owns (c : Thread nD τ) (st2 m hok t) fullShare (wdBlk m c (teW m c t.val))
      ∗ owns (c : Thread nD τ) (st3 m hok t) fullShare (outT m c t.val) ∗ owes (c : Thread nD τ) 0 W') ⊢ (bodyPost m hok c t : sProp 𝕄) := by
  unfold bodyPost
  rw [Phi_succ]
  dsimp only [dats]
  unfold Φn
  iintro ⟨Hcs, Htv, Hte, Hs, Hw, H0, H1, H2, H3, Ho⟩
  isplitl [Hcs Htv Hte Hs Hw]
  · isplitl [Hcs]; · iexact Hcs
    isplitl [Htv]; · iexact Htv
    isplitl [Hte]; · iexact Hte
    isplitl [Hs]; · iexact Hs
    iexact Hw
  isplitl [Ho]; · iapply (owes_close m hok c t.succ W'); iexact Ho
  isplitl [H0]; · iexact H0
  isplitl [H1]; · iexact H1
  isplitl [H2]; · iexact H2
  iapply (outPost_intro m hok c t); iexact H3

/-- The body at point `t`, its return with it. -/
def bodyRet (t : Fin grid0.N) : Prog (TpuEff nD τ sig (Elt F) Λ₀ .tc) PUnit := bodyAt m hok t >>= fun _ => pure PUnit.unit

/-- The body at a point. -/
theorem sound_body (c : Dev nD) (t : Fin grid0.N) :
    bodyPre m hok c t ⊢ wpK c (bodyRet m hok t) (fun _ : PUnit => bodyPost m hok c t) := by
  refine BIBase.Entails.trans (pre_open m hok c t) ?_
  iintro ⟨%v8, %W, H⟩
  have H0 := part26_run (Q := fun _ => wpK c (pure PUnit.unit) (fun _ => bodyPost m hok c t)) m hok c (grid0.coords t) (st0 m hok t) (hstage0_0 (((cfgA m hok).slots t (0 : Fin 4)).cast nbuf0_0))
    (st1 m hok t) (hstage0_1 (((cfgA m hok).slots t (1 : Fin 4)).cast nbuf0_1)) (st2 m hok t) (hstage0_2 (((cfgA m hok).slots t (2 : Fin 4)).cast nbuf0_2))
    (st3 m hok t) (hstage0_3 (((cfgA m hok).slots t (3 : Fin 4)).cast nbuf0_3)) t.val (coords_val t).symm t.isLt v8 W
    (fun W' => step_pure c (post_close m hok c t W'))
  unfold bodyRet
  iapply (step_bind c H0)
  iexact H

/-- The body table's row at a point. -/
theorem row_eq (t : Fin grid0.N) :
    defs₀ (F := F) .tc (cfgA m hok).body ((cfgA m hok).bodyArgs t ((cfgA m hok).slots t)) = bodyRet m hok t := by
  unfold defs₀; rw [Defs.onTc_tc]; rfl

/-- The body obligation. -/
theorem body_obligation (c : Dev nD) : BodyObligationLoose (dats m hok 0 c) (defs₀ (F := F)) 𝒱₀ () Set.univ := fun t => by
  rw [bigSep_W0, bigSep_W0, row_eq]
  exact sound_body m hok c t

end Cert.KernelIdeal.Run

end
-- ==== Proof.IR3.lean ====
/-
  The launch of the experts' kernel: what the launch hands the invariant, what the invariant hands back, and the run
  — every execution ends with the result array at the computed contents, the arguments unchanged and every
  semaphore counter at zero.
-/
module

public import proofs.«01_k».proof.Proof.IR2

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ) (ρ : Dev nD → PrngReg) (hok : TabOk m)

/-- The kernel's own semaphores: the two slots'. -/
abbrev osem : Fin 2 → SemLoc sig := fun u => .dma (rsem u)

theorem ownSemFacts : Pipeline.OwnSemFacts spec0 osem := by decide

/-- The launch element. -/
def u₀ : UU :=
  (initOf (Pipeline.cells (pcs m hok) (cellOf_inj m hok)) (Pipeline.launchToks (pcs m hok) (cellOf_inj m hok)), 1)

omit [FloatOps F] in
theorem bigSep_2 (Φ : Fin 2 → sProp 𝕄) : bigSep Finset.univ Φ = iprop(Φ 0 ∗ Φ 1) := bigSep_univ_eq_bigSepL [0, 1] (by decide) (by decide) Φ

omit [FloatOps F] in
theorem bigSep_3 (Φ : Fin 3 → sProp 𝕄) : bigSep Finset.univ Φ = iprop(Φ 0 ∗ Φ 1 ∗ Φ 2) := bigSep_univ_eq_bigSepL [0, 1, 2] (by decide) (by decide) Φ

omit [FloatOps F] in
/-- The kernel's own semaphores at zero. -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (rsem 0)) 0 ∗ semVal ((c : Thread nD τ), SemLoc.dma (rsem 1)) 0) :=
  bigSep_2 _

omit [FloatOps F] in
/-- The body's half of the tables. -/
theorem prefHeld_eq (c : Dev nD) :
    (Pipeline.prefHeld pre0 c (fun _ => fullShare.right) (pf0 m) : sProp 𝕄) = iprop(tePts m c ∗ tvPts m c ∗ csPts m c) := by
  obtain rfl : c = 0 := Subsingleton.elim _ _
  exact bigSep_3 _

/-! ## The gather buffer as its two slots, the token rows as their two shares -/

theorem slot_compl : slotSet 1 = Finset.univ \ slotSet 0 := by
  ext y
  have hy : (y 0).val < 2 := (y 0).isLt
  unfold slotSet
  rw [Finset.mem_sdiff, Finset.mem_filter, Finset.mem_filter]
  constructor
  · rintro ⟨-, h⟩
    have h1 : (y 0).val = 1 := h
    exact ⟨Finset.mem_univ _, fun h' => by have h0 : (y 0).val = 0 := h'.2; omega⟩
  · rintro ⟨-, h⟩
    refine ⟨Finset.mem_univ _, ?_⟩
    show (y 0).val = 1
    have h0 : (y 0).val ≠ 0 := fun e => h ⟨Finset.mem_univ _, e⟩
    omega

/-- The gather buffer whole at some contents. -/
abbrev bufPts (c : Dev nD) : sProp 𝕄 :=
  iprop(∃ f : Buf (Elt F) ((c : Thread nD τ).loc cc0_scratch0), ((c : Thread nD τ).loc cc0_scratch0) ↦{fullShare} f)

omit [FloatOps F] in
theorem buf_split (c : Dev nD) : bufPts (F := F) c ⊢ (iprop((∃ f, slotPts c 0 f) ∗ (∃ f, slotPts c 1 f)) : sProp 𝕄) := by
  iintro ⟨%f, Hf⟩
  ihave H := (pointsTo_split_subset (q := fullShare) (f := f) (Finset.subset_univ (slotSet 0))).1 $$ Hf
  icases H with ⟨H0, H1⟩
  isplitl [H0]
  · iexists f; iexact H0
  · iexists f
    iapply (Entails.of_eq (show ((c : Thread nD τ).loc cc0_scratch0 ↦[Finset.univ \ slotSet 0]{fullShare} f : sProp 𝕄)
        = slotPts c 1 f by rw [← slot_compl]))
    iexact H1

omit [FloatOps F] in
theorem buf_join (c : Dev nD) : iprop((∃ f, slotPts (F := F) c 0 f) ∗ (∃ f, slotPts (F := F) c 1 f)) ⊢ (bufPts (F := F) c : sProp 𝕄) := by
  iintro ⟨⟨%f0, H0⟩, ⟨%f1, H1⟩⟩
  iexists _
  iapply (pointsTo_join_subset (q := fullShare) (Finset.subset_univ (slotSet 0)))
  isplitl [H0]; · iexact H0
  iapply (Entails.of_eq (show slotPts (F := F) c 1 f1
      = ((c : Thread nD τ).loc cc0_scratch0 ↦[Finset.univ \ slotSet 0]{fullShare} f1 : sProp 𝕄) by
    rw [← slot_compl]))
  iexact H1

omit [FloatOps F] in
theorem xs_halves (c : Dev nD) : xsPts m c fullShare ⊢ (iprop(xsPts m c (qs 0) ∗ xsPts m c (qs 1)) : sProp 𝕄) :=
  (pointsTo_share (PosShare.mem_left_op_right fullShare)).1
omit [FloatOps F] in
theorem xs_whole (c : Dev nD) : iprop(xsPts m c (qs 0) ∗ xsPts m c (qs 1)) ⊢ (xsPts m c fullShare : sProp 𝕄) :=
  (pointsTo_share (PosShare.mem_left_op_right fullShare)).2

/-- Both slots idle, from the buffer, the semaphores and the token rows. -/
theorem idle_intro (c : Dev nD) :
    iprop(bufPts (F := F) c ∗ (semVal ((c : Thread nD τ), SemLoc.dma (rsem 0)) 0 ∗ semVal ((c : Thread nD τ), SemLoc.dma (rsem 1)) 0) ∗ xsPts m c fullShare)
      ⊢ (iprop(Idle m c 0 ∗ Idle m c 1) : sProp 𝕄) := by
  unfold Idle
  iintro ⟨Hb, ⟨Hv0, Hv1⟩, Hx⟩
  icases (buf_split c) $$ Hb with ⟨Hs0, Hs1⟩
  icases (xs_halves m c) $$ Hx with ⟨Hx0, Hx1⟩
  isplitl [Hs0 Hv0 Hx0]
  · isplitl [Hs0]; · iexact Hs0
    isplitl [Hv0]; · iexact Hv0
    iexact Hx0
  · isplitl [Hs1]; · iexact Hs1
    isplitl [Hv1]; · iexact Hv1
    iexact Hx1

/-- And back. -/
theorem idle_elim (c : Dev nD) :
    (iprop(Idle m c 0 ∗ Idle m c 1) : sProp 𝕄)
      ⊢ iprop(bufPts (F := F) c ∗ (semVal ((c : Thread nD τ), SemLoc.dma (rsem 0)) 0 ∗ semVal ((c : Thread nD τ), SemLoc.dma (rsem 1)) 0) ∗ xsPts m c fullShare) := by
  unfold Idle
  iintro ⟨⟨Hs0, Hv0, Hx0⟩, ⟨Hs1, Hv1, Hx1⟩⟩
  isplitl [Hs0 Hs1]
  · iapply (buf_join c); isplitl [Hs0] <;> iassumption
  isplitl [Hv0 Hv1]
  · isplitl [Hv0] <;> iassumption
  · iapply (xs_whole m c); isplitl [Hx0] <;> iassumption

theorem sl_even : sl 0 = 0 := rfl
theorem sl_odd : sl 1 = 1 := rfl

/-- Before the first point both slots are idle; -/
theorem slots_first (c : Dev nD) : (iprop(Idle m c 0 ∗ Idle m c 1) : sProp 𝕄) ⊢ SlotSt m c 0 := by
  unfold SlotSt
  rw [slotAt_neg m (fun h => absurd h.1 (Nat.lt_irrefl 0))]
  exact .rfl

/-- after the last too. -/
theorem slots_last (c : Dev nD) : SlotSt m c 221 ⊢ (iprop(Idle m c 0 ∗ Idle m c 1) : sProp 𝕄) := by
  unfold SlotSt
  rw [slotAt_neg m (fun h => absurd h.2.1 (Nat.lt_irrefl 221))]
  show iprop(Idle m c 1 ∗ Idle m c 0) ⊢ _
  iintro ⟨H1, H0⟩
  isplitl [H0] <;> iassumption

/-- A scratch buffer at some contents, as held by the kernel. -/
theorem scr_intro (c : Dev nD) (b : Ref sig .tc) :
    (iprop(∃ f : Buf (Elt F) ((c : Thread nD τ).loc b), ((c : Thread nD τ).loc b) ↦{fullShare} f) : sProp 𝕄)
      ⊢ iprop(∃ v, owns (c : Thread nD τ) (Memref.whole b) fullShare v) := by
  iintro ⟨%f, H⟩
  iexists f
  iapply (Entails.of_eq (owns_whole (c : Thread nD τ) b fullShare f).symm)
  iexact H
theorem scr_elim (c : Dev nD) (b : Ref sig .tc) (v : b.ty.Contents (Elt F)) :
    (owns (c : Thread nD τ) (Memref.whole b) fullShare v : sProp 𝕄)
      ⊢ iprop(∃ f : Buf (Elt F) ((c : Thread nD τ).loc b), ((c : Thread nD τ).loc b) ↦{fullShare} f) := by
  rw [owns_whole]
  iintro H
  iexists v
  iexact H

/-! ## In and out of the region -/

/-- What the launch hands the invariant: the slots' semaphores and the token rows. -/
def intoΦ (c : Dev nD) : sProp 𝕄 :=
  iprop((semVal ((c : Thread nD τ), SemLoc.dma (rsem 0)) 0 ∗ semVal ((c : Thread nD τ), SemLoc.dma (rsem 1)) 0) ∗ xsPts m c fullShare)

theorem intoΦ_intro (c : Dev nD) :
    iprop(Pipeline.unscopedRestP pre0 spec0 c (V m c) ∗ Pipeline.ownSems0 osem c ∗ levels0 c ∗ prngReg c (ρ c) ∗ emp)
      ⊢ |={Set.univ}=> (iprop(intoΦ m c ∗ emp) : sProp 𝕄) := by
  rw [unscopedRestP0_eq, ownSems0_eq]
  unfold intoΦ
  iintro ⟨Hx, Hv, -, -, -⟩
  imodintro
  isplitl [Hx Hv]
  · isplitl [Hv]; · iexact Hv
    iexact Hx
  · iempintro

/-- The invariant before the first point. -/
theorem phi_first (c : Dev nD) :
    iprop(intoΦ m c ∗ Pipeline.prefHeld pre0 c (fun _ => fullShare.right) (pf0 m) ∗ Pipeline.scopedRest spec0 c) ⊢ (Φn m c 0 : sProp 𝕄) := by
  rw [scopedRest0_eq, prefHeld_eq]
  unfold intoΦ Φn Wts
  iintro ⟨⟨Hv, Hx⟩, ⟨Hte, Htv, Hcs⟩, Hb, H2, H3, H4⟩
  icases (scr_intro c cc0_scratch2) $$ H2 with ⟨%v2, H2⟩
  icases (scr_intro c cc0_scratch3) $$ H3 with ⟨%v3, H3⟩
  icases (scr_intro c cc0_scratch4) $$ H4 with ⟨%v4, H4⟩
  isplitl [Hcs]; · iexact Hcs
  isplitl [Htv]; · iexact Htv
  isplitl [Hte]; · iexact Hte
  isplitl [Hb Hv Hx]
  · iapply (slots_first m c)
    iapply (idle_intro m c)
    isplitl [Hb]; · iexact Hb
    isplitl [Hv]; · iexact Hv
    iexact Hx
  iexists v2, v3, v4
  isplitr; · ipureintro; exact fun h => absurd h (Nat.lt_irrefl 0)
  isplitl [H2]; · iexact H2
  isplitl [H3]; · iexact H3
  iexact H4

/-- What it hands back after the last. -/
theorem phi_last (c : Dev nD) :
    (Φn m c 221 : sProp 𝕄) ⊢ iprop(xsPts m c fullShare ∗ Pipeline.ownSems0 osem c ∗ Pipeline.scopedRest spec0 c) := by
  rw [scopedRest0_eq, ownSems0_eq]
  unfold Φn Wts
  iintro ⟨-, -, -, Hs, ⟨%v2, %v3, %v4, -, H2, H3, H4⟩⟩
  icases (slots_last m c) $$ Hs with Hi
  icases (idle_elim m c) $$ Hi with ⟨Hb, Hv, Hx⟩
  isplitl [Hx]; · iexact Hx
  isplitl [Hv]; · iexact Hv
  isplitl [Hb]; · iexact Hb
  isplitl [H2]; · iapply (scr_elim c cc0_scratch2 v2); iexact H2
  isplitl [H3]; · iapply (scr_elim c cc0_scratch3 v3); iexact H3
  iapply (scr_elim c cc0_scratch4 v4); iexact H4

/-! ## The run -/

/-- An array's contents after the run. -/
def finalA (c : Dev nD) (w : Fin 4) : Buf (Elt F) ((spec0 w).arr.view.loc (c : Thread nD τ)) := (dats m hok 0 c).arrAt w grid0.N

/-- The launch state. -/
abbrev s₀ : MemSt nD τ sig (Elt F) := ⟨m, fun _ => 0, ρ⟩

/-- What a final state satisfies. -/
def QC (r : PUnit × MemSt nD τ sig (Elt F)) : Prop :=
  ∀ c : Dev nD, (∀ w : Fin 4, r.2.mem ((spec0 w).arr.view.loc (c : Thread nD τ)) = finalA m hok c w)
    ∧ (∀ k, r.2.mem ((c : Thread nD τ).loc (pre0.ref k)) = pf0 m k)
    ∧ r.2.mem ((c : Thread nD τ).loc main_arg3) = m ((c : Thread nD τ).loc main_arg3)

theorem V_pre (c : Dev nD) (k : Fin 3) : V m c (pre0.ref k) = pf0 m k := by
  obtain rfl : c = 0 := Subsingleton.elim _ _
  rfl

theorem main_eq (c : Dev nD) : main (F := F) c = .op (.customCall (Pipeline.entry 0) ()) fun _ => .ret ⟨⟩ := by
  simp only [main, Prog.lift, Prog.bind_op, Prog.bind_ret]
  rfl

theorem main_run (c : Dev nD) (Q : PUnit → sProp 𝕄) :
    iprop((iprop(boundary (c : Thread nD τ) ∗ unscopedBufs c (V m c))
            -∗ wp frame (wpE (defs (F := F)) (Variants.lift 𝒱₀) (c : Thread nD τ) none) Set.univ
                (.op (.customCall (Pipeline.entry (0 : Fin 1)) ()) fun _ => .ret ⟨⟩) Q)
        ∗ boundary (c : Thread nD τ) ∗ unscopedBufs c (fun b => m ((c : Thread nD τ).loc b)))
      ⊢ wp frame (wpE defs (Variants.lift 𝒱₀) (c : Thread nD τ) none) Set.univ (main c) Q := by
  rw [main_eq]
  iintro ⟨Hk, Hb⟩
  iapply Hk
  iexact Hb

/-- Every execution ends, at the computed contents, every semaphore counter at zero. -/
theorem run_main : θ_run defs (onTc (τ := τ) (main (F := F))) (s₀ m ρ) (fun r => QC m hok r ∧ r.2.sem = fun _ => 0) :=
  Pipeline.PerCore.θ_run_region_pf_quiescent pcfgs (fun _ _ => adm m hok) (dats m hok) () (cellOf_inj m hok) (0 : Fin 1) (launch0 (F := F)).win.to₀ ownSemFacts (launch0 (F := F)).pre
    EP defs₀ 𝒱₀ m ρ main
    (hbody := body_obligation m hok) (hne := (launch0 (F := F)).block_pos) (harr := (launch0 (F := F)).arr_whole) (hstage := (launch0 (F := F)).stage_whole)
    (howed := fun _ _ => rfl)
    (G := fun _ => iprop(emp))
    (u₀ := u₀ m hok)
    (hu₀ := by
      refine BIBase.Entails.trans (ownU_pair _ _) ?_
      iintro ⟨H, -⟩
      imodintro
      isplitl [H]; · iexact H
      iapply (Entails.of_eq (BI.bigSep_emp_const _).symm)
      iempintro)
    (V := V m)
    (hmain := main_run m)
    (hsplit := fun c => Pipeline.PerCore.arrays_split (fun _ => pcs m hok) (dats m hok) (0 : Fin 1) c (launch0 (F := F)).win.arr_inj (launch0 (F := F)).arr_whole
      ((dats m hok 0 c).share_full fun _ => rfl) (V m c) _ fun _ => rfl)
    (hpf := V_pre m)
    (X := intoΦ m) (Y := fun c => xsPts m c fullShare) (Z := fun _ => iprop(emp))
    (hX := intoΦ_intro m ρ) (hin := phi_first m)
    (hout := phi_last m)
    (QY := fun c s => s.mem ((c : Thread nD τ).loc main_arg3) = m ((c : Thread nD τ).loc main_arg3))
    (hY := fun c s' => by
      iintro ⟨H3, -, HSI⟩
      icombine HSI H3 gives %h3
      imodintro
      isplitr; · ipureintro; exact Buf.eq_of_forall_mem_univ h3
      iexact HSI)
    (hQ := fun _ h hz => ⟨h, hz⟩)

end Cert.KernelIdeal.Run

end
-- ==== Proof.IR4.lean ====
/-
  What the run of the experts' kernel ends with, in closed form: the tables' ranges from the precondition, the result
  array as the tiles' blocks, and the arguments as they were.
-/
module

public import proofs.«01_k».proof.Proof.IR3
public import proofs.«01_k».proof.Pre_tables_in_range
public import Idealize.ShloMosaic.Lib.Pipeline.Value
public import Idealize.ShloMosaic.Lib.Pipeline.ValueKit

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Transfers (Batch pending)
open Idealize.ShloMosaic.Pipeline (Dat Cfg Window BodyObligation BodyObligationLoose cellOf kernel pipe)

variable {F : FTy → Type} [FloatOps F]

local notation "𝕄" => MT nD τ sig Unit (Elt F) ℕ UU ℕ

variable (m : (ℓ : Loc nD τ sig) → Buf (Elt F) ℓ) (ρ : Dev nD → PrngReg)

/-! ## The precondition, read -/

/-- The precondition on a memory's arguments: its four comparisons all hold. -/
def PreM [Cert.Pre_tables_in_range.Facts] (c : Dev nD) : Prop :=
  (Cert.Pre_tables_in_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))).1 = (fun _ => 1#1)
  ∧ (Cert.Pre_tables_in_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))).2.1 = (fun _ => 1#1)
  ∧ (Cert.Pre_tables_in_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))).2.2.1 = (fun _ => 1#1)
  ∧ (Cert.Pre_tables_in_range.fn (F := F) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))).2.2.2 = (fun _ => 1#1)

theorem and_bits (p q : Bool) : IntOp.andi (BitVec.ofBool p) (BitVec.ofBool q) = BitVec.ofBool (p && q) := by
  cases p <;> cases q <;> decide
theorem bit_one (p : Bool) : (BitVec.ofBool p = 1#1) ↔ p = true := by cases p <;> decide

/-- A word signed between 0 and 63 is a number below 64, -/
theorem lt_64 (v : BitVec 32) (e : IntOp.andi (IntOp.cmpi .sge v 0#32) (IntOp.cmpi .slt v 64#32) = 1#1) : v.toNat < 64 := by
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega
/-- one between 0 and 6143 a number below 6144, -/
theorem lt_6144 (v : BitVec 32) (e : IntOp.andi (IntOp.cmpi .sge v 0#32) (IntOp.cmpi .slt v 6144#32) = 1#1) : v.toNat < 6144 := by
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega
/-- one between 0 and 1 one of the two, -/
theorem zero_one (v : BitVec 32) (e : IntOp.andi (IntOp.cmpi .sge v 0#32) (IntOp.cmpi .sle v 1#32) = 1#1) : v = 0#32 ∨ v = 1#32 := by
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  have h : v.toNat = 0 ∨ v.toNat = 1 := by omega
  rcases h with h | h
  · exact Or.inl (BitVec.eq_of_toNat_eq h)
  · exact Or.inr (BitVec.eq_of_toNat_eq h)
/-- and of two such, one at most the other is 1 only if the other is. -/
theorem one_le (v w : BitVec 32) (hw : w = 0#32 ∨ w = 1#32) (e : IntOp.cmpi .sle v w = 1#1) (h : v = 1#32) : w = 1#32 := by
  subst h
  rcases hw with rfl | rfl
  · exact absurd e (by decide)
  · rfl

variable {m} in
/-- The precondition gives the ranges. -/
theorem tabOk_of_pre [Cert.Pre_tables_in_range.Facts] (h : ∀ c : Dev nD, PreM m c) : TabOk m := by
  have htv (c : Dev nD) (n : ℕ) : tvW m c n = 0#32 ∨ tvW m c n = 1#32 := by
    unfold tvW
    split
    · next hn =>
      have e := congrFun (h c).2.1 (ix1 (n := 221) ⟨n, hn⟩)
      simp only [Pre_tables_in_range.fn, andi, cmpi, broadcastInDim, constantI] at e
      exact zero_one _ e
    · exact Or.inl rfl
  refine ⟨fun c n => ?_, htv, fun c n hn1 => ?_, fun c n => ?_⟩
  · unfold teW
    split
    · next hn =>
      have e := congrFun (h c).1 (ix1 (n := 221) ⟨n, hn⟩)
      simp only [Pre_tables_in_range.fn, andi, cmpi, broadcastInDim, constantI] at e
      exact lt_64 _ e
    · decide
  · by_cases hn : n + 1 < 221
    · have e := congrFun (h c).2.2.1 (ix1 (n := 220) ⟨n, by omega⟩)
      simp only [Pre_tables_in_range.fn, andi, cmpi, broadcastInDim, constantI, extractStridedSlice] at e
      have e1 : (m ((c : Thread nD τ).loc main_arg1) : S221.Idx → BitVec 32) (ix1 (n := 221) ⟨n + 1, hn⟩) = 1#32 := by
        have := hn1; unfold tvW at this; rw [dif_pos hn] at this; exact this
      have hw := htv c n
      unfold tvW at hw ⊢
      rw [dif_pos (show n < 221 by omega)] at hw ⊢
      refine one_le _ _ hw ?_ e1
      refine Eq.trans (congrArg₂ (IntOp.cmpi .sle) (congrArg (m ((c : Thread nD τ).loc main_arg1)) ?_) (congrArg (m ((c : Thread nD τ).loc main_arg1)) ?_)) e
      · refine funext fun a => Fin.ext ?_
        match a with
        | ⟨0, _⟩ => show n + 1 = 1 + n; omega
      · refine funext fun a => Fin.ext ?_
        match a with
        | ⟨0, _⟩ => show n = 0 + n; omega
    · unfold tvW at hn1
      rw [dif_neg hn] at hn1
      exact absurd hn1 (by decide)
  · unfold csW
    split
    · next hn =>
      have e := congrFun (h c).2.2.2 (ix1 (n := 7072) ⟨n, hn⟩)
      simp only [Pre_tables_in_range.fn, andi, cmpi, broadcastInDim, constantI] at e
      exact lt_6144 _ e
    · decide

/-! ## The result -/

/-- The result: row `r` is row `r mod 512` of tile `r / 512`'s block. -/
def outA (c : Dev nD) : S113152x1024.Idx → Elt F .bf16 := fun y =>
  outT m c ((y 0).val / 512) (ValueIdx.ix2 (n0 := 512) (n1 := 1024) ⟨(y 0).val % 512, Nat.mod_lt _ (by decide)⟩ (y 1))

theorem off4 : ∀ i : grid0.Coords, cc0_transform_4 i = ![(i 0).val, 0] := by decide +kernel

variable (hok : TabOk m)

/-- The output's block index. -/
theorem index_3 (t : Fin grid0.N) : ((cfgA m hok).win (3 : Fin 4)).index t = ![t.val, 0] := by
  show cc0_transform_4 (grid0.coords t) = _
  rw [off4, coords_val t]

/-- Every point writes its block back: the next point's is another. -/
theorem flush_3 (t : Fin grid0.N) : ((cfgA m hok).win (3 : Fin 4)).flush t = true := by
  rw [Pipeline.Window.flush_out _ rfl]
  by_cases h : t.val + 1 < grid0.N
  · refine Or.inr ⟨h, fun e => ?_⟩
    rw [index_3, index_3] at e
    have e0 : t.val + 1 = t.val := congrFun e 0
    omega
  · exact Or.inl (by have := t.isLt; show t.val + 1 = grid0.N; omega)

/-- The block written back at a point is the result's. -/
theorem flushed_3 (c : Dev nD) (t : Fin grid0.N) :
    (dats m hok 0 c).flushed (3 : Fin 4) t = (((cfgA m hok).win (3 : Fin 4)).blk t).view.read (Elt F) (outA m c) := by
  refine funext fun x => ?_
  have hx0 : (x 0).val < 512 := (x 0).isLt
  have e := index_3 m hok t
  have e0 : ((((cfgA m hok).win (3 : Fin 4)).rect t).emb x 0).val = t.val * 512 + (x 0).val := by
    show ((cfgA m hok).win (3 : Fin 4)).index t 0 * 512 + 1 * (x 0).val = _
    rw [e]
    show t.val * 512 + 1 * (x 0).val = _
    omega
  have e1 : ((((cfgA m hok).win (3 : Fin 4)).rect t).emb x 1).val = (x 1).val := by
    show ((cfgA m hok).win (3 : Fin 4)).index t 1 * 1024 + 1 * (x 1).val = _
    rw [e]
    show 0 * 1024 + 1 * (x 1).val = _
    omega
  show outT m c t.val x = outT m c (((((cfgA m hok).win (3 : Fin 4)).rect t).emb x 0).val / 512)
    (ValueIdx.ix2 (n0 := 512) (n1 := 1024) ⟨((((cfgA m hok).win (3 : Fin 4)).rect t).emb x 0).val % 512, _⟩ ((((cfgA m hok).win (3 : Fin 4)).rect t).emb x 1))
  have hd : ((((cfgA m hok).win (3 : Fin 4)).rect t).emb x 0).val / 512 = t.val := by rw [e0]; omega
  have hm : ((((cfgA m hok).win (3 : Fin 4)).rect t).emb x 0).val % 512 = (x 0).val := by rw [e0]; omega
  rw [hd]
  refine congrArg (outT m c t.val) (funext fun a => Fin.ext ?_)
  match a with
  | ⟨0, _⟩ => exact hm.symm
  | ⟨1, _⟩ => exact e1.symm

/-- The blocks tile the result. -/
theorem cover_3 (i : S113152x1024.Idx) :
    ∃ t : Fin (cfgA m hok).N, ((cfgA m hok).win (3 : Fin 4)).flush t = true ∧ i ∈ (((cfgA m hok).win (3 : Fin 4)).blk t).view.set := by
  have h0 : (i 0).val < 113152 := (i 0).isLt
  have h1 : (i 1).val < 1024 := (i 1).isLt
  let t : Fin grid0.N := ⟨(i 0).val / 512, by show (i 0).val / 512 < 221; omega⟩
  refine ⟨t, flush_3 m hok t, ?_⟩
  show i ∈ ((View.whole main_v0).slice (((cfgA m hok).win (3 : Fin 4)).rect t)).set
  erw [View.set_slice_whole]
  refine (Pipeline.Window.mem_rect_iff ((cfgA m hok).win (3 : Fin 4)) t i (by rfl)).mpr fun a => ?_
  have e := index_3 m hok t
  match a with
  | ⟨0, _⟩ =>
    show ((cfgA m hok).win (3 : Fin 4)).index t 0 * 512 ≤ (i 0).val ∧ (i 0).val < ((cfgA m hok).win (3 : Fin 4)).index t 0 * 512 + 512
    rw [e]
    show (i 0).val / 512 * 512 ≤ (i 0).val ∧ (i 0).val < (i 0).val / 512 * 512 + 512
    omega
  | ⟨1, _⟩ =>
    show ((cfgA m hok).win (3 : Fin 4)).index t 1 * 1024 ≤ (i 1).val ∧ (i 1).val < ((cfgA m hok).win (3 : Fin 4)).index t 1 * 1024 + 1024
    rw [e]
    show 0 * 1024 ≤ (i 1).val ∧ (i 1).val < 0 * 1024 + 1024
    omega

/-- So the result ends at the tiles' blocks. -/
theorem final_out (c : Dev nD) : finalA m hok c 3 = outA m c :=
  (dats m hok 0 c).arrAt_eq_of_cover (3 : Fin 4) (outA m c) (fun t _ => flushed_3 m hok c t) (cover_3 m hok)

/-- The weights end as they were. -/
theorem final_0 (c : Dev nD) : finalA m hok c 0 = m ((c : Thread nD τ).loc main_arg4) := by
  unfold finalA; rw [(dats m hok 0 c).arrAt_in (0 : Fin 4) rfl]; rfl
theorem final_1 (c : Dev nD) : finalA m hok c 1 = m ((c : Thread nD τ).loc main_arg5) := by
  unfold finalA; rw [(dats m hok 0 c).arrAt_in (1 : Fin 4) rfl]; rfl
theorem final_2 (c : Dev nD) : finalA m hok c 2 = m ((c : Thread nD τ).loc main_arg6) := by
  unfold finalA; rw [(dats m hok 0 c).arrAt_in (2 : Fin 4) rfl]; rfl

include hok in
/-- The run, read: the result at the tiles' blocks, every argument as it was, every semaphore counter at zero. -/

theorem run : θ_run defs (onTc (τ := τ) (main (F := F))) ⟨m, fun _ => 0, ρ⟩ fun r =>
    (∀ c : Dev nD, r.2.mem ((c : Thread nD τ).loc main_v0) = outA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0 :=
  (θ_run defs _ _).mono
    (fun _ h => ⟨fun c => ⟨((h.1 c).1 3).trans (final_out m hok c),
      ((h.1 c).2.1 0).trans (V_pre m c 0).symm, ((h.1 c).2.1 1).trans (V_pre m c 1).symm, ((h.1 c).2.1 2).trans (V_pre m c 2).symm,
      (h.1 c).2.2,
      ((h.1 c).1 0).trans (final_0 m hok c), ((h.1 c).1 1).trans (final_1 m hok c), ((h.1 c).1 2).trans (final_2 m hok c)⟩, h.2⟩)
    (run_main m ρ hok)

end Cert.KernelIdeal.Run

end
-- ==== Proof.RefRun.lean ====
/-
  The reference's run: its frame, and its result as a term of its arguments, in the order of the mathematics (gathered
  tokens, gathered weights, the gated hidden layer, the second product, the mask).
-/
module

public import proofs.«01_k».proof.Defs
public import proofs.«01_k».proof.Proof.Gen.ReferenceIdeal
public import proofs.«01_k».proof.Proof.Gen.Pre_tables_in_range
public import Idealize.ShloMosaic.Lib.Claim
public import Idealize.ShloMosaic.Lib.Quiescent

@[expose] public section

set_option maxRecDepth 16384

noncomputable section

namespace Cert.ReferenceIdeal.Run

open Idealize.ShloMosaic Idealize.ShloMosaic.TcCoe Idealize.SL.Sem
open Cert.ReferenceIdeal Cert.ReferenceIdeal.Facts₀

/-- A table of 221 experts as start indices: a negative entry counts from the end of the 64 experts. -/
def teIx (te : IVec S221 32) : IVec S221x1 32 :=
  broadcastInDim S221x1 ![0] bcast_S221_S221x1_0
    (select (cmpi .slt te (broadcastInDim S221 ![] bcast_S_S221 (constantI S_ 32 0#32)))
      (addi te (broadcastInDim S221 ![] bcast_S_S221 (constantI S_ 32 64#32))) te)

/-- The chunk table as start indices: a negative entry counts from the end of the 6144 chunks. -/
def csIx (cs : IVec S7072 32) : IVec S7072x1 32 :=
  broadcastInDim S7072x1 ![0] bcast_S7072_S7072x1_0
    (select (cmpi .slt cs (broadcastInDim S7072 ![] bcast_S_S7072 (constantI S_ 32 0#32)))
      (addi cs (broadcastInDim S7072 ![] bcast_S_S7072 (constantI S_ 32 6144#32))) cs)

/-- The rows of every tile: its 32 chunks, one after the other. -/
def xRows (cs : IVec S7072 32) (xs : FVec Ideal S6144x16x1024 .bf16) : FVec Ideal S221x512x1024 .f32 :=
  extf .f32 (shapeCast S221x512x1024
    (Host.gather gather_S6144x16x1024_S7072x1_S7072x16x1024_12_0_n_n_0_1_1161024 xs (csIx cs))
    shapeCasts_S7072x16x1024_S221x512x1024) bitsLt_bf16_f32

/-- Every tile's first-layer weights, of its expert. -/
def wTile (te : IVec S221 32) (w : FVec Ideal S64x1024x256 .f32) : FVec Ideal S221x1024x256 .f32 :=
  Host.gather gather_S64x1024x256_S221x1_S221x1024x256_12_0_n_n_0_1_11024256 w (teIx te)

/-- Every tile's second-layer weights, of its expert. -/
def wdTile (te : IVec S221 32) (w : FVec Ideal S64x256x1024 .f32) : FVec Ideal S221x256x1024 .f32 :=
  Host.gather gather_S64x256x1024_S221x1_S221x256x1024_12_0_n_n_0_1_12561024 w (teIx te)

/-- A first-layer product. -/
def lin (x : FVec Ideal S221x512x1024 .f32) (w : FVec Ideal S221x1024x256 .f32) : FVec Ideal S221x512x256 .f32 :=
  Host.dotGeneral dot_S221x512x1024_S221x1024x256_S221x512x256_2_1_1_2_0_0 none x w

/-- The gate: `a` over one plus the exponential of `-a`. -/
def silu (a : FVec Ideal S221x512x256 .f32) : FVec Ideal S221x512x256 .f32 :=
  mulf a (Host.divf (broadcastInDim S221x512x256 ![] bcast_S_S221x512x256 (constant S_ .f32 0x3F800000#32))
    (addf (broadcastInDim S221x512x256 ![] bcast_S_S221x512x256 (constant S_ .f32 0x3F800000#32)) (Host.exp (Host.negf a))))

/-- The second-layer product. -/
def lin2 (h : FVec Ideal S221x512x256 .f32) (w : FVec Ideal S221x256x1024 .f32) : FVec Ideal S221x512x1024 .f32 :=
  Host.dotGeneral dot_S221x512x256_S221x256x1024_S221x512x1024_2_1_1_2_0_0 none h w

/-- The mask of the tiles in use, over the result. -/
def inUse (tv : IVec S221 32) : IVec S221x512x1024 1 :=
  broadcastInDim S221x512x1024 ![0, 1, 2] bcast_S221x1x1_S221x512x1024_0_1_2
    (cmpi .eq (broadcastInDim S221x1x1 ![0] bcast_S221_S221x1x1_0 tv)
      (broadcastInDim S221x1x1 ![] bcast_S_S221x1x1 (constantI S_ 32 1#32)))

/-- Zero everywhere. -/
def zeroTile : FVec Ideal S221x512x1024 .f32 :=
  broadcastInDim S221x512x1024 ![] bcast_S_S221x512x1024 (constant (F := Ideal) S_ .f32 0x00000000#32)

/-- The reference's result. -/
def result (te tv : IVec S221 32) (cs : IVec S7072 32) (xs : FVec Ideal S6144x16x1024 .bf16) (wg wu : FVec Ideal S64x1024x256 .f32)
    (wd : FVec Ideal S64x256x1024 .f32) : FVec Ideal S113152x1024 .bf16 :=
  truncf .bf16 (shapeCast S113152x1024
    (select (inUse tv)
      (lin2 (mulf (silu (lin (xRows cs xs) (wTile te wg))) (lin (xRows cs xs) (wTile te wu))) (wdTile te wd))
      zeroTile) shapeCasts_S221x512x1024_S113152x1024) bitsLt_bf16_f32

set_option maxHeartbeats 4000000 in
/-- The reference runs, leaves its result, and keeps its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v40)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  hlo_run
  rfl

/-- The reference's frame: it keeps its arguments, and has no semaphore. -/
theorem frame : Cert.quiescent_ReferenceIdeal := fun m g _ =>
  (θ_run defs _ _).mono (fun _ hr => ⟨fun c => (hr c).2, sem_eq_zero_of_no_sems rfl _⟩) (run m g)

end Cert.ReferenceIdeal.Run

end
-- ==== Proof.Spec.lean ====
/-
  One row of the gated feed-forward at exact arithmetic: both the kernel's block and the reference's term are read as this.
-/
module

public import Idealize.ShloMosaic.PureOps.Ideal
public import Idealize.ShloMosaic.Lib.Pointwise

@[expose] public section

noncomputable section

namespace Cert.Spec

open Idealize.ShloMosaic

/-- A hidden unit of a row `x`: the gate of its product with `wg`, times its product with `wu`. -/
def hid (x wg wu : Fin 1024 → EReal) : EReal :=
  (∑ k, x k * wg k) * Ideal.logistic (∑ k, x k * wg k) * ∑ k, x k * wu k

/-- An entry of the row's result: the hidden units' product with `wd`. -/
def out (x : Fin 1024 → EReal) (wg wu : Fin 1024 → Fin 256 → EReal) (wd : Fin 256 → EReal) : EReal :=
  ∑ f, hid x (fun k => wg k f) (fun k => wu k f) * wd f

end Cert.Spec

end
-- ==== Proof.IV.lean ====
/-
  The kernel's tiles at exact arithmetic: every entry of a tile's block is one entry of the gated feed-forward.
-/
module

public import proofs.«01_k».proof.Proof.IR4
public import proofs.«01_k».proof.Proof.Spec
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.SL.Sem

/-- The upper half's payload, read at an entry. -/
theorem pay9_apply (x : S1x16x16x1024.Idx → Elt Ideal .bf16) (wg wu : S1x1024x256.Idx → Elt Ideal .f32) (wd : S1x256x1024.Idx → Elt Ideal .f32)
    (r : Fin 256) (d : Fin 1024) :
    k0_pay9 (F := Ideal) (k0_pay2 x (k0_pay6 wg)) (k0_pay3 x (k0_pay7 wu)) (k0_pay8 wd) (ix2 r d)
      = Spec.out (fun k => x (ix4 0 ⟨r.val / 16, by omega⟩ ⟨r.val % 16, by omega⟩ k)) (fun k f => wg (ix3 0 k f)) (fun k f => wu (ix3 0 k f))
          (fun f => wd (ix3 0 f d)) := by
  pointwise [k0_pay9, k0_pay1, k0_pay2, k0_pay3, k0_pay6, k0_pay7, k0_pay8, Spec.out, Spec.hid]

/-- The lower half's payload, read at an entry. -/
theorem pay10_apply (x : S1x16x16x1024.Idx → Elt Ideal .bf16) (wg wu : S1x1024x256.Idx → Elt Ideal .f32) (wd : S1x256x1024.Idx → Elt Ideal .f32)
    (r : Fin 256) (d : Fin 1024) :
    k0_pay10 (F := Ideal) (k0_pay4 x) (k0_pay5 x (k0_pay6 wg)) (k0_pay7 wu) (k0_pay8 wd) (ix2 r d)
      = Spec.out (fun k => x (ix4 0 ⟨r.val / 16, by omega⟩ ⟨r.val % 16, by omega⟩ k)) (fun k f => wg (ix3 0 k f)) (fun k f => wu (ix3 0 k f))
          (fun f => wd (ix3 0 f d)) := by
  pointwise [k0_pay10, k0_pay4, k0_pay5, k0_pay6, k0_pay7, k0_pay8, Spec.out, Spec.hid]

variable (m : (ℓ : Loc nD τ sig) → Buf (Elt Ideal) ℓ)

/-- The result at row `r` of tile `T`, as the feed-forward of that row, or zero off the tiles in use. -/
theorem outA_apply (c : Dev nD) (T : Fin 221) (r : Fin 512) (d : Fin 1024) :
    outA m c (ValueIdx.ix2 (n0 := 113152) (n1 := 1024) ⟨512 * T.val + r.val, by omega⟩ d)
      = if tvW m c T.val = 1#32 then
          Spec.out (fun k => xsB m c (ValueIdx.ix3 (chunk m c (32 * T.val + r.val / 16)) (⟨r.val % 16, by omega⟩ : Fin 16) k))
            (fun k f => (m ((c : Thread nD τ).loc main_arg4) : S64x1024x256.Idx → EReal) (ValueIdx.ix3 (exq (teW m c T.val)) k f))
            (fun k f => (m ((c : Thread nD τ).loc main_arg5) : S64x1024x256.Idx → EReal) (ValueIdx.ix3 (exq (teW m c T.val)) k f))
            (fun f => (m ((c : Thread nD τ).loc main_arg6) : S64x256x1024.Idx → EReal) (ValueIdx.ix3 (exq (teW m c T.val)) f d))
        else 0 := by
  have e0 : (512 * T.val + r.val) / 512 = T.val := by omega
  have e1 : (512 * T.val + r.val) % 512 = r.val := by omega
  have e : outA m c (ValueIdx.ix2 (n0 := 113152) (n1 := 1024) ⟨512 * T.val + r.val, by omega⟩ d)
      = outT m c T.val (ValueIdx.ix2 (n0 := 512) (n1 := 1024) r d) := by
    show outT m c ((512 * T.val + r.val) / 512)
      (ValueIdx.ix2 (n0 := 512) (n1 := 1024) ⟨(512 * T.val + r.val) % 512, Nat.mod_lt _ (by decide)⟩ d) = _
    rw [e0]
    exact congrArg (fun q : Fin 512 => outT m c T.val (ValueIdx.ix2 (n0 := 512) (n1 := 1024) q d)) (Fin.ext e1)
  rw [e]
  unfold outT
  split
  · unfold outM
    split
    · next h =>
      have h' : r.val < 256 := h
      refine (pay9_apply _ _ _ _ (⟨r.val, h'⟩ : Fin 256) d).trans ?_
      congr 1
      funext k
      show xsB m c (ValueIdx.ix3 (chunk m c (32 * T.val + (16 * 0 + r.val / 16))) _ k) = _
      rw [show 16 * 0 + r.val / 16 = r.val / 16 by omega]
      rfl
    · next h =>
      have h' : ¬ r.val < 256 := h
      refine (pay10_apply _ _ _ _ (⟨r.val - 256, by omega⟩ : Fin 256) d).trans ?_
      congr 1
      funext k
      show xsB m c (ValueIdx.ix3 (chunk m c (32 * T.val + (16 * 1 + (r.val - 256) / 16))) (⟨(r.val - 256) % 16, by omega⟩ : Fin 16) k) = _
      rw [show 16 * 1 + (r.val - 256) / 16 = r.val / 16 by omega]
      exact congrArg (fun q : Fin 16 => xsB m c (ValueIdx.ix3 (chunk m c (32 * T.val + r.val / 16)) q k))
        (Fin.ext (show (r.val - 256) % 16 = r.val % 16 by omega))
  · pointwise [k0_pay11]

end Cert.KernelIdeal.Run

end
-- ==== Proof.RV.lean ====
/-
  The reference's result at exact arithmetic, read at an entry: one entry of the gated feed-forward of the row, for tables
  in range.
-/
module

public import proofs.«01_k».proof.Proof.RefRun
public import proofs.«01_k».proof.Proof.Spec
public import Idealize.ShloMosaic.Lib.Pointwise
public import Idealize.ShloMosaic.Lib.StableHlo.Predicate

@[expose] public section

set_option maxRecDepth 16384

noncomputable section

namespace Cert.ReferenceIdeal.Run

open Idealize.ShloMosaic Idealize.ShloMosaic.TcCoe Idealize.SL.Sem
open Cert.ReferenceIdeal Cert.ReferenceIdeal.Facts₀

/-- The dimension numbers of a lookup of whole matrices in a stack of them. -/
abbrev stackDims (N A B n : ℕ)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Member `i` of the lookup is the stack's member that the `i`-th start index names. -/
theorem stack_apply {α : Type} {N A B n : ℕ}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (i : Fin n) (a : Fin A) (b : Fin B) (e : Fin N)
    (he : (idx (ix2 i (0 : Fin 1))).toInt = e.val) :
    Host.gather (stackDims N A B n wf) x idx (ix3 i a b) = x (ix3 e a b) := by
  refine congrArg x (funext fun ax => Fin.ext ?_)
  have hb : ∀ j ax, (stackDims N A B n wf).batchCoord j ax = 0 := fun j ax => GatherDims.batchCoord_eq_zero _ _ _ List.not_mem_nil
  show (stackDims N A B n wf).start (ix3 i a b) idx ax + (stackDims N A B n wf).batchCoord (ix3 i a b) ax
    + (stackDims N A B n wf).offCoord (ix3 i a b) ax = _
  rw [hb, Nat.add_zero]
  match ax with
  | ⟨0, _⟩ =>
    have ho : (stackDims N A B n wf).offCoord (ix3 i a b) (0 : Fin 3) = 0 :=
      GatherDims.offCoord_eq_zero _ _ _ fun h => ((GatherDims.mem_sKept _ _).1 h).1 (List.mem_singleton.2 rfl)
    have hs : (stackDims N A B n wf).start (ix3 i a b) idx (0 : Fin 3) = e.val := by
      unfold GatherDims.start
      rw [dif_pos (show (0 : Fin 3) ∈ (stackDims N A B n wf).startIndexMap from List.mem_singleton.2 rfl)]
      have hsi : (stackDims N A B n wf).siIdx (ix3 i a b) ⟨List.idxOf (0 : Fin 3) (stackDims N A B n wf).startIndexMap,
          List.idxOf_lt_length_iff.2 (List.mem_singleton.2 rfl)⟩ = ix2 i (0 : Fin 1) := by
        funext q
        refine Fin.ext ?_
        match q with
        | ⟨0, _⟩ => rfl
        | ⟨1, _⟩ => rfl
      rw [hsi, he]
      show min ((e.val : ℤ)).toNat (N - 1) = e.val
      have := e.isLt
      omega
    exact (congrArg₂ (· + ·) hs ho).trans (Nat.add_zero _)
  | ⟨1, _⟩ => exact Nat.zero_add _
  | ⟨2, _⟩ => exact Nat.zero_add _

/-- A word below 2³¹ is not negative. -/
theorem toInt_small {w : BitVec 32} (h : w.toNat < 2 ^ 31) : w.toInt = w.toNat := by
  rw [BitVec.toInt_eq_toNat_of_lt (by omega)]

theorem slt_zero {w : BitVec 32} (h : w.toNat < 2 ^ 31) : IntOp.cmpi .slt w 0#32 = 0#1 := by
  show BitVec.ofBool (w.slt 0#32) = 0#1
  have : w.slt 0#32 = false := by
    rw [BitVec.slt, toInt_small h]
    exact decide_eq_false (by simp)
  rw [this]; rfl

/-- An expert in range starts at itself. -/
theorem teIx_apply (te : IVec S221 32) (T : Fin 221) (h : (te (ix1 T)).toNat < 64) :
    ((teIx te) (ix2 T (0 : Fin 1))).toInt = ((te (ix1 T)).toNat : ℤ) := by
  have e : teIx te (ix2 T (0 : Fin 1)) = te (ix1 T) := by
    pointwise [teIx]
    rw [slt_zero (by omega)]
    rfl
  rw [e, toInt_small (by omega)]

/-- A chunk in range starts at itself. -/
theorem csIx_apply (cs : IVec S7072 32) (n : Fin 7072) (h : (cs (ix1 n)).toNat < 6144) :
    ((csIx cs) (ix2 n (0 : Fin 1))).toInt = ((cs (ix1 n)).toNat : ℤ) := by
  have e : csIx cs (ix2 n (0 : Fin 1)) = cs (ix1 n) := by
    pointwise [csIx]
    rw [slt_zero (by omega)]
    rfl
  rw [e, toInt_small (by omega)]

/-- A tile's first-layer weights are its expert's. -/
theorem wTile_apply (te : IVec S221 32) (w : FVec Ideal S64x1024x256 .f32) (T : Fin 221) (h : (te (ix1 T)).toNat < 64) (k : Fin 1024) (f : Fin 256) :
    wTile te w (ix3 T k f) = w (ix3 (⟨(te (ix1 T)).toNat, h⟩ : Fin 64) k f) :=
  stack_apply gather_S64x1024x256_S221x1_S221x1024x256_12_0_n_n_0_1_11024256_wf w (teIx te) T k f ⟨_, h⟩ (teIx_apply te T h)

/-- A tile's second-layer weights are its expert's. -/
theorem wdTile_apply (te : IVec S221 32) (w : FVec Ideal S64x256x1024 .f32) (T : Fin 221) (h : (te (ix1 T)).toNat < 64) (f : Fin 256) (d : Fin 1024) :
    wdTile te w (ix3 T f d) = w (ix3 (⟨(te (ix1 T)).toNat, h⟩ : Fin 64) f d) :=
  stack_apply gather_S64x256x1024_S221x1_S221x256x1024_12_0_n_n_0_1_12561024_wf w (teIx te) T f d ⟨_, h⟩ (teIx_apply te T h)

/-- A tile's row `r` is row `r % 16` of its chunk `r / 16`. -/
theorem xRows_apply (cs : IVec S7072 32) (xs : FVec Ideal S6144x16x1024 .bf16) (T : Fin 221) (r : Fin 512)
    (h : (cs (ix1 (⟨32 * T.val + r.val / 16, by omega⟩ : Fin 7072))).toNat < 6144) (k : Fin 1024) :
    xRows cs xs (ix3 T r k)
      = xs (ix3 (⟨(cs (ix1 (⟨32 * T.val + r.val / 16, by omega⟩ : Fin 7072))).toNat, h⟩ : Fin 6144) (⟨r.val % 16, by omega⟩ : Fin 16) k) := by
  refine Eq.trans ?_ (stack_apply gather_S6144x16x1024_S7072x1_S7072x16x1024_12_0_n_n_0_1_1161024_wf xs (csIx cs)
    (⟨32 * T.val + r.val / 16, by omega⟩ : Fin 7072) (⟨r.val % 16, by omega⟩ : Fin 16) k ⟨_, h⟩ (csIx_apply cs _ h))
  show shapeCast S221x512x1024 (Host.gather gather_S6144x16x1024_S7072x1_S7072x16x1024_12_0_n_n_0_1_1161024 xs (csIx cs))
    shapeCasts_S7072x16x1024_S221x512x1024 (ix3 T r k) = _
  refine congrArg (Host.gather gather_S6144x16x1024_S7072x1_S7072x16x1024_12_0_n_n_0_1_1161024 xs (csIx cs)) ?_
  pointwise
  exact congrArg (fun q : Fin 7072 => ix3 q (⟨r.val % 16, by omega⟩ : Fin 16) k)
    (Fin.ext (show T.val * 32 + r.val / 16 = 32 * T.val + r.val / 16 by omega))

/-- The mask of a tile. -/
theorem inUse_apply (tv : IVec S221 32) (T : Fin 221) (r : Fin 512) (d : Fin 1024) :
    inUse tv (ix3 T r d) = IntOp.cmpi .eq (tv (ix1 T)) 1#32 := by
  pointwise [inUse]

/-- The products and the gate, read at an entry. -/
theorem ffn_apply (x : FVec Ideal S221x512x1024 .f32) (wg wu : FVec Ideal S221x1024x256 .f32) (wd : FVec Ideal S221x256x1024 .f32)
    (T : Fin 221) (r : Fin 512) (d : Fin 1024) :
    lin2 (mulf (silu (lin x wg)) (lin x wu)) wd (ix3 T r d)
      = Spec.out (fun k => x (ix3 T r k)) (fun k f => wg (ix3 T k f)) (fun k f => wu (ix3 T k f)) (fun f => wd (ix3 T f d)) := by
  pointwise [lin2, lin, silu, Spec.out, Spec.hid, Ideal.logistic]

/-- The reference's result at row `r` of tile `T`. -/
theorem result_apply (te tv : IVec S221 32) (cs : IVec S7072 32) (xs : FVec Ideal S6144x16x1024 .bf16) (wg wu : FVec Ideal S64x1024x256 .f32)
    (wd : FVec Ideal S64x256x1024 .f32) (T : Fin 221) (r : Fin 512) (d : Fin 1024) (ht : (te (ix1 T)).toNat < 64)
    (hc : (cs (ix1 (⟨32 * T.val + r.val / 16, by omega⟩ : Fin 7072))).toNat < 6144) :
    result te tv cs xs wg wu wd (ix2 (⟨512 * T.val + r.val, by omega⟩ : Fin 113152) d)
      = if tv (ix1 T) = 1#32 then
          Spec.out (fun k => xs (ix3 (⟨(cs (ix1 (⟨32 * T.val + r.val / 16, by omega⟩ : Fin 7072))).toNat, hc⟩ : Fin 6144) (⟨r.val % 16, by omega⟩ : Fin 16) k))
            (fun k f => wg (ix3 (⟨(te (ix1 T)).toNat, ht⟩ : Fin 64) k f)) (fun k f => wu (ix3 (⟨(te (ix1 T)).toNat, ht⟩ : Fin 64) k f))
            (fun f => wd (ix3 (⟨(te (ix1 T)).toNat, ht⟩ : Fin 64) f d))
        else 0 := by
  have e : result te tv cs xs wg wu wd (ix2 (⟨512 * T.val + r.val, by omega⟩ : Fin 113152) d)
      = Scalar.select (inUse tv (ix3 T r d))
          (lin2 (mulf (silu (lin (xRows cs xs) (wTile te wg))) (lin (xRows cs xs) (wTile te wu))) (wdTile te wd) (ix3 T r d))
          (zeroTile (ix3 T r d)) := by
    pointwise [result]
  rw [e, inUse_apply, ffn_apply]
  simp only [xRows_apply cs xs T r hc, wTile_apply te _ T ht, wdTile_apply te _ T ht]
  pointwise [zeroTile]
  by_cases h : tv (ix1 T) = 1#32
  · rw [if_pos h, h]
    rfl
  · rw [if_neg h]
    have hz : IntOp.cmpi .eq (tv (ix1 T)) 1#32 = 0#1 := by
      show BitVec.ofBool (tv (ix1 T) == 1#32) = 0#1
      rw [beq_false_of_ne h]
      rfl
    rw [hz]
    rfl

end Cert.ReferenceIdeal.Run

end
-- ==== Proof.PostV.lean ====
/-
  The first result of the output projection's call at exact arithmetic, for the kernel and for the reference, read at an
  entry: the residual stream plus the gate times a row's product with the output weights, the row being the attention's
  512 places followed by the pooled differences' 512.
-/
module

public import proofs.«01_k».proof.Proof.Gen.Kernel2Ideal.Value
public import proofs.«01_k».proof.Proof.Gen.Reference2Ideal.Run
public import Idealize.ShloMosaic.Lib.Pointwise

@[expose] public section

noncomputable section

namespace Cert.PostSpec

/-- Place `c` of group `g` of a row of four groups of 128. -/
abbrev grp (g : Fin 4) (c : Fin 128) : Fin 512 := ⟨128 * g.val + c.val, by omega⟩

/-- A pooled place: the group's row times the group's weights, scaled. -/
def pooled (d : Fin 512 → EReal) (w : Fin 4 → Fin 128 → Fin 128 → EReal) (p : Fin 512 → EReal) (g : Fin 4) (e : Fin 128) : EReal :=
  (∑ c : Fin 128, d (grp g c) * w g c e) * p (grp g e)

/-- A row of the output projection's operand. -/
def row (a d : Fin 512 → EReal) (w : Fin 4 → Fin 128 → Fin 128 → EReal) (p : Fin 512 → EReal) (k : Fin 1024) : EReal :=
  if h : k.val < 512 then a ⟨k.val, h⟩
  else pooled d w p ⟨(k.val - 512) / 128, by omega⟩ ⟨(k.val - 512) % 128, by omega⟩

/-- An entry of the result. -/
def out (a d : Fin 512 → EReal) (w : Fin 4 → Fin 128 → Fin 128 → EReal) (p : Fin 512 → EReal) (wo : Fin 1024 → EReal) (x g : EReal) : EReal :=
  x + g * ∑ k : Fin 1024, row a d w p k * wo k

/-- A place of a row of 512 is a place of one of its groups. -/
theorem grp_split (j : Fin 512) : j = grp ⟨j.val / 128, by omega⟩ ⟨j.val % 128, by omega⟩ :=
  Fin.ext (show j.val = 128 * (j.val / 128) + j.val % 128 by omega)

end Cert.PostSpec

namespace Cert.Kernel2Ideal.Post

open Cert.Kernel2Ideal Cert.Kernel2Ideal.Gen Cert.Kernel2Ideal.Value Cert.PostSpec Idealize.ShloMosaic Idealize.ShloMosaic.TcCoe Idealize.SL.Sem

/-- The body's pooled places. -/
theorem pay4_apply (x1 : Vec Ideal S1x512x512 .bf16) (x4 : Vec Ideal S4x128x128 .bf16) (x5 : Vec Ideal S1x512 .f32) (r : Fin 512) (g : Fin 4) (e : Fin 128) :
    k0_pay4 (View.ld x1 r0_0) (View.ld x4 r0_1) (View.ld x1 r0_2) (View.ld x4 r0_3) (View.ld x1 r0_4) (View.ld x4 r0_5) (View.ld x1 r0_6) (View.ld x4 r0_7) (View.ld x5 r0_8) (ix2 r (grp g e))
    = pooled (fun j => x1 (ix3 (0 : Fin 1) r j)) (fun g c e => x4 (ix3 g c e)) (fun j => x5 (ix2 (0 : Fin 1) j)) g e := by
  pointwise [k0_pay4]
  unfold pooled
  congr 1
  have h4 : g.val = 0 ∨ g.val = 1 ∨ g.val = 2 ∨ g.val = 3 := by omega
  rcases h4 with h | h | h | h
  · obtain rfl : g = 0 := Fin.ext h
    rw [dif_pos (by show 128 * 0 + e.val < 128; omega)]
    refine Finset.sum_congr rfl fun c _ => congrArg₂ (· * ·) (congrArg x1 ?_) (congrArg x4 ?_)
    · exact congrArg (ix3 (0 : Fin 1) r) (Fin.ext (show c.val = 128 * 0 + c.val by omega))
    · exact congrArg (ix3 (0 : Fin 4) c) (Fin.ext (show 128 * 0 + e.val = e.val by omega))
  · obtain rfl : g = 1 := Fin.ext h
    rw [dif_neg (by show ¬ 128 * 1 + e.val < 128; omega), dif_pos (by show 128 * 1 + e.val - 128 < 128; omega)]
    refine Finset.sum_congr rfl fun c _ => congrArg₂ (· * ·) (congrArg x1 ?_) (congrArg x4 ?_)
    · exact congrArg (ix3 (0 : Fin 1) r) (Fin.ext (show 128 + c.val = 128 * 1 + c.val by omega))
    · exact congrArg (ix3 (1 : Fin 4) c) (Fin.ext (show 128 * 1 + e.val - 128 = e.val by omega))
  · obtain rfl : g = 2 := Fin.ext h
    rw [dif_neg (by show ¬ 128 * 2 + e.val < 128; omega), dif_neg (by show ¬ 128 * 2 + e.val - 128 < 128; omega),
      dif_pos (by show 128 * 2 + e.val - 128 - 128 < 128; omega)]
    refine Finset.sum_congr rfl fun c _ => congrArg₂ (· * ·) (congrArg x1 ?_) (congrArg x4 ?_)
    · exact congrArg (ix3 (0 : Fin 1) r) (Fin.ext (show 256 + c.val = 128 * 2 + c.val by omega))
    · exact congrArg (ix3 (2 : Fin 4) c) (Fin.ext (show 128 * 2 + e.val - 128 - 128 = e.val by omega))
  · obtain rfl : g = 3 := Fin.ext h
    rw [dif_neg (by show ¬ 128 * 3 + e.val < 128; omega), dif_neg (by show ¬ 128 * 3 + e.val - 128 < 128; omega),
      dif_neg (by show ¬ 128 * 3 + e.val - 128 - 128 < 128; omega)]
    refine Finset.sum_congr rfl fun c _ => congrArg₂ (· * ·) (congrArg x1 ?_) (congrArg x4 ?_)
    · exact congrArg (ix3 (0 : Fin 1) r) (Fin.ext (show 384 + c.val = 128 * 3 + c.val by omega))
    · exact congrArg (ix3 (3 : Fin 4) c) (Fin.ext (show 128 * 3 + e.val - 128 - 128 - 128 = e.val by omega))

/-- The body's projection, gate and sum. -/
theorem pay5_apply (v24 : FVec Ideal S512x512 .bf16) (x0 : Vec Ideal S1x512x512 .bf16) (x6 : Vec Ideal S1024x1024 .bf16) (x2 : Vec Ideal S1x512x1024 .f32) (x3 : Vec Ideal S1x6x1024 .f32) (r : Fin 512) (d : Fin 1024) :
    k0_pay5 v24 (View.ld x0 r0_9) (View.ld x6 r0_10) (View.ld x2 r0_11) (View.ld x3 r0_12) (ix2 r d)
    = x2 (ix3 (0 : Fin 1) r d) + x3 (ix3 (0 : Fin 1) (2 : Fin 6) d) * ∑ k : Fin 1024, (if h : k.val < 512 then x0 (ix3 (0 : Fin 1) r ⟨k.val, h⟩) else v24 (ix2 r ⟨k.val - 512, by omega⟩)) * x6 (ix2 k d) := by
  pointwise [k0_pay5]

/-- What the body leaves in the first result's block. -/
theorem out_apply (x0 x1 : Vec Ideal S1x512x512 .bf16) (x2 : Vec Ideal S1x512x1024 .f32) (x3 : Vec Ideal S1x6x1024 .f32) (x4 : Vec Ideal S4x128x128 .bf16) (x5 : Vec Ideal S1x512 .f32) (x6 : Vec Ideal S1024x1024 .bf16) (x7 : Vec Ideal S1x1024 .f32) (x8 x9 : Vec Ideal S40x1024 .bf16) (x10 : Vec Ideal S40x1 .f32) (x11 : Vec Ideal S1024x1024 .bf16) (r : Fin 512) (d : Fin 1024) :
    out0_12 x0 x1 x2 x3 x4 x5 x6 x7 x8 x9 x10 x11 (ix3 (0 : Fin 1) r d)
    = out (fun j => x0 (ix3 (0 : Fin 1) r j)) (fun j => x1 (ix3 (0 : Fin 1) r j)) (fun g c e => x4 (ix3 g c e)) (fun j => x5 (ix2 (0 : Fin 1) j))
        (fun k => x6 (ix2 k d)) (x2 (ix3 (0 : Fin 1) r d)) (x3 (ix3 (0 : Fin 1) (2 : Fin 6) d)) := by
  refine (canon12_eq _ _ _ _ _ _ _ _ _ _ _ _ _ (ix3 (0 : Fin 1) r d)).trans ?_
  have e : ix12_0 (ix3 (0 : Fin 1) r d) = ix2 r d := by
    funext a; match a with | ⟨0, _⟩ => rfl | ⟨1, _⟩ => rfl
  refine (congrArg (k0_pay5 _ _ _ _ _) e).trans ((pay5_apply _ x0 x6 x2 x3 r d).trans ?_)
  unfold out
  refine congrArg (fun s => x2 (ix3 (0 : Fin 1) r d) + x3 (ix3 (0 : Fin 1) (2 : Fin 6) d) * s) (Finset.sum_congr rfl fun k _ => congrArg (· * x6 (ix2 k d)) ?_)
  unfold row
  by_cases h : k.val < 512
  · rw [dif_pos h, dif_pos h]
  · rw [dif_neg h, dif_neg h]
    refine (congrArg (fun j : Fin 512 => k0_pay4 _ _ _ _ _ _ _ _ _ (ix2 r j)) (grp_split ⟨k.val - 512, by omega⟩)).trans ?_
    exact pay4_apply x1 x4 x5 r _ _

variable (m : (ℓ : Loc nD τ sig) → Buf (Elt Ideal) ℓ)

/-- The first result as one function of the argument arrays. -/
def val (a d : Vec Ideal S8x4096x512 .bf16) (x : Vec Ideal S8x4096x1024 .f32) (mod : Vec Ideal S8x6x1024 .f32) (wp : Vec Ideal S4x128x128 .bf16)
    (ps : Vec Ideal S1x512 .f32) (wo : Vec Ideal S1024x1024 .bf16) (b : Fin 8) (s : Fin 4096) (e : Fin 1024) : EReal :=
  out (fun j => a (ix3 b s j)) (fun j => d (ix3 b s j)) (fun g c e => wp (ix3 g c e)) (fun j => ps (ix2 (0 : Fin 1) j))
    (fun k => wo (ix2 k e)) (x (ix3 b s e)) (mod (ix3 b (2 : Fin 6) e))

/-- The same, indexed by the array's index. -/
def arr (a d : Vec Ideal S8x4096x512 .bf16) (x : Vec Ideal S8x4096x1024 .f32) (mod : Vec Ideal S8x6x1024 .f32) (wp : Vec Ideal S4x128x128 .bf16)
    (ps : Vec Ideal S1x512 .f32) (wo : Vec Ideal S1024x1024 .bf16) : Vec Ideal S8x4096x1024 .f32 :=
  fun i => val a d x mod wp ps wo (i 0) (i 1) (i 2)

/-- The batch a point works on, and the tile of 512 rows. -/
abbrev bt (t : Fin cfg0.N) : Fin 8 := ⟨t.val / 8, by have : t.val < 64 := t.isLt; omega⟩
abbrev rowAt (t : Fin cfg0.N) (r : Fin 512) : Fin 4096 := ⟨512 * (t.val % 8) + r.val, by omega⟩

/-- Where each window's block starts, at every point. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx12 : ∀ t : Fin cfg0.N, win0_12.index t (0 : Fin 3) = t.val / 8 ∧ win0_12.index t (1 : Fin 3) = t.val % 8 ∧ win0_12.index t (2 : Fin 3) = 0 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-- So where each block's entry lies in its array. -/
theorem emb0 (t : Fin cfg0.N) (p : Fin 1) (q : Fin 512) (u : Fin 512) : ((cfg0.win 0).blk t).view.emb (ix3 (p : Fin 1) (q : Fin 512) (u : Fin 512)) = ix3 (bt t) (rowAt t q) u := by
  obtain ⟨e0, e1, e2⟩ := idx0 t
  funext a; apply Fin.ext
  match a with
  | ⟨0, _⟩ => show win0_0.index t (0 : Fin 3) * 1 + 1 * p.val = t.val / 8; omega
  | ⟨1, _⟩ => show win0_0.index t (1 : Fin 3) * 512 + 1 * q.val = 512 * (t.val % 8) + q.val; omega
  | ⟨2, _⟩ => show win0_0.index t (2 : Fin 3) * 512 + 1 * u.val = u.val; omega
theorem emb1 (t : Fin cfg0.N) (p : Fin 1) (q : Fin 512) (u : Fin 512) : ((cfg0.win 1).blk t).view.emb (ix3 (p : Fin 1) (q : Fin 512) (u : Fin 512)) = ix3 (bt t) (rowAt t q) u := by
  obtain ⟨e0, e1, e2⟩ := idx1 t
  funext a; apply Fin.ext
  match a with
  | ⟨0, _⟩ => show win0_1.index t (0 : Fin 3) * 1 + 1 * p.val = t.val / 8; omega
  | ⟨1, _⟩ => show win0_1.index t (1 : Fin 3) * 512 + 1 * q.val = 512 * (t.val % 8) + q.val; omega
  | ⟨2, _⟩ => show win0_1.index t (2 : Fin 3) * 512 + 1 * u.val = u.val; omega
theorem emb2 (t : Fin cfg0.N) (p : Fin 1) (q : Fin 512) (u : Fin 1024) : ((cfg0.win 2).blk t).view.emb (ix3 (p : Fin 1) (q : Fin 512) (u : Fin 1024)) = ix3 (bt t) (rowAt t q) u := by
  obtain ⟨e0, e1, e2⟩ := idx2 t
  funext a; apply Fin.ext
  match a with
  | ⟨0, _⟩ => show win0_2.index t (0 : Fin 3) * 1 + 1 * p.val = t.val / 8; omega
  | ⟨1, _⟩ => show win0_2.index t (1 : Fin 3) * 512 + 1 * q.val = 512 * (t.val % 8) + q.val; omega
  | ⟨2, _⟩ => show win0_2.index t (2 : Fin 3) * 1024 + 1 * u.val = u.val; omega
theorem emb12 (t : Fin cfg0.N) (p : Fin 1) (q : Fin 512) (u : Fin 1024) : ((cfg0.win 12).blk t).view.emb (ix3 (p : Fin 1) (q : Fin 512) (u : Fin 1024)) = ix3 (bt t) (rowAt t q) u := by
  obtain ⟨e0, e1, e2⟩ := idx12 t
  funext a; apply Fin.ext
  match a with
  | ⟨0, _⟩ => show win0_12.index t (0 : Fin 3) * 1 + 1 * p.val = t.val / 8; omega
  | ⟨1, _⟩ => show win0_12.index t (1 : Fin 3) * 512 + 1 * q.val = 512 * (t.val % 8) + q.val; omega
  | ⟨2, _⟩ => show win0_12.index t (2 : Fin 3) * 1024 + 1 * u.val = u.val; omega
theorem emb3 (t : Fin cfg0.N) (p : Fin 1) (q : Fin 6) (u : Fin 1024) : ((cfg0.win 3).blk t).view.emb (ix3 (p : Fin 1) (q : Fin 6) (u : Fin 1024)) = ix3 (bt t) q u := by
  obtain ⟨e0, e1, e2⟩ := idx3 t
  funext a; apply Fin.ext
  match a with
  | ⟨0, _⟩ => show win0_3.index t (0 : Fin 3) * 1 + 1 * p.val = t.val / 8; omega
  | ⟨1, _⟩ => show win0_3.index t (1 : Fin 3) * 6 + 1 * q.val = q.val; omega
  | ⟨2, _⟩ => show win0_3.index t (2 : Fin 3) * 1024 + 1 * u.val = u.val; omega
theorem emb4 (t : Fin cfg0.N) (p : Fin 4) (q : Fin 128) (u : Fin 128) : ((cfg0.win 4).blk t).view.emb (ix3 (p : Fin 4) (q : Fin 128) (u : Fin 128)) = ix3 p q u := by
  obtain ⟨e0, e1, e2⟩ := idx4 t
  funext a; apply Fin.ext
  match a with
  | ⟨0, _⟩ => show win0_4.index t (0 : Fin 3) * 4 + 1 * p.val = p.val; omega
  | ⟨1, _⟩ => show win0_4.index t (1 : Fin 3) * 128 + 1 * q.val = q.val; omega
  | ⟨2, _⟩ => show win0_4.index t (2 : Fin 3) * 128 + 1 * u.val = u.val; omega
theorem emb5 (t : Fin cfg0.N) (p : Fin 1) (q : Fin 512) : ((cfg0.win 5).blk t).view.emb (ix2 (p : Fin 1) (q : Fin 512)) = ix2 p q := by
  obtain ⟨e0, e1⟩ := idx5 t
  funext a; apply Fin.ext
  match a with
  | ⟨0, _⟩ => show win0_5.index t (0 : Fin 2) * 1 + 1 * p.val = p.val; omega
  | ⟨1, _⟩ => show win0_5.index t (1 : Fin 2) * 512 + 1 * q.val = q.val; omega
theorem emb6 (t : Fin cfg0.N) (p : Fin 1024) (q : Fin 1024) : ((cfg0.win 6).blk t).view.emb (ix2 (p : Fin 1024) (q : Fin 1024)) = ix2 p q := by
  obtain ⟨e0, e1⟩ := idx6 t
  funext a; apply Fin.ext
  match a with
  | ⟨0, _⟩ => show win0_6.index t (0 : Fin 2) * 1024 + 1 * p.val = p.val; omega
  | ⟨1, _⟩ => show win0_6.index t (1 : Fin 2) * 1024 + 1 * q.val = q.val; omega

/-- So an input block's entry is its array's. -/
theorem iblk0 (c : Dev nD) (t : Fin cfg0.N) (p : Fin 1) (q : Fin 512) (u : Fin 512) :
    iblk m c 0 t (ix3 p q u) = m ((c : Thread nD τ).loc main_arg0) (ix3 (bt t) (rowAt t q) u) := by
  show V m c main_arg0 (((cfg0.win 0).blk t).view.emb (ix3 p q u)) = _
  rw [emb0, V_main_arg0]
theorem iblk1 (c : Dev nD) (t : Fin cfg0.N) (p : Fin 1) (q : Fin 512) (u : Fin 512) :
    iblk m c 1 t (ix3 p q u) = m ((c : Thread nD τ).loc main_arg1) (ix3 (bt t) (rowAt t q) u) := by
  show V m c main_arg1 (((cfg0.win 1).blk t).view.emb (ix3 p q u)) = _
  rw [emb1, V_main_arg1]
theorem iblk2 (c : Dev nD) (t : Fin cfg0.N) (p : Fin 1) (q : Fin 512) (u : Fin 1024) :
    iblk m c 2 t (ix3 p q u) = m ((c : Thread nD τ).loc main_arg2) (ix3 (bt t) (rowAt t q) u) := by
  show V m c main_arg2 (((cfg0.win 2).blk t).view.emb (ix3 p q u)) = _
  rw [emb2, V_main_arg2]
theorem iblk3 (c : Dev nD) (t : Fin cfg0.N) (p : Fin 1) (q : Fin 6) (u : Fin 1024) :
    iblk m c 3 t (ix3 p q u) = m ((c : Thread nD τ).loc main_arg3) (ix3 (bt t) q u) := by
  show V m c main_arg3 (((cfg0.win 3).blk t).view.emb (ix3 p q u)) = _
  rw [emb3, V_main_arg3]
theorem iblk4 (c : Dev nD) (t : Fin cfg0.N) (p : Fin 4) (q : Fin 128) (u : Fin 128) :
    iblk m c 4 t (ix3 p q u) = m ((c : Thread nD τ).loc main_arg4) (ix3 p q u) := by
  show V m c main_arg4 (((cfg0.win 4).blk t).view.emb (ix3 p q u)) = _
  rw [emb4, V_main_arg4]
theorem iblk5 (c : Dev nD) (t : Fin cfg0.N) (p : Fin 1) (q : Fin 512) :
    iblk m c 5 t (ix2 p q) = m ((c : Thread nD τ).loc main_arg5) (ix2 p q) := by
  show V m c main_arg5 (((cfg0.win 5).blk t).view.emb (ix2 p q)) = _
  rw [emb5, V_main_arg5]
theorem iblk6 (c : Dev nD) (t : Fin cfg0.N) (p : Fin 1024) (q : Fin 1024) :
    iblk m c 6 t (ix2 p q) = m ((c : Thread nD τ).loc main_arg6) (ix2 p q) := by
  show V m c main_arg6 (((cfg0.win 6).blk t).view.emb (ix2 p q)) = _
  rw [emb6, V_main_arg6]

/-- The first result of the launch's arguments. -/
abbrev res (c : Dev nD) : Vec Ideal S8x4096x1024 .f32 :=
  arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What a point writes back is its block of the first result. -/
theorem flushed_eq (c : Dev nD) (t : Fin cfg0.N) :
    (dats m 0 c).flushed 12 t = ((cfg0.win 12).blk t).view.read (Elt Ideal) (res m c) := by
  rw [flushed12]
  funext j
  obtain ⟨p, q, u, rfl⟩ : ∃ (p : Fin 1) (q : Fin 512) (u : Fin 1024), j = ix3 p q u := ⟨j 0, j 1, j 2, eq_ix3 j⟩
  obtain rfl : p = 0 := Subsingleton.elim _ _
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) q u)
    = res m c (((cfg0.win 12).blk t).view.emb (ix3 (0 : Fin 1) q u))
  rw [emb12]
  refine (out_apply _ _ _ _ _ _ _ _ _ _ _ _ q u).trans ?_
  simp only [iblk0, iblk1, iblk2, iblk3, iblk4, iblk5, iblk6]
  rfl

/-- Every index of the first result is in some point's block. -/
theorem cover (i : S8x4096x1024.Idx) : ∃ t : Fin cfg0.N, (cfg0.win 12).flush t = true ∧ i ∈ ((cfg0.win 12).blk t).view.set := by
  obtain ⟨b, s, d, rfl⟩ : ∃ (b : Fin 8) (s : Fin 4096) (d : Fin 1024), i = ix3 b s d := ⟨i 0, i 1, i 2, eq_ix3 i⟩
  let t : Fin cfg0.N := ⟨8 * b.val + s.val / 512, show 8 * b.val + s.val / 512 < 64 by omega⟩
  refine ⟨t, flush0_12 _, ?_⟩
  have h := ((cfg0.win 12).blk t).view.emb_mem_set (ix3 (0 : Fin 1) (⟨s.val % 512, by omega⟩ : Fin 512) d)
  rw [emb12] at h
  have eb : bt t = b := Fin.ext (show (8 * b.val + s.val / 512) / 8 = b.val by omega)
  have es : rowAt t ⟨s.val % 512, by omega⟩ = s := Fin.ext (show 512 * ((8 * b.val + s.val / 512) % 8) + s.val % 512 = s.val by omega)
  rwa [eb, es] at h

/-- The first result after the run. -/
theorem final (c : Dev nD) : (dats m 0 c).arrAt 12 cfg0.N = res m c :=
  (dats m 0 c).arrAt_eq_of_cover 12 (res m c) (fun t _ => flushed_eq m c t) cover

end Cert.Kernel2Ideal.Post

namespace Cert.Reference2Ideal.Post

open Cert.Reference2Ideal Cert.Reference2Ideal.Gen Cert.PostSpec Idealize.ShloMosaic Idealize.ShloMosaic.TcCoe Idealize.SL.Sem

/-- The groups' products, laid out as rows. -/
def mixed (d : FVec Ideal S8x4096x512 .bf16) (wp : FVec Ideal S4x128x128 .bf16) : FVec Ideal S8x4096x512 .f32 :=
  shapeCast S8x4096x512 (transpose S8x4096x4x128 [2, 3, 0, 1] (Host.dotGeneral dot_S4x128x128_S8x4096x4x128_S4x128x8x4096_1_3_2_01_0_2 none (extf .f32 wp bitsLt_bf16_f32) (shapeCast S8x4096x4x128 (extf .f32 d bitsLt_bf16_f32) shapeCasts_S8x4096x512_S8x4096x4x128)) transposes_S4x128x8x4096_S8x4096x4x128_2_3_0_1) shapeCasts_S8x4096x4x128_S8x4096x512

/-- The scale, over every row. -/
def scale (ps : FVec Ideal S1x512 .f32) : FVec Ideal S8x4096x512 .f32 :=
  broadcastInDim S8x4096x512 ![0, 1, 2] bcast_S1x1x512_S8x4096x512_0_1_2 (broadcastInDim S1x1x512 ![2] bcast_S512_S1x1x512_2 (shapeCast S512 ps shapeCasts_S1x512_S512))

/-- The gate, over every row of its batch. -/
def gate (mod : FVec Ideal S8x6x1024 .f32) : FVec Ideal S8x4096x1024 .f32 :=
  broadcastInDim S8x4096x1024 ![0, 1, 2] bcast_S8x1x1024_S8x4096x1024_0_1_2 (broadcastInDim S8x1x1024 ![0, 2] bcast_S8x1024_S8x1x1024_0_2 (shapeCast S8x1024 (extractStridedSlice S8x1x1024 ![0, 2, 0] mod slices_S8x6x1024_S8x1x1024_0_2_0) shapeCasts_S8x1x1024_S8x1024))

/-- The two halves of a row, side by side, times the output weights. -/
def proj (a b : FVec Ideal S8x4096x512 .f32) (wo : FVec Ideal S1024x1024 .f32) : FVec Ideal S8x4096x1024 .f32 :=
  Host.dotGeneral dot_S8x4096x1024_S1024x1024_S8x4096x1024_2_0_01_1_n_n none (concatenate S8x4096x1024 2 [⟨S8x4096x512, a⟩, ⟨S8x4096x512, b⟩] concatenates_S8x4096x512_S8x4096x512_S8x4096x1024_d2) wo

/-- The reference's result. -/
def result (a d : FVec Ideal S8x4096x512 .bf16) (x : FVec Ideal S8x4096x1024 .f32) (mod : FVec Ideal S8x6x1024 .f32)
    (wp : FVec Ideal S4x128x128 .bf16) (ps : FVec Ideal S1x512 .f32) (wo : FVec Ideal S1024x1024 .bf16) : FVec Ideal S8x4096x1024 .f32 :=
  addf x (mulf (gate mod) (proj (extf .f32 a bitsLt_bf16_f32) (mulf (mixed d wp) (scale ps)) (extf .f32 wo bitsLt_bf16_f32)))

theorem mixed_apply (d : FVec Ideal S8x4096x512 .bf16) (wp : FVec Ideal S4x128x128 .bf16) (b : Fin 8) (s : Fin 4096) (g : Fin 4) (e : Fin 128) :
    mixed d wp (ix3 b s (grp g e)) = ∑ c : Fin 128, d (ix3 b s (grp g c)) * wp (ix3 g c e) := by
  pointwise [mixed]
  refine Finset.sum_congr rfl fun c _ => (mul_comm _ _).trans (congrArg₂ (· * ·) (congrArg d ?_) (congrArg wp ?_))
  · exact congrArg (ix3 b s) (Fin.ext (show (128 * g.val + e.val) / 128 * 128 + c.val = 128 * g.val + c.val by omega))
  · exact (congrArg (fun q : Fin 4 => ix3 q c _) (Fin.ext (show (128 * g.val + e.val) / 128 = g.val by omega))).trans
      (congrArg (ix3 g c) (Fin.ext (show (128 * g.val + e.val) % 128 = e.val by omega)))

theorem scale_apply (ps : FVec Ideal S1x512 .f32) (b : Fin 8) (s : Fin 4096) (j : Fin 512) : scale ps (ix3 b s j) = ps (ix2 (0 : Fin 1) j) := by
  pointwise [scale]

theorem gate_apply (mod : FVec Ideal S8x6x1024 .f32) (b : Fin 8) (s : Fin 4096) (j : Fin 1024) : gate mod (ix3 b s j) = mod (ix3 b (2 : Fin 6) j) := by
  pointwise [gate]

theorem proj_apply (a b : FVec Ideal S8x4096x512 .f32) (wo : FVec Ideal S1024x1024 .f32) (n : Fin 8) (s : Fin 4096) (e : Fin 1024) :
    proj a b wo (ix3 n s e) = ∑ k : Fin 1024, (if h : k.val < 512 then a (ix3 n s ⟨k.val, h⟩) else b (ix3 n s ⟨k.val - 512, by omega⟩)) * wo (ix2 k e) := by
  pointwise [proj]

theorem result_apply (a d : FVec Ideal S8x4096x512 .bf16) (x : FVec Ideal S8x4096x1024 .f32) (mod : FVec Ideal S8x6x1024 .f32)
    (wp : FVec Ideal S4x128x128 .bf16) (ps : FVec Ideal S1x512 .f32) (wo : FVec Ideal S1024x1024 .bf16) (b : Fin 8) (s : Fin 4096) (e : Fin 1024) :
    result a d x mod wp ps wo (ix3 b s e)
    = out (fun j => a (ix3 b s j)) (fun j => d (ix3 b s j)) (fun g c e => wp (ix3 g c e)) (fun j => ps (ix2 (0 : Fin 1) j))
        (fun k => wo (ix2 k e)) (x (ix3 b s e)) (mod (ix3 b (2 : Fin 6) e)) := by
  show x (ix3 b s e) + gate mod (ix3 b s e) * proj (extf .f32 a bitsLt_bf16_f32) (mulf (mixed d wp) (scale ps)) (extf .f32 wo bitsLt_bf16_f32) (ix3 b s e) = _
  rw [gate_apply, proj_apply]
  unfold out
  refine congrArg (fun q => x (ix3 b s e) + mod (ix3 b (2 : Fin 6) e) * q) (Finset.sum_congr rfl fun k _ => congrArg (· * (wo (ix2 k e) : EReal)) ?_)
  unfold row
  by_cases h : k.val < 512
  · rw [dif_pos h, dif_pos h]; rfl
  · rw [dif_neg h, dif_neg h]
    refine (congrArg (fun j : Fin 512 => mulf (mixed d wp) (scale ps) (ix3 b s j)) (grp_split ⟨k.val - 512, by omega⟩)).trans ?_
    show mixed d wp (ix3 b s (grp _ _)) * scale ps (ix3 b s (grp _ _)) = _
    rw [mixed_apply, scale_apply]
    rfl

end Cert.Reference2Ideal.Post

end
-- ==== Proof.PremixV.lean ====
/-
  Two results of the first projection's call at exact arithmetic, for the kernel and for the reference, read at an entry:
  a row is normalised by its mean square and modulated by its batch's scale and shift, then multiplied by a column of the
  queries' weights (and scaled by a constant), or of the values' weights.
-/
module

public import proofs.«01_k».proof.Proof.Gen.Kernel3Ideal.Value
public import proofs.«01_k».proof.Proof.Gen.Reference3Ideal.Run
public import Idealize.ShloMosaic.Lib.Pointwise

@[expose] public section

noncomputable section

namespace Cert.PreSpec

open Idealize.ShloMosaic

/-- A row of 1024 places divided by the root of its mean square, scaled place by place, and modulated. -/
def row (x g sc sh : Fin 1024 → EReal) (d : Fin 1024) : EReal :=
  x d * Ideal.rsqrt (Ideal.div (∑ k : Fin 1024, x k * x k) (Ideal.ofBits FTy.f32 0x44800000#32) + Ideal.ofBits FTy.f32 0x358637BD#32)
    * g d * (1 + sc d) + sh d

/-- The row times a column. -/
def proj (x g sc sh w : Fin 1024 → EReal) : EReal := ∑ d : Fin 1024, row x g sc sh d * w d

/-- Column `c` of the queries' weights and of the values', among the 1536 columns of the three together. -/
abbrev qcol (c : Fin 512) : Fin 1536 := ⟨c.val, by omega⟩
abbrev vcol (c : Fin 512) : Fin 1536 := ⟨1024 + c.val, by omega⟩

end Cert.PreSpec

namespace Cert.Kernel3Ideal.Pre

open Cert.Kernel3Ideal Cert.Kernel3Ideal.Gen Cert.Kernel3Ideal.Value Cert.PreSpec Idealize.ShloMosaic Idealize.ShloMosaic.TcCoe Idealize.SL.Sem

theorem hz : (![0, 0, 0] : Fin 3 → Nat) = fun _ => 0 := funext fun a => by fin_cases a <;> rfl

/-- The body's product with the three weights together, from the input blocks. -/
abbrev prod (x0 : Vec Ideal S1x512x1024 .f32) (x1 : Vec Ideal S1x6x1024 .f32) (x2 : Vec Ideal S1x1024 .f32) (x3 : Vec Ideal S1024x1536 .bf16) : FVec Ideal S512x1536 .f32 :=
  k0_pay10 (k0_pay6 (View.ld x0 (Rect.unit ![0, 0, 0] ![1, 512, 1024] inb_S1x512x1024_S1x512x1024_0_0_0))
    (View.ld x2 (Rect.unit ![0, 0] ![1, 1024] inb_S1x1024_S1x1024_0_0))
    (View.ld x1 (Rect.unit ![0, 0, 0] ![1, 1, 1024] inb_S1x6x1024_S1x1x1024_0_0_0))
    (View.ld x1 (Rect.unit ![0, 1, 0] ![1, 1, 1024] inb_S1x6x1024_S1x1x1024_0_1_0)))
    (View.ld x3 (Rect.unit ![0, 0] ![1024, 1536] inb_S1024x1536_S1024x1536_0_0))

/-! What the body leaves in the two results' blocks, at a batch's first tile and at the others. -/

theorem outA8 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S3x128x128 .bf16) (harg9 : arg9.IsWhole) (arg10 : Memref sig .tc .vmem S1x512x512 .bf16) (harg10 : arg10.IsWhole) (arg11 : Memref sig .tc .vmem S1x512x640 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x128 .f32) (harg14 : arg14.IsWhole) (arg15 : Memref sig .tc .vmem S528x512 .f32) (harg15 : arg15.IsWhole) (hc0 : cond0_0 i)
    (x0 : Vec Ideal S1x512x1024 .f32) (x1 : Vec Ideal S1x6x1024 .f32) (x2 : Vec Ideal S1x1024 .f32) (x3 : Vec Ideal S1024x1536 .bf16) (x4 : Vec Ideal S1024x128 .bf16) (x5 : Vec Ideal S1x128 .f32) (x6 : Vec Ideal S1024x512 .bf16) (x7 : Vec Ideal S3x128x128 .bf16) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay2 (prod x0 x1 x2 x3) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread]

theorem outA10 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S3x128x128 .bf16) (harg9 : arg9.IsWhole) (arg10 : Memref sig .tc .vmem S1x512x512 .bf16) (harg10 : arg10.IsWhole) (arg11 : Memref sig .tc .vmem S1x512x640 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x128 .f32) (harg14 : arg14.IsWhole) (arg15 : Memref sig .tc .vmem S528x512 .f32) (harg15 : arg15.IsWhole) (hc0 : cond0_0 i)
    (x0 : Vec Ideal S1x512x1024 .f32) (x1 : Vec Ideal S1x6x1024 .f32) (x2 : Vec Ideal S1x1024 .f32) (x3 : Vec Ideal S1024x1536 .bf16) (x4 : Vec Ideal S1024x128 .bf16) (x5 : Vec Ideal S1x128 .f32) (x6 : Vec Ideal S1024x512 .bf16) (x7 : Vec Ideal S3x128x128 .bf16) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay3 (prod x0 x1 x2 x3) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread]

theorem outB8 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S3x128x128 .bf16) (harg9 : arg9.IsWhole) (arg10 : Memref sig .tc .vmem S1x512x512 .bf16) (harg10 : arg10.IsWhole) (arg11 : Memref sig .tc .vmem S1x512x640 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x128 .f32) (harg14 : arg14.IsWhole) (arg15 : Memref sig .tc .vmem S528x512 .f32) (harg15 : arg15.IsWhole) (hc0 : ¬cond0_0 i)
    (x0 : Vec Ideal S1x512x1024 .f32) (x1 : Vec Ideal S1x6x1024 .f32) (x2 : Vec Ideal S1x1024 .f32) (x3 : Vec Ideal S1024x1536 .bf16) (x4 : Vec Ideal S1024x128 .bf16) (x5 : Vec Ideal S1x128 .f32) (x6 : Vec Ideal S1024x512 .bf16) (x7 : Vec Ideal S3x128x128 .bf16) (xs0 : Vec Ideal S1x128 .f32) (xs1 : Vec Ideal S528x512 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 = k0_pay2 (prod x0 x1 x2 x3) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread]

theorem outB10 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S3x128x128 .bf16) (harg9 : arg9.IsWhole) (arg10 : Memref sig .tc .vmem S1x512x512 .bf16) (harg10 : arg10.IsWhole) (arg11 : Memref sig .tc .vmem S1x512x640 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x128 .f32) (harg14 : arg14.IsWhole) (arg15 : Memref sig .tc .vmem S528x512 .f32) (harg15 : arg15.IsWhole) (hc0 : ¬cond0_0 i)
    (x0 : Vec Ideal S1x512x1024 .f32) (x1 : Vec Ideal S1x6x1024 .f32) (x2 : Vec Ideal S1x1024 .f32) (x3 : Vec Ideal S1024x1536 .bf16) (x4 : Vec Ideal S1024x128 .bf16) (x5 : Vec Ideal S1x128 .f32) (x6 : Vec Ideal S1024x512 .bf16) (x7 : Vec Ideal S3x128x128 .bf16) (xs0 : Vec Ideal S1x128 .f32) (xs1 : Vec Ideal S528x512 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 = k0_pay3 (prod x0 x1 x2 x3) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread]

theorem pay6_apply (x : Vec Ideal S1x512x1024 .f32) (g : Vec Ideal S1x1024 .f32) (a b : Vec Ideal S1x1x1024 .f32) (r : Fin 512) (d : Fin 1024) :
    k0_pay6 x g a b (ix2 r d) = row (fun k => x (ix3 (0 : Fin 1) r k)) (fun k => g (ix2 (0 : Fin 1) k)) (fun k => b (ix3 (0 : Fin 1) (0 : Fin 1) k)) (fun k => a (ix3 (0 : Fin 1) (0 : Fin 1) k)) d := by
  unfold row
  pointwise [k0_pay6]

theorem pay10_apply (h : FVec Ideal S512x1024 .bf16) (w : Vec Ideal S1024x1536 .bf16) (r : Fin 512) (d : Fin 1536) :
    k0_pay10 h w (ix2 r d) = ∑ k : Fin 1024, h (ix2 r k) * w (ix2 k d) := by
  pointwise [k0_pay10]

theorem pay2_apply (h : FVec Ideal S512x1536 .f32) (c : Fin 512) (r : Fin 512) :
    k0_pay2 h (ix3 (0 : Fin 1) c r) = h (ix2 r (qcol c)) * Ideal.ofBits FTy.f32 0x3E38AA3B#32 := by
  pointwise [k0_pay2]

theorem pay3_apply (h : FVec Ideal S512x1536 .f32) (c : Fin 512) (r : Fin 512) :
    k0_pay3 h (ix3 (0 : Fin 1) c r) = h (ix2 r (vcol c)) := by
  pointwise [k0_pay3]

/-- The product at an entry. -/
theorem prod_apply (x0 : Vec Ideal S1x512x1024 .f32) (x1 : Vec Ideal S1x6x1024 .f32) (x2 : Vec Ideal S1x1024 .f32) (x3 : Vec Ideal S1024x1536 .bf16) (r : Fin 512) (j : Fin 1536) :
    prod x0 x1 x2 x3 (ix2 r j)
    = proj (fun k => x0 (ix3 (0 : Fin 1) r k)) (fun k => x2 (ix2 (0 : Fin 1) k)) (fun k => x1 (ix3 (0 : Fin 1) (1 : Fin 6) k)) (fun k => x1 (ix3 (0 : Fin 1) (0 : Fin 6) k)) (fun k => x3 (ix2 k j)) := by
  refine (pay10_apply _ _ r j).trans (Finset.sum_congr rfl fun k _ => ?_)
  refine congrArg₂ (· * ·) ((pay6_apply _ _ _ _ r k).trans ?_) ?_
  · unfold row
    pointwise []
  · pointwise []

variable (m : (ℓ : Loc nD τ sig) → Buf (Elt Ideal) ℓ)

/-- The product as one function of the argument arrays. -/
def val (x : Vec Ideal S8x4096x1024 .f32) (mod : Vec Ideal S8x6x1024 .f32) (g : Vec Ideal S1x1024 .f32) (w : Vec Ideal S1024x1536 .bf16) (b : Fin 8) (s : Fin 4096) (j : Fin 1536) : EReal :=
  proj (fun k => x (ix3 b s k)) (fun k => g (ix2 (0 : Fin 1) k)) (fun k => mod (ix3 b (1 : Fin 6) k)) (fun k => mod (ix3 b (0 : Fin 6) k)) (fun k => w (ix2 k j))

/-- The queries, and the values. -/
def qarr (x : Vec Ideal S8x4096x1024 .f32) (mod : Vec Ideal S8x6x1024 .f32) (g : Vec Ideal S1x1024 .f32) (w : Vec Ideal S1024x1536 .bf16) : Vec Ideal S8x512x4096 .bf16 :=
  fun i => val x mod g w (i 0) (i 2) (qcol (i 1)) * Ideal.ofBits FTy.f32 0x3E38AA3B#32
def varr (x : Vec Ideal S8x4096x1024 .f32) (mod : Vec Ideal S8x6x1024 .f32) (g : Vec Ideal S1x1024 .f32) (w : Vec Ideal S1024x1536 .bf16) : Vec Ideal S8x512x4096 .bf16 :=
  fun i => val x mod g w (i 0) (i 2) (vcol (i 1))

/-- The batch a point works on, and the tile of 512 rows. -/
abbrev bt (t : Fin cfg0.N) : Fin 8 := ⟨t.val / 8, by have : t.val < 64 := t.isLt; omega⟩
abbrev rowAt (t : Fin cfg0.N) (r : Fin 512) : Fin 4096 := ⟨512 * (t.val % 8) + r.val, by omega⟩

/-- Where each window's block starts, at every point. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx8 : ∀ t : Fin cfg0.N, win0_8.index t (0 : Fin 3) = t.val / 8 ∧ win0_8.index t (1 : Fin 3) = 0 ∧ win0_8.index t (2 : Fin 3) = t.val % 8 :=
  (by decide +kernel : ∀ t : Fin grid0.N, _)
theorem idx10 : ∀ t : Fin cfg0.N, win0_10.index t (0 : Fin 3) = t.val / 8 ∧ win0_10.index t (1 : Fin 3) = 0 ∧ win0_10.index t (2 : Fin 3) = t.val % 8 :=
  (by decide +kernel : ∀ t : Fin grid0.N, _)

/-- So where each block's entry lies in its array. -/
theorem emb0 (t : Fin cfg0.N) (p : Fin 1) (q : Fin 512) (u : Fin 1024) : ((cfg0.win 0).blk t).view.emb (ix3 (p : Fin 1) (q : Fin 512) (u : Fin 1024)) = ix3 (bt t) (rowAt t q) u := by
  obtain ⟨e0, e1, e2⟩ := idx0 t
  funext a; apply Fin.ext
  match a with
  | ⟨0, _⟩ => show win0_0.index t (0 : Fin 3) * 1 + 1 * p.val = t.val / 8; omega
  | ⟨1, _⟩ => show win0_0.index t (1 : Fin 3) * 512 + 1 * q.val = 512 * (t.val % 8) + q.val; omega
  | ⟨2, _⟩ => show win0_0.index t (2 : Fin 3) * 1024 + 1 * u.val = u.val; omega
theorem emb1 (t : Fin cfg0.N) (p : Fin 1) (q : Fin 6) (u : Fin 1024) : ((cfg0.win 1).blk t).view.emb (ix3 (p : Fin 1) (q : Fin 6) (u : Fin 1024)) = ix3 (bt t) q u := by
  obtain ⟨e0, e1, e2⟩ := idx1 t
  funext a; apply Fin.ext
  match a with
  | ⟨0, _⟩ => show win0_1.index t (0 : Fin 3) * 1 + 1 * p.val = t.val / 8; omega
  | ⟨1, _⟩ => show win0_1.index t (1 : Fin 3) * 6 + 1 * q.val = q.val; omega
  | ⟨2, _⟩ => show win0_1.index t (2 : Fin 3) * 1024 + 1 * u.val = u.val; omega
theorem emb2 (t : Fin cfg0.N) (p : Fin 1) (q : Fin 1024) : ((cfg0.win 2).blk t).view.emb (ix2 (p : Fin 1) (q : Fin 1024)) = ix2 p q := by
  obtain ⟨e0, e1⟩ := idx2 t
  funext a; apply Fin.ext
  match a with
  | ⟨0, _⟩ => show win0_2.index t (0 : Fin 2) * 1 + 1 * p.val = p.val; omega
  | ⟨1, _⟩ => show win0_2.index t (1 : Fin 2) * 1024 + 1 * q.val = q.val; omega
theorem emb3 (t : Fin cfg0.N) (p : Fin 1024) (q : Fin 1536) : ((cfg0.win 3).blk t).view.emb (ix2 (p : Fin 1024) (q : Fin 1536)) = ix2 p q := by
  obtain ⟨e0, e1⟩ := idx3 t
  funext a; apply Fin.ext
  match a with
  | ⟨0, _⟩ => show win0_3.index t (0 : Fin 2) * 1024 + 1 * p.val = p.val; omega
  | ⟨1, _⟩ => show win0_3.index t (1 : Fin 2) * 1536 + 1 * q.val = q.val; omega
theorem emb8 (t : Fin cfg0.N) (p : Fin 1) (q : Fin 512) (u : Fin 512) : ((cfg0.win 8).blk t).view.emb (ix3 (p : Fin 1) (q : Fin 512) (u : Fin 512)) = ix3 (bt t) q (rowAt t u) := by
  obtain ⟨e0, e1, e2⟩ := idx8 t
  funext a; apply Fin.ext
  match a with
  | ⟨0, _⟩ => show win0_8.index t (0 : Fin 3) * 1 + 1 * p.val = t.val / 8; omega
  | ⟨1, _⟩ => show win0_8.index t (1 : Fin 3) * 512 + 1 * q.val = q.val; omega
  | ⟨2, _⟩ => show win0_8.index t (2 : Fin 3) * 512 + 1 * u.val = 512 * (t.val % 8) + u.val; omega
theorem emb10 (t : Fin cfg0.N) (p : Fin 1) (q : Fin 512) (u : Fin 512) : ((cfg0.win 10).blk t).view.emb (ix3 (p : Fin 1) (q : Fin 512) (u : Fin 512)) = ix3 (bt t) q (rowAt t u) := by
  obtain ⟨e0, e1, e2⟩ := idx10 t
  funext a; apply Fin.ext
  match a with
  | ⟨0, _⟩ => show win0_10.index t (0 : Fin 3) * 1 + 1 * p.val = t.val / 8; omega
  | ⟨1, _⟩ => show win0_10.index t (1 : Fin 3) * 512 + 1 * q.val = q.val; omega
  | ⟨2, _⟩ => show win0_10.index t (2 : Fin 3) * 512 + 1 * u.val = 512 * (t.val % 8) + u.val; omega

/-- So an input block's entry is its array's. -/
theorem iblk0 (c : Dev nD) (t : Fin cfg0.N) (p : Fin 1) (q : Fin 512) (u : Fin 1024) :
    iblk m c 0 t (ix3 p q u) = m ((c : Thread nD τ).loc main_arg0) (ix3 (bt t) (rowAt t q) u) := by
  show V m c main_arg0 (((cfg0.win 0).blk t).view.emb (ix3 p q u)) = _
  rw [emb0, V_main_arg0]
theorem iblk1 (c : Dev nD) (t : Fin cfg0.N) (p : Fin 1) (q : Fin 6) (u : Fin 1024) :
    iblk m c 1 t (ix3 p q u) = m ((c : Thread nD τ).loc main_arg1) (ix3 (bt t) q u) := by
  show V m c main_arg1 (((cfg0.win 1).blk t).view.emb (ix3 p q u)) = _
  rw [emb1, V_main_arg1]
theorem iblk2 (c : Dev nD) (t : Fin cfg0.N) (p : Fin 1) (q : Fin 1024) :
    iblk m c 2 t (ix2 p q) = m ((c : Thread nD τ).loc main_arg2) (ix2 p q) := by
  show V m c main_arg2 (((cfg0.win 2).blk t).view.emb (ix2 p q)) = _
  rw [emb2, V_main_arg2]
theorem iblk3 (c : Dev nD) (t : Fin cfg0.N) (p : Fin 1024) (q : Fin 1536) :
    iblk m c 3 t (ix2 p q) = m ((c : Thread nD τ).loc main_arg3) (ix2 p q) := by
  show V m c main_arg3 (((cfg0.win 3).blk t).view.emb (ix2 p q)) = _
  rw [emb3, V_main_arg3]

/-- The queries of the launch's arguments. -/
abbrev qres (c : Dev nD) : Vec Ideal S8x512x4096 .bf16 :=
  qarr (m ((c : Thread nD τ).loc main_arg0)) (m ((c : Thread nD τ).loc main_arg1)) (m ((c : Thread nD τ).loc main_arg2)) (m ((c : Thread nD τ).loc main_arg3))

/-- What a point leaves in the queries' block. -/
theorem qout (c : Dev nD) (t : Fin cfg0.N) :
    (dats m 0 c).flushed 8 t = (cfg0.win 8).cut (grid0.coords t) (k0_pay2 (prod (iblk m c 0 t) (iblk m c 1 t) (iblk m c 2 t) (iblk m c 3 t))) := by
  by_cases h : t.val % 8 = 0
  · rw [flushed8_A m c t h, outA8]
  · rw [flushed8_B m c t h, outB8]

/-- So what it writes back is its block of the queries. -/
theorem qflushed_eq (c : Dev nD) (t : Fin cfg0.N) :
    (dats m 0 c).flushed 8 t = ((cfg0.win 8).blk t).view.read (Elt Ideal) (qres m c) := by
  rw [qout]
  funext j
  obtain ⟨p, q, u, rfl⟩ : ∃ (p : Fin 1) (q : Fin 512) (u : Fin 512), j = ix3 p q u := ⟨j 0, j 1, j 2, eq_ix3 j⟩
  obtain rfl : p = 0 := Subsingleton.elim _ _
  show k0_pay2 (prod (iblk m c 0 t) (iblk m c 1 t) (iblk m c 2 t) (iblk m c 3 t)) (ix3 (0 : Fin 1) q u)
    = qres m c (((cfg0.win 8).blk t).view.emb (ix3 (0 : Fin 1) q u))
  rw [emb8, pay2_apply, prod_apply]
  simp only [iblk0, iblk1, iblk2, iblk3]
  rfl

/-- Every index of the queries is in some point's block. -/
theorem qcover (i : S8x512x4096.Idx) : ∃ t : Fin cfg0.N, (cfg0.win 8).flush t = true ∧ i ∈ ((cfg0.win 8).blk t).view.set := by
  obtain ⟨b, d, s, rfl⟩ : ∃ (b : Fin 8) (d : Fin 512) (s : Fin 4096), i = ix3 b d s := ⟨i 0, i 1, i 2, eq_ix3 i⟩
  let t : Fin cfg0.N := ⟨8 * b.val + s.val / 512, show 8 * b.val + s.val / 512 < 64 by omega⟩
  refine ⟨t, flush0_8 _, ?_⟩
  have h := ((cfg0.win 8).blk t).view.emb_mem_set (ix3 (0 : Fin 1) d (⟨s.val % 512, by omega⟩ : Fin 512))
  rw [emb8] at h
  have eb : bt t = b := Fin.ext (show (8 * b.val + s.val / 512) / 8 = b.val by omega)
  have es : rowAt t ⟨s.val % 512, by omega⟩ = s := Fin.ext (show 512 * ((8 * b.val + s.val / 512) % 8) + s.val % 512 = s.val by omega)
  rwa [eb, es] at h

/-- The queries after the run. -/
theorem qfinal (c : Dev nD) : (dats m 0 c).arrAt 8 cfg0.N = qres m c :=
  (dats m 0 c).arrAt_eq_of_cover 8 (qres m c) (fun t _ => qflushed_eq m c t) qcover

/-- The values of the launch's arguments. -/
abbrev vres (c : Dev nD) : Vec Ideal S8x512x4096 .bf16 :=
  varr (m ((c : Thread nD τ).loc main_arg0)) (m ((c : Thread nD τ).loc main_arg1)) (m ((c : Thread nD τ).loc main_arg2)) (m ((c : Thread nD τ).loc main_arg3))

/-- What a point leaves in the values' block. -/
theorem vout (c : Dev nD) (t : Fin cfg0.N) :
    (dats m 0 c).flushed 10 t = (cfg0.win 10).cut (grid0.coords t) (k0_pay3 (prod (iblk m c 0 t) (iblk m c 1 t) (iblk m c 2 t) (iblk m c 3 t))) := by
  by_cases h : t.val % 8 = 0
  · rw [flushed10_A m c t h, outA10]
  · rw [flushed10_B m c t h, outB10]

/-- So what it writes back is its block of the values. -/
theorem vflushed_eq (c : Dev nD) (t : Fin cfg0.N) :
    (dats m 0 c).flushed 10 t = ((cfg0.win 10).blk t).view.read (Elt Ideal) (vres m c) := by
  rw [vout]
  funext j
  obtain ⟨p, q, u, rfl⟩ : ∃ (p : Fin 1) (q : Fin 512) (u : Fin 512), j = ix3 p q u := ⟨j 0, j 1, j 2, eq_ix3 j⟩
  obtain rfl : p = 0 := Subsingleton.elim _ _
  show k0_pay3 (prod (iblk m c 0 t) (iblk m c 1 t) (iblk m c 2 t) (iblk m c 3 t)) (ix3 (0 : Fin 1) q u)
    = vres m c (((cfg0.win 10).blk t).view.emb (ix3 (0 : Fin 1) q u))
  rw [emb10, pay3_apply, prod_apply]
  simp only [iblk0, iblk1, iblk2, iblk3]
  rfl

/-- Every index of the values is in some point's block. -/
theorem vcover (i : S8x512x4096.Idx) : ∃ t : Fin cfg0.N, (cfg0.win 10).flush t = true ∧ i ∈ ((cfg0.win 10).blk t).view.set := by
  obtain ⟨b, d, s, rfl⟩ : ∃ (b : Fin 8) (d : Fin 512) (s : Fin 4096), i = ix3 b d s := ⟨i 0, i 1, i 2, eq_ix3 i⟩
  let t : Fin cfg0.N := ⟨8 * b.val + s.val / 512, show 8 * b.val + s.val / 512 < 64 by omega⟩
  refine ⟨t, flush0_10 _, ?_⟩
  have h := ((cfg0.win 10).blk t).view.emb_mem_set (ix3 (0 : Fin 1) d (⟨s.val % 512, by omega⟩ : Fin 512))
  rw [emb10] at h
  have eb : bt t = b := Fin.ext (show (8 * b.val + s.val / 512) / 8 = b.val by omega)
  have es : rowAt t ⟨s.val % 512, by omega⟩ = s := Fin.ext (show 512 * ((8 * b.val + s.val / 512) % 8) + s.val % 512 = s.val by omega)
  rwa [eb, es] at h

/-- The values after the run. -/
theorem vfinal (c : Dev nD) : (dats m 0 c).arrAt 10 cfg0.N = vres m c :=
  (dats m 0 c).arrAt_eq_of_cover 10 (vres m c) (fun t _ => vflushed_eq m c t) vcover

end Cert.Kernel3Ideal.Pre

namespace Cert.Reference3Ideal.Pre

open Cert.Reference3Ideal Cert.Reference3Ideal.Gen Cert.PreSpec Idealize.ShloMosaic Idealize.ShloMosaic.TcCoe Idealize.SL.Sem

/-- The reference's rows divided by the root of their mean square. -/
def norm (x : FVec Ideal S8x4096x1024 .f32) : FVec Ideal S8x4096x1024 .f32 :=
  mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))

/-- The places' scales, over every row. -/
def gain (g : FVec Ideal S1x1024 .f32) : FVec Ideal S8x4096x1024 .f32 :=
  broadcastInDim S8x4096x1024 ![0, 1, 2] bcast_S1x1x1024_S8x4096x1024_0_1_2 (broadcastInDim S1x1x1024 ![2] bcast_S1024_S1x1x1024_2 (shapeCast S1024 g shapeCasts_S1x1024_S1024))

/-- One plus a batch's scale, over its rows. -/
def scale (mod : FVec Ideal S8x6x1024 .f32) : FVec Ideal S8x4096x1024 .f32 :=
  broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![0, 1, 0] mod slices_S8x6x1024_S8x1x1024_0_1_0) shapeCasts_S8x1x1024_S8x1024)))

/-- A batch's shift, over its rows. -/
def shift (mod : FVec Ideal S8x6x1024 .f32) : FVec Ideal S8x4096x1024 .f32 :=
  broadcastInDim S8x4096x1024 ![0, 1, 2] bcast_S8x1x1024_S8x4096x1024_0_1_2 (broadcastInDim S8x1x1024 ![0, 2] bcast_S8x1024_S8x1x1024_0_2 (shapeCast S8x1024 (extractStridedSlice S8x1x1024 ![0, 0, 0] mod slices_S8x6x1024_S8x1x1024_0_0_0) shapeCasts_S8x1x1024_S8x1024))

/-- The modulated rows. -/
def rows (x : FVec Ideal S8x4096x1024 .f32) (mod : FVec Ideal S8x6x1024 .f32) (g : FVec Ideal S1x1024 .f32) : FVec Ideal S8x4096x1024 .f32 :=
  addf (mulf (mulf (norm x) (gain g)) (scale mod)) (shift mod)

/-- Rows times the queries' columns, and times the values', with the columns first. -/
def qprod (h : FVec Ideal S8x4096x1024 .f32) (w : FVec Ideal S1024x1536 .f32) : FVec Ideal S8x512x4096 .f32 :=
  transpose S8x512x4096 [1, 0, 2] (Host.dotGeneral dot_S1024x512_S8x4096x1024_S512x8x4096_0_2_1_01_n_n none (extractStridedSlice S1024x512 ![0, 0] w slices_S1024x1536_S1024x512_0_0) h) transposes_S512x8x4096_S8x512x4096_1_0_2
def vprod (h : FVec Ideal S8x4096x1024 .f32) (w : FVec Ideal S1024x1536 .f32) : FVec Ideal S8x512x4096 .f32 :=
  transpose S8x512x4096 [1, 0, 2] (Host.dotGeneral dot_S1024x512_S8x4096x1024_S512x8x4096_0_2_1_01_n_n none (extractStridedSlice S1024x512 ![0, 1024] w slices_S1024x1536_S1024x512_0_1024) h) transposes_S512x8x4096_S8x512x4096_1_0_2

/-- The reference's queries and values. -/
def qresult (x : FVec Ideal S8x4096x1024 .f32) (mod : FVec Ideal S8x6x1024 .f32) (g : FVec Ideal S1x1024 .f32) (w : FVec Ideal S1024x1536 .bf16) : FVec Ideal S8x512x4096 .bf16 :=
  truncf .bf16 (mulf (qprod (rows x mod g) (extf .f32 w bitsLt_bf16_f32)) (broadcastInDim S8x512x4096 ![] bcast_S_S8x512x4096 (constant S_ .f32 0x3E38AA3B#32))) bitsLt_bf16_f32
def vresult (x : FVec Ideal S8x4096x1024 .f32) (mod : FVec Ideal S8x6x1024 .f32) (g : FVec Ideal S1x1024 .f32) (w : FVec Ideal S1024x1536 .bf16) : FVec Ideal S8x512x4096 .bf16 :=
  truncf .bf16 (vprod (rows x mod g) (extf .f32 w bitsLt_bf16_f32)) bitsLt_bf16_f32

theorem norm_apply (x : FVec Ideal S8x4096x1024 .f32) (b : Fin 8) (s : Fin 4096) (d : Fin 1024) :
    norm x (ix3 b s d) = x (ix3 b s d) * Ideal.rsqrt (Ideal.div (∑ k : Fin 1024, x (ix3 b s k) * x (ix3 b s k)) (Ideal.ofBits FTy.f32 0x44800000#32) + Ideal.ofBits FTy.f32 0x358637BD#32) := by
  pointwise [norm]

theorem gain_apply (g : FVec Ideal S1x1024 .f32) (b : Fin 8) (s : Fin 4096) (d : Fin 1024) : gain g (ix3 b s d) = g (ix2 (0 : Fin 1) d) := by
  pointwise [gain]

theorem scale_apply (mod : FVec Ideal S8x6x1024 .f32) (b : Fin 8) (s : Fin 4096) (d : Fin 1024) : scale mod (ix3 b s d) = 1 + mod (ix3 b (1 : Fin 6) d) := by
  pointwise [scale]

theorem shift_apply (mod : FVec Ideal S8x6x1024 .f32) (b : Fin 8) (s : Fin 4096) (d : Fin 1024) : shift mod (ix3 b s d) = mod (ix3 b (0 : Fin 6) d) := by
  pointwise [shift]

theorem rows_apply (x : FVec Ideal S8x4096x1024 .f32) (mod : FVec Ideal S8x6x1024 .f32) (g : FVec Ideal S1x1024 .f32) (b : Fin 8) (s : Fin 4096) (d : Fin 1024) :
    rows x mod g (ix3 b s d) = row (fun k => x (ix3 b s k)) (fun k => g (ix2 (0 : Fin 1) k)) (fun k => mod (ix3 b (1 : Fin 6) k)) (fun k => mod (ix3 b (0 : Fin 6) k)) d := by
  show norm x (ix3 b s d) * gain g (ix3 b s d) * scale mod (ix3 b s d) + shift mod (ix3 b s d) = _
  rw [norm_apply, gain_apply, scale_apply, shift_apply]
  rfl

theorem qprod_apply (h : FVec Ideal S8x4096x1024 .f32) (w : FVec Ideal S1024x1536 .f32) (b : Fin 8) (c : Fin 512) (s : Fin 4096) :
    qprod h w (ix3 b c s) = ∑ k : Fin 1024, w (ix2 k (qcol c)) * h (ix3 b s k) := by
  pointwise [qprod]

theorem vprod_apply (h : FVec Ideal S8x4096x1024 .f32) (w : FVec Ideal S1024x1536 .f32) (b : Fin 8) (c : Fin 512) (s : Fin 4096) :
    vprod h w (ix3 b c s) = ∑ k : Fin 1024, w (ix2 k (vcol c)) * h (ix3 b s k) := by
  pointwise [vprod]

theorem qresult_eq (x : FVec Ideal S8x4096x1024 .f32) (mod : FVec Ideal S8x6x1024 .f32) (g : FVec Ideal S1x1024 .f32) (w : FVec Ideal S1024x1536 .bf16) :
    qresult x mod g w = Cert.Kernel3Ideal.Pre.qarr x mod g w := by
  funext i
  obtain ⟨b, c, s, rfl⟩ : ∃ (b : Fin 8) (c : Fin 512) (s : Fin 4096), i = ix3 b c s := ⟨i 0, i 1, i 2, eq_ix3 i⟩
  show qprod (rows x mod g) (extf .f32 w bitsLt_bf16_f32) (ix3 b c s) * Ideal.ofBits FTy.f32 0x3E38AA3B#32 = Cert.Kernel3Ideal.Pre.val x mod g w b s (qcol c) * Ideal.ofBits FTy.f32 0x3E38AA3B#32
  rw [qprod_apply]
  unfold Cert.Kernel3Ideal.Pre.val proj
  refine congrArg (· * Ideal.ofBits FTy.f32 0x3E38AA3B#32) (Finset.sum_congr rfl fun k _ => (mul_comm _ _).trans ?_)
  rw [rows_apply]
  rfl

theorem vresult_eq (x : FVec Ideal S8x4096x1024 .f32) (mod : FVec Ideal S8x6x1024 .f32) (g : FVec Ideal S1x1024 .f32) (w : FVec Ideal S1024x1536 .bf16) :
    vresult x mod g w = Cert.Kernel3Ideal.Pre.varr x mod g w := by
  funext i
  obtain ⟨b, c, s, rfl⟩ : ∃ (b : Fin 8) (c : Fin 512) (s : Fin 4096), i = ix3 b c s := ⟨i 0, i 1, i 2, eq_ix3 i⟩
  show vprod (rows x mod g) (extf .f32 w bitsLt_bf16_f32) (ix3 b c s) = Cert.Kernel3Ideal.Pre.val x mod g w b s (vcol c)
  rw [vprod_apply]
  unfold Cert.Kernel3Ideal.Pre.val proj
  refine Finset.sum_congr rfl fun k _ => (mul_comm _ _).trans ?_
  rw [rows_apply]
  rfl

end Cert.Reference3Ideal.Pre

end
-- ==== Proof.PoolV.lean ====
/-
  The pooled differences of the first projection's call at exact arithmetic, for the kernel and for the reference, read at an
  entry: the mean of the last 2, 4, 8 or 16 rows of the rows' product with a column, less the row's own product.
-/
module

public import proofs.«01_k».proof.Proof.PremixV
public import Idealize.ShloMosaic.Lib.WritesUnit
public import Idealize.ShloMosaic.Lib.WordCmp

@[expose] public section

noncomputable section

namespace Cert.PoolSpec

open Idealize.ShloMosaic

/-- The entry `j` rows back, and zero before the first row. -/
def lag (u : Fin 4096 → EReal) (s : Fin 4096) (j : Nat) : EReal := if j ≤ s.val then u ⟨s.val - j, by omega⟩ else 0

/-- How many rows the last `n` are, among the first `s + 1`. -/
def howMany (n : Nat) (s : Nat) : EReal := FloatOps.sitofp (F := Ideal) FTy.f32 (IntOp.minsi (BitVec.ofNat 32 (s + 1)) (BitVec.ofNat 32 n))

/-- The mean of the last `n` entries, less the last of them. -/
def gap (n : Nat) (u : Fin 4096 → EReal) (s : Fin 4096) : EReal :=
  Ideal.div (∑ j ∈ Finset.range n, lag u s j) (howMany n s.val) - u s

/-- How many rows a column's window has: 2, 4, 8 and 16 for the four groups of 128 columns. -/
def width (k : Fin 512) : Nat := if k.val < 128 then 2 else if k.val < 256 then 4 else if k.val < 384 then 8 else 16

end Cert.PoolSpec

namespace Cert.Kernel3Ideal.Pre

open Cert.Kernel3Ideal Cert.Kernel3Ideal.Gen Cert.Kernel3Ideal.Value Cert.PreSpec Cert.PoolSpec Idealize.ShloMosaic Idealize.ShloMosaic.TcCoe Idealize.SL.Sem

/-- The body's product with the pooled columns, from the input blocks. -/
abbrev uprod (x0 : Vec Ideal S1x512x1024 .f32) (x1 : Vec Ideal S1x6x1024 .f32) (x2 : Vec Ideal S1x1024 .f32) (x6 : Vec Ideal S1024x512 .bf16) : FVec Ideal S512x512 .f32 :=
  k0_pay7 (View.ld x0 (Rect.unit ![0, 0, 0] ![1, 512, 1024] inb_S1x512x1024_S1x512x1024_0_0_0))
    (View.ld x2 (Rect.unit ![0, 0] ![1, 1024] inb_S1x1024_S1x1024_0_0))
    (View.ld x1 (Rect.unit ![0, 0, 0] ![1, 1, 1024] inb_S1x6x1024_S1x1x1024_0_0_0))
    (View.ld x1 (Rect.unit ![0, 1, 0] ![1, 1, 1024] inb_S1x6x1024_S1x1x1024_0_1_0))
    (View.ld x6 (Rect.unit ![0, 0] ![1024, 512] inb_S1024x512_S1024x512_0_0))

/-- The pooled block of a tile, from its product and the buffer the rows are read back from. -/
abbrev dtile (si : BitVec 32) (U : FVec Ideal S512x512 .f32) (V : Vec Ideal S528x512 .f32) : FVec Ideal S1x512x512 .bf16 :=
  k0_pay19 (k0_pay12 si) (k0_pay13 si U (View.ld V (Rect.unit ![15, 0] ![512, 128] inb_S528x512_S512x128_15_0)))
    (k0_pay14 si U (View.ld V (Rect.unit ![15, 128] ![512, 128] inb_S528x512_S512x128_15_128)) (View.ld V (Rect.unit ![14, 128] ![512, 128] inb_S528x512_S512x128_14_128)) (View.ld V (Rect.unit ![13, 128] ![512, 128] inb_S528x512_S512x128_13_128)))
    (k0_pay16 (k0_pay12 si) (k0_pay15 U) (View.ld V (Rect.unit ![15, 256] ![512, 128] inb_S528x512_S512x128_15_256)) (View.ld V (Rect.unit ![14, 256] ![512, 128] inb_S528x512_S512x128_14_256)) (View.ld V (Rect.unit ![13, 256] ![512, 128] inb_S528x512_S512x128_13_256)) (View.ld V (Rect.unit ![12, 256] ![512, 128] inb_S528x512_S512x128_12_256)) (View.ld V (Rect.unit ![11, 256] ![512, 128] inb_S528x512_S512x128_11_256)) (View.ld V (Rect.unit ![10, 256] ![512, 128] inb_S528x512_S512x128_10_256)) (View.ld V (Rect.unit ![9, 256] ![512, 128] inb_S528x512_S512x128_9_256)))
    (k0_pay17 U)
    (k0_pay18 U (View.ld V (Rect.unit ![15, 384] ![512, 128] inb_S528x512_S512x128_15_384)) (View.ld V (Rect.unit ![14, 384] ![512, 128] inb_S528x512_S512x128_14_384)) (View.ld V (Rect.unit ![13, 384] ![512, 128] inb_S528x512_S512x128_13_384)) (View.ld V (Rect.unit ![12, 384] ![512, 128] inb_S528x512_S512x128_12_384)) (View.ld V (Rect.unit ![11, 384] ![512, 128] inb_S528x512_S512x128_11_384)))
    (View.ld V (Rect.unit ![10, 384] ![512, 128] inb_S528x512_S512x128_10_384)) (View.ld V (Rect.unit ![9, 384] ![512, 128] inb_S528x512_S512x128_9_384)) (View.ld V (Rect.unit ![8, 384] ![512, 128] inb_S528x512_S512x128_8_384)) (View.ld V (Rect.unit ![7, 384] ![512, 128] inb_S528x512_S512x128_7_384)) (View.ld V (Rect.unit ![6, 384] ![512, 128] inb_S528x512_S512x128_6_384)) (View.ld V (Rect.unit ![5, 384] ![512, 128] inb_S528x512_S512x128_5_384)) (View.ld V (Rect.unit ![4, 384] ![512, 128] inb_S528x512_S512x128_4_384)) (View.ld V (Rect.unit ![3, 384] ![512, 128] inb_S528x512_S512x128_3_384)) (View.ld V (Rect.unit ![2, 384] ![512, 128] inb_S528x512_S512x128_2_384)) (View.ld V (Rect.unit ![1, 384] ![512, 128] inb_S528x512_S512x128_1_384))

/-- The buffer: sixteen earlier rows, then a tile's. -/
def buf (old : Fin 16 → Fin 512 → EReal) (U : FVec Ideal S512x512 .f32) : Vec Ideal S528x512 .f32 :=
  fun i => if h : (i 0).val < 16 then old ⟨(i 0).val, h⟩ (i 1) else U (ix2 (⟨(i 0).val - 16, by have : (i 0).val < 528 := (i 0).isLt; omega⟩ : Fin 512) (i 1))

theorem pay11_eq (U : FVec Ideal S512x512 .f32) (r : Fin 512) (k : Fin 512) : k0_pay11 U (ix2 r k) = U (ix2 r k) := by
  pointwise [k0_pay11]

theorem pay5_eq (r : Fin 16) (k : Fin 512) : k0_pay5 (F := Ideal) (ix2 r k) = 0 := by
  pointwise [k0_pay5]

theorem pay21_eq (U : FVec Ideal S512x512 .f32) (r : Fin 16) (k : Fin 512) : k0_pay21 (k0_pay20 U) (ix2 r k) = U (ix2 (⟨496 + r.val, by omega⟩ : Fin 512) k) := by
  pointwise [k0_pay21, k0_pay20]

/-- The buffer after a tile's rows are stored over earlier contents. -/
theorem bufB (v : View sig .tc .vmem S528x512 .f32) (f : v.ty.Contents (Elt Ideal)) (L : List (View.Piece (Elt Ideal) S528x512 .f32)) (U : FVec Ideal S512x512 .f32) :
    v.read (Elt Ideal) (v.writes (Elt Ideal) f (⟨Rect.unit ![16, 0] ![512, 512] inb_S528x512_S512x512_16_0, k0_pay11 U⟩ :: L))
    = buf (fun r k => v.read (Elt Ideal) (v.writes (Elt Ideal) f L) (ix2 (⟨r.val, by omega⟩ : Fin 528) k)) U := by
  funext i
  obtain ⟨r, k, rfl⟩ : ∃ (r : Fin 528) (k : Fin 512), i = ix2 r k := ⟨i 0, i 1, eq_ix2 i⟩
  by_cases h : r.val < 16
  · rw [View.read_writes_cons_rows_of_not_mem v f inb_S528x512_S512x512_16_0 _ L (ix2 r k) rfl (W := 512) rfl (Or.inl h)]
    unfold buf
    rw [dif_pos (show ((ix2 r k : S528x512.Idx) 0).val < 16 from h)]
    rfl
  · rw [View.read_writes_cons_rows_of_mem v f inb_S528x512_S512x512_16_0 _ L (ix2 r k) (ix2 (⟨r.val - 16, by omega⟩ : Fin 512) k) rfl (show r.val = 16 + (r.val - 16) by omega) rfl]
    refine (pay11_eq U _ _).trans ?_
    unfold buf
    rw [dif_neg (show ¬((ix2 r k : S528x512.Idx) 0).val < 16 from h)]
    rfl

theorem outB11 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S3x128x128 .bf16) (harg9 : arg9.IsWhole) (arg10 : Memref sig .tc .vmem S1x512x512 .bf16) (harg10 : arg10.IsWhole) (arg11 : Memref sig .tc .vmem S1x512x640 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x128 .f32) (harg14 : arg14.IsWhole) (arg15 : Memref sig .tc .vmem S528x512 .f32) (harg15 : arg15.IsWhole) (hc0 : ¬cond0_0 i)
    (x0 : Vec Ideal S1x512x1024 .f32) (x1 : Vec Ideal S1x6x1024 .f32) (x2 : Vec Ideal S1x1024 .f32) (x3 : Vec Ideal S1024x1536 .bf16) (x4 : Vec Ideal S1024x128 .bf16) (x5 : Vec Ideal S1x128 .f32) (x6 : Vec Ideal S1024x512 .bf16) (x7 : Vec Ideal S3x128x128 .bf16) (xs0 : Vec Ideal S1x128 .f32) (xs1 : Vec Ideal S528x512 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 = dtile (BitVec.ofNat 32 (i 1).val) (uprod x0 x1 x2 x6) (buf (fun r k => xs1 (ix2 (⟨r.val, by omega⟩ : Fin 528) k)) (uprod x0 x1 x2 x6)) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread]
  rw [show (fun (r : Fin 16) (k : Fin 512) => xs1 (ix2 (⟨r.val, by omega⟩ : Fin 528) k)) = fun r k => arg15.view.read (Elt Ideal) (arg15.view.writes (Elt Ideal) (harg15.unread xs1) []) (ix2 (⟨r.val, by omega⟩ : Fin 528) k) from by rw [View.writes_nil, harg15.read_unread], ← bufB arg15.view]

theorem outA11 (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S3x128x128 .bf16) (harg9 : arg9.IsWhole) (arg10 : Memref sig .tc .vmem S1x512x512 .bf16) (harg10 : arg10.IsWhole) (arg11 : Memref sig .tc .vmem S1x512x640 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x128 .f32) (harg14 : arg14.IsWhole) (arg15 : Memref sig .tc .vmem S528x512 .f32) (harg15 : arg15.IsWhole) (hc0 : cond0_0 i)
    (x0 : Vec Ideal S1x512x1024 .f32) (x1 : Vec Ideal S1x6x1024 .f32) (x2 : Vec Ideal S1x1024 .f32) (x3 : Vec Ideal S1024x1536 .bf16) (x4 : Vec Ideal S1024x128 .bf16) (x5 : Vec Ideal S1x128 .f32) (x6 : Vec Ideal S1024x512 .bf16) (x7 : Vec Ideal S3x128x128 .bf16) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = dtile (BitVec.ofNat 32 (i 1).val) (uprod x0 x1 x2 x6) (buf (fun _ _ => 0) (uprod x0 x1 x2 x6)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread]
  have e : (buf (fun _ _ => 0) (uprod x0 x1 x2 x6)) = arg15.view.read (Elt Ideal) (arg15.view.writes (Elt Ideal) arg15.view.junk [⟨Rect.unit ![16, 0] ![512, 512] inb_S528x512_S512x512_16_0, k0_pay11 (uprod x0 x1 x2 x6)⟩, ⟨Rect.unit ![0, 0] ![16, 512] inb_S528x512_S16x512_0_0, k0_pay5 (F := Ideal)⟩]) := by
    rw [bufB]
    refine congrArg (fun o => buf o _) (funext fun r => funext fun k => ?_)
    rw [View.read_writes_cons_rows_of_mem arg15.view _ inb_S528x512_S16x512_0_0 _ [] (ix2 (⟨r.val, by omega⟩ : Fin 528) k) (ix2 r k) rfl (Nat.zero_add _).symm rfl, pay5_eq]
  rw [e]
  rfl

/-- The rows a tile leaves for the next: its own last sixteen, in the buffer's first. -/
theorem soutA (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S3x128x128 .bf16) (harg9 : arg9.IsWhole) (arg10 : Memref sig .tc .vmem S1x512x512 .bf16) (harg10 : arg10.IsWhole) (arg11 : Memref sig .tc .vmem S1x512x640 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x128 .f32) (harg14 : arg14.IsWhole) (arg15 : Memref sig .tc .vmem S528x512 .f32) (harg15 : arg15.IsWhole) (hc0 : cond0_0 i)
    (x0 : Vec Ideal S1x512x1024 .f32) (x1 : Vec Ideal S1x6x1024 .f32) (x2 : Vec Ideal S1x1024 .f32) (x3 : Vec Ideal S1024x1536 .bf16) (x4 : Vec Ideal S1024x128 .bf16) (x5 : Vec Ideal S1x128 .f32) (x6 : Vec Ideal S1024x512 .bf16) (x7 : Vec Ideal S3x128x128 .bf16) (r : Fin 16) (k : Fin 512) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 (⟨r.val, by omega⟩ : Fin 528) k) = uprod x0 x1 x2 x6 (ix2 (⟨496 + r.val, by omega⟩ : Fin 512) k) := by
  unfold sout0_A_1
  unfold kernelRun0_A
  dsimp only
  sl_unfold_words
  simp only [View.readAt_eq_ld, harg2.read_unread, harg3.read_unread, harg4.read_unread, harg5.read_unread, harg6.read_unread, harg7.read_unread, harg8.read_unread, harg9.read_unread]
  rw [View.read_writes_cons_rows_of_mem VS0_1 _ inb_S528x512_S16x512_0_0 _ _ (ix2 (⟨r.val, by omega⟩ : Fin 528) k) (ix2 r k) rfl (Nat.zero_add _).symm rfl]
  exact pay21_eq _ r k

theorem soutB (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S1024x512 .bf16) (harg8 : arg8.IsWhole) (arg9 : Memref sig .tc .vmem S3x128x128 .bf16) (harg9 : arg9.IsWhole) (arg10 : Memref sig .tc .vmem S1x512x512 .bf16) (harg10 : arg10.IsWhole) (arg11 : Memref sig .tc .vmem S1x512x640 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x128 .f32) (harg14 : arg14.IsWhole) (arg15 : Memref sig .tc .vmem S528x512 .f32) (harg15 : arg15.IsWhole) (hc0 : ¬cond0_0 i)
    (x0 : Vec Ideal S1x512x1024 .f32) (x1 : Vec Ideal S1x6x1024 .f32) (x2 : Vec Ideal S1x1024 .f32) (x3 : Vec Ideal S1024x1536 .bf16) (x4 : Vec Ideal S1024x128 .bf16) (x5 : Vec Ideal S1x128 .f32) (x6 : Vec Ideal S1024x512 .bf16) (x7 : Vec Ideal S3x128x128 .bf16) (xs0 : Vec Ideal S1x128 .f32) (xs1 : Vec Ideal S528x512 .f32) (r : Fin 16) (k : Fin 512) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 (ix2 (⟨r.val, by omega⟩ : Fin 528) k) = uprod x0 x1 x2 x6 (ix2 (⟨496 + r.val, by omega⟩ : Fin 512) k) := by
  unfold sout0_B_1
  unfold kernelRun0_B
  dsimp only
  sl_unfold_words
  simp only [View.readAt_eq_ld, harg2.read_unread, harg3.read_unread, harg4.read_unread, harg5.read_unread, harg6.read_unread, harg7.read_unread, harg8.read_unread, harg9.read_unread]
  rw [View.read_writes_cons_rows_of_mem VS0_1 _ inb_S528x512_S16x512_0_0 _ _ (ix2 (⟨r.val, by omega⟩ : Fin 528) k) (ix2 r k) rfl (Nat.zero_add _).symm rfl]
  exact pay21_eq _ r k

/-- The buffer's entry `j` rows back from a tile's row. -/
def back (V : Vec Ideal S528x512 .f32) (r : Fin 512) (k : Fin 512) (j : Nat) : EReal := V (ix2 (⟨16 + r.val - j, by omega⟩ : Fin 528) k)

theorem ld_back (V : Vec Ideal S528x512 .f32) (o g j : Nat) (h : ∀ a, (![o, g] : Fin 2 → Nat) a + (![512, 128] : Fin 2 → Nat) a ≤ S528x512.size a) (e : o + j = 16) (r : Fin 512) (q : Fin 128) (k : Fin 512) (ek : k.val = g + q.val) :
    View.ld V (Rect.unit ![o, g] ![512, 128] h) (ix2 r q) = back V r k j := by
  refine congrArg V (funext fun a => Fin.ext ?_)
  match a with
  | ⟨0, _⟩ => show o + 1 * r.val = 16 + r.val - j; omega
  | ⟨1, _⟩ => show g + 1 * q.val = k.val; omega

/-- The number of rows, as the body computes it. -/
def cnt (si : BitVec 32) (n : BitVec 32) (r : Fin 512) : EReal :=
  FloatOps.sitofp (F := Ideal) FTy.f32 (IntOp.minsi (si * 512#32 + BitVec.ofNat 32 r.val + 1#32) n)

theorem pay12_apply (si : BitVec 32) (r : Fin 512) (q : Fin 128) : k0_pay12 si (ix2 r q) = si * 512#32 + BitVec.ofNat 32 r.val := by
  pointwise [k0_pay12]
  rfl

theorem pay13_apply (si : BitVec 32) (U : FVec Ideal S512x512 .f32) (a : Vec Ideal S512x128 .f32) (r : Fin 512) (q : Fin 128) :
    k0_pay13 si U a (ix2 r q) = Ideal.div (U (ix2 r (⟨q.val, by omega⟩ : Fin 512)) + a (ix2 r q)) (cnt si 2#32 r) - U (ix2 r (⟨q.val, by omega⟩ : Fin 512)) := by
  unfold cnt
  rw [← pay12_apply si r q]
  pointwise [k0_pay13]
  rfl

theorem pay14_apply (si : BitVec 32) (U : FVec Ideal S512x512 .f32) (a b c : Vec Ideal S512x128 .f32) (r : Fin 512) (q : Fin 128) :
    k0_pay14 si U a b c (ix2 r q) = Ideal.div (U (ix2 r (⟨128 + q.val, by omega⟩ : Fin 512)) + a (ix2 r q) + b (ix2 r q) + c (ix2 r q)) (cnt si 4#32 r) - U (ix2 r (⟨128 + q.val, by omega⟩ : Fin 512)) := by
  unfold cnt
  rw [← pay12_apply si r q]
  pointwise [k0_pay14]
  rfl

theorem pay16_apply (si : BitVec 32) (U : FVec Ideal S512x512 .f32) (a b c d e f g : Vec Ideal S512x128 .f32) (r : Fin 512) (q : Fin 128) :
    k0_pay16 (k0_pay12 si) (k0_pay15 U) a b c d e f g (ix2 r q) = Ideal.div (U (ix2 r (⟨256 + q.val, by omega⟩ : Fin 512)) + a (ix2 r q) + b (ix2 r q) + c (ix2 r q) + d (ix2 r q) + e (ix2 r q) + f (ix2 r q) + g (ix2 r q)) (cnt si 8#32 r) - U (ix2 r (⟨256 + q.val, by omega⟩ : Fin 512)) := by
  unfold cnt
  rw [← pay12_apply si r q]
  pointwise [k0_pay16, k0_pay15]
  rfl

theorem pay18_apply (U : FVec Ideal S512x512 .f32) (a b c d e : Vec Ideal S512x128 .f32) (r : Fin 512) (q : Fin 128) :
    k0_pay18 U a b c d e (ix2 r q) = U (ix2 r (⟨384 + q.val, by omega⟩ : Fin 512)) + a (ix2 r q) + b (ix2 r q) + c (ix2 r q) + d (ix2 r q) + e (ix2 r q) := by
  pointwise [k0_pay18, k0_pay17]

theorem pay17_apply (U : FVec Ideal S512x512 .f32) (r : Fin 512) (q : Fin 128) : k0_pay17 U (ix2 r q) = U (ix2 r (⟨384 + q.val, by omega⟩ : Fin 512)) := by
  pointwise [k0_pay17]

theorem pay19_apply (w : IVec S512x128 32) (a b c : FVec Ideal S512x128 .bf16) (u s : FVec Ideal S512x128 .f32) (l1 l2 l3 l4 l5 l6 l7 l8 l9 l10 : Vec Ideal S512x128 .f32) (r : Fin 512) (k : Fin 512) :
    k0_pay19 w a b c u s l1 l2 l3 l4 l5 l6 l7 l8 l9 l10 (ix3 (0 : Fin 1) r k)
    = if h : k.val < 128 then a (ix2 r ⟨k.val, h⟩) else if h : k.val - 128 < 128 then b (ix2 r ⟨k.val - 128, h⟩) else if h : k.val - 128 - 128 < 128 then c (ix2 r ⟨k.val - 128 - 128, h⟩) else
      (fun q : Fin 128 => Ideal.div (s (ix2 r q) + l1 (ix2 r q) + l2 (ix2 r q) + l3 (ix2 r q) + l4 (ix2 r q) + l5 (ix2 r q) + l6 (ix2 r q) + l7 (ix2 r q) + l8 (ix2 r q) + l9 (ix2 r q) + l10 (ix2 r q)) (FloatOps.sitofp (F := Ideal) FTy.f32 (IntOp.minsi (w (ix2 r q) + 1#32) 16#32)) - u (ix2 r q)) ⟨k.val - 128 - 128 - 128, by omega⟩ := by
  pointwise [k0_pay19]
  rfl

/-- The pooled block at an entry: a window's mean less the row's own product. -/
theorem tile_apply (si : BitVec 32) (U : FVec Ideal S512x512 .f32) (V : Vec Ideal S528x512 .f32) (r : Fin 512) (k : Fin 512) (hU : back V r k 0 = U (ix2 r k)) :
    dtile si U V (ix3 (0 : Fin 1) r k) = Ideal.div (∑ j ∈ Finset.range (width k), back V r k j) (cnt si (BitVec.ofNat 32 (width k)) r) - U (ix2 r k) := by
  unfold width
  refine (pay19_apply ..).trans ?_
  by_cases h0 : k.val < 128
  · rw [dif_pos h0, if_pos h0, pay13_apply, ld_back V 15 0 1 inb_S528x512_S512x128_15_0 rfl r _ k (by dsimp only; omega)]
    simp only [Finset.sum_range_succ, Finset.sum_range_zero, zero_add, hU]
  rw [dif_neg h0, if_neg h0]
  by_cases h1 : k.val < 256
  · have e : (⟨128 + (k.val - 128), by omega⟩ : Fin 512) = k := Fin.ext (show 128 + (k.val - 128) = k.val by omega)
    rw [dif_pos (show k.val - 128 < 128 by omega), if_pos h1, pay14_apply, ld_back V 15 128 1 inb_S528x512_S512x128_15_128 rfl r _ k (by dsimp only; omega), ld_back V 14 128 2 inb_S528x512_S512x128_14_128 rfl r _ k (by dsimp only; omega), ld_back V 13 128 3 inb_S528x512_S512x128_13_128 rfl r _ k (by dsimp only; omega)]
    simp only [Finset.sum_range_succ, Finset.sum_range_zero, zero_add, hU, e]
  rw [dif_neg (show ¬k.val - 128 < 128 by omega), if_neg h1]
  by_cases h2 : k.val < 384
  · have e : (⟨256 + (k.val - 128 - 128), by omega⟩ : Fin 512) = k := Fin.ext (show 256 + (k.val - 128 - 128) = k.val by omega)
    rw [dif_pos (show k.val - 128 - 128 < 128 by omega), if_pos h2, pay16_apply, ld_back V 15 256 1 inb_S528x512_S512x128_15_256 rfl r _ k (by dsimp only; omega), ld_back V 14 256 2 inb_S528x512_S512x128_14_256 rfl r _ k (by dsimp only; omega), ld_back V 13 256 3 inb_S528x512_S512x128_13_256 rfl r _ k (by dsimp only; omega), ld_back V 12 256 4 inb_S528x512_S512x128_12_256 rfl r _ k (by dsimp only; omega), ld_back V 11 256 5 inb_S528x512_S512x128_11_256 rfl r _ k (by dsimp only; omega), ld_back V 10 256 6 inb_S528x512_S512x128_10_256 rfl r _ k (by dsimp only; omega), ld_back V 9 256 7 inb_S528x512_S512x128_9_256 rfl r _ k (by dsimp only; omega)]
    simp only [Finset.sum_range_succ, Finset.sum_range_zero, zero_add, hU, e]
  rw [dif_neg (show ¬k.val - 128 - 128 < 128 by omega), if_neg h2]
  have e : (⟨384 + (k.val - 128 - 128 - 128), by omega⟩ : Fin 512) = k := Fin.ext (show 384 + (k.val - 128 - 128 - 128) = k.val by omega)
  dsimp only
  rw [pay18_apply, pay17_apply, pay12_apply, ld_back V 15 384 1 inb_S528x512_S512x128_15_384 rfl r _ k (by dsimp only; omega), ld_back V 14 384 2 inb_S528x512_S512x128_14_384 rfl r _ k (by dsimp only; omega), ld_back V 13 384 3 inb_S528x512_S512x128_13_384 rfl r _ k (by dsimp only; omega), ld_back V 12 384 4 inb_S528x512_S512x128_12_384 rfl r _ k (by dsimp only; omega), ld_back V 11 384 5 inb_S528x512_S512x128_11_384 rfl r _ k (by dsimp only; omega), ld_back V 10 384 6 inb_S528x512_S512x128_10_384 rfl r _ k (by dsimp only; omega), ld_back V 9 384 7 inb_S528x512_S512x128_9_384 rfl r _ k (by dsimp only; omega), ld_back V 8 384 8 inb_S528x512_S512x128_8_384 rfl r _ k (by dsimp only; omega), ld_back V 7 384 9 inb_S528x512_S512x128_7_384 rfl r _ k (by dsimp only; omega), ld_back V 6 384 10 inb_S528x512_S512x128_6_384 rfl r _ k (by dsimp only; omega), ld_back V 5 384 11 inb_S528x512_S512x128_5_384 rfl r _ k (by dsimp only; omega), ld_back V 4 384 12 inb_S528x512_S512x128_4_384 rfl r _ k (by dsimp only; omega), ld_back V 3 384 13 inb_S528x512_S512x128_3_384 rfl r _ k (by dsimp only; omega), ld_back V 2 384 14 inb_S528x512_S512x128_2_384 rfl r _ k (by dsimp only; omega), ld_back V 1 384 15 inb_S528x512_S512x128_1_384 rfl r _ k (by dsimp only; omega)]
  simp only [Finset.sum_range_succ, Finset.sum_range_zero, zero_add, hU, e]
  rfl

/-- The buffer's rows are the argument's: the tile's own, and before them the last of the tile before, or zeros. -/
theorem back_eq (u : Fin 4096 → EReal) (old : Fin 16 → Fin 512 → EReal) (U : FVec Ideal S512x512 .f32) (a : Nat) (ha : a < 8) (r k : Fin 512)
    (hU : ∀ q : Fin 512, U (ix2 q k) = u ⟨512 * a + q.val, by omega⟩)
    (hold : ∀ q : Fin 16, old q k = if a = 0 then 0 else u ⟨512 * a - 16 + q.val, by omega⟩) (j : Nat) (hj : j ≤ 16) :
    back (buf old U) r k j = lag u ⟨512 * a + r.val, by omega⟩ j := by
  unfold back lag buf
  by_cases h : 16 + r.val - j < 16
  · refine (dif_pos h).trans ((hold _).trans ?_)
    by_cases h0 : a = 0
    · rw [if_pos h0, if_neg (show ¬j ≤ 512 * a + r.val by omega)]
    · rw [if_neg h0, if_pos (show j ≤ 512 * a + r.val by omega)]
      exact congrArg u (Fin.ext (show 512 * a - 16 + (16 + r.val - j) = 512 * a + r.val - j by omega))
  · refine (dif_neg h).trans ((hU _).trans ?_)
    rw [if_pos (show j ≤ 512 * a + r.val by omega)]
    exact congrArg u (Fin.ext (show 512 * a + (16 + r.val - j - 16) = 512 * a + r.val - j by omega))

theorem cnt_eq (a n : Nat) (r : Fin 512) : cnt (BitVec.ofNat 32 a) (BitVec.ofNat 32 n) r = howMany n (512 * a + r.val) := by
  unfold cnt howMany
  rw [show BitVec.ofNat 32 (512 * a + r.val + 1) = BitVec.ofNat 32 a * 512#32 + BitVec.ofNat 32 r.val + 1#32 from by
    rw [BitVec.ofNat_add, BitVec.ofNat_add, BitVec.ofNat_mul, BitVec.mul_comm]]

theorem width_le (k : Fin 512) : width k ≤ 16 := by
  unfold width
  split_ifs <;> omega

theorem pay7_apply (x : Vec Ideal S1x512x1024 .f32) (g : Vec Ideal S1x1024 .f32) (a b : Vec Ideal S1x1x1024 .f32) (w : Vec Ideal S1024x512 .bf16) (r : Fin 512) (d : Fin 512) :
    k0_pay7 x g a b w (ix2 r d) = ∑ k : Fin 1024, k0_pay6 x g a b (ix2 r k) * w (ix2 k d) := by
  unfold k0_pay7
  generalize k0_pay6 x g a b = h
  pointwise []

/-- The product at an entry. -/
theorem uprod_apply (x0 : Vec Ideal S1x512x1024 .f32) (x1 : Vec Ideal S1x6x1024 .f32) (x2 : Vec Ideal S1x1024 .f32) (x6 : Vec Ideal S1024x512 .bf16) (r : Fin 512) (j : Fin 512) :
    uprod x0 x1 x2 x6 (ix2 r j)
    = proj (fun k => x0 (ix3 (0 : Fin 1) r k)) (fun k => x2 (ix2 (0 : Fin 1) k)) (fun k => x1 (ix3 (0 : Fin 1) (1 : Fin 6) k)) (fun k => x1 (ix3 (0 : Fin 1) (0 : Fin 6) k)) (fun k => x6 (ix2 k j)) := by
  refine (pay7_apply _ _ _ _ _ r j).trans (Finset.sum_congr rfl fun k _ => ?_)
  refine congrArg₂ (· * ·) ((pay6_apply _ _ _ _ r k).trans ?_) ?_
  · unfold row
    pointwise []
  · pointwise []

variable (m : (ℓ : Loc nD τ sig) → Buf (Elt Ideal) ℓ)

/-- The product, and the pooled differences, as functions of the argument arrays. -/
def uval (x : Vec Ideal S8x4096x1024 .f32) (mod : Vec Ideal S8x6x1024 .f32) (g : Vec Ideal S1x1024 .f32) (w : Vec Ideal S1024x512 .bf16) (b : Fin 8) (k : Fin 512) (s : Fin 4096) : EReal :=
  proj (fun d => x (ix3 b s d)) (fun d => g (ix2 (0 : Fin 1) d)) (fun d => mod (ix3 b (1 : Fin 6) d)) (fun d => mod (ix3 b (0 : Fin 6) d)) (fun d => w (ix2 d k))
def darr (x : Vec Ideal S8x4096x1024 .f32) (mod : Vec Ideal S8x6x1024 .f32) (g : Vec Ideal S1x1024 .f32) (w : Vec Ideal S1024x512 .bf16) : Vec Ideal S8x4096x512 .bf16 :=
  fun i => gap (width (i 2)) (uval x mod g w (i 0) (i 2)) (i 1)

theorem idx6 : ∀ t : Fin cfg0.N, win0_6.index t (0 : Fin 2) = 0 ∧ win0_6.index t (1 : Fin 2) = 0 :=
  (by decide +kernel : ∀ t : Fin grid0.N, _)
theorem idx11 : ∀ t : Fin cfg0.N, win0_11.index t (0 : Fin 3) = t.val / 8 ∧ win0_11.index t (1 : Fin 3) = t.val % 8 ∧ win0_11.index t (2 : Fin 3) = 0 :=
  (by decide +kernel : ∀ t : Fin grid0.N, _)
theorem coord1 : ∀ t : Fin cfg0.N, (grid0.coords t 1).val = t.val % 8 :=
  (by decide +kernel : ∀ t : Fin grid0.N, _)

theorem emb6 (t : Fin cfg0.N) (p : Fin 1024) (q : Fin 512) : ((cfg0.win 6).blk t).view.emb (ix2 (p : Fin 1024) (q : Fin 512)) = ix2 p q := by
  obtain ⟨e0, e1⟩ := idx6 t
  funext a; apply Fin.ext
  match a with
  | ⟨0, _⟩ => show win0_6.index t (0 : Fin 2) * 1024 + 1 * p.val = p.val; omega
  | ⟨1, _⟩ => show win0_6.index t (1 : Fin 2) * 512 + 1 * q.val = q.val; omega
theorem emb11 (t : Fin cfg0.N) (p : Fin 1) (q : Fin 512) (u : Fin 512) : ((cfg0.win 11).blk t).view.emb (ix3 (p : Fin 1) (q : Fin 512) (u : Fin 512)) = ix3 (bt t) (rowAt t q) u := by
  obtain ⟨e0, e1, e2⟩ := idx11 t
  funext a; apply Fin.ext
  match a with
  | ⟨0, _⟩ => show win0_11.index t (0 : Fin 3) * 1 + 1 * p.val = t.val / 8; omega
  | ⟨1, _⟩ => show win0_11.index t (1 : Fin 3) * 512 + 1 * q.val = 512 * (t.val % 8) + q.val; omega
  | ⟨2, _⟩ => show win0_11.index t (2 : Fin 3) * 512 + 1 * u.val = u.val; omega

theorem iblk6 (c : Dev nD) (t : Fin cfg0.N) (p : Fin 1024) (q : Fin 512) :
    iblk m c 6 t (ix2 p q) = m ((c : Thread nD τ).loc main_arg6) (ix2 p q) := by
  show V m c main_arg6 (((cfg0.win 6).blk t).view.emb (ix2 p q)) = _
  rw [emb6, V_main_arg6]

/-- The product at a point, and the pooled differences, of the launch's arguments. -/
abbrev ures (c : Dev nD) (b : Fin 8) (k : Fin 512) (s : Fin 4096) : EReal :=
  uval (m ((c : Thread nD τ).loc main_arg0)) (m ((c : Thread nD τ).loc main_arg1)) (m ((c : Thread nD τ).loc main_arg2)) (m ((c : Thread nD τ).loc main_arg6)) b k s
abbrev dres (c : Dev nD) : Vec Ideal S8x4096x512 .bf16 :=
  darr (m ((c : Thread nD τ).loc main_arg0)) (m ((c : Thread nD τ).loc main_arg1)) (m ((c : Thread nD τ).loc main_arg2)) (m ((c : Thread nD τ).loc main_arg6))

theorem upoint (c : Dev nD) (t : Fin cfg0.N) (r k : Fin 512) :
    uprod (iblk m c 0 t) (iblk m c 1 t) (iblk m c 2 t) (iblk m c 6 t) (ix2 r k) = ures m c (bt t) k (rowAt t r) := by
  rw [uprod_apply]
  simp only [iblk0, iblk1, iblk2, iblk6]
  rfl

/-- What a point leaves for the next in the buffer's first rows. -/
theorem carry (c : Dev nD) (t : Fin cfg0.N) (r : Fin 16) (k : Fin 512) :
    (outsAt0 m c t.val t.isLt).2.2.2.2.2 (ix2 (⟨r.val, by omega⟩ : Fin 528) k) = ures m c (bt t) k (rowAt t ⟨496 + r.val, by omega⟩) := by
  rw [← upoint]
  by_cases h : t.val % 8 = 0
  · rw [outsAt0_A m c t h]
    dsimp only
    rw [soutA]
  · rw [outsAt0_B m c t h]
    dsimp only
    rw [soutB]

/-- A point's pooled block at an entry. -/
theorem dentry (c : Dev nD) (t : Fin cfg0.N) (old : Fin 16 → Fin 512 → EReal) (q k : Fin 512)
    (hold : ∀ r : Fin 16, old r k = if t.val % 8 = 0 then 0 else ures m c (bt t) k ⟨512 * (t.val % 8) - 16 + r.val, by omega⟩) :
    dtile (BitVec.ofNat 32 (grid0.coords t 1).val) (uprod (iblk m c 0 t) (iblk m c 1 t) (iblk m c 2 t) (iblk m c 6 t)) (buf old (uprod (iblk m c 0 t) (iblk m c 1 t) (iblk m c 2 t) (iblk m c 6 t))) (ix3 (0 : Fin 1) q k)
    = dres m c (ix3 (bt t) (rowAt t q) k) := by
  have hU := fun r : Fin 512 => upoint m c t r k
  generalize uprod (iblk m c 0 t) (iblk m c 1 t) (iblk m c 2 t) (iblk m c 6 t) = U at hU ⊢
  have hb := back_eq (ures m c (bt t) k) old U (t.val % 8) (by omega) q k hU hold
  have h0 : back (buf old U) q k 0 = U (ix2 q k) := (hb 0 (by omega)).trans (((if_pos (Nat.zero_le _)).trans rfl).trans (hU q).symm)
  rw [tile_apply _ _ _ _ _ h0, coord1, cnt_eq, hU, Finset.sum_congr rfl fun j hj => hb j (by have := Finset.mem_range.mp hj; have := width_le k; omega)]
  rfl

/-- So what it writes back is its block of the pooled differences. -/
theorem dflushed_eq (c : Dev nD) (t : Fin cfg0.N) :
    (dats m 0 c).flushed 11 t = ((cfg0.win 11).blk t).view.read (Elt Ideal) (dres m c) := by
  by_cases h : t.val % 8 = 0
  · rw [flushed11_A m c t h, outA11]
    funext j
    obtain ⟨p, q, u, rfl⟩ : ∃ (p : Fin 1) (q : Fin 512) (u : Fin 512), j = ix3 p q u := ⟨j 0, j 1, j 2, eq_ix3 j⟩
    obtain rfl : p = 0 := Subsingleton.elim _ _
    refine Eq.trans ?_ (congrArg (dres m c) (emb11 t 0 q u)).symm
    exact dentry m c t _ q u fun r => (if_pos h).symm
  · rw [flushed11_B m c t h, outB11]
    funext j
    obtain ⟨p, q, u, rfl⟩ : ∃ (p : Fin 1) (q : Fin 512) (u : Fin 512), j = ix3 p q u := ⟨j 0, j 1, j 2, eq_ix3 j⟩
    obtain rfl : p = 0 := Subsingleton.elim _ _
    refine Eq.trans ?_ (congrArg (dres m c) (emb11 t 0 q u)).symm
    have ht : t.val < 64 := t.isLt
    let t' : Fin cfg0.N := ⟨t.val - 1, show t.val - 1 < 64 by omega⟩
    refine dentry m c t _ q u fun r => (carry m c t' r u).trans ?_
    rw [if_neg h, show bt t' = bt t from Fin.ext (show (t.val - 1) / 8 = t.val / 8 by omega)]
    exact congrArg (ures m c (bt t) u) (Fin.ext (show 512 * ((t.val - 1) % 8) + (496 + r.val) = 512 * (t.val % 8) - 16 + r.val by omega))

/-- Every index of the pooled differences is in some point's block. -/
theorem dcover (i : S8x4096x512.Idx) : ∃ t : Fin cfg0.N, (cfg0.win 11).flush t = true ∧ i ∈ ((cfg0.win 11).blk t).view.set := by
  obtain ⟨b, s, d, rfl⟩ : ∃ (b : Fin 8) (s : Fin 4096) (d : Fin 512), i = ix3 b s d := ⟨i 0, i 1, i 2, eq_ix3 i⟩
  let t : Fin cfg0.N := ⟨8 * b.val + s.val / 512, show 8 * b.val + s.val / 512 < 64 by omega⟩
  refine ⟨t, flush0_11 _, ?_⟩
  have h := ((cfg0.win 11).blk t).view.emb_mem_set (ix3 (0 : Fin 1) (⟨s.val % 512, by omega⟩ : Fin 512) d)
  rw [emb11] at h
  have eb : bt t = b := Fin.ext (show (8 * b.val + s.val / 512) / 8 = b.val by omega)
  have es : rowAt t ⟨s.val % 512, by omega⟩ = s := Fin.ext (show 512 * ((8 * b.val + s.val / 512) % 8) + s.val % 512 = s.val by omega)
  rwa [eb, es] at h

/-- The pooled differences after the run. -/
theorem dfinal (c : Dev nD) : (dats m 0 c).arrAt 11 cfg0.N = dres m c :=
  (dats m 0 c).arrAt_eq_of_cover 11 (dres m c) (fun t _ => dflushed_eq m c t) dcover

end Cert.Kernel3Ideal.Pre

namespace Cert.Reference3Ideal.Pre

open Cert.Reference3Ideal Cert.Reference3Ideal.Gen Cert.PreSpec Cert.PoolSpec Idealize.ShloMosaic Idealize.ShloMosaic.TcCoe Idealize.SL.Sem

/-- Which rows are among the last `n` up to a row. -/
def window (n : BitVec 32) : IVec S4096x4096 1 :=
  andi (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (cmpi .slt (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (addi (broadcastInDim S1x4096 ![1] bcast_S4096_S1x4096_1 (iotaInDim S4096 32 0)) (broadcastInDim S1x4096 ![] bcast_S_S1x4096 (constantI S_ 32 n)))))

/-- How many they are, over every batch and column. -/
def counts (n : BitVec 32) : FVec Ideal S8x4096x128 .f32 :=
  broadcastInDim S8x4096x128 ![0, 1, 2] bcast_S1x4096x1_S8x4096x128_0_1_2 (broadcastInDim S1x4096x1 ![1, 2] bcast_S4096x1_S1x4096x1_1_2 (sitofp .f32 (minsi (addi (broadcastInDim S4096x1 ![0] bcast_S4096_S4096x1_0 (iotaInDim S4096 32 0)) (broadcastInDim S4096x1 ![] bcast_S_S4096x1 (constantI S_ 32 1#32))) (broadcastInDim S4096x1 ![] bcast_S_S4096x1 (constantI S_ 32 n)))))

/-- Their total. -/
def total (n : BitVec 32) (u : FVec Ideal S8x4096x128 .f32) : FVec Ideal S8x4096x128 .f32 :=
  transpose S8x4096x128 [0, 2, 1] (Host.dotGeneral dot_S8x4096x128_S4096x4096_S8x128x4096_1_1_02_0_n_n none u (uitofp .f32 (window n))) transposes_S8x128x4096_S8x4096x128_0_2_1

/-- A group's pooled differences. -/
def group (n : BitVec 32) (u : FVec Ideal S8x4096x128 .f32) : FVec Ideal S8x4096x128 .f32 :=
  subf (Host.divf (total n u) (counts n)) u

/-- The rows' product with the pooled columns. -/
def poolprod (h : FVec Ideal S8x4096x1024 .f32) (w : FVec Ideal S1024x512 .f32) : FVec Ideal S8x4096x512 .f32 :=
  Host.dotGeneral dot_S8x4096x1024_S1024x512_S8x4096x512_2_0_01_1_n_n none h w

/-- The four groups, side by side. -/
def groups (u : FVec Ideal S8x4096x512 .f32) : FVec Ideal S8x4096x512 .f32 :=
  concatenate S8x4096x512 2 [⟨S8x4096x128, group 2#32 (extractStridedSlice S8x4096x128 ![0, 0, 0] u slices_S8x4096x512_S8x4096x128_0_0_0)⟩, ⟨S8x4096x128, group 4#32 (extractStridedSlice S8x4096x128 ![0, 0, 128] u slices_S8x4096x512_S8x4096x128_0_0_128)⟩, ⟨S8x4096x128, group 8#32 (extractStridedSlice S8x4096x128 ![0, 0, 256] u slices_S8x4096x512_S8x4096x128_0_0_256)⟩, ⟨S8x4096x128, group 16#32 (extractStridedSlice S8x4096x128 ![0, 0, 384] u slices_S8x4096x512_S8x4096x128_0_0_384)⟩] concatenates_S8x4096x128_S8x4096x128_S8x4096x128_S8x4096x128_S8x4096x512_d2

/-- The reference's pooled differences. -/
def dresult (x : FVec Ideal S8x4096x1024 .f32) (mod : FVec Ideal S8x6x1024 .f32) (g : FVec Ideal S1x1024 .f32) (w : FVec Ideal S1024x512 .bf16) : FVec Ideal S8x4096x512 .bf16 :=
  truncf .bf16 (groups (poolprod (rows x mod g) (extf .f32 w bitsLt_bf16_f32))) bitsLt_bf16_f32

theorem window_apply (n : Nat) (hn : n ≤ 16) (s t : Fin 4096) :
    window (BitVec.ofNat 32 n) (ix2 s t) = BitVec.ofBool (decide (t.val ≤ s.val) && decide (s.val < t.val + n)) := by
  have e : window (BitVec.ofNat 32 n) (ix2 s t) = IntOp.andi (IntOp.cmpi .sle (BitVec.ofNat 32 t.val) (BitVec.ofNat 32 s.val)) (IntOp.cmpi .slt (BitVec.ofNat 32 s.val) (BitVec.ofNat 32 t.val + BitVec.ofNat 32 n)) := by
    pointwise [window]
    rfl
  rw [e, ← BitVec.ofNat_add, WordCmp.cmpi_sle_ofNat (by omega) (by omega), WordCmp.cmpi_slt_ofNat (by omega) (by omega), WordCmp.andi_ofBool]

/-- The window's entry as a number: one inside, zero outside. -/
theorem weight (n : Nat) (hn : n ≤ 16) (s t : Fin 4096) :
    (uitofp .f32 (window (BitVec.ofNat 32 n)) : FVec Ideal S4096x4096 .f32) (ix2 s t) = if t.val ≤ s.val ∧ s.val < t.val + n then 1 else 0 := by
  show FloatOps.uitofp (F := Ideal) FTy.f32 (window (BitVec.ofNat 32 n) (ix2 s t)) = _
  rw [window_apply n hn]
  by_cases h : t.val ≤ s.val ∧ s.val < t.val + n
  · rw [if_pos h, decide_eq_true h.1, decide_eq_true h.2]
    show ((((1#1 : BitVec 1).toNat : ℝ)) : EReal) = 1
    norm_num
  · rw [if_neg h, show (decide (t.val ≤ s.val) && decide (s.val < t.val + n)) = false from by simpa using h]
    show ((((0#1 : BitVec 1).toNat : ℝ)) : EReal) = 0
    norm_num

theorem counts_apply (n : Nat) (b : Fin 8) (s : Fin 4096) (q : Fin 128) : counts (BitVec.ofNat 32 n) (ix3 b s q) = howMany n s.val := by
  unfold howMany
  rw [BitVec.ofNat_add]
  pointwise [counts]
  rfl

/-- A sum against a window is the sum of its entries, counted back from the last. -/
theorem window_sum (n : Nat) (u : Fin 4096 → EReal) (s : Fin 4096) :
    (∑ t : Fin 4096, u t * (if t.val ≤ s.val ∧ s.val < t.val + n then 1 else 0)) = ∑ j ∈ Finset.range n, lag u s j := by
  have e : ∀ j : Nat, lag u s j = ∑ t : Fin 4096, if t.val + j = s.val then u t else 0 := by
    intro j
    unfold lag
    by_cases h : j ≤ s.val
    · rw [if_pos h, Finset.sum_eq_single (⟨s.val - j, by omega⟩ : Fin 4096)]
      · rw [if_pos (show s.val - j + j = s.val by omega)]
      · intro t _ ht
        exact if_neg fun h' => ht (Fin.ext (show t.val = s.val - j by omega))
      · exact fun h' => absurd (Finset.mem_univ _) h'
    · rw [if_neg h]
      exact (Finset.sum_eq_zero fun t _ => if_neg (by omega)).symm
  simp only [e]
  rw [Finset.sum_comm]
  refine Finset.sum_congr rfl fun t _ => ?_
  by_cases h : t.val ≤ s.val ∧ s.val < t.val + n
  · rw [if_pos h, mul_one, Finset.sum_eq_single (s.val - t.val)]
    · rw [if_pos (by omega)]
    · intro j _ hj
      exact if_neg (by omega)
    · intro hj
      exact absurd (Finset.mem_range.mpr (by omega)) hj
  · rw [if_neg h, mul_zero]
    refine (Finset.sum_eq_zero fun j hj => if_neg ?_).symm
    have := Finset.mem_range.mp hj
    omega

theorem total_apply (n : BitVec 32) (u : FVec Ideal S8x4096x128 .f32) (b : Fin 8) (s : Fin 4096) (q : Fin 128) :
    total n u (ix3 b s q) = ∑ t : Fin 4096, u (ix3 b t q) * (uitofp .f32 (window n) : FVec Ideal S4096x4096 .f32) (ix2 s t) := by
  unfold total
  generalize (uitofp .f32 (window n) : FVec Ideal S4096x4096 .f32) = w
  pointwise []

theorem group_apply (n : Nat) (hn : n ≤ 16) (u : FVec Ideal S8x4096x128 .f32) (b : Fin 8) (s : Fin 4096) (q : Fin 128) :
    group (BitVec.ofNat 32 n) u (ix3 b s q) = gap n (fun t => u (ix3 b t q)) s := by
  show Ideal.div (total (BitVec.ofNat 32 n) u (ix3 b s q)) (counts (BitVec.ofNat 32 n) (ix3 b s q)) - u (ix3 b s q) = _
  rw [counts_apply, total_apply]
  unfold gap
  rw [← window_sum]
  simp only [weight n hn]

theorem poolprod_apply (h : FVec Ideal S8x4096x1024 .f32) (w : FVec Ideal S1024x512 .f32) (b : Fin 8) (s : Fin 4096) (k : Fin 512) :
    poolprod h w (ix3 b s k) = ∑ d : Fin 1024, h (ix3 b s d) * w (ix2 d k) := by
  pointwise [poolprod]

/-- Four groups side by side, read at a column. -/
theorem side_apply (a b c d : FVec Ideal S8x4096x128 .f32) (i : Fin 8) (s : Fin 4096) (k : Fin 512) :
    concatenate S8x4096x512 2 [⟨S8x4096x128, a⟩, ⟨S8x4096x128, b⟩, ⟨S8x4096x128, c⟩, ⟨S8x4096x128, d⟩] concatenates_S8x4096x128_S8x4096x128_S8x4096x128_S8x4096x128_S8x4096x512_d2 (ix3 i s k)
    = if h : k.val < 128 then a (ix3 i s ⟨k.val, h⟩) else if h : k.val - 128 < 128 then b (ix3 i s ⟨k.val - 128, h⟩) else if h : k.val - 128 - 128 < 128 then c (ix3 i s ⟨k.val - 128 - 128, h⟩) else d (ix3 i s ⟨k.val - 128 - 128 - 128, by omega⟩) := by
  pointwise []

/-- A group of columns, read at an entry. -/
theorem cut_apply (u : FVec Ideal S8x4096x512 .f32) (o : Nat) (h : S8x4096x512.Slices ![0, 0, o] S8x4096x128) (b : Fin 8) (s : Fin 4096) (q : Fin 128) (k : Fin 512) (e : k.val = o + q.val) :
    extractStridedSlice S8x4096x128 ![0, 0, o] u h (ix3 b s q) = u (ix3 b s k) := by
  refine congrArg u (funext fun a => Fin.ext ?_)
  match a with
  | ⟨0, _⟩ => show 0 + b.val = b.val; omega
  | ⟨1, _⟩ => show 0 + s.val = s.val; omega
  | ⟨2, _⟩ => show o + q.val = k.val; omega

theorem groups_apply (u : FVec Ideal S8x4096x512 .f32) (b : Fin 8) (s : Fin 4096) (k : Fin 512) :
    groups u (ix3 b s k) = gap (width k) (fun t => u (ix3 b t k)) s := by
  refine (side_apply _ _ _ _ b s k).trans ?_
  unfold width
  by_cases h0 : k.val < 128
  · rw [dif_pos h0, if_pos h0]
    refine (group_apply 2 (by omega) _ b s _).trans (congrArg (fun f => gap 2 f s) (funext fun t => ?_))
    exact cut_apply u 0 _ b t _ k (by dsimp only; omega)
  rw [dif_neg h0, if_neg h0]
  by_cases h1 : k.val < 256
  · rw [dif_pos (show k.val - 128 < 128 by omega), if_pos h1]
    refine (group_apply 4 (by omega) _ b s _).trans (congrArg (fun f => gap 4 f s) (funext fun t => ?_))
    exact cut_apply u 128 _ b t _ k (by dsimp only; omega)
  rw [dif_neg (show ¬k.val - 128 < 128 by omega), if_neg h1]
  by_cases h2 : k.val < 384
  · rw [dif_pos (show k.val - 128 - 128 < 128 by omega), if_pos h2]
    refine (group_apply 8 (by omega) _ b s _).trans (congrArg (fun f => gap 8 f s) (funext fun t => ?_))
    exact cut_apply u 256 _ b t _ k (by dsimp only; omega)
  rw [dif_neg (show ¬k.val - 128 - 128 < 128 by omega), if_neg h2]
  refine (group_apply 16 (by omega) _ b s _).trans (congrArg (fun f => gap 16 f s) (funext fun t => ?_))
  exact cut_apply u 384 _ b t _ k (by dsimp only; omega)

theorem dresult_eq (x : FVec Ideal S8x4096x1024 .f32) (mod : FVec Ideal S8x6x1024 .f32) (g : FVec Ideal S1x1024 .f32) (w : FVec Ideal S1024x512 .bf16) :
    dresult x mod g w = Cert.Kernel3Ideal.Pre.darr x mod g w := by
  funext i
  obtain ⟨b, s, k, rfl⟩ : ∃ (b : Fin 8) (s : Fin 4096) (k : Fin 512), i = ix3 b s k := ⟨i 0, i 1, i 2, eq_ix3 i⟩
  show groups (poolprod (rows x mod g) (extf .f32 w bitsLt_bf16_f32)) (ix3 b s k) = gap (width k) (Cert.Kernel3Ideal.Pre.uval x mod g w b k) s
  rw [groups_apply]
  refine congrArg (fun f => gap (width k) f s) (funext fun t => ?_)
  rw [poolprod_apply]
  unfold Cert.Kernel3Ideal.Pre.uval proj
  refine Finset.sum_congr rfl fun d _ => ?_
  rw [rows_apply]
  rfl

end Cert.Reference3Ideal.Pre

end
-- ==== Proof.AdaV.lean ====
/-
  The result of the modulation's call at exact arithmetic, for the kernel and for the reference, read at an entry: a batch's
  condition through `x * logistic x`, times a column of a layer's weights, plus the column's bias.
-/
module

public import proofs.«01_k».proof.Proof.Gen.Kernel4Ideal.Value
public import proofs.«01_k».proof.Proof.Gen.Reference4Ideal.Run
public import Idealize.ShloMosaic.Lib.Pointwise

@[expose] public section

noncomputable section

namespace Cert.AdaSpec

open Idealize.ShloMosaic

/-- An entry of the result: the gated condition times a column, plus the bias. -/
def out (x w : Fin 1024 → EReal) (b : EReal) : EReal := ∑ k : Fin 1024, x k * Ideal.logistic (x k) * w k + b

end Cert.AdaSpec

namespace Cert.Kernel4Ideal.Ada

open Cert.Kernel4Ideal Cert.Kernel4Ideal.Gen Cert.Kernel4Ideal.Value Cert.AdaSpec Idealize.ShloMosaic Idealize.ShloMosaic.TcCoe Idealize.SL.Sem

theorem hz : (![0, 0, 0] : Fin 3 → Nat) = fun _ => 0 := funext fun a => by fin_cases a <;> rfl

/-- What the body leaves in the result's block. -/
theorem out_apply (x0 : Vec Ideal S8x1024 .f32) (x1 : Vec Ideal S1x1024x1536 .f32) (x2 : Vec Ideal S1x1x1536 .f32) (b : Fin 8) (e : Fin 1536) :
    out0_3 x0 x1 x2 (ix3 (0 : Fin 1) b e)
    = out (fun k => x0 (ix2 b k)) (fun k => x1 (ix3 (0 : Fin 1) k e)) (x2 (ix3 (0 : Fin 1) (0 : Fin 1) e)) := by
  unfold out0_3
  rw [View.canon_unit_zero hz]
  pointwise [k0_pay1, out]

variable (m : (ℓ : Loc nD τ sig) → Buf (Elt Ideal) ℓ)

/-- The result as one function of the argument arrays. -/
def arr (x : Vec Ideal S8x1024 .f32) (w : Vec Ideal S2x1024x6144 .f32) (b : Vec Ideal S2x6144 .f32) : Vec Ideal S2x8x6144 .f32 :=
  fun i => out (fun k => x (ix2 (i 1) k)) (fun k => w (ix3 (i 0) k (i 2))) (b (ix2 (i 0) (i 2)))

/-- The layer a point works on, and its columns. -/
abbrev layer (t : Fin cfg0.N) : Fin 2 := ⟨t.val / 4, by have : t.val < 8 := t.isLt; omega⟩
abbrev colAt (t : Fin cfg0.N) (e : Fin 1536) : Fin 6144 := ⟨1536 * (t.val % 4) + e.val, by omega⟩

/-- Where each window's block starts, at every point. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)

/-- So where each block's entry lies in its array. -/
theorem emb0 (t : Fin cfg0.N) (p : Fin 8) (q : Fin 1024) : ((cfg0.win 0).blk t).view.emb (ix2 (p : Fin 8) (q : Fin 1024)) = ix2 p q := by
  obtain ⟨e0, e1⟩ := idx0 t
  funext a; apply Fin.ext
  match a with
  | ⟨0, _⟩ => show win0_0.index t (0 : Fin 2) * 8 + 1 * p.val = p.val; omega
  | ⟨1, _⟩ => show win0_0.index t (1 : Fin 2) * 1024 + 1 * q.val = q.val; omega
theorem emb1 (t : Fin cfg0.N) (p : Fin 1) (q : Fin 1024) (u : Fin 1536) : ((cfg0.win 1).blk t).view.emb (ix3 (p : Fin 1) (q : Fin 1024) (u : Fin 1536)) = ix3 (layer t) q (colAt t u) := by
  obtain ⟨e0, e1, e2⟩ := idx1 t
  funext a; apply Fin.ext
  match a with
  | ⟨0, _⟩ => show win0_1.index t (0 : Fin 3) * 1 + 1 * p.val = t.val / 4; omega
  | ⟨1, _⟩ => show win0_1.index t (1 : Fin 3) * 1024 + 1 * q.val = q.val; omega
  | ⟨2, _⟩ => show win0_1.index t (2 : Fin 3) * 1536 + 1 * u.val = 1536 * (t.val % 4) + u.val; omega
theorem emb2 (t : Fin cfg0.N) (p : Fin 1) (q : Fin 1) (u : Fin 1536) : ((cfg0.win 2).blk t).view.emb (ix3 (p : Fin 1) (q : Fin 1) (u : Fin 1536)) = ix3 (layer t) q (colAt t u) := by
  obtain ⟨e0, e1, e2⟩ := idx2 t
  funext a; apply Fin.ext
  match a with
  | ⟨0, _⟩ => show win0_2.index t (0 : Fin 3) * 1 + 1 * p.val = t.val / 4; omega
  | ⟨1, _⟩ => show win0_2.index t (1 : Fin 3) * 1 + 1 * q.val = q.val; omega
  | ⟨2, _⟩ => show win0_2.index t (2 : Fin 3) * 1536 + 1 * u.val = 1536 * (t.val % 4) + u.val; omega
theorem emb3 (t : Fin cfg0.N) (p : Fin 1) (q : Fin 8) (u : Fin 1536) : ((cfg0.win 3).blk t).view.emb (ix3 (p : Fin 1) (q : Fin 8) (u : Fin 1536)) = ix3 (layer t) q (colAt t u) := by
  obtain ⟨e0, e1, e2⟩ := idx3 t
  funext a; apply Fin.ext
  match a with
  | ⟨0, _⟩ => show win0_3.index t (0 : Fin 3) * 1 + 1 * p.val = t.val / 4; omega
  | ⟨1, _⟩ => show win0_3.index t (1 : Fin 3) * 8 + 1 * q.val = q.val; omega
  | ⟨2, _⟩ => show win0_3.index t (2 : Fin 3) * 1536 + 1 * u.val = 1536 * (t.val % 4) + u.val; omega

/-- The biases with a row per layer, as the region finds them. -/
theorem V_bias (c : Dev nD) : V m c main_v0 = shapeCast S2x1x6144 (m ((c : Thread nD τ).loc main_arg2) : FVec Ideal S2x6144 .f32) shapeCasts_S2x6144_S2x1x6144 := by
  show StableHlo.after hostOps0 (fun b => m (c, b)) (Proc.devRef .tc main_v0) = _
  simp only [hostOps0]
  after_results
  rfl

theorem bias_apply (b : FVec Ideal S2x6144 .f32) (l : Fin 2) (e : Fin 6144) :
    shapeCast S2x1x6144 b shapeCasts_S2x6144_S2x1x6144 (ix3 l (0 : Fin 1) e) = b (ix2 l e) := by
  pointwise []

/-- So an input block's entry is its array's. -/
theorem iblk0 (c : Dev nD) (t : Fin cfg0.N) (p : Fin 8) (q : Fin 1024) :
    iblk m c 0 t (ix2 p q) = m ((c : Thread nD τ).loc main_arg0) (ix2 p q) := by
  show V m c main_arg0 (((cfg0.win 0).blk t).view.emb (ix2 p q)) = _
  rw [emb0, V_main_arg0]
theorem iblk1 (c : Dev nD) (t : Fin cfg0.N) (p : Fin 1) (q : Fin 1024) (u : Fin 1536) :
    iblk m c 1 t (ix3 p q u) = m ((c : Thread nD τ).loc main_arg1) (ix3 (layer t) q (colAt t u)) := by
  show V m c main_arg1 (((cfg0.win 1).blk t).view.emb (ix3 p q u)) = _
  rw [emb1, V_main_arg1]
theorem iblk2 (c : Dev nD) (t : Fin cfg0.N) (u : Fin 1536) :
    iblk m c 2 t (ix3 (0 : Fin 1) (0 : Fin 1) u) = m ((c : Thread nD τ).loc main_arg2) (ix2 (layer t) (colAt t u)) := by
  show V m c main_v0 (((cfg0.win 2).blk t).view.emb (ix3 (0 : Fin 1) (0 : Fin 1) u)) = _
  rw [emb2, V_bias]
  exact bias_apply _ _ _

/-- The result of the launch's arguments. -/
abbrev res (c : Dev nD) : Vec Ideal S2x8x6144 .f32 :=
  arr (m ((c : Thread nD τ).loc main_arg0)) (m ((c : Thread nD τ).loc main_arg1)) (m ((c : Thread nD τ).loc main_arg2))

/-- What a point writes back is its block of the result. -/
theorem flushed_eq (c : Dev nD) (t : Fin cfg0.N) :
    (dats m 0 c).flushed 3 t = ((cfg0.win 3).blk t).view.read (Elt Ideal) (res m c) := by
  rw [flushed3]
  funext j
  obtain ⟨p, q, u, rfl⟩ : ∃ (p : Fin 1) (q : Fin 8) (u : Fin 1536), j = ix3 p q u := ⟨j 0, j 1, j 2, eq_ix3 j⟩
  obtain rfl : p = 0 := Subsingleton.elim _ _
  show out0_3 (iblk m c 0 t) (iblk m c 1 t) (iblk m c 2 t) (ix3 (0 : Fin 1) q u) = res m c (((cfg0.win 3).blk t).view.emb (ix3 (0 : Fin 1) q u))
  rw [emb3]
  refine (out_apply _ _ _ q u).trans ?_
  simp only [iblk0, iblk1, iblk2]
  rfl

/-- Every index of the result is in some point's block. -/
theorem cover (i : S2x8x6144.Idx) : ∃ t : Fin cfg0.N, (cfg0.win 3).flush t = true ∧ i ∈ ((cfg0.win 3).blk t).view.set := by
  obtain ⟨l, b, e, rfl⟩ : ∃ (l : Fin 2) (b : Fin 8) (e : Fin 6144), i = ix3 l b e := ⟨i 0, i 1, i 2, eq_ix3 i⟩
  let t : Fin cfg0.N := ⟨4 * l.val + e.val / 1536, show 4 * l.val + e.val / 1536 < 8 by omega⟩
  refine ⟨t, flush0_3 _, ?_⟩
  have h := ((cfg0.win 3).blk t).view.emb_mem_set (ix3 (0 : Fin 1) b (⟨e.val % 1536, by omega⟩ : Fin 1536))
  rw [emb3] at h
  have el : layer t = l := Fin.ext (show (4 * l.val + e.val / 1536) / 4 = l.val by omega)
  have ee : colAt t ⟨e.val % 1536, by omega⟩ = e := Fin.ext (show 1536 * ((4 * l.val + e.val / 1536) % 4) + e.val % 1536 = e.val by omega)
  rwa [el, ee] at h

/-- The result after the run. -/
theorem final (c : Dev nD) : (dats m 0 c).arrAt 3 cfg0.N = res m c :=
  (dats m 0 c).arrAt_eq_of_cover 3 (res m c) (fun t _ => flushed_eq m c t) cover

end Cert.Kernel4Ideal.Ada

namespace Cert.Reference4Ideal.Ada

open Cert.Reference4Ideal Cert.Reference4Ideal.Gen Cert.AdaSpec Idealize.ShloMosaic Idealize.ShloMosaic.TcCoe Idealize.SL.Sem

/-- The reference's result. -/
def result (x : FVec Ideal S8x1024 .f32) (w : FVec Ideal S2x1024x6144 .f32) (b : FVec Ideal S2x6144 .f32) : FVec Ideal S2x8x6144 .f32 :=
  addf (transpose S2x8x6144 [0, 2, 1] (Host.dotGeneral dot_S2x1024x6144_S8x1024_S2x6144x8_1_1_02_0_n_n none w (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x)))))) transposes_S2x6144x8_S2x8x6144_0_2_1) (broadcastInDim S2x8x6144 ![0, 1, 2] bcast_S2x1x6144_S2x8x6144_0_1_2 (broadcastInDim S2x1x6144 ![0, 2] bcast_S2x6144_S2x1x6144_0_2 b))

theorem result_apply (x : FVec Ideal S8x1024 .f32) (w : FVec Ideal S2x1024x6144 .f32) (b : FVec Ideal S2x6144 .f32) (l : Fin 2) (n : Fin 8) (e : Fin 6144) :
    result x w b (ix3 l n e) = out (fun k => x (ix2 n k)) (fun k => w (ix3 l k e)) (b (ix2 l e)) := by
  pointwise [result, out, Ideal.logistic]
  exact congrArg (· + b (ix2 l e)) (Finset.sum_congr rfl fun k _ => mul_comm _ _)

end Cert.Reference4Ideal.Ada

end
-- ==== Proof.lean ====
/-
  The proof of this directory's claims: the four calls' kernels run as stated, and at exact arithmetic each computes what
  its reference computes.
-/
module

public import proofs.«01_k».proof.Defs
public import proofs.«01_k».proof.Proof.KR4
public import proofs.«01_k».proof.Proof.IR4
public import proofs.«01_k».proof.Proof.Gen.ReferenceIdeal
public import proofs.«01_k».proof.Proof.Gen.Pre_tables_in_range
public import proofs.«01_k».proof.Proof.RefRun
public import proofs.«01_k».proof.Proof.IV
public import proofs.«01_k».proof.Proof.RV
public import proofs.«01_k».proof.Proof.Gen.Kernel2.Frame
public import proofs.«01_k».proof.Proof.PostV
public import proofs.«01_k».proof.Proof.PremixV
public import proofs.«01_k».proof.Proof.PoolV
public import proofs.«01_k».proof.Proof.Gen.Kernel4.Frame
public import proofs.«01_k».proof.Proof.AdaV
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Init

@[expose] public section

noncomputable section

namespace Cert.Proof

open Idealize.ShloMosaic Idealize.SL.Sem

/-- The kernel runs, keeps its arguments and leaves its semaphores at zero. -/
theorem frame_kernel : Cert.quiescent_Kernel := fun m g h =>
  (θ_run Cert.Kernel.defs _ _).mono (fun _ hr => ⟨fun c => (hr.1 c).2, hr.2⟩)
    (Cert.Kernel.Run.run m g (Cert.Kernel.Run.tabOk_of_pre h))

/-- So does its idealization. -/
theorem frame_kernelIdeal : Cert.quiescent_KernelIdeal := fun m g h =>
  (θ_run Cert.KernelIdeal.defs _ _).mono (fun _ hr => ⟨fun c => (hr.1 c).2, hr.2⟩)
    (Cert.KernelIdeal.Run.run m g (Cert.KernelIdeal.Run.tabOk_of_pre h))

/-- With tables in range, the tiles' blocks are the reference's result. -/
theorem value_eq (m : (ℓ : Loc Cert.KernelIdeal.nD Cert.KernelIdeal.τ Cert.KernelIdeal.sig) → Buf (Elt Ideal) ℓ)
    (hok : Cert.KernelIdeal.Run.TabOk m) (c : Dev Cert.KernelIdeal.nD) :
    Cert.ReferenceIdeal.Run.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Run.outA m c := by
  funext y
  obtain ⟨R, d, rfl⟩ : ∃ (R : Fin 113152) (d : Fin 1024), y = ix2 R d := ⟨y 0, y 1, eq_ix2 y⟩
  obtain ⟨T, r, rfl⟩ : ∃ (T : Fin 221) (r : Fin 512), R = ⟨512 * T.val + r.val, by omega⟩ :=
    ⟨⟨R.val / 512, by omega⟩, ⟨R.val % 512, by omega⟩, Fin.ext (show R.val = 512 * (R.val / 512) + R.val % 512 by omega)⟩
  have hn : 32 * T.val + r.val / 16 < 7072 := by omega
  have ete : Cert.KernelIdeal.Run.teW m c T.val
      = (m ((c.tc : Thread Cert.KernelIdeal.nD Cert.KernelIdeal.τ).loc Cert.KernelIdeal.main_arg0) : Cert.KernelIdeal.S221.Idx → BitVec 32) (ix1 T) :=
    dif_pos T.isLt
  have etv : Cert.KernelIdeal.Run.tvW m c T.val
      = (m ((c.tc : Thread Cert.KernelIdeal.nD Cert.KernelIdeal.τ).loc Cert.KernelIdeal.main_arg1) : Cert.KernelIdeal.S221.Idx → BitVec 32) (ix1 T) :=
    dif_pos T.isLt
  have ecs : Cert.KernelIdeal.Run.csW m c (32 * T.val + r.val / 16)
      = (m ((c.tc : Thread Cert.KernelIdeal.nD Cert.KernelIdeal.τ).loc Cert.KernelIdeal.main_arg2) : Cert.KernelIdeal.S7072.Idx → BitVec 32)
          (ix1 (⟨32 * T.val + r.val / 16, hn⟩ : Fin 7072)) :=
    dif_pos hn
  have hte := hok.te c T.val
  have hcs := hok.cs c (32 * T.val + r.val / 16)
  rw [ete] at hte
  rw [ecs] at hcs
  refine (Cert.ReferenceIdeal.Run.result_apply _ _ _ _ _ _ _ T r d hte hcs).trans
    (Eq.trans ?_ (Cert.KernelIdeal.Run.outA_apply m c T r d).symm)
  have ex : Cert.KernelIdeal.Run.exq (Cert.KernelIdeal.Run.teW m c T.val) = ⟨_, hte⟩ :=
    Fin.ext (by show (Cert.KernelIdeal.Run.teW m c T.val).toNat % 64 = _; rw [ete]; exact Nat.mod_eq_of_lt hte)
  have ec : Cert.KernelIdeal.Run.chunk m c (32 * T.val + r.val / 16) = ⟨_, hcs⟩ :=
    Fin.ext (by rw [Cert.KernelIdeal.Run.chunk_val m hok, ecs])
  rw [ex, ec, etv]
  rfl

/-- At exact arithmetic the kernel computes what the reference computes. -/
theorem algebraic : Cert.algebraic_KernelIdeal_ReferenceIdeal := fun m g m' g' hpre hagree =>
  ⟨Cert.KernelIdeal.Run.outA m,
    (θ_run Cert.KernelIdeal.defs _ _).mono (fun _ hr => hr.1)
      (Cert.KernelIdeal.Run.run m g (Cert.KernelIdeal.Run.tabOk_of_pre hpre)),
    (θ_run Cert.ReferenceIdeal.defs _ _).mono (fun _ hr c => ⟨by
      obtain ⟨h0, h1, h2, h3, h4, h5, h6⟩ := hagree c
      rw [(hr c).1, h0, h1, h2, h3, h4, h5, h6]
      exact value_eq m (Cert.KernelIdeal.Run.tabOk_of_pre hpre) c, (hr c).2⟩)
      (Cert.ReferenceIdeal.Run.run m' g')⟩

/-- The projection's kernel runs, keeps its arguments and leaves its semaphores at zero. -/
theorem frame_kernel2 : Cert.quiescent_Kernel2 := fun m g _ => Cert.Kernel2.Gen.frame m g

/-- So does its idealization. -/
theorem frame_kernel2Ideal : Cert.quiescent_Kernel2Ideal := fun m g _ => Cert.Kernel2Ideal.Gen.frame m g

/-- And its reference. -/
theorem frame_reference2Ideal : Cert.quiescent_Reference2Ideal := fun m g _ =>
  (θ_run Cert.Reference2Ideal.defs _ _).mono (fun r hr => ⟨fun c => (hr c).2, sem_eq_zero_of_no_sems rfl _⟩)
    (Cert.Reference2Ideal.Value.run m g)

/-- The reference's projection is the kernel's. -/
theorem post_eq (m : (ℓ : Loc Cert.Kernel2Ideal.nD Cert.Kernel2Ideal.τ Cert.Kernel2Ideal.sig) → Buf (Elt Ideal) ℓ) (c : Dev Cert.Kernel2Ideal.nD) :
    Cert.Reference2Ideal.Post.result
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
        (m ((c.tc : Thread Cert.Kernel2Ideal.nD Cert.Kernel2Ideal.τ).loc Cert.Kernel2Ideal.main_arg6))
      = Cert.Kernel2Ideal.Post.res m c := by
  funext y
  obtain ⟨b, s, e, rfl⟩ : ∃ (b : Fin 8) (s : Fin 4096) (e : Fin 1024), y = ix3 b s e := ⟨y 0, y 1, y 2, eq_ix3 y⟩
  exact Cert.Reference2Ideal.Post.result_apply _ _ _ _ _ _ _ b s e

/-- At exact arithmetic the projection's kernel computes what its reference computes. -/
theorem algebraic2 : Cert.algebraic_Kernel2Ideal_Reference2Ideal := fun m g m' g' _ hagree =>
  ⟨Cert.Kernel2Ideal.Post.res m,
    (θ_run Cert.Kernel2Ideal.defs _ _).mono
      (fun _ hr c => ⟨(hr c).1.trans (Cert.Kernel2Ideal.Post.final m c), (hr c).2.2.2.2.2⟩)
      (Cert.Kernel2Ideal.Value.run_blocks m g),
    (θ_run Cert.Reference2Ideal.defs _ _).mono (fun _ hr c => ⟨by
      obtain ⟨h0, h1, h2, h3, h4, h5, h6, -⟩ := hagree c
      rw [(hr c).1, h0, h1, h2, h3, h4, h5, h6]
      exact post_eq m c, (hr c).2⟩)
      (Cert.Reference2Ideal.Value.run m' g')⟩

/-- The first projection's kernel, as it computes, ends with every argument array and semaphore as it was. -/
theorem frame_kernel3 : Cert.quiescent_Kernel3 := fun m g _ => Cert.Kernel3.Gen.frame m g

/-- So does its idealization. -/
theorem frame_kernel3Ideal : Cert.quiescent_Kernel3Ideal := fun m g _ => Cert.Kernel3Ideal.Gen.frame m g

/-- And its reference. -/
theorem frame_reference3Ideal : Cert.quiescent_Reference3Ideal := fun m g _ =>
  (θ_run Cert.Reference3Ideal.defs _ _).mono (fun r hr => ⟨fun c => (hr c).2.2.2, sem_eq_zero_of_no_sems rfl _⟩)
    (Cert.Reference3Ideal.Value.run m g)

/-- At exact arithmetic the first projection's kernel computes the queries, values and differences its reference computes. -/
theorem algebraic3 : Cert.algebraic_Kernel3Ideal_Reference3Ideal := fun m g m' g' _ hagree =>
  ⟨Cert.Kernel3Ideal.Pre.qres m, Cert.Kernel3Ideal.Pre.vres m, Cert.Kernel3Ideal.Pre.dres m,
    (θ_run Cert.Kernel3Ideal.defs _ _).mono
      (fun _ hr c => ⟨(hr c).1.trans (Cert.Kernel3Ideal.Pre.qfinal m c), (hr c).2.2.1.trans (Cert.Kernel3Ideal.Pre.vfinal m c), (hr c).2.2.2.1.trans (Cert.Kernel3Ideal.Pre.dfinal m c), (hr c).2.2.2.2⟩)
      (Cert.Kernel3Ideal.Value.run_blocks m g),
    (θ_run Cert.Reference3Ideal.defs _ _).mono (fun _ hr c => ⟨by
      obtain ⟨h0, h1, h2, h3, -⟩ := hagree c
      rw [(hr c).1, h0, h1, h2, h3]
      exact Cert.Reference3Ideal.Pre.qresult_eq _ _ _ _, by
      obtain ⟨h0, h1, h2, h3, -⟩ := hagree c
      rw [(hr c).2.1, h0, h1, h2, h3]
      exact Cert.Reference3Ideal.Pre.vresult_eq _ _ _ _, by
      obtain ⟨h0, h1, h2, -, -, -, h6, -⟩ := hagree c
      rw [(hr c).2.2.1]
      unfold Cert.Reference3Ideal.Value.res_main_v132
      rw [h0, h1, h2, h6]
      exact Cert.Reference3Ideal.Pre.dresult_eq _ _ _ _, (hr c).2.2.2⟩)
      (Cert.Reference3Ideal.Value.run m' g')⟩

/-- The modulation's kernel, as it computes, ends with every argument array and semaphore as it was. -/
theorem frame_kernel4 : Cert.quiescent_Kernel4 := fun m g _ => Cert.Kernel4.Gen.frame m g

/-- So does its idealization. -/
theorem frame_kernel4Ideal : Cert.quiescent_Kernel4Ideal := fun m g _ => Cert.Kernel4Ideal.Gen.frame m g

/-- And its reference. -/
theorem frame_reference4Ideal : Cert.quiescent_Reference4Ideal := fun m g _ =>
  (θ_run Cert.Reference4Ideal.defs _ _).mono (fun r hr => ⟨fun c => (hr c).2, sem_eq_zero_of_no_sems rfl _⟩)
    (Cert.Reference4Ideal.Value.run m g)

/-- The reference's array of the same arguments is the modulation's result. -/
theorem ada_eq (m : (ℓ : Loc Cert.Kernel4Ideal.nD Cert.Kernel4Ideal.τ Cert.Kernel4Ideal.sig) → Buf (Elt Ideal) ℓ) (c : Dev Cert.Kernel4Ideal.nD) :
    Cert.Reference4Ideal.Ada.result
        (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))
        (m ((c.tc : Thread Cert.Kernel4Ideal.nD Cert.Kernel4Ideal.τ).loc Cert.Kernel4Ideal.main_arg2))
      = Cert.Kernel4Ideal.Ada.res m c := by
  funext y
  obtain ⟨l, b, e, rfl⟩ : ∃ (l : Fin 2) (b : Fin 8) (e : Fin 6144), y = ix3 l b e := ⟨y 0, y 1, y 2, eq_ix3 y⟩
  exact Cert.Reference4Ideal.Ada.result_apply _ _ _ l b e

/-- At exact arithmetic the modulation's kernel computes what its reference computes. -/
theorem algebraic4 : Cert.algebraic_Kernel4Ideal_Reference4Ideal := fun m g m' g' _ hagree =>
  ⟨Cert.Kernel4Ideal.Ada.res m,
    (θ_run Cert.Kernel4Ideal.defs _ _).mono
      (fun _ hr c => ⟨(hr c).1.trans (Cert.Kernel4Ideal.Ada.final m c), (hr c).2⟩)
      (Cert.Kernel4Ideal.Value.run_blocks m g),
    (θ_run Cert.Reference4Ideal.defs _ _).mono (fun _ hr c => ⟨by
      obtain ⟨h0, h1, h2⟩ := hagree c
      rw [(hr c).1, h0, h1, h2]
      exact ada_eq m c, (hr c).2⟩)
      (Cert.Reference4Ideal.Value.run m' g')⟩

/-- Everything this certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Pre_tables_in_range.Gen.facts,
    frame_kernel, frame_kernelIdeal, Cert.ReferenceIdeal.Run.frame, frame_kernel2, frame_kernel2Ideal, frame_reference2Ideal,
    frame_kernel3, frame_kernel3Ideal, frame_reference3Ideal, frame_kernel4, frame_kernel4Ideal, frame_reference4Ideal,
    trivial, algebraic, trivial, algebraic2, trivial, algebraic3, trivial, algebraic4⟩

end Cert.Proof

end
